-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjBack (m : (ℓ : Loc Cert.ProjBack.nD Cert.ProjBack.τ Cert.ProjBack.sig) → Buf (Elt Bits) ℓ) : Prop :=
  True

def Pre_ProjBackIdeal (m : (ℓ : Loc Cert.ProjBackIdeal.nD Cert.ProjBackIdeal.τ Cert.ProjBackIdeal.sig) → Buf (Elt Ideal) ℓ) : Prop :=
  True

def Pre_ProjBackReferenceIdeal (m : (ℓ : Loc Cert.ProjBackReferenceIdeal.nD Cert.ProjBackReferenceIdeal.τ Cert.ProjBackReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackReferenceIdeal (m : (ℓ : Loc Cert.OutBackReferenceIdeal.nD Cert.OutBackReferenceIdeal.τ Cert.OutBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2)
      ∧ r.2.mem ((c.tc : Thread Cert.Rest.nD Cert.Rest.τ).loc Cert.Rest.main_arg3) = m ((c.tc : Thread Cert.Rest.nD Cert.Rest.τ).loc Cert.Rest.main_arg3)
      ∧ r.2.mem ((c.tc : Thread Cert.Rest.nD Cert.Rest.τ).loc Cert.Rest.main_arg4) = m ((c.tc : Thread Cert.Rest.nD Cert.Rest.τ).loc Cert.Rest.main_arg4)
      ∧ r.2.mem ((c.tc : Thread Cert.Rest.nD Cert.Rest.τ).loc Cert.Rest.main_arg5) = m ((c.tc : Thread Cert.Rest.nD Cert.Rest.τ).loc Cert.Rest.main_arg5)
      ∧ r.2.mem ((c.tc : Thread Cert.Rest.nD Cert.Rest.τ).loc Cert.Rest.main_arg6) = m ((c.tc : Thread Cert.Rest.nD Cert.Rest.τ).loc Cert.Rest.main_arg6)
      ∧ r.2.mem ((c.tc : Thread Cert.Rest.nD Cert.Rest.τ).loc Cert.Rest.main_arg7) = m ((c.tc : Thread Cert.Rest.nD Cert.Rest.τ).loc Cert.Rest.main_arg7)
      ∧ r.2.mem ((c.tc : Thread Cert.Rest.nD Cert.Rest.τ).loc Cert.Rest.main_arg8) = m ((c.tc : Thread Cert.Rest.nD Cert.Rest.τ).loc Cert.Rest.main_arg8)
      ∧ r.2.mem ((c.tc : Thread Cert.Rest.nD Cert.Rest.τ).loc Cert.Rest.main_arg9) = m ((c.tc : Thread Cert.Rest.nD Cert.Rest.τ).loc Cert.Rest.main_arg9)
      ∧ r.2.mem ((c.tc : Thread Cert.Rest.nD Cert.Rest.τ).loc Cert.Rest.main_arg10) = m ((c.tc : Thread Cert.Rest.nD Cert.Rest.τ).loc Cert.Rest.main_arg10))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
      ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
      ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
      ∧ r.2.mem ((c.tc : Thread Cert.RestIdeal.nD Cert.RestIdeal.τ).loc Cert.RestIdeal.main_arg5) = m ((c.tc : Thread Cert.RestIdeal.nD Cert.RestIdeal.τ).loc Cert.RestIdeal.main_arg5)
      ∧ r.2.mem ((c.tc : Thread Cert.RestIdeal.nD Cert.RestIdeal.τ).loc Cert.RestIdeal.main_arg6) = m ((c.tc : Thread Cert.RestIdeal.nD Cert.RestIdeal.τ).loc Cert.RestIdeal.main_arg6)
      ∧ r.2.mem ((c.tc : Thread Cert.RestIdeal.nD Cert.RestIdeal.τ).loc Cert.RestIdeal.main_arg7) = m ((c.tc : Thread Cert.RestIdeal.nD Cert.RestIdeal.τ).loc Cert.RestIdeal.main_arg7)
      ∧ r.2.mem ((c.tc : Thread Cert.RestIdeal.nD Cert.RestIdeal.τ).loc Cert.RestIdeal.main_arg8) = m ((c.tc : Thread Cert.RestIdeal.nD Cert.RestIdeal.τ).loc Cert.RestIdeal.main_arg8)
      ∧ r.2.mem ((c.tc : Thread Cert.RestIdeal.nD Cert.RestIdeal.τ).loc Cert.RestIdeal.main_arg9) = m ((c.tc : Thread Cert.RestIdeal.nD Cert.RestIdeal.τ).loc Cert.RestIdeal.main_arg9)
      ∧ r.2.mem ((c.tc : Thread Cert.RestIdeal.nD Cert.RestIdeal.τ).loc Cert.RestIdeal.main_arg10) = m ((c.tc : Thread Cert.RestIdeal.nD Cert.RestIdeal.τ).loc Cert.RestIdeal.main_arg10))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3)
      ∧ r.2.mem ((c.tc : Thread Cert.RestReferenceIdeal.nD Cert.RestReferenceIdeal.τ).loc Cert.RestReferenceIdeal.main_arg4) = m ((c.tc : Thread Cert.RestReferenceIdeal.nD Cert.RestReferenceIdeal.τ).loc Cert.RestReferenceIdeal.main_arg4)
      ∧ r.2.mem ((c.tc : Thread Cert.RestReferenceIdeal.nD Cert.RestReferenceIdeal.τ).loc Cert.RestReferenceIdeal.main_arg5) = m ((c.tc : Thread Cert.RestReferenceIdeal.nD Cert.RestReferenceIdeal.τ).loc Cert.RestReferenceIdeal.main_arg5)
      ∧ r.2.mem ((c.tc : Thread Cert.RestReferenceIdeal.nD Cert.RestReferenceIdeal.τ).loc Cert.RestReferenceIdeal.main_arg6) = m ((c.tc : Thread Cert.RestReferenceIdeal.nD Cert.RestReferenceIdeal.τ).loc Cert.RestReferenceIdeal.main_arg6)
      ∧ r.2.mem ((c.tc : Thread Cert.RestReferenceIdeal.nD Cert.RestReferenceIdeal.τ).loc Cert.RestReferenceIdeal.main_arg7) = m ((c.tc : Thread Cert.RestReferenceIdeal.nD Cert.RestReferenceIdeal.τ).loc Cert.RestReferenceIdeal.main_arg7)
      ∧ r.2.mem ((c.tc : Thread Cert.RestReferenceIdeal.nD Cert.RestReferenceIdeal.τ).loc Cert.RestReferenceIdeal.main_arg8) = m ((c.tc : Thread Cert.RestReferenceIdeal.nD Cert.RestReferenceIdeal.τ).loc Cert.RestReferenceIdeal.main_arg8)
      ∧ r.2.mem ((c.tc : Thread Cert.RestReferenceIdeal.nD Cert.RestReferenceIdeal.τ).loc Cert.RestReferenceIdeal.main_arg9) = m ((c.tc : Thread Cert.RestReferenceIdeal.nD Cert.RestReferenceIdeal.τ).loc Cert.RestReferenceIdeal.main_arg9)
      ∧ r.2.mem ((c.tc : Thread Cert.RestReferenceIdeal.nD Cert.RestReferenceIdeal.τ).loc Cert.RestReferenceIdeal.main_arg10) = m ((c.tc : Thread Cert.RestReferenceIdeal.nD Cert.RestReferenceIdeal.τ).loc Cert.RestReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjBack [hProjBack : Cert.ProjBack.Facts] : Prop :=
  ∀ (m : (ℓ : Loc Cert.ProjBack.nD Cert.ProjBack.τ Cert.ProjBack.sig) → Buf (Elt Bits) ℓ) (g : Dev Cert.ProjBack.nD → PrngReg), Pre_ProjBack m →
    θ_run (Cert.ProjBack.defs (F := Bits)) (onTc (τ := Cert.ProjBack.τ) (Cert.ProjBack.main (F := Bits))) ⟨m, fun _ => 0, g⟩ (fun r => (∀ c : Dev Cert.ProjBack.nD,
      r.2.mem ((c.tc : Thread Cert.ProjBack.nD Cert.ProjBack.τ).loc Cert.ProjBack.main_arg0) = m ((c.tc : Thread Cert.ProjBack.nD Cert.ProjBack.τ).loc Cert.ProjBack.main_arg0)
      ∧ r.2.mem ((c.tc : Thread Cert.ProjBack.nD Cert.ProjBack.τ).loc Cert.ProjBack.main_arg1) = m ((c.tc : Thread Cert.ProjBack.nD Cert.ProjBack.τ).loc Cert.ProjBack.main_arg1)
      ∧ r.2.mem ((c.tc : Thread Cert.ProjBack.nD Cert.ProjBack.τ).loc Cert.ProjBack.main_arg2) = m ((c.tc : Thread Cert.ProjBack.nD Cert.ProjBack.τ).loc Cert.ProjBack.main_arg2)
      ∧ r.2.mem ((c.tc : Thread Cert.ProjBack.nD Cert.ProjBack.τ).loc Cert.ProjBack.main_arg3) = m ((c.tc : Thread Cert.ProjBack.nD Cert.ProjBack.τ).loc Cert.ProjBack.main_arg3)
      ∧ r.2.mem ((c.tc : Thread Cert.ProjBack.nD Cert.ProjBack.τ).loc Cert.ProjBack.main_arg4) = m ((c.tc : Thread Cert.ProjBack.nD Cert.ProjBack.τ).loc Cert.ProjBack.main_arg4)
      ∧ r.2.mem ((c.tc : Thread Cert.ProjBack.nD Cert.ProjBack.τ).loc Cert.ProjBack.main_arg5) = m ((c.tc : Thread Cert.ProjBack.nD Cert.ProjBack.τ).loc Cert.ProjBack.main_arg5)
      ∧ r.2.mem ((c.tc : Thread Cert.ProjBack.nD Cert.ProjBack.τ).loc Cert.ProjBack.main_arg6) = m ((c.tc : Thread Cert.ProjBack.nD Cert.ProjBack.τ).loc Cert.ProjBack.main_arg6)
      ∧ r.2.mem ((c.tc : Thread Cert.ProjBack.nD Cert.ProjBack.τ).loc Cert.ProjBack.main_arg7) = m ((c.tc : Thread Cert.ProjBack.nD Cert.ProjBack.τ).loc Cert.ProjBack.main_arg7)
      ∧ r.2.mem ((c.tc : Thread Cert.ProjBack.nD Cert.ProjBack.τ).loc Cert.ProjBack.main_arg8) = m ((c.tc : Thread Cert.ProjBack.nD Cert.ProjBack.τ).loc Cert.ProjBack.main_arg8)
      ∧ r.2.mem ((c.tc : Thread Cert.ProjBack.nD Cert.ProjBack.τ).loc Cert.ProjBack.main_arg9) = m ((c.tc : Thread Cert.ProjBack.nD Cert.ProjBack.τ).loc Cert.ProjBack.main_arg9))
      ∧ r.2.sem = fun _ => 0)

def quiescent_ProjBackIdeal [hProjBackIdeal : Cert.ProjBackIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg), Pre_ProjBackIdeal m →
    θ_run (Cert.ProjBackIdeal.defs (F := Ideal)) (onTc (τ := Cert.ProjBackIdeal.τ) (Cert.ProjBackIdeal.main (F := Ideal))) ⟨m, fun _ => 0, g⟩ (fun r => (∀ c : Dev Cert.ProjBackIdeal.nD,
      r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
      ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
      ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
      ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
      ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
      ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
      ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6)
      ∧ r.2.mem ((c.tc : Thread Cert.ProjBackIdeal.nD Cert.ProjBackIdeal.τ).loc Cert.ProjBackIdeal.main_arg7) = m ((c.tc : Thread Cert.ProjBackIdeal.nD Cert.ProjBackIdeal.τ).loc Cert.ProjBackIdeal.main_arg7)
      ∧ r.2.mem ((c.tc : Thread Cert.ProjBackIdeal.nD Cert.ProjBackIdeal.τ).loc Cert.ProjBackIdeal.main_arg8) = m ((c.tc : Thread Cert.ProjBackIdeal.nD Cert.ProjBackIdeal.τ).loc Cert.ProjBackIdeal.main_arg8)
      ∧ r.2.mem ((c.tc : Thread Cert.ProjBackIdeal.nD Cert.ProjBackIdeal.τ).loc Cert.ProjBackIdeal.main_arg9) = m ((c.tc : Thread Cert.ProjBackIdeal.nD Cert.ProjBackIdeal.τ).loc Cert.ProjBackIdeal.main_arg9))
      ∧ r.2.sem = fun _ => 0)

def quiescent_ProjBackReferenceIdeal [hProjBackReferenceIdeal : Cert.ProjBackReferenceIdeal.Facts] : Prop :=
  ∀ (m : (ℓ : Loc Cert.ProjBackReferenceIdeal.nD Cert.ProjBackReferenceIdeal.τ Cert.ProjBackReferenceIdeal.sig) → Buf (Elt Ideal) ℓ) (g : Dev Cert.ProjBackReferenceIdeal.nD → PrngReg), Pre_ProjBackReferenceIdeal m →
    θ_run (Cert.ProjBackReferenceIdeal.defs (F := Ideal)) (onTc (τ := Cert.ProjBackReferenceIdeal.τ) (Cert.ProjBackReferenceIdeal.main (F := Ideal))) ⟨m, fun _ => 0, g⟩ (fun r => (∀ c : Dev Cert.ProjBackReferenceIdeal.nD,
      r.2.mem ((c.tc : Thread Cert.ProjBackReferenceIdeal.nD Cert.ProjBackReferenceIdeal.τ).loc Cert.ProjBackReferenceIdeal.main_arg0) = m ((c.tc : Thread Cert.ProjBackReferenceIdeal.nD Cert.ProjBackReferenceIdeal.τ).loc Cert.ProjBackReferenceIdeal.main_arg0)
      ∧ r.2.mem ((c.tc : Thread Cert.ProjBackReferenceIdeal.nD Cert.ProjBackReferenceIdeal.τ).loc Cert.ProjBackReferenceIdeal.main_arg1) = m ((c.tc : Thread Cert.ProjBackReferenceIdeal.nD Cert.ProjBackReferenceIdeal.τ).loc Cert.ProjBackReferenceIdeal.main_arg1)
      ∧ r.2.mem ((c.tc : Thread Cert.ProjBackReferenceIdeal.nD Cert.ProjBackReferenceIdeal.τ).loc Cert.ProjBackReferenceIdeal.main_arg2) = m ((c.tc : Thread Cert.ProjBackReferenceIdeal.nD Cert.ProjBackReferenceIdeal.τ).loc Cert.ProjBackReferenceIdeal.main_arg2)
      ∧ r.2.mem ((c.tc : Thread Cert.ProjBackReferenceIdeal.nD Cert.ProjBackReferenceIdeal.τ).loc Cert.ProjBackReferenceIdeal.main_arg3) = m ((c.tc : Thread Cert.ProjBackReferenceIdeal.nD Cert.ProjBackReferenceIdeal.τ).loc Cert.ProjBackReferenceIdeal.main_arg3)
      ∧ r.2.mem ((c.tc : Thread Cert.ProjBackReferenceIdeal.nD Cert.ProjBackReferenceIdeal.τ).loc Cert.ProjBackReferenceIdeal.main_arg4) = m ((c.tc : Thread Cert.ProjBackReferenceIdeal.nD Cert.ProjBackReferenceIdeal.τ).loc Cert.ProjBackReferenceIdeal.main_arg4)
      ∧ r.2.mem ((c.tc : Thread Cert.ProjBackReferenceIdeal.nD Cert.ProjBackReferenceIdeal.τ).loc Cert.ProjBackReferenceIdeal.main_arg5) = m ((c.tc : Thread Cert.ProjBackReferenceIdeal.nD Cert.ProjBackReferenceIdeal.τ).loc Cert.ProjBackReferenceIdeal.main_arg5)
      ∧ r.2.mem ((c.tc : Thread Cert.ProjBackReferenceIdeal.nD Cert.ProjBackReferenceIdeal.τ).loc Cert.ProjBackReferenceIdeal.main_arg6) = m ((c.tc : Thread Cert.ProjBackReferenceIdeal.nD Cert.ProjBackReferenceIdeal.τ).loc Cert.ProjBackReferenceIdeal.main_arg6)
      ∧ r.2.mem ((c.tc : Thread Cert.ProjBackReferenceIdeal.nD Cert.ProjBackReferenceIdeal.τ).loc Cert.ProjBackReferenceIdeal.main_arg7) = m ((c.tc : Thread Cert.ProjBackReferenceIdeal.nD Cert.ProjBackReferenceIdeal.τ).loc Cert.ProjBackReferenceIdeal.main_arg7)
      ∧ r.2.mem ((c.tc : Thread Cert.ProjBackReferenceIdeal.nD Cert.ProjBackReferenceIdeal.τ).loc Cert.ProjBackReferenceIdeal.main_arg8) = m ((c.tc : Thread Cert.ProjBackReferenceIdeal.nD Cert.ProjBackReferenceIdeal.τ).loc Cert.ProjBackReferenceIdeal.main_arg8)
      ∧ r.2.mem ((c.tc : Thread Cert.ProjBackReferenceIdeal.nD Cert.ProjBackReferenceIdeal.τ).loc Cert.ProjBackReferenceIdeal.main_arg9) = m ((c.tc : Thread Cert.ProjBackReferenceIdeal.nD Cert.ProjBackReferenceIdeal.τ).loc Cert.ProjBackReferenceIdeal.main_arg9))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1)
      ∧ r.2.mem ((c.tc : Thread Cert.OutBack.nD Cert.OutBack.τ).loc Cert.OutBack.main_arg2) = m ((c.tc : Thread Cert.OutBack.nD Cert.OutBack.τ).loc Cert.OutBack.main_arg2)
      ∧ r.2.mem ((c.tc : Thread Cert.OutBack.nD Cert.OutBack.τ).loc Cert.OutBack.main_arg3) = m ((c.tc : Thread Cert.OutBack.nD Cert.OutBack.τ).loc Cert.OutBack.main_arg3)
      ∧ r.2.mem ((c.tc : Thread Cert.OutBack.nD Cert.OutBack.τ).loc Cert.OutBack.main_arg4) = m ((c.tc : Thread Cert.OutBack.nD Cert.OutBack.τ).loc Cert.OutBack.main_arg4))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
      ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
      ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
      ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4))
      ∧ r.2.sem = fun _ => 0)

def quiescent_OutBackReferenceIdeal [hOutBackReferenceIdeal : Cert.OutBackReferenceIdeal.Facts] : Prop :=
  ∀ (m : (ℓ : Loc Cert.OutBackReferenceIdeal.nD Cert.OutBackReferenceIdeal.τ Cert.OutBackReferenceIdeal.sig) → Buf (Elt Ideal) ℓ) (g : Dev Cert.OutBackReferenceIdeal.nD → PrngReg), Pre_OutBackReferenceIdeal m →
    θ_run (Cert.OutBackReferenceIdeal.defs (F := Ideal)) (onTc (τ := Cert.OutBackReferenceIdeal.τ) (Cert.OutBackReferenceIdeal.main (F := Ideal))) ⟨m, fun _ => 0, g⟩ (fun r => (∀ c : Dev Cert.OutBackReferenceIdeal.nD,
      r.2.mem ((c.tc : Thread Cert.OutBackReferenceIdeal.nD Cert.OutBackReferenceIdeal.τ).loc Cert.OutBackReferenceIdeal.main_arg0) = m ((c.tc : Thread Cert.OutBackReferenceIdeal.nD Cert.OutBackReferenceIdeal.τ).loc Cert.OutBackReferenceIdeal.main_arg0)
      ∧ r.2.mem ((c.tc : Thread Cert.OutBackReferenceIdeal.nD Cert.OutBackReferenceIdeal.τ).loc Cert.OutBackReferenceIdeal.main_arg1) = m ((c.tc : Thread Cert.OutBackReferenceIdeal.nD Cert.OutBackReferenceIdeal.τ).loc Cert.OutBackReferenceIdeal.main_arg1)
      ∧ r.2.mem ((c.tc : Thread Cert.OutBackReferenceIdeal.nD Cert.OutBackReferenceIdeal.τ).loc Cert.OutBackReferenceIdeal.main_arg2) = m ((c.tc : Thread Cert.OutBackReferenceIdeal.nD Cert.OutBackReferenceIdeal.τ).loc Cert.OutBackReferenceIdeal.main_arg2)
      ∧ r.2.mem ((c.tc : Thread Cert.OutBackReferenceIdeal.nD Cert.OutBackReferenceIdeal.τ).loc Cert.OutBackReferenceIdeal.main_arg3) = m ((c.tc : Thread Cert.OutBackReferenceIdeal.nD Cert.OutBackReferenceIdeal.τ).loc Cert.OutBackReferenceIdeal.main_arg3)
      ∧ r.2.mem ((c.tc : Thread Cert.OutBackReferenceIdeal.nD Cert.OutBackReferenceIdeal.τ).loc Cert.OutBackReferenceIdeal.main_arg4) = m ((c.tc : Thread Cert.OutBackReferenceIdeal.nD Cert.OutBackReferenceIdeal.τ).loc Cert.OutBackReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_6)) (v5 : (c : Dev Cert.KernelIdeal.nD) → Buf (Elt Ideal) ((c.tc : Thread Cert.KernelIdeal.nD Cert.KernelIdeal.τ).loc Cert.KernelIdeal.main_v25_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_6) = v4 c
          ∧ r.2.mem ((c.tc : Thread Cert.KernelIdeal.nD Cert.KernelIdeal.τ).loc Cert.KernelIdeal.main_v25_7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v36_0)) (v1 : (c : Dev Cert.MlpIdeal.nD) → Buf (Elt Ideal) ((c.tc : Thread Cert.MlpIdeal.nD Cert.MlpIdeal.τ).loc Cert.MlpIdeal.main_v36_1)) (v2 : (c : Dev Cert.MlpIdeal.nD) → Buf (Elt Ideal) ((c.tc : Thread Cert.MlpIdeal.nD Cert.MlpIdeal.τ).loc Cert.MlpIdeal.main_v36_2)) (v3 : (c : Dev Cert.MlpIdeal.nD) → Buf (Elt Ideal) ((c.tc : Thread Cert.MlpIdeal.nD Cert.MlpIdeal.τ).loc Cert.MlpIdeal.main_v36_3)) (v4 : (c : Dev Cert.MlpIdeal.nD) → Buf (Elt Ideal) ((c.tc : Thread Cert.MlpIdeal.nD Cert.MlpIdeal.τ).loc Cert.MlpIdeal.main_v36_4)) (v5 : (c : Dev Cert.MlpIdeal.nD) → Buf (Elt Ideal) ((c.tc : Thread Cert.MlpIdeal.nD Cert.MlpIdeal.τ).loc Cert.MlpIdeal.main_v36_5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v36_0) = v0 c
          ∧ r.2.mem ((c.tc : Thread Cert.MlpIdeal.nD Cert.MlpIdeal.τ).loc Cert.MlpIdeal.main_v36_1) = v1 c
          ∧ r.2.mem ((c.tc : Thread Cert.MlpIdeal.nD Cert.MlpIdeal.τ).loc Cert.MlpIdeal.main_v36_2) = v2 c
          ∧ r.2.mem ((c.tc : Thread Cert.MlpIdeal.nD Cert.MlpIdeal.τ).loc Cert.MlpIdeal.main_v36_3) = v3 c
          ∧ r.2.mem ((c.tc : Thread Cert.MlpIdeal.nD Cert.MlpIdeal.τ).loc Cert.MlpIdeal.main_v36_4) = v4 c
          ∧ r.2.mem ((c.tc : Thread Cert.MlpIdeal.nD Cert.MlpIdeal.τ).loc Cert.MlpIdeal.main_v36_5) = v5 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v85) = v0 c
          ∧ r.2.mem ((c.tc : Thread Cert.MlpReferenceIdeal.nD Cert.MlpReferenceIdeal.τ).loc Cert.MlpReferenceIdeal.main_v86) = v1 c
          ∧ r.2.mem ((c.tc : Thread Cert.MlpReferenceIdeal.nD Cert.MlpReferenceIdeal.τ).loc Cert.MlpReferenceIdeal.main_v87) = v2 c
          ∧ r.2.mem ((c.tc : Thread Cert.MlpReferenceIdeal.nD Cert.MlpReferenceIdeal.τ).loc Cert.MlpReferenceIdeal.main_v88) = v3 c
          ∧ r.2.mem ((c.tc : Thread Cert.MlpReferenceIdeal.nD Cert.MlpReferenceIdeal.τ).loc Cert.MlpReferenceIdeal.main_v89) = v4 c
          ∧ r.2.mem ((c.tc : Thread Cert.MlpReferenceIdeal.nD Cert.MlpReferenceIdeal.τ).loc Cert.MlpReferenceIdeal.main_v84) = v5 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Rest_RestIdeal : Prop :=
  True

def algebraic_RestIdeal_RestReferenceIdeal [hRestIdeal : Cert.RestIdeal.Facts] [hRestReferenceIdeal : Cert.RestReferenceIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestIdeal m →
    (∀ c : Dev Cert.RestIdeal.nD,
      m' ((c.tc : Thread Cert.RestReferenceIdeal.nD Cert.RestReferenceIdeal.τ).loc Cert.RestReferenceIdeal.main_arg0) = m ((c.tc : Thread Cert.RestIdeal.nD Cert.RestIdeal.τ).loc Cert.RestIdeal.main_arg0)
      ∧ m' ((c.tc : Thread Cert.RestReferenceIdeal.nD Cert.RestReferenceIdeal.τ).loc Cert.RestReferenceIdeal.main_arg1) = m ((c.tc : Thread Cert.RestIdeal.nD Cert.RestIdeal.τ).loc Cert.RestIdeal.main_arg1)
      ∧ m' ((c.tc : Thread Cert.RestReferenceIdeal.nD Cert.RestReferenceIdeal.τ).loc Cert.RestReferenceIdeal.main_arg2) = m ((c.tc : Thread Cert.RestIdeal.nD Cert.RestIdeal.τ).loc Cert.RestIdeal.main_arg2)
      ∧ m' ((c.tc : Thread Cert.RestReferenceIdeal.nD Cert.RestReferenceIdeal.τ).loc Cert.RestReferenceIdeal.main_arg3) = m ((c.tc : Thread Cert.RestIdeal.nD Cert.RestIdeal.τ).loc Cert.RestIdeal.main_arg3)
      ∧ m' ((c.tc : Thread Cert.RestReferenceIdeal.nD Cert.RestReferenceIdeal.τ).loc Cert.RestReferenceIdeal.main_arg4) = m ((c.tc : Thread Cert.RestIdeal.nD Cert.RestIdeal.τ).loc Cert.RestIdeal.main_arg4)
      ∧ m' ((c.tc : Thread Cert.RestReferenceIdeal.nD Cert.RestReferenceIdeal.τ).loc Cert.RestReferenceIdeal.main_arg5) = m ((c.tc : Thread Cert.RestIdeal.nD Cert.RestIdeal.τ).loc Cert.RestIdeal.main_arg5)
      ∧ m' ((c.tc : Thread Cert.RestReferenceIdeal.nD Cert.RestReferenceIdeal.τ).loc Cert.RestReferenceIdeal.main_arg6) = m ((c.tc : Thread Cert.RestIdeal.nD Cert.RestIdeal.τ).loc Cert.RestIdeal.main_arg6)
      ∧ m' ((c.tc : Thread Cert.RestReferenceIdeal.nD Cert.RestReferenceIdeal.τ).loc Cert.RestReferenceIdeal.main_arg7) = m ((c.tc : Thread Cert.RestIdeal.nD Cert.RestIdeal.τ).loc Cert.RestIdeal.main_arg7)
      ∧ m' ((c.tc : Thread Cert.RestReferenceIdeal.nD Cert.RestReferenceIdeal.τ).loc Cert.RestReferenceIdeal.main_arg8) = m ((c.tc : Thread Cert.RestIdeal.nD Cert.RestIdeal.τ).loc Cert.RestIdeal.main_arg8)
      ∧ m' ((c.tc : Thread Cert.RestReferenceIdeal.nD Cert.RestReferenceIdeal.τ).loc Cert.RestReferenceIdeal.main_arg9) = m ((c.tc : Thread Cert.RestIdeal.nD Cert.RestIdeal.τ).loc Cert.RestIdeal.main_arg9)
      ∧ m' ((c.tc : Thread Cert.RestReferenceIdeal.nD Cert.RestReferenceIdeal.τ).loc Cert.RestReferenceIdeal.main_arg10) = m ((c.tc : Thread Cert.RestIdeal.nD Cert.RestIdeal.τ).loc Cert.RestIdeal.main_arg10)) →
    ∃ (v0 : (c : Dev Cert.RestIdeal.nD) → Buf (Elt Ideal) ((c.tc : Thread Cert.RestIdeal.nD Cert.RestIdeal.τ).loc Cert.RestIdeal.main_v13_0)) (v1 : (c : Dev Cert.RestIdeal.nD) → Buf (Elt Ideal) ((c.tc : Thread Cert.RestIdeal.nD Cert.RestIdeal.τ).loc Cert.RestIdeal.main_v13_1)) (v2 : (c : Dev Cert.RestIdeal.nD) → Buf (Elt Ideal) ((c.tc : Thread Cert.RestIdeal.nD Cert.RestIdeal.τ).loc Cert.RestIdeal.main_v13_2)) (v3 : (c : Dev Cert.RestIdeal.nD) → Buf (Elt Ideal) ((c.tc : Thread Cert.RestIdeal.nD Cert.RestIdeal.τ).loc Cert.RestIdeal.main_v13_3)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v13_0) = v0 c
          ∧ r.2.mem ((c.tc : Thread Cert.RestIdeal.nD Cert.RestIdeal.τ).loc Cert.RestIdeal.main_v13_1) = v1 c
          ∧ r.2.mem ((c.tc : Thread Cert.RestIdeal.nD Cert.RestIdeal.τ).loc Cert.RestIdeal.main_v13_2) = v2 c
          ∧ r.2.mem ((c.tc : Thread Cert.RestIdeal.nD Cert.RestIdeal.τ).loc Cert.RestIdeal.main_v13_3) = v3 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
          ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
          ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
          ∧ r.2.mem ((c.tc : Thread Cert.RestIdeal.nD Cert.RestIdeal.τ).loc Cert.RestIdeal.main_arg5) = m ((c.tc : Thread Cert.RestIdeal.nD Cert.RestIdeal.τ).loc Cert.RestIdeal.main_arg5)
          ∧ r.2.mem ((c.tc : Thread Cert.RestIdeal.nD Cert.RestIdeal.τ).loc Cert.RestIdeal.main_arg6) = m ((c.tc : Thread Cert.RestIdeal.nD Cert.RestIdeal.τ).loc Cert.RestIdeal.main_arg6)
          ∧ r.2.mem ((c.tc : Thread Cert.RestIdeal.nD Cert.RestIdeal.τ).loc Cert.RestIdeal.main_arg7) = m ((c.tc : Thread Cert.RestIdeal.nD Cert.RestIdeal.τ).loc Cert.RestIdeal.main_arg7)
          ∧ r.2.mem ((c.tc : Thread Cert.RestIdeal.nD Cert.RestIdeal.τ).loc Cert.RestIdeal.main_arg8) = m ((c.tc : Thread Cert.RestIdeal.nD Cert.RestIdeal.τ).loc Cert.RestIdeal.main_arg8)
          ∧ r.2.mem ((c.tc : Thread Cert.RestIdeal.nD Cert.RestIdeal.τ).loc Cert.RestIdeal.main_arg9) = m ((c.tc : Thread Cert.RestIdeal.nD Cert.RestIdeal.τ).loc Cert.RestIdeal.main_arg9)
          ∧ r.2.mem ((c.tc : Thread Cert.RestIdeal.nD Cert.RestIdeal.τ).loc Cert.RestIdeal.main_arg10) = m ((c.tc : Thread Cert.RestIdeal.nD Cert.RestIdeal.τ).loc Cert.RestIdeal.main_arg10))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v5) = v0 c
          ∧ r.2.mem ((c.tc : Thread Cert.RestReferenceIdeal.nD Cert.RestReferenceIdeal.τ).loc Cert.RestReferenceIdeal.main_v31) = v1 c
          ∧ r.2.mem ((c.tc : Thread Cert.RestReferenceIdeal.nD Cert.RestReferenceIdeal.τ).loc Cert.RestReferenceIdeal.main_v32) = v2 c
          ∧ r.2.mem ((c.tc : Thread Cert.RestReferenceIdeal.nD Cert.RestReferenceIdeal.τ).loc Cert.RestReferenceIdeal.main_v36) = v3 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3)
          ∧ r.2.mem ((c.tc : Thread Cert.RestReferenceIdeal.nD Cert.RestReferenceIdeal.τ).loc Cert.RestReferenceIdeal.main_arg4) = m' ((c.tc : Thread Cert.RestReferenceIdeal.nD Cert.RestReferenceIdeal.τ).loc Cert.RestReferenceIdeal.main_arg4)
          ∧ r.2.mem ((c.tc : Thread Cert.RestReferenceIdeal.nD Cert.RestReferenceIdeal.τ).loc Cert.RestReferenceIdeal.main_arg5) = m' ((c.tc : Thread Cert.RestReferenceIdeal.nD Cert.RestReferenceIdeal.τ).loc Cert.RestReferenceIdeal.main_arg5)
          ∧ r.2.mem ((c.tc : Thread Cert.RestReferenceIdeal.nD Cert.RestReferenceIdeal.τ).loc Cert.RestReferenceIdeal.main_arg6) = m' ((c.tc : Thread Cert.RestReferenceIdeal.nD Cert.RestReferenceIdeal.τ).loc Cert.RestReferenceIdeal.main_arg6)
          ∧ r.2.mem ((c.tc : Thread Cert.RestReferenceIdeal.nD Cert.RestReferenceIdeal.τ).loc Cert.RestReferenceIdeal.main_arg7) = m' ((c.tc : Thread Cert.RestReferenceIdeal.nD Cert.RestReferenceIdeal.τ).loc Cert.RestReferenceIdeal.main_arg7)
          ∧ r.2.mem ((c.tc : Thread Cert.RestReferenceIdeal.nD Cert.RestReferenceIdeal.τ).loc Cert.RestReferenceIdeal.main_arg8) = m' ((c.tc : Thread Cert.RestReferenceIdeal.nD Cert.RestReferenceIdeal.τ).loc Cert.RestReferenceIdeal.main_arg8)
          ∧ r.2.mem ((c.tc : Thread Cert.RestReferenceIdeal.nD Cert.RestReferenceIdeal.τ).loc Cert.RestReferenceIdeal.main_arg9) = m' ((c.tc : Thread Cert.RestReferenceIdeal.nD Cert.RestReferenceIdeal.τ).loc Cert.RestReferenceIdeal.main_arg9)
          ∧ r.2.mem ((c.tc : Thread Cert.RestReferenceIdeal.nD Cert.RestReferenceIdeal.τ).loc Cert.RestReferenceIdeal.main_arg10) = m' ((c.tc : Thread Cert.RestReferenceIdeal.nD Cert.RestReferenceIdeal.τ).loc Cert.RestReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v23) = v0 c
          ∧ r.2.mem ((c.tc : Thread Cert.ProjReferenceIdeal.nD Cert.ProjReferenceIdeal.τ).loc Cert.ProjReferenceIdeal.main_v24) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_ProjBack_ProjBackIdeal : Prop :=
  True

def algebraic_ProjBackIdeal_ProjBackReferenceIdeal [hProjBackIdeal : Cert.ProjBackIdeal.Facts] [hProjBackReferenceIdeal : Cert.ProjBackReferenceIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg)
    (m' : (ℓ : Loc Cert.ProjBackReferenceIdeal.nD Cert.ProjBackReferenceIdeal.τ Cert.ProjBackReferenceIdeal.sig) → Buf (Elt Ideal) ℓ) (g' : Dev Cert.ProjBackReferenceIdeal.nD → PrngReg), Pre_ProjBackIdeal m →
    (∀ c : Dev Cert.ProjBackIdeal.nD,
      m' ((c.tc : Thread Cert.ProjBackReferenceIdeal.nD Cert.ProjBackReferenceIdeal.τ).loc Cert.ProjBackReferenceIdeal.main_arg0) = m ((c.tc : Thread Cert.ProjBackIdeal.nD Cert.ProjBackIdeal.τ).loc Cert.ProjBackIdeal.main_arg0)
      ∧ m' ((c.tc : Thread Cert.ProjBackReferenceIdeal.nD Cert.ProjBackReferenceIdeal.τ).loc Cert.ProjBackReferenceIdeal.main_arg1) = m ((c.tc : Thread Cert.ProjBackIdeal.nD Cert.ProjBackIdeal.τ).loc Cert.ProjBackIdeal.main_arg1)
      ∧ m' ((c.tc : Thread Cert.ProjBackReferenceIdeal.nD Cert.ProjBackReferenceIdeal.τ).loc Cert.ProjBackReferenceIdeal.main_arg2) = m ((c.tc : Thread Cert.ProjBackIdeal.nD Cert.ProjBackIdeal.τ).loc Cert.ProjBackIdeal.main_arg2)
      ∧ m' ((c.tc : Thread Cert.ProjBackReferenceIdeal.nD Cert.ProjBackReferenceIdeal.τ).loc Cert.ProjBackReferenceIdeal.main_arg3) = m ((c.tc : Thread Cert.ProjBackIdeal.nD Cert.ProjBackIdeal.τ).loc Cert.ProjBackIdeal.main_arg3)
      ∧ m' ((c.tc : Thread Cert.ProjBackReferenceIdeal.nD Cert.ProjBackReferenceIdeal.τ).loc Cert.ProjBackReferenceIdeal.main_arg4) = m ((c.tc : Thread Cert.ProjBackIdeal.nD Cert.ProjBackIdeal.τ).loc Cert.ProjBackIdeal.main_arg4)
      ∧ m' ((c.tc : Thread Cert.ProjBackReferenceIdeal.nD Cert.ProjBackReferenceIdeal.τ).loc Cert.ProjBackReferenceIdeal.main_arg5) = m ((c.tc : Thread Cert.ProjBackIdeal.nD Cert.ProjBackIdeal.τ).loc Cert.ProjBackIdeal.main_arg5)
      ∧ m' ((c.tc : Thread Cert.ProjBackReferenceIdeal.nD Cert.ProjBackReferenceIdeal.τ).loc Cert.ProjBackReferenceIdeal.main_arg6) = m ((c.tc : Thread Cert.ProjBackIdeal.nD Cert.ProjBackIdeal.τ).loc Cert.ProjBackIdeal.main_arg6)
      ∧ m' ((c.tc : Thread Cert.ProjBackReferenceIdeal.nD Cert.ProjBackReferenceIdeal.τ).loc Cert.ProjBackReferenceIdeal.main_arg7) = m ((c.tc : Thread Cert.ProjBackIdeal.nD Cert.ProjBackIdeal.τ).loc Cert.ProjBackIdeal.main_arg7)
      ∧ m' ((c.tc : Thread Cert.ProjBackReferenceIdeal.nD Cert.ProjBackReferenceIdeal.τ).loc Cert.ProjBackReferenceIdeal.main_arg8) = m ((c.tc : Thread Cert.ProjBackIdeal.nD Cert.ProjBackIdeal.τ).loc Cert.ProjBackIdeal.main_arg8)
      ∧ m' ((c.tc : Thread Cert.ProjBackReferenceIdeal.nD Cert.ProjBackReferenceIdeal.τ).loc Cert.ProjBackReferenceIdeal.main_arg9) = m ((c.tc : Thread Cert.ProjBackIdeal.nD Cert.ProjBackIdeal.τ).loc Cert.ProjBackIdeal.main_arg9)) →
    ∃ (v0 : (c : Dev Cert.ProjBackIdeal.nD) → Buf (Elt Ideal) ((c.tc : Thread Cert.ProjBackIdeal.nD Cert.ProjBackIdeal.τ).loc Cert.ProjBackIdeal.main_v11_0)) (v1 : (c : Dev Cert.ProjBackIdeal.nD) → Buf (Elt Ideal) ((c.tc : Thread Cert.ProjBackIdeal.nD Cert.ProjBackIdeal.τ).loc Cert.ProjBackIdeal.main_v11_1)) (v2 : (c : Dev Cert.ProjBackIdeal.nD) → Buf (Elt Ideal) ((c.tc : Thread Cert.ProjBackIdeal.nD Cert.ProjBackIdeal.τ).loc Cert.ProjBackIdeal.main_v11_2)),
      θ_run (Cert.ProjBackIdeal.defs (F := Ideal)) (onTc (τ := Cert.ProjBackIdeal.τ) (Cert.ProjBackIdeal.main (F := Ideal))) ⟨m, fun _ => 0, g⟩ (fun r => ∀ c : Dev Cert.ProjBackIdeal.nD,
          r.2.mem ((c.tc : Thread Cert.ProjBackIdeal.nD Cert.ProjBackIdeal.τ).loc Cert.ProjBackIdeal.main_v11_0) = v0 c
          ∧ r.2.mem ((c.tc : Thread Cert.ProjBackIdeal.nD Cert.ProjBackIdeal.τ).loc Cert.ProjBackIdeal.main_v11_1) = v1 c
          ∧ r.2.mem ((c.tc : Thread Cert.ProjBackIdeal.nD Cert.ProjBackIdeal.τ).loc Cert.ProjBackIdeal.main_v11_2) = v2 c
          ∧ r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
          ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
          ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
          ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
          ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
          ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
          ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6)
          ∧ r.2.mem ((c.tc : Thread Cert.ProjBackIdeal.nD Cert.ProjBackIdeal.τ).loc Cert.ProjBackIdeal.main_arg7) = m ((c.tc : Thread Cert.ProjBackIdeal.nD Cert.ProjBackIdeal.τ).loc Cert.ProjBackIdeal.main_arg7)
          ∧ r.2.mem ((c.tc : Thread Cert.ProjBackIdeal.nD Cert.ProjBackIdeal.τ).loc Cert.ProjBackIdeal.main_arg8) = m ((c.tc : Thread Cert.ProjBackIdeal.nD Cert.ProjBackIdeal.τ).loc Cert.ProjBackIdeal.main_arg8)
          ∧ r.2.mem ((c.tc : Thread Cert.ProjBackIdeal.nD Cert.ProjBackIdeal.τ).loc Cert.ProjBackIdeal.main_arg9) = m ((c.tc : Thread Cert.ProjBackIdeal.nD Cert.ProjBackIdeal.τ).loc Cert.ProjBackIdeal.main_arg9))
      ∧ θ_run (Cert.ProjBackReferenceIdeal.defs (F := Ideal)) (onTc (τ := Cert.ProjBackReferenceIdeal.τ) (Cert.ProjBackReferenceIdeal.main (F := Ideal))) ⟨m', fun _ => 0, g'⟩ (fun r => ∀ c : Dev Cert.ProjBackReferenceIdeal.nD,
          r.2.mem ((c.tc : Thread Cert.ProjBackReferenceIdeal.nD Cert.ProjBackReferenceIdeal.τ).loc Cert.ProjBackReferenceIdeal.main_v57) = v0 c
          ∧ r.2.mem ((c.tc : Thread Cert.ProjBackReferenceIdeal.nD Cert.ProjBackReferenceIdeal.τ).loc Cert.ProjBackReferenceIdeal.main_v58) = v1 c
          ∧ r.2.mem ((c.tc : Thread Cert.ProjBackReferenceIdeal.nD Cert.ProjBackReferenceIdeal.τ).loc Cert.ProjBackReferenceIdeal.main_v64) = v2 c
          ∧ r.2.mem ((c.tc : Thread Cert.ProjBackReferenceIdeal.nD Cert.ProjBackReferenceIdeal.τ).loc Cert.ProjBackReferenceIdeal.main_arg0) = m' ((c.tc : Thread Cert.ProjBackReferenceIdeal.nD Cert.ProjBackReferenceIdeal.τ).loc Cert.ProjBackReferenceIdeal.main_arg0)
          ∧ r.2.mem ((c.tc : Thread Cert.ProjBackReferenceIdeal.nD Cert.ProjBackReferenceIdeal.τ).loc Cert.ProjBackReferenceIdeal.main_arg1) = m' ((c.tc : Thread Cert.ProjBackReferenceIdeal.nD Cert.ProjBackReferenceIdeal.τ).loc Cert.ProjBackReferenceIdeal.main_arg1)
          ∧ r.2.mem ((c.tc : Thread Cert.ProjBackReferenceIdeal.nD Cert.ProjBackReferenceIdeal.τ).loc Cert.ProjBackReferenceIdeal.main_arg2) = m' ((c.tc : Thread Cert.ProjBackReferenceIdeal.nD Cert.ProjBackReferenceIdeal.τ).loc Cert.ProjBackReferenceIdeal.main_arg2)
          ∧ r.2.mem ((c.tc : Thread Cert.ProjBackReferenceIdeal.nD Cert.ProjBackReferenceIdeal.τ).loc Cert.ProjBackReferenceIdeal.main_arg3) = m' ((c.tc : Thread Cert.ProjBackReferenceIdeal.nD Cert.ProjBackReferenceIdeal.τ).loc Cert.ProjBackReferenceIdeal.main_arg3)
          ∧ r.2.mem ((c.tc : Thread Cert.ProjBackReferenceIdeal.nD Cert.ProjBackReferenceIdeal.τ).loc Cert.ProjBackReferenceIdeal.main_arg4) = m' ((c.tc : Thread Cert.ProjBackReferenceIdeal.nD Cert.ProjBackReferenceIdeal.τ).loc Cert.ProjBackReferenceIdeal.main_arg4)
          ∧ r.2.mem ((c.tc : Thread Cert.ProjBackReferenceIdeal.nD Cert.ProjBackReferenceIdeal.τ).loc Cert.ProjBackReferenceIdeal.main_arg5) = m' ((c.tc : Thread Cert.ProjBackReferenceIdeal.nD Cert.ProjBackReferenceIdeal.τ).loc Cert.ProjBackReferenceIdeal.main_arg5)
          ∧ r.2.mem ((c.tc : Thread Cert.ProjBackReferenceIdeal.nD Cert.ProjBackReferenceIdeal.τ).loc Cert.ProjBackReferenceIdeal.main_arg6) = m' ((c.tc : Thread Cert.ProjBackReferenceIdeal.nD Cert.ProjBackReferenceIdeal.τ).loc Cert.ProjBackReferenceIdeal.main_arg6)
          ∧ r.2.mem ((c.tc : Thread Cert.ProjBackReferenceIdeal.nD Cert.ProjBackReferenceIdeal.τ).loc Cert.ProjBackReferenceIdeal.main_arg7) = m' ((c.tc : Thread Cert.ProjBackReferenceIdeal.nD Cert.ProjBackReferenceIdeal.τ).loc Cert.ProjBackReferenceIdeal.main_arg7)
          ∧ r.2.mem ((c.tc : Thread Cert.ProjBackReferenceIdeal.nD Cert.ProjBackReferenceIdeal.τ).loc Cert.ProjBackReferenceIdeal.main_arg8) = m' ((c.tc : Thread Cert.ProjBackReferenceIdeal.nD Cert.ProjBackReferenceIdeal.τ).loc Cert.ProjBackReferenceIdeal.main_arg8)
          ∧ r.2.mem ((c.tc : Thread Cert.ProjBackReferenceIdeal.nD Cert.ProjBackReferenceIdeal.τ).loc Cert.ProjBackReferenceIdeal.main_arg9) = m' ((c.tc : Thread Cert.ProjBackReferenceIdeal.nD Cert.ProjBackReferenceIdeal.τ).loc Cert.ProjBackReferenceIdeal.main_arg9))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutBack_OutBackIdeal : Prop :=
  True

def algebraic_OutBackIdeal_OutBackReferenceIdeal [hOutBackIdeal : Cert.OutBackIdeal.Facts] [hOutBackReferenceIdeal : Cert.OutBackReferenceIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackReferenceIdeal.nD Cert.OutBackReferenceIdeal.τ Cert.OutBackReferenceIdeal.sig) → Buf (Elt Ideal) ℓ) (g' : Dev Cert.OutBackReferenceIdeal.nD → PrngReg), Pre_OutBackIdeal m →
    (∀ c : Dev Cert.OutBackIdeal.nD,
      m' ((c.tc : Thread Cert.OutBackReferenceIdeal.nD Cert.OutBackReferenceIdeal.τ).loc Cert.OutBackReferenceIdeal.main_arg0) = m ((c.tc : Thread Cert.OutBackIdeal.nD Cert.OutBackIdeal.τ).loc Cert.OutBackIdeal.main_arg0)
      ∧ m' ((c.tc : Thread Cert.OutBackReferenceIdeal.nD Cert.OutBackReferenceIdeal.τ).loc Cert.OutBackReferenceIdeal.main_arg1) = m ((c.tc : Thread Cert.OutBackIdeal.nD Cert.OutBackIdeal.τ).loc Cert.OutBackIdeal.main_arg1)
      ∧ m' ((c.tc : Thread Cert.OutBackReferenceIdeal.nD Cert.OutBackReferenceIdeal.τ).loc Cert.OutBackReferenceIdeal.main_arg2) = m ((c.tc : Thread Cert.OutBackIdeal.nD Cert.OutBackIdeal.τ).loc Cert.OutBackIdeal.main_arg2)
      ∧ m' ((c.tc : Thread Cert.OutBackReferenceIdeal.nD Cert.OutBackReferenceIdeal.τ).loc Cert.OutBackReferenceIdeal.main_arg3) = m ((c.tc : Thread Cert.OutBackIdeal.nD Cert.OutBackIdeal.τ).loc Cert.OutBackIdeal.main_arg3)
      ∧ m' ((c.tc : Thread Cert.OutBackReferenceIdeal.nD Cert.OutBackReferenceIdeal.τ).loc Cert.OutBackReferenceIdeal.main_arg4) = m ((c.tc : Thread Cert.OutBackIdeal.nD Cert.OutBackIdeal.τ).loc Cert.OutBackIdeal.main_arg4)) →
    ∃ (v0 : (c : Dev Cert.OutBackIdeal.nD) → Buf (Elt Ideal) ((c.tc : Thread Cert.OutBackIdeal.nD Cert.OutBackIdeal.τ).loc Cert.OutBackIdeal.main_v6_0)) (v1 : (c : Dev Cert.OutBackIdeal.nD) → Buf (Elt Ideal) ((c.tc : Thread Cert.OutBackIdeal.nD Cert.OutBackIdeal.τ).loc Cert.OutBackIdeal.main_v6_1)) (v2 : (c : Dev Cert.OutBackIdeal.nD) → Buf (Elt Ideal) ((c.tc : Thread Cert.OutBackIdeal.nD Cert.OutBackIdeal.τ).loc Cert.OutBackIdeal.main_v6_2)) (v3 : (c : Dev Cert.OutBackIdeal.nD) → Buf (Elt Ideal) ((c.tc : Thread Cert.OutBackIdeal.nD Cert.OutBackIdeal.τ).loc Cert.OutBackIdeal.main_v6_3)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v6_0) = v0 c
          ∧ r.2.mem ((c.tc : Thread Cert.OutBackIdeal.nD Cert.OutBackIdeal.τ).loc Cert.OutBackIdeal.main_v6_1) = v1 c
          ∧ r.2.mem ((c.tc : Thread Cert.OutBackIdeal.nD Cert.OutBackIdeal.τ).loc Cert.OutBackIdeal.main_v6_2) = v2 c
          ∧ r.2.mem ((c.tc : Thread Cert.OutBackIdeal.nD Cert.OutBackIdeal.τ).loc Cert.OutBackIdeal.main_v6_3) = v3 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
          ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
          ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
          ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4))
      ∧ θ_run (Cert.OutBackReferenceIdeal.defs (F := Ideal)) (onTc (τ := Cert.OutBackReferenceIdeal.τ) (Cert.OutBackReferenceIdeal.main (F := Ideal))) ⟨m', fun _ => 0, g'⟩ (fun r => ∀ c : Dev Cert.OutBackReferenceIdeal.nD,
          r.2.mem ((c.tc : Thread Cert.OutBackReferenceIdeal.nD Cert.OutBackReferenceIdeal.τ).loc Cert.OutBackReferenceIdeal.main_v14) = v0 c
          ∧ r.2.mem ((c.tc : Thread Cert.OutBackReferenceIdeal.nD Cert.OutBackReferenceIdeal.τ).loc Cert.OutBackReferenceIdeal.main_v12) = v1 c
          ∧ r.2.mem ((c.tc : Thread Cert.OutBackReferenceIdeal.nD Cert.OutBackReferenceIdeal.τ).loc Cert.OutBackReferenceIdeal.main_v13) = v2 c
          ∧ r.2.mem ((c.tc : Thread Cert.OutBackReferenceIdeal.nD Cert.OutBackReferenceIdeal.τ).loc Cert.OutBackReferenceIdeal.main_v17) = v3 c
          ∧ r.2.mem ((c.tc : Thread Cert.OutBackReferenceIdeal.nD Cert.OutBackReferenceIdeal.τ).loc Cert.OutBackReferenceIdeal.main_arg0) = m' ((c.tc : Thread Cert.OutBackReferenceIdeal.nD Cert.OutBackReferenceIdeal.τ).loc Cert.OutBackReferenceIdeal.main_arg0)
          ∧ r.2.mem ((c.tc : Thread Cert.OutBackReferenceIdeal.nD Cert.OutBackReferenceIdeal.τ).loc Cert.OutBackReferenceIdeal.main_arg1) = m' ((c.tc : Thread Cert.OutBackReferenceIdeal.nD Cert.OutBackReferenceIdeal.τ).loc Cert.OutBackReferenceIdeal.main_arg1)
          ∧ r.2.mem ((c.tc : Thread Cert.OutBackReferenceIdeal.nD Cert.OutBackReferenceIdeal.τ).loc Cert.OutBackReferenceIdeal.main_arg2) = m' ((c.tc : Thread Cert.OutBackReferenceIdeal.nD Cert.OutBackReferenceIdeal.τ).loc Cert.OutBackReferenceIdeal.main_arg2)
          ∧ r.2.mem ((c.tc : Thread Cert.OutBackReferenceIdeal.nD Cert.OutBackReferenceIdeal.τ).loc Cert.OutBackReferenceIdeal.main_arg3) = m' ((c.tc : Thread Cert.OutBackReferenceIdeal.nD Cert.OutBackReferenceIdeal.τ).loc Cert.OutBackReferenceIdeal.main_arg3)
          ∧ r.2.mem ((c.tc : Thread Cert.OutBackReferenceIdeal.nD Cert.OutBackReferenceIdeal.τ).loc Cert.OutBackReferenceIdeal.main_arg4) = m' ((c.tc : Thread Cert.OutBackReferenceIdeal.nD Cert.OutBackReferenceIdeal.τ).loc Cert.OutBackReferenceIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hRest : Cert.Rest.Facts) (hRestIdeal : Cert.RestIdeal.Facts) (hRestReferenceIdeal : Cert.RestReferenceIdeal.Facts) (hProj : Cert.Proj.Facts) (hProjIdeal : Cert.ProjIdeal.Facts) (hProjReferenceIdeal : Cert.ProjReferenceIdeal.Facts) (hProjBack : Cert.ProjBack.Facts) (hProjBackIdeal : Cert.ProjBackIdeal.Facts) (hProjBackReferenceIdeal : Cert.ProjBackReferenceIdeal.Facts) (hIn : Cert.In.Facts) (hInIdeal : Cert.InIdeal.Facts) (hInReferenceIdeal : Cert.InReferenceIdeal.Facts) (hOutBack : Cert.OutBack.Facts) (hOutBackIdeal : Cert.OutBackIdeal.Facts) (hOutBackReferenceIdeal : Cert.OutBackReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Rest (hRest := hRest)
    ∧ quiescent_RestIdeal (hRestIdeal := hRestIdeal)
    ∧ quiescent_RestReferenceIdeal (hRestReferenceIdeal := hRestReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjBack (hProjBack := hProjBack)
    ∧ quiescent_ProjBackIdeal (hProjBackIdeal := hProjBackIdeal)
    ∧ quiescent_ProjBackReferenceIdeal (hProjBackReferenceIdeal := hProjBackReferenceIdeal)
    ∧ quiescent_In (hIn := hIn)
    ∧ quiescent_InIdeal (hInIdeal := hInIdeal)
    ∧ quiescent_InReferenceIdeal (hInReferenceIdeal := hInReferenceIdeal)
    ∧ quiescent_OutBack (hOutBack := hOutBack)
    ∧ quiescent_OutBackIdeal (hOutBackIdeal := hOutBackIdeal)
    ∧ quiescent_OutBackReferenceIdeal (hOutBackReferenceIdeal := hOutBackReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Rest_RestIdeal
    ∧ algebraic_RestIdeal_RestReferenceIdeal (hRestIdeal := hRestIdeal) (hRestReferenceIdeal := hRestReferenceIdeal)
    ∧ preserves_Proj_ProjIdeal
    ∧ algebraic_ProjIdeal_ProjReferenceIdeal (hProjIdeal := hProjIdeal) (hProjReferenceIdeal := hProjReferenceIdeal)
    ∧ preserves_ProjBack_ProjBackIdeal
    ∧ algebraic_ProjBackIdeal_ProjBackReferenceIdeal (hProjBackIdeal := hProjBackIdeal) (hProjBackReferenceIdeal := hProjBackReferenceIdeal)
    ∧ preserves_In_InIdeal
    ∧ algebraic_InIdeal_InReferenceIdeal (hInIdeal := hInIdeal) (hInReferenceIdeal := hInReferenceIdeal)
    ∧ preserves_OutBack_OutBackIdeal
    ∧ algebraic_OutBackIdeal_OutBackReferenceIdeal (hOutBackIdeal := hOutBackIdeal) (hOutBackReferenceIdeal := hOutBackReferenceIdeal)
-- ==== Kernel.lean ====
abbrev S64x4x64x128 : Shape := ⟨4, ![64, 4, 64, 128]⟩
abbrev S64x4x64x64 : Shape := ⟨4, ![64, 4, 64, 64]⟩
abbrev S64x4 : Shape := ⟨2, ![64, 4]⟩
abbrev S64x4x128x128 : Shape := ⟨4, ![64, 4, 128, 128]⟩
abbrev S4096x3072 : Shape := ⟨2, ![4096, 3072]⟩
abbrev S128 : Shape := ⟨1, ![128]⟩
abbrev S4096x512 : Shape := ⟨2, ![4096, 512]⟩
abbrev S64x4x64x1x64 : Shape := ⟨5, ![64, 4, 64, 1, 64]⟩
abbrev S4x4 : Shape := ⟨2, ![4, 4]⟩
abbrev S_ : Shape := ⟨0, ![]⟩
abbrev S1x4x1x4x1 : Shape := ⟨5, ![1, 4, 1, 4, 1]⟩
abbrev S64x4x64x4x64 : Shape := ⟨5, ![64, 4, 64, 4, 64]⟩
abbrev S64x4x1x1 : Shape := ⟨4, ![64, 4, 1, 1]⟩
abbrev S16384x128 : Shape := ⟨2, ![16384, 128]⟩
abbrev S16384x256 : Shape := ⟨2, ![16384, 256]⟩
abbrev S32768x128 : Shape := ⟨2, ![32768, 128]⟩
abbrev S1x128 : Shape := ⟨2, ![1, 128]⟩
abbrev S8x128 : Shape := ⟨2, ![8, 128]⟩
abbrev S512x512 : Shape := ⟨2, ![512, 512]⟩
abbrev S2048x128 : Shape := ⟨2, ![2048, 128]⟩
abbrev S2048x256 : Shape := ⟨2, ![2048, 256]⟩
abbrev S4096x128 : Shape := ⟨2, ![4096, 128]⟩
abbrev S512x128 : Shape := ⟨2, ![512, 128]⟩
abbrev S128x128 : Shape := ⟨2, ![128, 128]⟩
abbrev S256x128 : Shape := ⟨2, ![256, 128]⟩
abbrev S256x256 : Shape := ⟨2, ![256, 256]⟩
abbrev S64x512 : Shape := ⟨2, ![64, 512]⟩
abbrev S64x128 : Shape := ⟨2, ![64, 128]⟩
abbrev S256 : Shape := ⟨1, ![256]⟩
abbrev S256x1 : Shape := ⟨2, ![256, 1]⟩
abbrev S128x64 : Shape := ⟨2, ![128, 64]⟩
abbrev S128x256 : Shape := ⟨2, ![128, 256]⟩

abbrev nBuf : Space → Nat
  | .hbm => 44
  | .vmem => 35
  | .smem => 0
  | _ => 0

abbrev bufTy : (tb : Table) → Fin (tcTables nBuf tb) → BufTy
  | .hbm, ⟨0, _⟩ => ⟨S64x4x64x128, .f32⟩
  | .hbm, ⟨1, _⟩ => ⟨S64x4x64x128, .f32⟩
  | .hbm, ⟨2, _⟩ => ⟨S64x4x64x64, .f32⟩
  | .hbm, ⟨3, _⟩ => ⟨S64x4x64x128, .f32⟩
  | .hbm, ⟨4, _⟩ => ⟨S64x4x64x128, .f32⟩
  | .hbm, ⟨5, _⟩ => ⟨S64x4, .f32⟩
  | .hbm, ⟨6, _⟩ => ⟨S64x4x128x128, .f32⟩
  | .hbm, ⟨7, _⟩ => ⟨S4096x3072, .f32⟩
  | .hbm, ⟨8, _⟩ => ⟨S128, .f32⟩
  | .hbm, ⟨9, _⟩ => ⟨S4096x512, .f32⟩
  | .hbm, ⟨10, _⟩ => ⟨S64x4x64x1x64, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S1x4x1x4x1, .f32⟩
  | .hbm, ⟨19, _⟩ => ⟨S64x4x64x4x64, .f32⟩
  | .hbm, ⟨20, _⟩ => ⟨S64x4x64x4x64, .f32⟩
  | .hbm, ⟨21, _⟩ => ⟨S64x4x64x4x64, .f32⟩
  | .hbm, ⟨22, _⟩ => ⟨S64x4x1x1, .f32⟩
  | .hbm, ⟨23, _⟩ => ⟨S64x4x64x128, .f32⟩
  | .hbm, ⟨24, _⟩ => ⟨S16384x128, .f32⟩
  | .hbm, ⟨25, _⟩ => ⟨S16384x128, .f32⟩
  | .hbm, ⟨26, _⟩ => ⟨S16384x128, .bf16⟩
  | .hbm, ⟨27, _⟩ => ⟨S16384x128, .f32⟩
  | .hbm, ⟨28, _⟩ => ⟨S16384x128, .bf16⟩
  | .hbm, ⟨29, _⟩ => ⟨S16384x128, .f32⟩
  | .hbm, ⟨30, _⟩ => ⟨S16384x128, .bf16⟩
  | .hbm, ⟨31, _⟩ => ⟨S16384x256, .f32⟩
  | .hbm, ⟨32, _⟩ => ⟨S16384x256, .bf16⟩
  | .hbm, ⟨33, _⟩ => ⟨S16384x128, .f32⟩
  | .hbm, ⟨34, _⟩ => ⟨S32768x128, .f32⟩
  | .hbm, ⟨35, _⟩ => ⟨S1x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x256, .f32⟩
  | .hbm, ⟨41, _⟩ => ⟨S16384x128, .f32⟩
  | .hbm, ⟨42, _⟩ => ⟨S4096x512, .bf16⟩
  | .hbm, ⟨43, _⟩ => ⟨S8x128, .f32⟩
  | .local _ .vmem, ⟨0, _⟩ => ⟨S512x512, .f32⟩
  | .local _ .vmem, ⟨1, _⟩ => ⟨S512x512, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x256, .bf16⟩
  | .local _ .vmem, ⟨11, _⟩ => ⟨S2048x256, .bf16⟩
  | .local _ .vmem, ⟨12, _⟩ => ⟨S2048x128, .f32⟩
  | .local _ .vmem, ⟨13, _⟩ => ⟨S2048x128, .f32⟩
  | .local _ .vmem, ⟨14, _⟩ => ⟨S4096x128, .f32⟩
  | .local _ .vmem, ⟨15, _⟩ => ⟨S4096x128, .f32⟩
  | .local _ .vmem, ⟨16, _⟩ => ⟨S512x512, .f32⟩
  | .local _ .vmem, ⟨17, _⟩ => ⟨S512x512, .f32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x256, .f32⟩
  | .local _ .vmem, ⟨28, _⟩ => ⟨S2048x256, .f32⟩
  | .local _ .vmem, ⟨29, _⟩ => ⟨S2048x128, .f32⟩
  | .local _ .vmem, ⟨30, _⟩ => ⟨S2048x128, .f32⟩
  | .local _ .vmem, ⟨31, _⟩ => ⟨S512x512, .bf16⟩
  | .local _ .vmem, ⟨32, _⟩ => ⟨S512x512, .bf16⟩
  | .local _ .vmem, ⟨33, _⟩ => ⟨S8x128, .f32⟩
  | .local _ .vmem, ⟨34, _⟩ => ⟨S512x128, .f32⟩
  | _, _ => ⟨S64x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S64x4x64x128 : Shape := ⟨4, ![64, 4, 64, 128]⟩
abbrev S64x4x64x64 : Shape := ⟨4, ![64, 4, 64, 64]⟩
abbrev S64x4 : Shape := ⟨2, ![64, 4]⟩
abbrev S64x4x128x128 : Shape := ⟨4, ![64, 4, 128, 128]⟩
abbrev S4096x3072 : Shape := ⟨2, ![4096, 3072]⟩
abbrev S128 : Shape := ⟨1, ![128]⟩
abbrev S4096x512 : Shape := ⟨2, ![4096, 512]⟩
abbrev S_ : Shape := ⟨0, ![]⟩
abbrev S4x128x128 : Shape := ⟨3, ![4, 128, 128]⟩
abbrev S64x64x4x128 : Shape := ⟨4, ![64, 64, 4, 128]⟩
abbrev S64x128 : Shape := ⟨2, ![64, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S1x64x4x128 : Shape := ⟨4, ![1, 64, 4, 128]⟩
abbrev S64x4x128 : Shape := ⟨3, ![64, 4, 128]⟩
abbrev S4x1x1 : Shape := ⟨3, ![4, 1, 1]⟩
abbrev S64x4x1 : Shape := ⟨3, ![64, 4, 1]⟩
abbrev S1x1x128 : Shape := ⟨3, ![1, 1, 128]⟩
abbrev S4x128x64 : Shape := ⟨3, ![4, 128, 64]⟩
abbrev S1x128 : Shape := ⟨2, ![1, 128]⟩
abbrev S16384x128 : Shape := ⟨2, ![16384, 128]⟩
abbrev S7x128 : Shape := ⟨2, ![7, 128]⟩
abbrev S8x128 : Shape := ⟨2, ![8, 128]⟩

abbrev nBuf : Space → Nat
  | .hbm => 239
  | .vmem => 0
  | .smem => 0
  | _ => 0

abbrev hbmTy0_0 (i : Nat) : BufTy := match i % 128 with
  | 0 => ⟨S64x4x64x128, .f32⟩
  | 1 => ⟨S64x4x64x128, .f32⟩
  | 2 => ⟨S64x4x64x64, .f32⟩
  | 3 => ⟨S64x4x64x128, .f32⟩
  | 4 => ⟨S64x4x64x128, .f32⟩
  | 5 => ⟨S64x4, .f32⟩
  | 6 => ⟨S64x4x128x128, .f32⟩
  | 7 => ⟨S4096x3072, .f32⟩
  | 8 => ⟨S128, .f32⟩
  | 9 => ⟨S4096x512, .f32⟩
  | 10 => ⟨S_, .f32⟩
  | 11 => ⟨S4x128x128, .f32⟩
  | 12 => ⟨S4096x512, .f32⟩
  | 13 => ⟨S64x64x4x128, .f32⟩
  | 14 => ⟨S64x64x4x128, .f32⟩
  | 15 => ⟨S_, .f32⟩
  | 16 => ⟨S64x4x64x128, .f32⟩
  | 17 => ⟨S_, .f32⟩
  | 18 => ⟨S64x4x64x128, .f32⟩
  | 19 => ⟨S_, .f32⟩
  | 20 => ⟨S64x4x64x128, .f32⟩
  | 21 => ⟨S_, .f32⟩
  | 22 => ⟨S64x4x64x128, .f32⟩
  | 23 => ⟨S_, .f32⟩
  | 24 => ⟨S64x64x4x128, .f32⟩
  | 25 => ⟨S_, .f32⟩
  | 26 => ⟨S64x128, .f32⟩
  | 27 => ⟨S_, .i32⟩
  | 28 => ⟨S64x4x128x128, .f32⟩
  | 29 => ⟨S64x4x64x128, .f32⟩
  | 30 => ⟨S64x4x64x128, .f32⟩
  | 31 => ⟨S64x4x64x64, .f32⟩
  | 32 => ⟨S64x4x64x128, .f32⟩
  | 33 => ⟨S64x4x64x128, .f32⟩
  | 34 => ⟨S64x4, .f32⟩
  | 35 => ⟨S64x64x4x128, .f32⟩
  | 36 => ⟨S64x64x4x128, .f32⟩
  | 37 => ⟨S128, .f32⟩
  | 38 => ⟨S_, .i32⟩
  | 39 => ⟨S4x128x128, .f32⟩
  | 40 => ⟨S64x4x64x128, .f32⟩
  | 41 => ⟨S64x4x64x128, .f32⟩
  | 42 => ⟨S64x4x64x128, .f32⟩
  | 43 => ⟨S64x4x64x128, .f32⟩
  | 44 => ⟨S64x64x4x128, .f32⟩
  | 45 => ⟨S64x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x4x128x128, .f32⟩
  | 56 => ⟨S4x128x128, .f32⟩
  | 57 => ⟨S_, .i32⟩
  | 58 => ⟨S_, .i32⟩
  | 59 => ⟨S_, .i32⟩
  | 60 => ⟨S1x4x64x128, .f32⟩
  | 61 => ⟨S4x64x128, .f32⟩
  | 62 => ⟨S_, .i32⟩
  | 63 => ⟨S_, .i32⟩
  | 64 => ⟨S_, .i32⟩
  | 65 => ⟨S1x4x64x128, .f32⟩
  | 66 => ⟨S4x64x128, .f32⟩
  | 67 => ⟨S_, .i32⟩
  | 68 => ⟨S_, .i32⟩
  | 69 => ⟨S_, .i32⟩
  | 70 => ⟨S1x4x64x64, .f32⟩
  | 71 => ⟨S4x64x64, .f32⟩
  | 72 => ⟨S_, .i32⟩
  | 73 => ⟨S_, .i32⟩
  | 74 => ⟨S_, .i32⟩
  | 75 => ⟨S1x4x64x128, .f32⟩
  | 76 => ⟨S4x64x128, .f32⟩
  | 77 => ⟨S_, .i32⟩
  | 78 => ⟨S_, .i32⟩
  | 79 => ⟨S_, .i32⟩
  | 80 => ⟨S1x4x64x128, .f32⟩
  | 81 => ⟨S4x64x128, .f32⟩
  | 82 => ⟨S_, .i32⟩
  | 83 => ⟨S1x4, .f32⟩
  | 84 => ⟨S4, .f32⟩
  | 85 => ⟨S_, .i32⟩
  | 86 => ⟨S_, .i32⟩
  | 87 => ⟨S_, .i32⟩
  | 88 => ⟨S1x64x4x128, .f32⟩
  | 89 => ⟨S64x4x128, .f32⟩
  | 90 => ⟨S_, .i32⟩
  | 91 => ⟨S_, .i32⟩
  | 92 => ⟨S_, .i32⟩
  | 93 => ⟨S1x64x4x128, .f32⟩
  | 94 => ⟨S64x4x128, .f32⟩
  | 95 => ⟨S4x64x128, .f32⟩
  | 96 => ⟨S4x64x128, .f32⟩
  | 97 => ⟨S4x64x128, .f32⟩
  | 98 => ⟨S4x64x128, .f32⟩
  | 99 => ⟨S4x64x128, .f32⟩
  | 100 => ⟨S4x1x1, .f32⟩
  | 101 => ⟨S4x128x128, .f32⟩
  | 102 => ⟨S4x128x128, .f32⟩
  | 103 => ⟨S4x128x128, .f32⟩
  | 104 => ⟨S4x128x128, .f32⟩
  | 105 => ⟨S64x4x128, .f32⟩
  | 106 => ⟨S64x4x128, .f32⟩
  | 107 => ⟨S_, .f32⟩
  | 108 => ⟨S64x4, .f32⟩
  | 109 => ⟨S64x4x1, .f32⟩
  | 110 => ⟨S_, .f32⟩
  | 111 => ⟨S64x4x1, .f32⟩
  | 112 => ⟨S64x4x1, .f32⟩
  | 113 => ⟨S_, .f32⟩
  | 114 => ⟨S64x4x1, .f32⟩
  | 115 => ⟨S64x4x1, .f32⟩
  | 116 => ⟨S64x4x1, .f32⟩
  | 117 => ⟨S64x4x1, .f32⟩
  | 118 => ⟨S_, .f32⟩
  | 119 => ⟨S64x4x1, .f32⟩
  | 120 => ⟨S64x4x1, .f32⟩
  | 121 => ⟨S64x4x128, .f32⟩
  | 122 => ⟨S64x4x128, .f32⟩
  | 123 => ⟨S1x1x128, .f32⟩
  | 124 => ⟨S64x4x128, .f32⟩
  | 125 => ⟨S64x4x128, .f32⟩
  | 126 => ⟨S64x4x128, .f32⟩
  | 127 => ⟨S64x4x128, .f32⟩
  | _ => ⟨S64x4x64x128, .f32⟩

abbrev hbmTy0_1 (i : Nat) : BufTy := match i % 128 with
  | 0 => ⟨S_, .f32⟩
  | 1 => ⟨S64x4x128, .f32⟩
  | 2 => ⟨S64x4x128, .f32⟩
  | 3 => ⟨S_, .f32⟩
  | 4 => ⟨S64x4x128, .f32⟩
  | 5 => ⟨S64x4x128, .f32⟩
  | 6 => ⟨S_, .f32⟩
  | 7 => ⟨S64x4x128, .f32⟩
  | 8 => ⟨S64x4x128, .f32⟩
  | 9 => ⟨S64x4x128, .f32⟩
  | 10 => ⟨S64x4x128, .f32⟩
  | 11 => ⟨S64x4x128, .f32⟩
  | 12 => ⟨S64x4x128, .f32⟩
  | 13 => ⟨S64x4x128, .f32⟩
  | 14 => ⟨S64x4x128, .f32⟩
  | 15 => ⟨S64x4x128, .f32⟩
  | 16 => ⟨S64x4x128, .f32⟩
  | 17 => ⟨S64x4x128, .f32⟩
  | 18 => ⟨S64x4x128, .f32⟩
  | 19 => ⟨S_, .f32⟩
  | 20 => ⟨S128, .f32⟩
  | 21 => ⟨S1x1x128, .f32⟩
  | 22 => ⟨S64x4x128, .f32⟩
  | 23 => ⟨S64x4x128, .f32⟩
  | 24 => ⟨S_, .f32⟩
  | 25 => ⟨S128, .f32⟩
  | 26 => ⟨S64x4x128, .f32⟩
  | 27 => ⟨S_, .f32⟩
  | 28 => ⟨S64x4, .f32⟩
  | 29 => ⟨S64x4x1, .f32⟩
  | 30 => ⟨S64x4x128, .f32⟩
  | 31 => ⟨S64x4x128, .f32⟩
  | 32 => ⟨S64x4x1, .f32⟩
  | 33 => ⟨S_, .f32⟩
  | 34 => ⟨S64x4x1, .f32⟩
  | 35 => ⟨S64x4x1, .f32⟩
  | 36 => ⟨S_, .f32⟩
  | 37 => ⟨S64x4, .f32⟩
  | 38 => ⟨S64x4x128, .f32⟩
  | 39 => ⟨S64x4x128, .f32⟩
  | 40 => ⟨S64x4x128, .f32⟩
  | 41 => ⟨S64x4x128, .f32⟩
  | 42 => ⟨S64x4x128, .f32⟩
  | 43 => ⟨S4x64x128, .f32⟩
  | 44 => ⟨S4x128x64, .f32⟩
  | 45 => ⟨S4x64x128, .f32⟩
  | 46 => ⟨S4x128x64, .f32⟩
  | 47 => ⟨S4x64x128, .f32⟩
  | 48 => ⟨S4x128x128, .f32⟩
  | 49 => ⟨S_, .f32⟩
  | 50 => ⟨S4, .f32⟩
  | 51 => ⟨S4x1x1, .f32⟩
  | 52 => ⟨S4x128x128, .f32⟩
  | 53 => ⟨S4x128x128, .f32⟩
  | 54 => ⟨S_, .f32⟩
  | 55 => ⟨S4, .f32⟩
  | 56 => ⟨S4x128x64, .f32⟩
  | 57 => ⟨S4x64x128, .f32⟩
  | 58 => ⟨S4x64x128, .f32⟩
  | 59 => ⟨S4x64x64, .f32⟩
  | 60 => ⟨S4x128x128, .f32⟩
  | 61 => ⟨S4x128x128, .f32⟩
  | 62 => ⟨S4x128x128, .f32⟩
  | 63 => ⟨S4x64x128, .f32⟩
  | 64 => ⟨S4x64x128, .f32⟩
  | 65 => ⟨S4x128x128, .f32⟩
  | 66 => ⟨S4x128x128, .f32⟩
  | 67 => ⟨S4x128x128, .f32⟩
  | 68 => ⟨S4x64x128, .f32⟩
  | 69 => ⟨S1x4x64x128, .f32⟩
  | 70 => ⟨S_, .i32⟩
  | 71 => ⟨S_, .i32⟩
  | 72 => ⟨S_, .i32⟩
  | 73 => ⟨S64x4x64x128, .f32⟩
  | 74 => ⟨S1x4x64x128, .f32⟩
  | 75 => ⟨S_, .i32⟩
  | 76 => ⟨S_, .i32⟩
  | 77 => ⟨S_, .i32⟩
  | 78 => ⟨S64x4x64x128, .f32⟩
  | 79 => ⟨S1x4x64x128, .f32⟩
  | 80 => ⟨S_, .i32⟩
  | 81 => ⟨S_, .i32⟩
  | 82 => ⟨S_, .i32⟩
  | 83 => ⟨S64x4x64x128, .f32⟩
  | 84 => ⟨S1x4x64x128, .f32⟩
  | 85 => ⟨S_, .i32⟩
  | 86 => ⟨S_, .i32⟩
  | 87 => ⟨S_, .i32⟩
  | 88 => ⟨S64x4x64x128, .f32⟩
  | 89 => ⟨S1x64x4x128, .f32⟩
  | 90 => ⟨S_, .i32⟩
  | 91 => ⟨S_, .i32⟩
  | 92 => ⟨S_, .i32⟩
  | 93 => ⟨S64x64x4x128, .f32⟩
  | 94 => ⟨S1x128, .f32⟩
  | 95 => ⟨S_, .i32⟩
  | 96 => ⟨S64x128, .f32⟩
  | 97 => ⟨S_, .i32⟩
  | 98 => ⟨S_, .i32⟩
  | 99 => ⟨S16384x128, .f32⟩
  | 100 => ⟨S16384x128, .f32⟩
  | 101 => ⟨S16384x128, .f32⟩
  | 102 => ⟨S16384x128, .f32⟩
  | 103 => ⟨S4096x512, .f32⟩
  | 104 => ⟨S4096x512, .bf16⟩
  | 105 => ⟨S_, .f32⟩
  | 106 => ⟨S128, .f32⟩
  | 107 => ⟨S1x128, .f32⟩
  | 108 => ⟨S_, .f32⟩
  | 109 => ⟨S7x128, .f32⟩
  | 110 => ⟨S8x128, .f32⟩
  | _ => ⟨S64x4x64x128, .f32⟩

abbrev hbmTy (i : Nat) : BufTy := match i / 128 with
  | 0 => hbmTy0_0 i
  | 1 => hbmTy0_1 i
  | _ => ⟨S64x4x64x128, .f32⟩

abbrev bufTy : (tb : Table) → Fin (tcTables nBuf tb) → BufTy
  | .hbm, ⟨i, _⟩ => hbmTy i
  | _, _ => ⟨S64x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_cst_5 : Ref sig .tc := ⟨.hbm, 25, rfl⟩
abbrev main_v9 : Ref sig .tc := ⟨.hbm, 26, rfl⟩
abbrev main_c : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v10_3 : Ref sig .tc := ⟨.hbm, 31, rfl⟩
abbrev main_v10_4 : Ref sig .tc := ⟨.hbm, 32, rfl⟩
abbrev main_v10_5 : Ref sig .tc := ⟨.hbm, 33, rfl⟩
abbrev main_v10_6 : Ref sig .tc := ⟨.hbm, 34, rfl⟩
abbrev main_v10_7 : Ref sig .tc := ⟨.hbm, 35, rfl⟩
abbrev main_v10_8 : Ref sig .tc := ⟨.hbm, 36, rfl⟩
abbrev main_v10_9 : Ref sig .tc := ⟨.hbm, 37, rfl⟩
abbrev main_v10_10 : Ref sig .tc := ⟨.hbm, 38, rfl⟩
abbrev main_v10_11 : Ref sig .tc := ⟨.hbm, 39, rfl⟩
abbrev main_v10_12 : Ref sig .tc := ⟨.hbm, 40, rfl⟩
abbrev main_v10_13 : Ref sig .tc := ⟨.hbm, 41, rfl⟩
abbrev main_v10_14 : Ref sig .tc := ⟨.hbm, 42, rfl⟩
abbrev main_v10_15 : Ref sig .tc := ⟨.hbm, 43, rfl⟩
abbrev main_v10_16 : Ref sig .tc := ⟨.hbm, 44, rfl⟩
abbrev main_v10_17 : Ref sig .tc := ⟨.hbm, 45, rfl⟩
abbrev main_while0c_c_25 : Ref sig .tc := ⟨.hbm, 46, rfl⟩
abbrev main_while0c_v21 : Ref sig .tc := ⟨.hbm, 47, rfl⟩
abbrev main_while0b_c_25 : Ref sig .tc := ⟨.hbm, 48, rfl⟩
abbrev main_while0b_v21 : Ref sig .tc := ⟨.hbm, 49, rfl⟩
abbrev main_while0b_c_26 : Ref sig .tc := ⟨.hbm, 50, rfl⟩
abbrev main_while0b_v22 : Ref sig .tc := ⟨.hbm, 51, rfl⟩
abbrev main_while0b_call0_c : Ref sig .tc := ⟨.hbm, 52, rfl⟩
abbrev main_while0b_call0_c_0 : Ref sig .tc := ⟨.hbm, 53, rfl⟩
abbrev main_while0b_call0_c_1 : Ref sig .tc := ⟨.hbm, 54, rfl⟩
abbrev main_while0b_call0_v0 : Ref sig .tc := ⟨.hbm, 55, rfl⟩
abbrev main_while0b_v23 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_v0 : Ref sig .tc := ⟨.hbm, 60, rfl⟩
abbrev main_while0b_v24 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_call2_c_1 : Ref sig .tc := ⟨.hbm, 64, rfl⟩
abbrev main_while0b_call2_v0 : Ref sig .tc := ⟨.hbm, 65, rfl⟩
abbrev main_while0b_v25 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_c_1 : Ref sig .tc := ⟨.hbm, 69, rfl⟩
abbrev main_while0b_call3_v0 : Ref sig .tc := ⟨.hbm, 70, rfl⟩
abbrev main_while0b_v26 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_v0 : Ref sig .tc := ⟨.hbm, 75, rfl⟩
abbrev main_while0b_v27 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_v0 : Ref sig .tc := ⟨.hbm, 80, rfl⟩
abbrev main_while0b_v28 : Ref sig .tc := ⟨.hbm, 81, rfl⟩
abbrev main_while0b_call6_c : Ref sig .tc := ⟨.hbm, 82, rfl⟩
abbrev main_while0b_call6_v0 : Ref sig .tc := ⟨.hbm, 83, rfl⟩
abbrev main_while0b_v29 : Ref sig .tc := ⟨.hbm, 84, rfl⟩
abbrev main_while0b_call7_c : Ref sig .tc := ⟨.hbm, 85, rfl⟩
abbrev main_while0b_call7_c_0 : Ref sig .tc := ⟨.hbm, 86, rfl⟩
abbrev main_while0b_call7_c_1 : Ref sig .tc := ⟨.hbm, 87, rfl⟩
abbrev main_while0b_call7_v0 : Ref sig .tc := ⟨.hbm, 88, rfl⟩
abbrev main_while0b_v30 : Ref sig .tc := ⟨.hbm, 89, rfl⟩
abbrev main_while0b_call8_c : Ref sig .tc := ⟨.hbm, 90, rfl⟩
abbrev main_while0b_call8_c_0 : Ref sig .tc := ⟨.hbm, 91, rfl⟩
abbrev main_while0b_call8_c_1 : Ref sig .tc := ⟨.hbm, 92, rfl⟩
abbrev main_while0b_call8_v0 : Ref sig .tc := ⟨.hbm, 93, rfl⟩
abbrev main_while0b_v31 : Ref sig .tc := ⟨.hbm, 94, rfl⟩
abbrev main_while0b_v32 : Ref sig .tc := ⟨.hbm, 95, rfl⟩
abbrev main_while0b_v33 : Ref sig .tc := ⟨.hbm, 96, rfl⟩
abbrev main_while0b_v34 : Ref sig .tc := ⟨.hbm, 97, rfl⟩
abbrev main_while0b_v35 : Ref sig .tc := ⟨.hbm, 98, rfl⟩
abbrev main_while0b_v36 : Ref sig .tc := ⟨.hbm, 99, rfl⟩
abbrev main_while0b_v37 : Ref sig .tc := ⟨.hbm, 100, rfl⟩
abbrev main_while0b_v38 : Ref sig .tc := ⟨.hbm, 101, rfl⟩
abbrev main_while0b_v39 : Ref sig .tc := ⟨.hbm, 102, rfl⟩
abbrev main_while0b_v40 : Ref sig .tc := ⟨.hbm, 103, rfl⟩
abbrev main_while0b_v41 : Ref sig .tc := ⟨.hbm, 104, rfl⟩
abbrev main_while0b_v42 : Ref sig .tc := ⟨.hbm, 105, rfl⟩
abbrev main_while0b_v43 : Ref sig .tc := ⟨.hbm, 106, rfl⟩
abbrev main_while0b_cst_27 : Ref sig .tc := ⟨.hbm, 107, rfl⟩
abbrev main_while0b_v44 : Ref sig .tc := ⟨.hbm, 108, rfl⟩
abbrev main_while0b_v45 : Ref sig .tc := ⟨.hbm, 109, rfl⟩
abbrev main_while0b_cst_28 : Ref sig .tc := ⟨.hbm, 110, rfl⟩
abbrev main_while0b_v46 : Ref sig .tc := ⟨.hbm, 111, rfl⟩
abbrev main_while0b_v47 : Ref sig .tc := ⟨.hbm, 112, rfl⟩
abbrev main_while0b_cst_29 : Ref sig .tc := ⟨.hbm, 113, rfl⟩
abbrev main_while0b_v48 : Ref sig .tc := ⟨.hbm, 114, rfl⟩
abbrev main_while0b_v49 : Ref sig .tc := ⟨.hbm, 115, rfl⟩
abbrev main_while0b_v50 : Ref sig .tc := ⟨.hbm, 116, rfl⟩
abbrev main_while0b_v51 : Ref sig .tc := ⟨.hbm, 117, rfl⟩
abbrev main_while0b_cst_30 : Ref sig .tc := ⟨.hbm, 118, rfl⟩
abbrev main_while0b_v52 : Ref sig .tc := ⟨.hbm, 119, rfl⟩
abbrev main_while0b_v53 : Ref sig .tc := ⟨.hbm, 120, rfl⟩
abbrev main_while0b_v54 : Ref sig .tc := ⟨.hbm, 121, rfl⟩
abbrev main_while0b_v55 : Ref sig .tc := ⟨.hbm, 122, rfl⟩
abbrev main_while0b_v56 : Ref sig .tc := ⟨.hbm, 123, rfl⟩
abbrev main_while0b_v57 : Ref sig .tc := ⟨.hbm, 124, rfl⟩
abbrev main_while0b_v58 : Ref sig .tc := ⟨.hbm, 125, rfl⟩
abbrev main_while0b_v59 : Ref sig .tc := ⟨.hbm, 126, rfl⟩
abbrev main_while0b_v60 : Ref sig .tc := ⟨.hbm, 127, rfl⟩
abbrev main_while0b_cst_31 : Ref sig .tc := ⟨.hbm, 128, rfl⟩
abbrev main_while0b_v61 : Ref sig .tc := ⟨.hbm, 129, rfl⟩
abbrev main_while0b_v62 : Ref sig .tc := ⟨.hbm, 130, rfl⟩
abbrev main_while0b_cst_32 : Ref sig .tc := ⟨.hbm, 131, rfl⟩
abbrev main_while0b_v63 : Ref sig .tc := ⟨.hbm, 132, rfl⟩
abbrev main_while0b_v64 : Ref sig .tc := ⟨.hbm, 133, rfl⟩
abbrev main_while0b_cst_33 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_cst_34 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_v80 : Ref sig .tc := ⟨.hbm, 151, rfl⟩
abbrev main_while0b_cst_35 : Ref sig .tc := ⟨.hbm, 152, rfl⟩
abbrev main_while0b_v81 : Ref sig .tc := ⟨.hbm, 153, rfl⟩
abbrev main_while0b_v82 : Ref sig .tc := ⟨.hbm, 154, rfl⟩
abbrev main_while0b_cst_36 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_cst_37 : Ref sig .tc := ⟨.hbm, 161, rfl⟩
abbrev main_while0b_v88 : Ref sig .tc := ⟨.hbm, 162, rfl⟩
abbrev main_while0b_v89 : Ref sig .tc := ⟨.hbm, 163, rfl⟩
abbrev main_while0b_cst_38 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_v100 : Ref sig .tc := ⟨.hbm, 175, rfl⟩
abbrev main_while0b_v101 : Ref sig .tc := ⟨.hbm, 176, rfl⟩
abbrev main_while0b_cst_39 : Ref sig .tc := ⟨.hbm, 177, rfl⟩
abbrev main_while0b_v102 : Ref sig .tc := ⟨.hbm, 178, rfl⟩
abbrev main_while0b_v103 : Ref sig .tc := ⟨.hbm, 179, rfl⟩
abbrev main_while0b_v104 : Ref sig .tc := ⟨.hbm, 180, rfl⟩
abbrev main_while0b_v105 : Ref sig .tc := ⟨.hbm, 181, rfl⟩
abbrev main_while0b_cst_40 : Ref sig .tc := ⟨.hbm, 182, rfl⟩
abbrev main_while0b_v106 : Ref sig .tc := ⟨.hbm, 183, rfl⟩
abbrev main_while0b_v107 : Ref sig .tc := ⟨.hbm, 184, rfl⟩
abbrev main_while0b_v108 : Ref sig .tc := ⟨.hbm, 185, rfl⟩
abbrev main_while0b_v109 : Ref sig .tc := ⟨.hbm, 186, rfl⟩
abbrev main_while0b_v110 : Ref sig .tc := ⟨.hbm, 187, rfl⟩
abbrev main_while0b_v111 : Ref sig .tc := ⟨.hbm, 188, rfl⟩
abbrev main_while0b_v112 : Ref sig .tc := ⟨.hbm, 189, rfl⟩
abbrev main_while0b_v113 : Ref sig .tc := ⟨.hbm, 190, rfl⟩
abbrev main_while0b_v114 : Ref sig .tc := ⟨.hbm, 191, rfl⟩
abbrev main_while0b_v115 : Ref sig .tc := ⟨.hbm, 192, rfl⟩
abbrev main_while0b_v116 : Ref sig .tc := ⟨.hbm, 193, rfl⟩
abbrev main_while0b_v117 : Ref sig .tc := ⟨.hbm, 194, rfl⟩
abbrev main_while0b_v118 : Ref sig .tc := ⟨.hbm, 195, rfl⟩
abbrev main_while0b_v119 : Ref sig .tc := ⟨.hbm, 196, rfl⟩
abbrev main_while0b_call9_v0 : Ref sig .tc := ⟨.hbm, 197, rfl⟩
abbrev main_while0b_call9_c : Ref sig .tc := ⟨.hbm, 198, rfl⟩
abbrev main_while0b_call9_c_0 : Ref sig .tc := ⟨.hbm, 199, rfl⟩
abbrev main_while0b_call9_c_1 : Ref sig .tc := ⟨.hbm, 200, rfl⟩
abbrev main_while0b_v120 : Ref sig .tc := ⟨.hbm, 201, rfl⟩
abbrev main_while0b_call10_v0 : Ref sig .tc := ⟨.hbm, 202, rfl⟩
abbrev main_while0b_call10_c : Ref sig .tc := ⟨.hbm, 203, rfl⟩
abbrev main_while0b_call10_c_0 : Ref sig .tc := ⟨.hbm, 204, rfl⟩
abbrev main_while0b_call10_c_1 : Ref sig .tc := ⟨.hbm, 205, rfl⟩
abbrev main_while0b_v121 : Ref sig .tc := ⟨.hbm, 206, rfl⟩
abbrev main_while0b_call11_v0 : Ref sig .tc := ⟨.hbm, 207, rfl⟩
abbrev main_while0b_call11_c : Ref sig .tc := ⟨.hbm, 208, rfl⟩
abbrev main_while0b_call11_c_0 : Ref sig .tc := ⟨.hbm, 209, rfl⟩
abbrev main_while0b_call11_c_1 : Ref sig .tc := ⟨.hbm, 210, rfl⟩
abbrev main_while0b_v122 : Ref sig .tc := ⟨.hbm, 211, rfl⟩
abbrev main_while0b_call12_v0 : Ref sig .tc := ⟨.hbm, 212, rfl⟩
abbrev main_while0b_call12_c : Ref sig .tc := ⟨.hbm, 213, rfl⟩
abbrev main_while0b_call12_c_0 : Ref sig .tc := ⟨.hbm, 214, rfl⟩
abbrev main_while0b_call12_c_1 : Ref sig .tc := ⟨.hbm, 215, rfl⟩
abbrev main_while0b_v123 : Ref sig .tc := ⟨.hbm, 216, rfl⟩
abbrev main_while0b_call13_v0 : Ref sig .tc := ⟨.hbm, 217, rfl⟩
abbrev main_while0b_call13_c : Ref sig .tc := ⟨.hbm, 218, rfl⟩
abbrev main_while0b_call13_c_0 : Ref sig .tc := ⟨.hbm, 219, rfl⟩
abbrev main_while0b_call13_c_1 : Ref sig .tc := ⟨.hbm, 220, rfl⟩
abbrev main_while0b_v124 : Ref sig .tc := ⟨.hbm, 221, rfl⟩
abbrev main_while0b_call14_v0 : Ref sig .tc := ⟨.hbm, 222, rfl⟩
abbrev main_while0b_call14_c : Ref sig .tc := ⟨.hbm, 223, rfl⟩
abbrev main_while0b_v125 : Ref sig .tc := ⟨.hbm, 224, rfl⟩
abbrev main_while0b_c_41 : Ref sig .tc := ⟨.hbm, 225, rfl⟩
abbrev main_while0b_v126 : Ref sig .tc := ⟨.hbm, 226, rfl⟩
abbrev main_v11 : Ref sig .tc := ⟨.hbm, 227, rfl⟩
abbrev main_v12 : Ref sig .tc := ⟨.hbm, 228, rfl⟩
abbrev main_v13 : Ref sig .tc := ⟨.hbm, 229, rfl⟩
abbrev main_v14 : Ref sig .tc := ⟨.hbm, 230, rfl⟩
abbrev main_v15 : Ref sig .tc := ⟨.hbm, 231, rfl⟩
abbrev main_v16 : Ref sig .tc := ⟨.hbm, 232, rfl⟩
abbrev main_cst_6 : Ref sig .tc := ⟨.hbm, 233, rfl⟩
abbrev main_v17 : Ref sig .tc := ⟨.hbm, 234, rfl⟩
abbrev main_v18 : Ref sig .tc := ⟨.hbm, 235, rfl⟩
abbrev main_cst_7 : Ref sig .tc := ⟨.hbm, 236, rfl⟩
abbrev main_v19 : Ref sig .tc := ⟨.hbm, 237, rfl⟩
abbrev main_v20 : Ref sig .tc := ⟨.hbm, 238, rfl⟩

abbrev nD : Nat := 1
abbrev τ : Topo := Topo.v7x

variable {F : FTy → Type} [FloatOps F]

abbrev main_while0_count : Scf.Loop 32 := ⟨0#32, 64#32, 1#32⟩
-- ==== Mlp.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S8x1x512x1024 : Shape := ⟨4, ![8, 1, 512, 1024]⟩
abbrev S8x1024 : Shape := ⟨2, ![8, 1024]⟩
abbrev S512x1024 : Shape := ⟨2, ![512, 1024]⟩
abbrev S4x1x1024x512 : Shape := ⟨4, ![4, 1, 1024, 512]⟩
abbrev S4x1x512x1024 : Shape := ⟨4, ![4, 1, 512, 1024]⟩
abbrev S512x2048 : Shape := ⟨2, ![512, 2048]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩

abbrev nBuf : Space → Nat
  | .hbm => 56
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .bf16⟩
  | .hbm, ⟨40, _⟩ => ⟨S1024x8x512, .f32⟩
  | .hbm, ⟨41, _⟩ => ⟨S8x1024x512, .f32⟩
  | .hbm, ⟨42, _⟩ => ⟨S8x1x1024x512, .f32⟩
  | .hbm, ⟨43, _⟩ => ⟨S8x1x1024x512, .bf16⟩
  | .hbm, ⟨44, _⟩ => ⟨S8x1x512x1024, .f32⟩
  | .hbm, ⟨45, _⟩ => ⟨S8x1x512x1024, .bf16⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S4096x4096, .bf16⟩
  | .hbm, ⟨51, _⟩ => ⟨S4096x4096, .bf16⟩
  | .hbm, ⟨52, _⟩ => ⟨S4096x1024, .bf16⟩
  | .hbm, ⟨53, _⟩ => ⟨S4096x1024, .bf16⟩
  | .hbm, ⟨54, _⟩ => ⟨S4096x1024, .f32⟩
  | .hbm, ⟨55, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x1x1024x512, .bf16⟩
  | .local _ .vmem, ⟨11, _⟩ => ⟨S4x1x1024x512, .bf16⟩
  | .local _ .vmem, ⟨12, _⟩ => ⟨S4x1x512x1024, .bf16⟩
  | .local _ .vmem, ⟨13, _⟩ => ⟨S4x1x512x1024, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S8x1024, .f32⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev main_v36_4 : Ref sig .tc := ⟨.hbm, 54, rfl⟩
abbrev main_v36_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v108 : BitVec 1 := Scalar.cmpi .eq arg1 c1_i32
  let v109 : BitVec 32 := Scalar.extui v108
  let c0_i32_100 : BitVec 32 := 0#32
  let v110 : BitVec 1 := Scalar.cmpi .ne v109 c0_i32_100
  v110

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== MlpReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4x1024 : Shape := ⟨2, ![4, 1024]⟩
abbrev S8x1024 : Shape := ⟨2, ![8, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .i1⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S4x1024, .f32⟩
  | .hbm, ⟨113, _⟩ => ⟨S_, .f32⟩
  | .hbm, ⟨114, _⟩ => ⟨S4x1024, .f32⟩
  | .hbm, ⟨115, _⟩ => ⟨S8x1024, .f32⟩
  | .hbm, ⟨116, _⟩ => ⟨S4096x4096, .bf16⟩
  | .hbm, ⟨117, _⟩ => ⟨S4096x4096, .bf16⟩
  | .hbm, ⟨118, _⟩ => ⟨S4096x1024, .bf16⟩
  | .hbm, ⟨119, _⟩ => ⟨S4096x1024, .bf16⟩
  | .hbm, ⟨120, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Up.lean ====
abbrev S4096x1024 : Shape := ⟨2, ![4096, 1024]⟩
abbrev S4096x4096 : Shape := ⟨2, ![4096, 4096]⟩
abbrev S_ : Shape := ⟨0, ![]⟩
abbrev S1x8x1024x512 : Shape := ⟨4, ![1, 8, 1024, 512]⟩
abbrev S2048x1024 : Shape := ⟨2, ![2048, 1024]⟩
abbrev S2048x512 : Shape := ⟨2, ![2048, 512]⟩
abbrev S1x1x1024x512 : Shape := ⟨4, ![1, 1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S_, .f32⟩
  | .hbm, ⟨5, _⟩ => ⟨S1x8x1024x512, .f32⟩
  | .hbm, ⟨6, _⟩ => ⟨S1x8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1x1024x512, .f32⟩
  | .local _ .vmem, ⟨5, _⟩ => ⟨S1x1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S4096x4096 : Shape := ⟨2, ![4096, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S1x8x1024x512 : Shape := ⟨4, ![1, 8, 1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S1024x8x512, .f32⟩
  | .hbm, ⟨5, _⟩ => ⟨S8x1024x512, .f32⟩
  | .hbm, ⟨6, _⟩ => ⟨S1x8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S_, .f32⟩
  | .hbm, ⟨5, _⟩ => ⟨S1x4096x1024, .f32⟩
  | .hbm, ⟨6, _⟩ => ⟨S1x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x4096 : Shape := ⟨2, ![4096, 4096]⟩
abbrev S4096x1024 : Shape := ⟨2, ![4096, 1024]⟩
abbrev S1x4096x1024 : Shape := ⟨3, ![1, 4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S1x4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rest.lean ====
abbrev S4096x512 : Shape := ⟨2, ![4096, 512]⟩
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S8x1x128x1024 : Shape := ⟨4, ![8, 1, 128, 1024]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S8x1x512x1024 : Shape := ⟨4, ![8, 1, 512, 1024]⟩
abbrev S1x1024 : Shape := ⟨2, ![1, 1024]⟩
abbrev S512x512 : Shape := ⟨2, ![512, 512]⟩
abbrev S512x1024 : Shape := ⟨2, ![512, 1024]⟩
abbrev S4x1x128x1024 : Shape := ⟨4, ![4, 1, 128, 1024]⟩
abbrev S4x1x1024x512 : Shape := ⟨4, ![4, 1, 1024, 512]⟩
abbrev S4x1x512x1024 : Shape := ⟨4, ![4, 1, 512, 1024]⟩
abbrev S4x128x1024 : Shape := ⟨3, ![4, 128, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S1x1x512x1024 : Shape := ⟨4, ![1, 1, 512, 1024]⟩

abbrev nBuf : Space → Nat
  | .hbm => 28
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S8x1x128x1024, .f32⟩
  | .hbm, ⟨12, _⟩ => ⟨S8x1x128x1024, .bf16⟩
  | .hbm, ⟨13, _⟩ => ⟨S1024x8x512, .f32⟩
  | .hbm, ⟨14, _⟩ => ⟨S8x1024x512, .f32⟩
  | .hbm, ⟨15, _⟩ => ⟨S8x1x1024x512, .f32⟩
  | .hbm, ⟨16, _⟩ => ⟨S8x1x1024x512, .bf16⟩
  | .hbm, ⟨17, _⟩ => ⟨S8x1x512x1024, .f32⟩
  | .hbm, ⟨18, _⟩ => ⟨S8x1x512x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .bf16⟩
  | .hbm, ⟨26, _⟩ => ⟨S4096x1024, .bf16⟩
  | .hbm, ⟨27, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S4x1x128x1024, .bf16⟩
  | .local _ .vmem, ⟨7, _⟩ => ⟨S4x1x128x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S4x1x1024x512, .bf16⟩
  | .local _ .vmem, ⟨14, _⟩ => ⟨S4x1x1024x512, .bf16⟩
  | .local _ .vmem, ⟨15, _⟩ => ⟨S4x1x512x1024, .bf16⟩
  | .local _ .vmem, ⟨16, _⟩ => ⟨S4x1x512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v55 : BitVec 1 := Scalar.cmpi .eq arg1 c1_i32
  let v56 : BitVec 32 := Scalar.extui v55
  let c0_i32_52 : BitVec 32 := 0#32
  let v57 : BitVec 1 := Scalar.cmpi .ne v56 c0_i32_52
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S4x1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== RestReferenceIdeal.lean ====
abbrev S4096x512 : Shape := ⟨2, ![4096, 512]⟩
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S4096x1024, .bf16⟩
  | .hbm, ⟨49, _⟩ => ⟨S4096x1024, .bf16⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x3080 : Shape := ⟨2, ![1024, 3080]⟩
abbrev S1x1024x3080 : Shape := ⟨3, ![1, 1024, 3080]⟩
abbrev S1x1024x8 : Shape := ⟨3, ![1, 1024, 8]⟩
abbrev S_ : Shape := ⟨0, ![]⟩
abbrev S1x1024x128 : Shape := ⟨3, ![1, 1024, 128]⟩
abbrev S1x1024 : Shape := ⟨2, ![1, 1024]⟩
abbrev S4096x3072 : Shape := ⟨2, ![4096, 3072]⟩
abbrev S4096x128 : Shape := ⟨2, ![4096, 128]⟩
abbrev S512x1024 : Shape := ⟨2, ![512, 1024]⟩
abbrev S1x1024x3072 : Shape := ⟨3, ![1, 1024, 3072]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x3072 : Shape := ⟨2, ![1024, 3072]⟩
abbrev S1024x128 : Shape := ⟨2, ![1024, 128]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S1024x3080, .bf16⟩
  | .hbm, ⟨6, _⟩ => ⟨S1x1024x3080, .bf16⟩
  | .hbm, ⟨7, _⟩ => ⟨S1x1024x8, .bf16⟩
  | .hbm, ⟨8, _⟩ => ⟨S_, .i32⟩
  | .hbm, ⟨9, _⟩ => ⟨S_, .bf16⟩
  | .hbm, ⟨10, _⟩ => ⟨S1x1024x128, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x3072, .f32⟩
  | .hbm, ⟨15, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x3072, .bf16⟩
  | .local _ .vmem, ⟨6, _⟩ => ⟨S1x1024x128, .bf16⟩
  | .local _ .vmem, ⟨7, _⟩ => ⟨S512x3072, .f32⟩
  | .local _ .vmem, ⟨8, _⟩ => ⟨S512x3072, .f32⟩
  | .local _ .vmem, ⟨9, _⟩ => ⟨S512x128, .f32⟩
  | .local _ .vmem, ⟨10, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S4096x1024 : Shape := ⟨2, ![4096, 1024]⟩
abbrev S1024 : Shape := ⟨1, ![1024]⟩
abbrev S1024x3080 : Shape := ⟨2, ![1024, 3080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3200 : Shape := ⟨2, ![1024, 3200]⟩
abbrev S4096x3200 : Shape := ⟨2, ![4096, 3200]⟩
abbrev S4096x3072 : Shape := ⟨2, ![4096, 3072]⟩
abbrev S4096x128 : Shape := ⟨2, ![4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .i32⟩
  | .hbm, ⟨31, _⟩ => ⟨S_, .f32⟩
  | .hbm, ⟨32, _⟩ => ⟨S1024x3200, .f32⟩
  | .hbm, ⟨33, _⟩ => ⟨S4096x3200, .f32⟩
  | .hbm, ⟨34, _⟩ => ⟨S4096x3072, .f32⟩
  | .hbm, ⟨35, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== ProjBack.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S1024 : Shape := ⟨1, ![1024]⟩
abbrev S1024x3080 : Shape := ⟨2, ![1024, 3080]⟩
abbrev S1x1024x3080 : Shape := ⟨3, ![1, 1024, 3080]⟩
abbrev S1x1024x8 : Shape := ⟨3, ![1, 1024, 8]⟩
abbrev S_ : Shape := ⟨0, ![]⟩
abbrev S1x1024x128 : Shape := ⟨3, ![1, 1024, 128]⟩
abbrev S1x1024 : Shape := ⟨2, ![1, 1024]⟩
abbrev S8x1024 : Shape := ⟨2, ![8, 1024]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1x1024x3072 : Shape := ⟨3, ![1, 1024, 3072]⟩
abbrev S1x1024x1024 : Shape := ⟨3, ![1, 1024, 1024]⟩
abbrev S1024x1024 : Shape := ⟨2, ![1024, 1024]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x512, .f32⟩
  | .hbm, ⟨3, _⟩ => ⟨S4096x128, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x3080, .f32⟩
  | .hbm, ⟨10, _⟩ => ⟨S1024x3080, .bf16⟩
  | .hbm, ⟨11, _⟩ => ⟨S1x1024x3080, .bf16⟩
  | .hbm, ⟨12, _⟩ => ⟨S1x1024x8, .bf16⟩
  | .hbm, ⟨13, _⟩ => ⟨S_, .i32⟩
  | .hbm, ⟨14, _⟩ => ⟨S_, .bf16⟩
  | .hbm, ⟨15, _⟩ => ⟨S1x1024x128, .bf16⟩
  | .hbm, ⟨16, _⟩ => ⟨S4096x1024, .bf16⟩
  | .hbm, ⟨17, _⟩ => ⟨S4096x1536, .bf16⟩
  | .hbm, ⟨18, _⟩ => ⟨S4096x512, .bf16⟩
  | .hbm, ⟨19, _⟩ => ⟨S4096x128, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .bf16⟩
  | .hbm, ⟨25, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024x3072, .bf16⟩
  | .local _ .vmem, ⟨16, _⟩ => ⟨S1x1024x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ProjBackReferenceIdeal.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S1024 : Shape := ⟨1, ![1024]⟩
abbrev S1024x3080 : Shape := ⟨2, ![1024, 3080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3200 : Shape := ⟨2, ![1024, 3200]⟩
abbrev S4096x3200 : Shape := ⟨2, ![4096, 3200]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x512, .f32⟩
  | .hbm, ⟨3, _⟩ => ⟨S4096x128, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x3080, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .i32⟩
  | .hbm, ⟨40, _⟩ => ⟨S_, .f32⟩
  | .hbm, ⟨41, _⟩ => ⟨S1024x3200, .f32⟩
  | .hbm, ⟨42, _⟩ => ⟨S4096x3200, .f32⟩
  | .hbm, ⟨43, _⟩ => ⟨S4096x3200, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .bf16⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S3x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== In.lean ====
abbrev S4096x1024 : Shape := ⟨2, ![4096, 1024]⟩
abbrev S4096x3200 : Shape := ⟨2, ![4096, 3200]⟩
abbrev S1024x3200 : Shape := ⟨2, ![1024, 3200]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S4096x1024, .bf16⟩
  | .hbm, ⟨3, _⟩ => ⟨S4096x3200, .bf16⟩
  | .hbm, ⟨4, _⟩ => ⟨S1024x3200, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x1024 : Shape := ⟨2, ![4096, 1024]⟩
abbrev S4096x3200 : Shape := ⟨2, ![4096, 3200]⟩
abbrev S1024x4096 : Shape := ⟨2, ![1024, 4096]⟩
abbrev S1024x3200 : Shape := ⟨2, ![1024, 3200]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S1024x4096, .f32⟩
  | .hbm, ⟨3, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutBack.lean ====
abbrev S4096x1024 : Shape := ⟨2, ![4096, 1024]⟩
abbrev S4096x512 : Shape := ⟨2, ![4096, 512]⟩
abbrev S1024 : Shape := ⟨1, ![1024]⟩
abbrev S1024x1024 : Shape := ⟨2, ![1024, 1024]⟩
abbrev S8x1x128x1024 : Shape := ⟨4, ![8, 1, 128, 1024]⟩
abbrev S1x1024 : Shape := ⟨2, ![1, 1024]⟩
abbrev S8x1024 : Shape := ⟨2, ![8, 1024]⟩
abbrev S512x1024 : Shape := ⟨2, ![512, 1024]⟩
abbrev S4x1x128x1024 : Shape := ⟨4, ![4, 1, 128, 1024]⟩
abbrev S512x512 : Shape := ⟨2, ![512, 512]⟩
abbrev S4x128x1024 : Shape := ⟨3, ![4, 128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S8x1x128x1024, .f32⟩
  | .hbm, ⟨9, _⟩ => ⟨S8x1x128x1024, .bf16⟩
  | .hbm, ⟨10, _⟩ => ⟨S1x1024, .f32⟩
  | .hbm, ⟨11, _⟩ => ⟨S4096x1024, .bf16⟩
  | .hbm, ⟨12, _⟩ => ⟨S4096x512, .f32⟩
  | .hbm, ⟨13, _⟩ => ⟨S4096x512, .f32⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S4x1x128x1024, .bf16⟩
  | .local _ .vmem, ⟨6, _⟩ => ⟨S4x1x128x1024, .bf16⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBackReferenceIdeal.lean ====
abbrev S4096x1024 : Shape := ⟨2, ![4096, 1024]⟩
abbrev S4096x512 : Shape := ⟨2, ![4096, 512]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S4096x1024, .f32⟩
  | .hbm, ⟨19, _⟩ => ⟨S4096x512, .f32⟩
  | .hbm, ⟨20, _⟩ => ⟨S4096x512, .f32⟩
  | .hbm, ⟨21, _⟩ => ⟨S4096x1024, .bf16⟩
  | .hbm, ⟨22, _⟩ => ⟨S1x1024, .f32⟩
  | .hbm, ⟨23, _⟩ => ⟨S_, .f32⟩
  | .hbm, ⟨24, _⟩ => ⟨S7x1024, .f32⟩
  | .hbm, ⟨25, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.RefRun.lean ====
/- The reference's run as its step iterated. The text is the generated one (Gen/ReferenceIdeal/StepRun.lean) with the closing line of
   the lemmas on the carried arrays changed: there the trip's value and the lemma's differ in how a shape is written, so the lemma is
   applied up to unfolding and not by rewriting. -/
module

public import proofs.«01_k».proof.Proof.Gen.ReferenceIdeal.Run
public import proofs.«01_k».proof.Proof.Gen.ReferenceIdeal.Step

@[expose] public section

noncomputable section

namespace Cert.Scan.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v10_11) = s.main_v10_11
  f_12 : V0 (Proc.devRef .tc main_v10_12) = s.main_v10_12
  f_13 : V0 (Proc.devRef .tc main_v10_13) = s.main_v10_13
  f_14 : V0 (Proc.devRef .tc main_v10_14) = s.main_v10_14
  f_15 : V0 (Proc.devRef .tc main_v10_15) = s.main_v10_15
  f_16 : V0 (Proc.devRef .tc main_v10_16) = s.main_v10_16
  f_17 : V0 (Proc.devRef .tc main_v10_17) = s.main_v10_17
  f_0 : V0 (Proc.devRef .tc main_v10_0) = s.main_v10_0
  f_1 : V0 (Proc.devRef .tc main_v10_1) = s.main_v10_1
  f_2 : V0 (Proc.devRef .tc main_v10_2) = s.main_v10_2
  f_3 : V0 (Proc.devRef .tc main_v10_3) = s.main_v10_3
  f_4 : V0 (Proc.devRef .tc main_v10_4) = s.main_v10_4
  f_5 : V0 (Proc.devRef .tc main_v10_5) = s.main_v10_5
  f_6 : V0 (Proc.devRef .tc main_v10_6) = s.main_v10_6
  f_7 : V0 (Proc.devRef .tc main_v10_7) = s.main_v10_7
  f_8 : V0 (Proc.devRef .tc main_v10_8) = s.main_v10_8
  f_9 : V0 (Proc.devRef .tc main_v10_9) = s.main_v10_9
  n_10 : V0 (Proc.devRef .tc main_v10_10) = constantI S_ 32 (BitVec.ofNat 32 j)

variable {V0 s j}

set_option maxRecDepth 8192 in
theorem al_0 (h : Holds V0 s j) : (constantI S_ 32 64#32 : (Proc.devRef .tc main_while0b_c_25 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v10_10)) : (Proc.devRef .tc main_while0b_v21 : DevRef τ sig).ty.Contents (Elt F)) = Cert.ReferenceIdeal.Step.b1 j s := by
  unfold Cert.ReferenceIdeal.Step.b1
  rw [← al_0 h, h.n_10]
  try rfl
set_option maxRecDepth 8192 in
theorem al_2 (h : Holds V0 s j) : (constantI S_ 32 1#32 : (Proc.devRef .tc main_while0b_c_26 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v22 V0 : (Proc.devRef .tc main_while0b_v22 : DevRef τ sig).ty.Contents (Elt F)) = Cert.ReferenceIdeal.Step.b3 j s := by
  unfold res_main_while0b_v22 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x4x128x128 (V0 (Proc.devRef .tc main_v10_0)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x128x128_S1x4x128x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v23 V0 : (Proc.devRef .tc main_while0b_v23 : DevRef τ sig).ty.Contents (Elt F)) = Cert.ReferenceIdeal.Step.b8 j s := by
  unfold res_main_while0b_v23 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x4x64x128 (V0 (Proc.devRef .tc main_v10_1)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x128_S1x4x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (shapeCast S4x64x128 (Host.dynamicSlice S1x4x64x128 (V0 (Proc.devRef .tc main_v10_1)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x128_S1x4x64x128) shapeCasts_S1x4x64x128_S4x64x128 : (Proc.devRef .tc main_while0b_v24 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64x128 (V0 (Proc.devRef .tc main_v10_2)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x128_S1x4x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v25 V0 : (Proc.devRef .tc main_while0b_v25 : DevRef τ sig).ty.Contents (Elt F)) = Cert.ReferenceIdeal.Step.b18 j s := by
  unfold res_main_while0b_v25 Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x64x64 (V0 (Proc.devRef .tc main_v10_3)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x64_S1x4x64x64 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v26 V0 : (Proc.devRef .tc main_while0b_v26 : DevRef τ sig).ty.Contents (Elt F)) = Cert.ReferenceIdeal.Step.b23 j s := by
  unfold res_main_while0b_v26 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x4x64x128 (V0 (Proc.devRef .tc main_v10_4)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x128_S1x4x64x128 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v27 V0 : (Proc.devRef .tc main_while0b_v27 : DevRef τ sig).ty.Contents (Elt F)) = Cert.ReferenceIdeal.Step.b28 j s := by
  unfold res_main_while0b_v27 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x4x64x128 (V0 (Proc.devRef .tc main_v10_5)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x4x64x128_S1x4x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v28 V0 : (Proc.devRef .tc main_while0b_v28 : DevRef τ sig).ty.Contents (Elt F)) = Cert.ReferenceIdeal.Step.b33 j s := by
  unfold res_main_while0b_v28 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (Host.dynamicSlice S1x4 (V0 (Proc.devRef .tc main_v10_6)) (fun k => (((![res_main_while0b_v22 V0, constantI S_ 32 0#32] : Fin 2 → (⟨S_, .i32⟩ : BufTy).Contents (Elt F))) k (Shape.Idx.first h_S_)).toInt) sliceFits_S64x4_S1x4 : (Proc.devRef .tc main_while0b_call6_v0 : DevRef τ sig).ty.Contents (Elt F)) = Cert.ReferenceIdeal.Step.b35 j s := by
  unfold Cert.ReferenceIdeal.Step.b35
  rw [← al_3 h, ← al_34 h, h.f_6]
  try rfl
set_option maxRecDepth 8192 in
theorem al_36 (h : Holds V0 s j) : (shapeCast S4 (Host.dynamicSlice S1x4 (V0 (Proc.devRef .tc main_v10_6)) (fun k => (((![res_main_while0b_v22 V0, constantI S_ 32 0#32] : Fin 2 → (⟨S_, .i32⟩ : BufTy).Contents (Elt F))) k (Shape.Idx.first h_S_)).toInt) sliceFits_S64x4_S1x4) shapeCasts_S1x4_S4 : (Proc.devRef .tc main_while0b_v29 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (constantI S_ 32 0#32 : (Proc.devRef .tc main_while0b_call7_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call7_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call7_c_1 : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x64x4x128 (V0 (Proc.devRef .tc main_v10_7)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x64x4x128_S1x64x4x128 : (Proc.devRef .tc main_while0b_call7_v0 : DevRef τ sig).ty.Contents (Elt F)) = Cert.ReferenceIdeal.Step.b40 j s := by
  unfold Cert.ReferenceIdeal.Step.b40
  rw [← al_3 h, ← al_37 h, ← al_38 h, ← al_39 h, h.f_7]
  try rfl
set_option maxRecDepth 8192 in
theorem al_41 (h : Holds V0 s j) : (res_main_while0b_v30 V0 : (Proc.devRef .tc main_while0b_v30 : DevRef τ sig).ty.Contents (Elt F)) = Cert.ReferenceIdeal.Step.b41 j s := by
  unfold res_main_while0b_v30 Cert.ReferenceIdeal.Step.b41
  rw [← al_40 h]
  try rfl
set_option maxRecDepth 8192 in
theorem al_42 (h : Holds V0 s j) : (constantI S_ 32 0#32 : (Proc.devRef .tc main_while0b_call8_c : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call8_c_0 : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call8_c_1 : DevRef τ sig).ty.Contents (Elt F)) = Cert.ReferenceIdeal.Step.b44 j s := by
  unfold Cert.ReferenceIdeal.Step.b44
  rfl
set_option maxRecDepth 8192 in
theorem al_45 (h : Holds V0 s j) : (Host.dynamicSlice S1x64x4x128 (V0 (Proc.devRef .tc main_v10_8)) (fun k => (((![res_main_while0b_v22 V0, constantI S_ 32 0#32, constantI S_ 32 0#32, constantI S_ 32 0#32] : Fin 4 → (⟨S_, .i32⟩ : BufTy).Contents (Elt F))) k (Shape.Idx.first h_S_)).toInt) sliceFits_S64x64x4x128_S1x64x4x128 : (Proc.devRef .tc main_while0b_call8_v0 : DevRef τ sig).ty.Contents (Elt F)) = Cert.ReferenceIdeal.Step.b45 j s := by
  unfold Cert.ReferenceIdeal.Step.b45
  rw [← al_3 h, ← al_42 h, ← al_43 h, ← al_44 h, h.f_8]
  try rfl
set_option maxRecDepth 8192 in
theorem al_46 (h : Holds V0 s j) : (res_main_while0b_v31 V0 : (Proc.devRef .tc main_while0b_v31 : DevRef τ sig).ty.Contents (Elt F)) = Cert.ReferenceIdeal.Step.b46 j s := by
  unfold res_main_while0b_v31 Cert.ReferenceIdeal.Step.b46
  rw [← al_45 h]
  try rfl
set_option maxRecDepth 8192 in
theorem al_47 (h : Holds V0 s j) : (Host.dotGeneral dot_S4x64x128_S4x128x128_S4x64x128_2_1_1_2_0_0 none (res_main_while0b_v25 V0) (res_main_while0b_v23 V0) : (Proc.devRef .tc main_while0b_v32 : DevRef τ sig).ty.Contents (Elt F)) = Cert.ReferenceIdeal.Step.b47 j s := by
  unfold Cert.ReferenceIdeal.Step.b47
  rw [← al_18 h, ← al_8 h]
  try rfl
set_option maxRecDepth 8192 in
theorem al_48 (h : Holds V0 s j) : (res_main_while0b_v33 V0 : (Proc.devRef .tc main_while0b_v33 : DevRef τ sig).ty.Contents (Elt F)) = Cert.ReferenceIdeal.Step.b48 j s := by
  unfold res_main_while0b_v33 Cert.ReferenceIdeal.Step.b48
  rw [← al_13 h, ← al_47 h]
  try rfl
set_option maxRecDepth 8192 in
theorem al_49 (h : Holds V0 s j) : (Host.dotGeneral dot_S4x64x128_S4x128x128_S4x64x128_2_1_1_2_0_0 none (res_main_while0b_v27 V0) (res_main_while0b_v23 V0) : (Proc.devRef .tc main_while0b_v34 : DevRef τ sig).ty.Contents (Elt F)) = Cert.ReferenceIdeal.Step.b49 j s := by
  unfold Cert.ReferenceIdeal.Step.b49
  rw [← al_28 h, ← al_8 h]
  try rfl
set_option maxRecDepth 8192 in
theorem al_50 (h : Holds V0 s j) : (Host.dotGeneral dot_S4x64x64_S4x64x128_S4x64x128_2_1_1_2_0_0 none (res_main_while0b_v26 V0) (res_main_while0b_v33 V0) : (Proc.devRef .tc main_while0b_v35 : DevRef τ sig).ty.Contents (Elt F)) = Cert.ReferenceIdeal.Step.b50 j s := by
  unfold Cert.ReferenceIdeal.Step.b50
  rw [← al_23 h, ← al_48 h]
  try rfl
set_option maxRecDepth 8192 in
theorem al_51 (h : Holds V0 s j) : (addf (Host.dotGeneral dot_S4x64x128_S4x128x128_S4x64x128_2_1_1_2_0_0 none (res_main_while0b_v27 V0) (res_main_while0b_v23 V0)) (Host.dotGeneral dot_S4x64x64_S4x64x128_S4x64x128_2_1_1_2_0_0 none (res_main_while0b_v26 V0) (res_main_while0b_v33 V0)) : (Proc.devRef .tc main_while0b_v36 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (res_main_while0b_v37 V0 : (Proc.devRef .tc main_while0b_v37 : DevRef τ sig).ty.Contents (Elt F)) = Cert.ReferenceIdeal.Step.b52 j s := by
  unfold res_main_while0b_v37 Cert.ReferenceIdeal.Step.b52
  rw [← al_36 h]
  try rfl
set_option maxRecDepth 8192 in
theorem al_53 (h : Holds V0 s j) : (broadcastInDim S4x128x128 ![0, 1, 2] bcast_S4x1x1_S4x128x128_0_1_2 (res_main_while0b_v37 V0) : (Proc.devRef .tc main_while0b_v38 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (mulf (res_main_while0b_v23 V0) (broadcastInDim S4x128x128 ![0, 1, 2] bcast_S4x1x1_S4x128x128_0_1_2 (res_main_while0b_v37 V0)) : (Proc.devRef .tc main_while0b_v39 : DevRef τ sig).ty.Contents (Elt F)) = Cert.ReferenceIdeal.Step.b54 j s := by
  unfold Cert.ReferenceIdeal.Step.b54
  rw [← al_8 h, ← al_53 h]
  try rfl
set_option maxRecDepth 8192 in
theorem al_55 (h : Holds V0 s j) : (Host.dotGeneral dot_S4x64x128_S4x64x128_S4x128x128_1_1_2_2_0_0 none (res_main_while0b_v28 V0) (res_main_while0b_v33 V0) : (Proc.devRef .tc main_while0b_v40 : DevRef τ sig).ty.Contents (Elt F)) = Cert.ReferenceIdeal.Step.b55 j s := by
  unfold Cert.ReferenceIdeal.Step.b55
  rw [← al_33 h, ← al_48 h]
  try rfl
set_option maxRecDepth 8192 in
theorem al_56 (h : Holds V0 s j) : (addf (mulf (res_main_while0b_v23 V0) (broadcastInDim S4x128x128 ![0, 1, 2] bcast_S4x1x1_S4x128x128_0_1_2 (res_main_while0b_v37 V0))) (Host.dotGeneral dot_S4x64x128_S4x64x128_S4x128x128_1_1_2_2_0_0 none (res_main_while0b_v28 V0) (res_main_while0b_v33 V0)) : (Proc.devRef .tc main_while0b_v41 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (res_main_while0b_v42 V0 : (Proc.devRef .tc main_while0b_v42 : DevRef τ sig).ty.Contents (Elt F)) = Cert.ReferenceIdeal.Step.b57 j s := by
  unfold res_main_while0b_v42 Cert.ReferenceIdeal.Step.b57
  rw [← al_51 h]
  try rfl
set_option maxRecDepth 8192 in
theorem al_58 (h : Holds V0 s j) : (mulf (res_main_while0b_v42 V0) (res_main_while0b_v42 V0) : (Proc.devRef .tc main_while0b_v43 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (constant S_ .f32 0x00000000#32 : (Proc.devRef .tc main_while0b_cst_27 : DevRef τ sig).ty.Contents (Elt F)) = Cert.ReferenceIdeal.Step.b59 j s := by
  unfold Cert.ReferenceIdeal.Step.b59
  rfl
set_option maxRecDepth 8192 in
theorem al_60 (h : Holds V0 s j) : (Host.reduceAdd (mulf (res_main_while0b_v42 V0) (res_main_while0b_v42 V0)) (constant S_ .f32 0x00000000#32) reducesTo_S64x4x128_S64x4_d2 h_S_ : (Proc.devRef .tc main_while0b_v44 : DevRef τ sig).ty.Contents (Elt F)) = Cert.ReferenceIdeal.Step.b60 j s := by
  unfold Cert.ReferenceIdeal.Step.b60
  rw [← al_58 h, ← al_59 h]
  try rfl
set_option maxRecDepth 8192 in
theorem al_61 (h : Holds V0 s j) : (broadcastInDim S64x4x1 ![0, 1] bcast_S64x4_S64x4x1_0_1 (Host.reduceAdd (mulf (res_main_while0b_v42 V0) (res_main_while0b_v42 V0)) (constant S_ .f32 0x00000000#32) reducesTo_S64x4x128_S64x4_d2 h_S_) : (Proc.devRef .tc main_while0b_v45 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (constant S_ .f32 0x43000000#32 : (Proc.devRef .tc main_while0b_cst_28 : DevRef τ sig).ty.Contents (Elt F)) = Cert.ReferenceIdeal.Step.b62 j s := by
  unfold Cert.ReferenceIdeal.Step.b62
  rfl
set_option maxRecDepth 8192 in
theorem al_63 (h : Holds V0 s j) : (broadcastInDim S64x4x1 ![] bcast_S_S64x4x1 (constant S_ .f32 0x43000000#32) : (Proc.devRef .tc main_while0b_v46 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (Host.divf (broadcastInDim S64x4x1 ![0, 1] bcast_S64x4_S64x4x1_0_1 (Host.reduceAdd (mulf (res_main_while0b_v42 V0) (res_main_while0b_v42 V0)) (constant S_ .f32 0x00000000#32) reducesTo_S64x4x128_S64x4_d2 h_S_)) (broadcastInDim S64x4x1 ![] bcast_S_S64x4x1 (constant S_ .f32 0x43000000#32)) : (Proc.devRef .tc main_while0b_v47 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (constant S_ .f32 0x358637BD#32 : (Proc.devRef .tc main_while0b_cst_29 : DevRef τ sig).ty.Contents (Elt F)) = Cert.ReferenceIdeal.Step.b65 j s := by
  unfold Cert.ReferenceIdeal.Step.b65
  rfl
set_option maxRecDepth 8192 in
theorem al_66 (h : Holds V0 s j) : (broadcastInDim S64x4x1 ![] bcast_S_S64x4x1 (constant S_ .f32 0x358637BD#32) : (Proc.devRef .tc main_while0b_v48 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (res_main_while0b_v49 V0 : (Proc.devRef .tc main_while0b_v49 : DevRef τ sig).ty.Contents (Elt F)) = Cert.ReferenceIdeal.Step.b67 j s := by
  unfold res_main_while0b_v49 Cert.ReferenceIdeal.Step.b67
  rw [← al_64 h, ← al_66 h]
  try rfl
set_option maxRecDepth 8192 in
theorem al_68 (h : Holds V0 s j) : (res_main_while0b_v50 V0 : (Proc.devRef .tc main_while0b_v50 : DevRef τ sig).ty.Contents (Elt F)) = Cert.ReferenceIdeal.Step.b68 j s := by
  unfold res_main_while0b_v50 Cert.ReferenceIdeal.Step.b68
  rw [← al_67 h]
  try rfl
set_option maxRecDepth 8192 in
theorem al_69 (h : Holds V0 s j) : (Host.divf (res_main_while0b_v50 V0) (res_main_while0b_v49 V0) : (Proc.devRef .tc main_while0b_v51 : DevRef τ sig).ty.Contents (Elt F)) = Cert.ReferenceIdeal.Step.b69 j s := by
  unfold Cert.ReferenceIdeal.Step.b69
  rw [← al_68 h, ← al_67 h]
  try rfl
set_option maxRecDepth 8192 in
theorem al_70 (h : Holds V0 s j) : (constant S_ .f32 0xBF000000#32 : (Proc.devRef .tc main_while0b_cst_30 : DevRef τ sig).ty.Contents (Elt F)) = Cert.ReferenceIdeal.Step.b70 j s := by
  unfold Cert.ReferenceIdeal.Step.b70
  rfl
set_option maxRecDepth 8192 in
theorem al_71 (h : Holds V0 s j) : (broadcastInDim S64x4x1 ![] bcast_S_S64x4x1 (constant S_ .f32 0xBF000000#32) : (Proc.devRef .tc main_while0b_v52 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (mulf (broadcastInDim S64x4x1 ![] bcast_S_S64x4x1 (constant S_ .f32 0xBF000000#32)) (Host.divf (res_main_while0b_v50 V0) (res_main_while0b_v49 V0)) : (Proc.devRef .tc main_while0b_v53 : DevRef τ sig).ty.Contents (Elt F)) = Cert.ReferenceIdeal.Step.b72 j s := by
  unfold Cert.ReferenceIdeal.Step.b72
  rw [← al_71 h, ← al_69 h]
  try rfl
set_option maxRecDepth 8192 in
theorem al_73 (h : Holds V0 s j) : (broadcastInDim S64x4x128 ![0, 1, 2] bcast_S64x4x1_S64x4x128_0_1_2 (res_main_while0b_v50 V0) : (Proc.devRef .tc main_while0b_v54 : DevRef τ sig).ty.Contents (Elt F)) = Cert.ReferenceIdeal.Step.b73 j s := by
  unfold Cert.ReferenceIdeal.Step.b73
  rw [← al_68 h]
  try rfl
set_option maxRecDepth 8192 in
theorem al_74 (h : Holds V0 s j) : (res_main_while0b_v55 V0 : (Proc.devRef .tc main_while0b_v55 : DevRef τ sig).ty.Contents (Elt F)) = Cert.ReferenceIdeal.Step.b74 j s := by
  unfold res_main_while0b_v55 Cert.ReferenceIdeal.Step.b74
  rw [← al_57 h, ← al_73 h]
  try rfl
set_option maxRecDepth 8192 in
theorem al_75 (h : Holds V0 s j) : (res_main_while0b_v56 V0 : (Proc.devRef .tc main_while0b_v56 : DevRef τ sig).ty.Contents (Elt F)) = Cert.ReferenceIdeal.Step.b75 j s := by
  unfold res_main_while0b_v56 Cert.ReferenceIdeal.Step.b75
  rw [h.f_9]
  try rfl
set_option maxRecDepth 8192 in
theorem al_76 (h : Holds V0 s j) : (broadcastInDim S64x4x128 ![0, 1, 2] bcast_S1x1x128_S64x4x128_0_1_2 (res_main_while0b_v56 V0) : (Proc.devRef .tc main_while0b_v57 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (res_main_while0b_v58 V0 : (Proc.devRef .tc main_while0b_v58 : DevRef τ sig).ty.Contents (Elt F)) = Cert.ReferenceIdeal.Step.b77 j s := by
  unfold res_main_while0b_v58 Cert.ReferenceIdeal.Step.b77
  rw [← al_74 h, ← al_76 h]
  try rfl
set_option maxRecDepth 8192 in
theorem al_78 (h : Holds V0 s j) : (Host.negf (res_main_while0b_v30 V0) : (Proc.devRef .tc main_while0b_v59 : DevRef τ sig).ty.Contents (Elt F)) = Cert.ReferenceIdeal.Step.b78 j s := by
  unfold Cert.ReferenceIdeal.Step.b78
  rw [← al_41 h]
  try rfl
set_option maxRecDepth 8192 in
theorem al_79 (h : Holds V0 s j) : (Host.exp (Host.negf (res_main_while0b_v30 V0)) : (Proc.devRef .tc main_while0b_v60 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (constant S_ .f32 0x3F800000#32 : (Proc.devRef .tc main_while0b_cst_31 : DevRef τ sig).ty.Contents (Elt F)) = Cert.ReferenceIdeal.Step.b80 j s := by
  unfold Cert.ReferenceIdeal.Step.b80
  rfl
set_option maxRecDepth 8192 in
theorem al_81 (h : Holds V0 s j) : (broadcastInDim S64x4x128 ![] bcast_S_S64x4x128 (constant S_ .f32 0x3F800000#32) : (Proc.devRef .tc main_while0b_v61 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (addf (broadcastInDim S64x4x128 ![] bcast_S_S64x4x128 (constant S_ .f32 0x3F800000#32)) (Host.exp (Host.negf (res_main_while0b_v30 V0))) : (Proc.devRef .tc main_while0b_v62 : DevRef τ sig).ty.Contents (Elt F)) = Cert.ReferenceIdeal.Step.b82 j s := by
  unfold Cert.ReferenceIdeal.Step.b82
  rw [← al_81 h, ← al_79 h]
  try rfl
set_option maxRecDepth 8192 in
theorem al_83 (h : Holds V0 s j) : (constant S_ .f32 0x3F800000#32 : (Proc.devRef .tc main_while0b_cst_32 : DevRef τ sig).ty.Contents (Elt F)) = Cert.ReferenceIdeal.Step.b83 j s := by
  unfold Cert.ReferenceIdeal.Step.b83
  rfl
set_option maxRecDepth 8192 in
theorem al_84 (h : Holds V0 s j) : (broadcastInDim S64x4x128 ![] bcast_S_S64x4x128 (constant S_ .f32 0x3F800000#32) : (Proc.devRef .tc main_while0b_v63 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (res_main_while0b_v64 V0 : (Proc.devRef .tc main_while0b_v64 : DevRef τ sig).ty.Contents (Elt F)) = Cert.ReferenceIdeal.Step.b85 j s := by
  unfold res_main_while0b_v64 Cert.ReferenceIdeal.Step.b85
  rw [← al_84 h, ← al_82 h]
  try rfl
set_option maxRecDepth 8192 in
theorem al_86 (h : Holds V0 s j) : (constant S_ .f32 0x3F800000#32 : (Proc.devRef .tc main_while0b_cst_33 : DevRef τ sig).ty.Contents (Elt F)) = Cert.ReferenceIdeal.Step.b86 j s := by
  unfold Cert.ReferenceIdeal.Step.b86
  rfl
set_option maxRecDepth 8192 in
theorem al_87 (h : Holds V0 s j) : (broadcastInDim S64x4x128 ![] bcast_S_S64x4x128 (constant S_ .f32 0x3F800000#32) : (Proc.devRef .tc main_while0b_v65 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (subf (broadcastInDim S64x4x128 ![] bcast_S_S64x4x128 (constant S_ .f32 0x3F800000#32)) (res_main_while0b_v64 V0) : (Proc.devRef .tc main_while0b_v66 : DevRef τ sig).ty.Contents (Elt F)) = Cert.ReferenceIdeal.Step.b88 j s := by
  unfold Cert.ReferenceIdeal.Step.b88
  rw [← al_87 h, ← al_85 h]
  try rfl
set_option maxRecDepth 8192 in
theorem al_89 (h : Holds V0 s j) : (mulf (res_main_while0b_v64 V0) (subf (broadcastInDim S64x4x128 ![] bcast_S_S64x4x128 (constant S_ .f32 0x3F800000#32)) (res_main_while0b_v64 V0)) : (Proc.devRef .tc main_while0b_v67 : DevRef τ sig).ty.Contents (Elt F)) = Cert.ReferenceIdeal.Step.b89 j s := by
  unfold Cert.ReferenceIdeal.Step.b89
  rw [← al_85 h, ← al_88 h]
  try rfl
set_option maxRecDepth 8192 in
theorem al_90 (h : Holds V0 s j) : (res_main_while0b_v68 V0 : (Proc.devRef .tc main_while0b_v68 : DevRef τ sig).ty.Contents (Elt F)) = Cert.ReferenceIdeal.Step.b90 j s := by
  unfold res_main_while0b_v68 Cert.ReferenceIdeal.Step.b90
  rw [← al_41 h, ← al_85 h]
  try rfl
set_option maxRecDepth 8192 in
theorem al_91 (h : Holds V0 s j) : (mulf (res_main_while0b_v58 V0) (res_main_while0b_v68 V0) : (Proc.devRef .tc main_while0b_v69 : DevRef τ sig).ty.Contents (Elt F)) = Cert.ReferenceIdeal.Step.b91 j s := by
  unfold Cert.ReferenceIdeal.Step.b91
  rw [← al_77 h, ← al_90 h]
  try rfl
set_option maxRecDepth 8192 in
theorem al_92 (h : Holds V0 s j) : (res_main_while0b_v70 V0 : (Proc.devRef .tc main_while0b_v70 : DevRef τ sig).ty.Contents (Elt F)) = Cert.ReferenceIdeal.Step.b92 j s := by
  unfold res_main_while0b_v70 Cert.ReferenceIdeal.Step.b92
  rw [← al_77 h, ← al_46 h]
  try rfl
set_option maxRecDepth 8192 in
theorem al_93 (h : Holds V0 s j) : (res_main_while0b_v71 V0 : (Proc.devRef .tc main_while0b_v71 : DevRef τ sig).ty.Contents (Elt F)) = Cert.ReferenceIdeal.Step.b93 j s := by
  unfold res_main_while0b_v71 Cert.ReferenceIdeal.Step.b93
  rw [← al_46 h, ← al_90 h]
  try rfl
set_option maxRecDepth 8192 in
theorem al_94 (h : Holds V0 s j) : (mulf (res_main_while0b_v30 V0) (res_main_while0b_v70 V0) : (Proc.devRef .tc main_while0b_v72 : DevRef τ sig).ty.Contents (Elt F)) = Cert.ReferenceIdeal.Step.b94 j s := by
  unfold Cert.ReferenceIdeal.Step.b94
  rw [← al_41 h, ← al_92 h]
  try rfl
set_option maxRecDepth 8192 in
theorem al_95 (h : Holds V0 s j) : (mulf (res_main_while0b_v70 V0) (res_main_while0b_v64 V0) : (Proc.devRef .tc main_while0b_v73 : DevRef τ sig).ty.Contents (Elt F)) = Cert.ReferenceIdeal.Step.b95 j s := by
  unfold Cert.ReferenceIdeal.Step.b95
  rw [← al_92 h, ← al_85 h]
  try rfl
set_option maxRecDepth 8192 in
theorem al_96 (h : Holds V0 s j) : (mulf (mulf (res_main_while0b_v30 V0) (res_main_while0b_v70 V0)) (mulf (res_main_while0b_v64 V0) (subf (broadcastInDim S64x4x128 ![] bcast_S_S64x4x128 (constant S_ .f32 0x3F800000#32)) (res_main_while0b_v64 V0))) : (Proc.devRef .tc main_while0b_v74 : DevRef τ sig).ty.Contents (Elt F)) = Cert.ReferenceIdeal.Step.b96 j s := by
  unfold Cert.ReferenceIdeal.Step.b96
  rw [← al_94 h, ← al_89 h]
  try rfl
set_option maxRecDepth 8192 in
theorem al_97 (h : Holds V0 s j) : (addf (mulf (res_main_while0b_v70 V0) (res_main_while0b_v64 V0)) (mulf (mulf (res_main_while0b_v30 V0) (res_main_while0b_v70 V0)) (mulf (res_main_while0b_v64 V0) (subf (broadcastInDim S64x4x128 ![] bcast_S_S64x4x128 (constant S_ .f32 0x3F800000#32)) (res_main_while0b_v64 V0)))) : (Proc.devRef .tc main_while0b_v75 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (mulf (res_main_while0b_v55 V0) (res_main_while0b_v71 V0) : (Proc.devRef .tc main_while0b_v76 : DevRef τ sig).ty.Contents (Elt F)) = Cert.ReferenceIdeal.Step.b98 j s := by
  unfold Cert.ReferenceIdeal.Step.b98
  rw [← al_74 h, ← al_93 h]
  try rfl
set_option maxRecDepth 8192 in
theorem al_99 (h : Holds V0 s j) : (constant S_ .f32 0x00000000#32 : (Proc.devRef .tc main_while0b_cst_34 : DevRef τ sig).ty.Contents (Elt F)) = Cert.ReferenceIdeal.Step.b99 j s := by
  unfold Cert.ReferenceIdeal.Step.b99
  rfl
set_option maxRecDepth 8192 in
theorem al_100 (h : Holds V0 s j) : (Host.reduceAdd (mulf (res_main_while0b_v55 V0) (res_main_while0b_v71 V0)) (constant S_ .f32 0x00000000#32) reducesTo_S64x4x128_S128_d0_1 h_S_ : (Proc.devRef .tc main_while0b_v77 : DevRef τ sig).ty.Contents (Elt F)) = Cert.ReferenceIdeal.Step.b100 j s := by
  unfold Cert.ReferenceIdeal.Step.b100
  rw [← al_98 h, ← al_99 h]
  try rfl
set_option maxRecDepth 8192 in
theorem al_101 (h : Holds V0 s j) : (shapeCast S1x1x128 (Host.reduceAdd (mulf (res_main_while0b_v55 V0) (res_main_while0b_v71 V0)) (constant S_ .f32 0x00000000#32) reducesTo_S64x4x128_S128_d0_1 h_S_) shapeCasts_S128_S1x1x128 : (Proc.devRef .tc main_while0b_v78 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (broadcastInDim S64x4x128 ![0, 1, 2] bcast_S1x1x128_S64x4x128_0_1_2 (res_main_while0b_v56 V0) : (Proc.devRef .tc main_while0b_v79 : DevRef τ sig).ty.Contents (Elt F)) = Cert.ReferenceIdeal.Step.b102 j s := by
  unfold Cert.ReferenceIdeal.Step.b102
  rw [← al_75 h]
  try rfl
set_option maxRecDepth 8192 in
theorem al_103 (h : Holds V0 s j) : (res_main_while0b_v80 V0 : (Proc.devRef .tc main_while0b_v80 : DevRef τ sig).ty.Contents (Elt F)) = Cert.ReferenceIdeal.Step.b103 j s := by
  unfold res_main_while0b_v80 Cert.ReferenceIdeal.Step.b103
  rw [← al_93 h, ← al_102 h]
  try rfl
set_option maxRecDepth 8192 in
theorem al_104 (h : Holds V0 s j) : (constant S_ .f32 0x00000000#32 : (Proc.devRef .tc main_while0b_cst_35 : DevRef τ sig).ty.Contents (Elt F)) = Cert.ReferenceIdeal.Step.b104 j s := by
  unfold Cert.ReferenceIdeal.Step.b104
  rfl
set_option maxRecDepth 8192 in
theorem al_105 (h : Holds V0 s j) : (Host.reduceAdd (shapeCast S1x1x128 (Host.reduceAdd (mulf (res_main_while0b_v55 V0) (res_main_while0b_v71 V0)) (constant S_ .f32 0x00000000#32) reducesTo_S64x4x128_S128_d0_1 h_S_) shapeCasts_S128_S1x1x128) (constant S_ .f32 0x00000000#32) reducesTo_S1x1x128_S128_d0_1 h_S_ : (Proc.devRef .tc main_while0b_v81 : DevRef τ sig).ty.Contents (Elt F)) = Cert.ReferenceIdeal.Step.b105 j s := by
  unfold Cert.ReferenceIdeal.Step.b105
  rw [← al_101 h, ← al_104 h]
  try rfl
set_option maxRecDepth 8192 in
theorem al_106 (h : Holds V0 s j) : (mulf (res_main_while0b_v42 V0) (res_main_while0b_v80 V0) : (Proc.devRef .tc main_while0b_v82 : DevRef τ sig).ty.Contents (Elt F)) = Cert.ReferenceIdeal.Step.b106 j s := by
  unfold Cert.ReferenceIdeal.Step.b106
  rw [← al_57 h, ← al_103 h]
  try rfl
set_option maxRecDepth 8192 in
theorem al_107 (h : Holds V0 s j) : (constant S_ .f32 0x00000000#32 : (Proc.devRef .tc main_while0b_cst_36 : DevRef τ sig).ty.Contents (Elt F)) = Cert.ReferenceIdeal.Step.b107 j s := by
  unfold Cert.ReferenceIdeal.Step.b107
  rfl
set_option maxRecDepth 8192 in
theorem al_108 (h : Holds V0 s j) : (Host.reduceAdd (mulf (res_main_while0b_v42 V0) (res_main_while0b_v80 V0)) (constant S_ .f32 0x00000000#32) reducesTo_S64x4x128_S64x4_d2 h_S_ : (Proc.devRef .tc main_while0b_v83 : DevRef τ sig).ty.Contents (Elt F)) = Cert.ReferenceIdeal.Step.b108 j s := by
  unfold Cert.ReferenceIdeal.Step.b108
  rw [← al_106 h, ← al_107 h]
  try rfl
set_option maxRecDepth 8192 in
theorem al_109 (h : Holds V0 s j) : (shapeCast S64x4x1 (Host.reduceAdd (mulf (res_main_while0b_v42 V0) (res_main_while0b_v80 V0)) (constant S_ .f32 0x00000000#32) reducesTo_S64x4x128_S64x4_d2 h_S_) shapeCasts_S64x4_S64x4x1 : (Proc.devRef .tc main_while0b_v84 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (broadcastInDim S64x4x128 ![0, 1, 2] bcast_S64x4x1_S64x4x128_0_1_2 (res_main_while0b_v50 V0) : (Proc.devRef .tc main_while0b_v85 : DevRef τ sig).ty.Contents (Elt F)) = Cert.ReferenceIdeal.Step.b110 j s := by
  unfold Cert.ReferenceIdeal.Step.b110
  rw [← al_68 h]
  try rfl
set_option maxRecDepth 8192 in
theorem al_111 (h : Holds V0 s j) : (mulf (res_main_while0b_v80 V0) (broadcastInDim S64x4x128 ![0, 1, 2] bcast_S64x4x1_S64x4x128_0_1_2 (res_main_while0b_v50 V0)) : (Proc.devRef .tc main_while0b_v86 : DevRef τ sig).ty.Contents (Elt F)) = Cert.ReferenceIdeal.Step.b111 j s := by
  unfold Cert.ReferenceIdeal.Step.b111
  rw [← al_103 h, ← al_110 h]
  try rfl
set_option maxRecDepth 8192 in
theorem al_112 (h : Holds V0 s j) : (mulf (shapeCast S64x4x1 (Host.reduceAdd (mulf (res_main_while0b_v42 V0) (res_main_while0b_v80 V0)) (constant S_ .f32 0x00000000#32) reducesTo_S64x4x128_S64x4_d2 h_S_) shapeCasts_S64x4_S64x4x1) (mulf (broadcastInDim S64x4x1 ![] bcast_S_S64x4x1 (constant S_ .f32 0xBF000000#32)) (Host.divf (res_main_while0b_v50 V0) (res_main_while0b_v49 V0))) : (Proc.devRef .tc main_while0b_v87 : DevRef τ sig).ty.Contents (Elt F)) = Cert.ReferenceIdeal.Step.b112 j s := by
  unfold Cert.ReferenceIdeal.Step.b112
  rw [← al_109 h, ← al_72 h]
  try rfl
set_option maxRecDepth 8192 in
theorem al_113 (h : Holds V0 s j) : (constant S_ .f32 0x43000000#32 : (Proc.devRef .tc main_while0b_cst_37 : DevRef τ sig).ty.Contents (Elt F)) = Cert.ReferenceIdeal.Step.b113 j s := by
  unfold Cert.ReferenceIdeal.Step.b113
  rfl
set_option maxRecDepth 8192 in
theorem al_114 (h : Holds V0 s j) : (broadcastInDim S64x4x1 ![] bcast_S_S64x4x1 (constant S_ .f32 0x43000000#32) : (Proc.devRef .tc main_while0b_v88 : DevRef τ sig).ty.Contents (Elt F)) = Cert.ReferenceIdeal.Step.b114 j s := by
  unfold Cert.ReferenceIdeal.Step.b114
  rw [← al_113 h]
  try rfl
set_option maxRecDepth 8192 in
theorem al_115 (h : Holds V0 s j) : (Host.divf (mulf (shapeCast S64x4x1 (Host.reduceAdd (mulf (res_main_while0b_v42 V0) (res_main_while0b_v80 V0)) (constant S_ .f32 0x00000000#32) reducesTo_S64x4x128_S64x4_d2 h_S_) shapeCasts_S64x4_S64x4x1) (mulf (broadcastInDim S64x4x1 ![] bcast_S_S64x4x1 (constant S_ .f32 0xBF000000#32)) (Host.divf (res_main_while0b_v50 V0) (res_main_while0b_v49 V0)))) (broadcastInDim S64x4x1 ![] bcast_S_S64x4x1 (constant S_ .f32 0x43000000#32)) : (Proc.devRef .tc main_while0b_v89 : DevRef τ sig).ty.Contents (Elt F)) = Cert.ReferenceIdeal.Step.b115 j s := by
  unfold Cert.ReferenceIdeal.Step.b115
  rw [← al_112 h, ← al_114 h]
  try rfl
set_option maxRecDepth 8192 in
theorem al_116 (h : Holds V0 s j) : (constant S_ .f32 0x00000000#32 : (Proc.devRef .tc main_while0b_cst_38 : DevRef τ sig).ty.Contents (Elt F)) = Cert.ReferenceIdeal.Step.b116 j s := by
  unfold Cert.ReferenceIdeal.Step.b116
  rfl
set_option maxRecDepth 8192 in
theorem al_117 (h : Holds V0 s j) : (Host.reduceAdd (Host.divf (mulf (shapeCast S64x4x1 (Host.reduceAdd (mulf (res_main_while0b_v42 V0) (res_main_while0b_v80 V0)) (constant S_ .f32 0x00000000#32) reducesTo_S64x4x128_S64x4_d2 h_S_) shapeCasts_S64x4_S64x4x1) (mulf (broadcastInDim S64x4x1 ![] bcast_S_S64x4x1 (constant S_ .f32 0xBF000000#32)) (Host.divf (res_main_while0b_v50 V0) (res_main_while0b_v49 V0)))) (broadcastInDim S64x4x1 ![] bcast_S_S64x4x1 (constant S_ .f32 0x43000000#32))) (constant S_ .f32 0x00000000#32) reducesTo_S64x4x1_S64x4_d2 h_S_ : (Proc.devRef .tc main_while0b_v90 : DevRef τ sig).ty.Contents (Elt F)) = Cert.ReferenceIdeal.Step.b117 j s := by
  unfold Cert.ReferenceIdeal.Step.b117
  rw [← al_115 h, ← al_116 h]
  try rfl
set_option maxRecDepth 8192 in
theorem al_118 (h : Holds V0 s j) : (res_main_while0b_v91 V0 : (Proc.devRef .tc main_while0b_v91 : DevRef τ sig).ty.Contents (Elt F)) = Cert.ReferenceIdeal.Step.b118 j s := by
  unfold res_main_while0b_v91 Cert.ReferenceIdeal.Step.b118
  rw [← al_117 h]
  try rfl
set_option maxRecDepth 8192 in
theorem al_119 (h : Holds V0 s j) : (mulf (res_main_while0b_v42 V0) (res_main_while0b_v91 V0) : (Proc.devRef .tc main_while0b_v92 : DevRef τ sig).ty.Contents (Elt F)) = Cert.ReferenceIdeal.Step.b119 j s := by
  unfold Cert.ReferenceIdeal.Step.b119
  rw [← al_57 h, ← al_118 h]
  try rfl
set_option maxRecDepth 8192 in
theorem al_120 (h : Holds V0 s j) : (addf (mulf (res_main_while0b_v80 V0) (broadcastInDim S64x4x128 ![0, 1, 2] bcast_S64x4x1_S64x4x128_0_1_2 (res_main_while0b_v50 V0))) (mulf (res_main_while0b_v42 V0) (res_main_while0b_v91 V0)) : (Proc.devRef .tc main_while0b_v93 : DevRef τ sig).ty.Contents (Elt F)) = Cert.ReferenceIdeal.Step.b120 j s := by
  unfold Cert.ReferenceIdeal.Step.b120
  rw [← al_111 h, ← al_119 h]
  try rfl
set_option maxRecDepth 8192 in
theorem al_121 (h : Holds V0 s j) : (mulf (res_main_while0b_v91 V0) (res_main_while0b_v42 V0) : (Proc.devRef .tc main_while0b_v94 : DevRef τ sig).ty.Contents (Elt F)) = Cert.ReferenceIdeal.Step.b121 j s := by
  unfold Cert.ReferenceIdeal.Step.b121
  rw [← al_118 h, ← al_57 h]
  try rfl
set_option maxRecDepth 8192 in
theorem al_122 (h : Holds V0 s j) : (addf (addf (mulf (res_main_while0b_v80 V0) (broadcastInDim S64x4x128 ![0, 1, 2] bcast_S64x4x1_S64x4x128_0_1_2 (res_main_while0b_v50 V0))) (mulf (res_main_while0b_v42 V0) (res_main_while0b_v91 V0))) (mulf (res_main_while0b_v91 V0) (res_main_while0b_v42 V0)) : (Proc.devRef .tc main_while0b_v95 : DevRef τ sig).ty.Contents (Elt F)) = Cert.ReferenceIdeal.Step.b122 j s := by
  unfold Cert.ReferenceIdeal.Step.b122
  rw [← al_120 h, ← al_121 h]
  try rfl
set_option maxRecDepth 8192 in
theorem al_123 (h : Holds V0 s j) : (res_main_while0b_v96 V0 : (Proc.devRef .tc main_while0b_v96 : DevRef τ sig).ty.Contents (Elt F)) = Cert.ReferenceIdeal.Step.b123 j s := by
  unfold res_main_while0b_v96 Cert.ReferenceIdeal.Step.b123
  rw [← al_122 h]
  try rfl
set_option maxRecDepth 8192 in
theorem al_124 (h : Holds V0 s j) : (Host.dotGeneral dot_S4x128x128_S4x64x128_S4x128x64_1_2_2_1_0_0 none (V0 (Proc.devRef .tc main_v10_11)) (res_main_while0b_v28 V0) : (Proc.devRef .tc main_while0b_v97 : DevRef τ sig).ty.Contents (Elt F)) = Cert.ReferenceIdeal.Step.b124 j s := by
  unfold Cert.ReferenceIdeal.Step.b124
  rw [← al_33 h, h.f_11]
  try rfl
set_option maxRecDepth 8192 in
theorem al_125 (h : Holds V0 s j) : (transpose S4x64x128 [0, 2, 1] (Host.dotGeneral dot_S4x128x128_S4x64x128_S4x128x64_1_2_2_1_0_0 none (V0 (Proc.devRef .tc main_v10_11)) (res_main_while0b_v28 V0)) transposes_S4x128x64_S4x64x128_0_2_1 : (Proc.devRef .tc main_while0b_v98 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (Host.dotGeneral dot_S4x128x128_S4x64x128_S4x128x64_2_2_1_1_0_0 none (V0 (Proc.devRef .tc main_v10_11)) (res_main_while0b_v33 V0) : (Proc.devRef .tc main_while0b_v99 : DevRef τ sig).ty.Contents (Elt F)) = Cert.ReferenceIdeal.Step.b126 j s := by
  unfold Cert.ReferenceIdeal.Step.b126
  rw [← al_48 h, h.f_11]
  try rfl
set_option maxRecDepth 8192 in
theorem al_127 (h : Holds V0 s j) : (transpose S4x64x128 [0, 2, 1] (Host.dotGeneral dot_S4x128x128_S4x64x128_S4x128x64_2_2_1_1_0_0 none (V0 (Proc.devRef .tc main_v10_11)) (res_main_while0b_v33 V0)) transposes_S4x128x64_S4x64x128_0_2_1 : (Proc.devRef .tc main_while0b_v100 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (mulf (res_main_while0b_v23 V0) (V0 (Proc.devRef .tc main_v10_11)) : (Proc.devRef .tc main_while0b_v101 : DevRef τ sig).ty.Contents (Elt F)) = Cert.ReferenceIdeal.Step.b128 j s := by
  unfold Cert.ReferenceIdeal.Step.b128
  rw [← al_8 h, h.f_11]
  try rfl
set_option maxRecDepth 8192 in
theorem al_129 (h : Holds V0 s j) : (constant S_ .f32 0x00000000#32 : (Proc.devRef .tc main_while0b_cst_39 : DevRef τ sig).ty.Contents (Elt F)) = Cert.ReferenceIdeal.Step.b129 j s := by
  unfold Cert.ReferenceIdeal.Step.b129
  rfl
set_option maxRecDepth 8192 in
theorem al_130 (h : Holds V0 s j) : (Host.reduceAdd (mulf (res_main_while0b_v23 V0) (V0 (Proc.devRef .tc main_v10_11))) (constant S_ .f32 0x00000000#32) reducesTo_S4x128x128_S4_d1_2 h_S_ : (Proc.devRef .tc main_while0b_v102 : DevRef τ sig).ty.Contents (Elt F)) = Cert.ReferenceIdeal.Step.b130 j s := by
  unfold Cert.ReferenceIdeal.Step.b130
  rw [← al_128 h, ← al_129 h]
  try rfl
set_option maxRecDepth 8192 in
theorem al_131 (h : Holds V0 s j) : (shapeCast S4x1x1 (Host.reduceAdd (mulf (res_main_while0b_v23 V0) (V0 (Proc.devRef .tc main_v10_11))) (constant S_ .f32 0x00000000#32) reducesTo_S4x128x128_S4_d1_2 h_S_) shapeCasts_S4_S4x1x1 : (Proc.devRef .tc main_while0b_v103 : DevRef τ sig).ty.Contents (Elt F)) = Cert.ReferenceIdeal.Step.b131 j s := by
  unfold Cert.ReferenceIdeal.Step.b131
  rw [← al_130 h]
  try rfl
set_option maxRecDepth 8192 in
theorem al_132 (h : Holds V0 s j) : (broadcastInDim S4x128x128 ![0, 1, 2] bcast_S4x1x1_S4x128x128_0_1_2 (res_main_while0b_v37 V0) : (Proc.devRef .tc main_while0b_v104 : DevRef τ sig).ty.Contents (Elt F)) = Cert.ReferenceIdeal.Step.b132 j s := by
  unfold Cert.ReferenceIdeal.Step.b132
  rw [← al_52 h]
  try rfl
set_option maxRecDepth 8192 in
theorem al_133 (h : Holds V0 s j) : (mulf (V0 (Proc.devRef .tc main_v10_11)) (broadcastInDim S4x128x128 ![0, 1, 2] bcast_S4x1x1_S4x128x128_0_1_2 (res_main_while0b_v37 V0)) : (Proc.devRef .tc main_while0b_v105 : DevRef τ sig).ty.Contents (Elt F)) = Cert.ReferenceIdeal.Step.b133 j s := by
  unfold Cert.ReferenceIdeal.Step.b133
  rw [← al_132 h, h.f_11]
  try rfl
set_option maxRecDepth 8192 in
theorem al_134 (h : Holds V0 s j) : (constant S_ .f32 0x00000000#32 : (Proc.devRef .tc main_while0b_cst_40 : DevRef τ sig).ty.Contents (Elt F)) = Cert.ReferenceIdeal.Step.b134 j s := by
  unfold Cert.ReferenceIdeal.Step.b134
  rfl
set_option maxRecDepth 8192 in
theorem al_135 (h : Holds V0 s j) : (Host.reduceAdd (shapeCast S4x1x1 (Host.reduceAdd (mulf (res_main_while0b_v23 V0) (V0 (Proc.devRef .tc main_v10_11))) (constant S_ .f32 0x00000000#32) reducesTo_S4x128x128_S4_d1_2 h_S_) shapeCasts_S4_S4x1x1) (constant S_ .f32 0x00000000#32) reducesTo_S4x1x1_S4_d1_2 h_S_ : (Proc.devRef .tc main_while0b_v106 : DevRef τ sig).ty.Contents (Elt F)) = Cert.ReferenceIdeal.Step.b135 j s := by
  unfold Cert.ReferenceIdeal.Step.b135
  rw [← al_131 h, ← al_134 h]
  try rfl
set_option maxRecDepth 8192 in
theorem al_136 (h : Holds V0 s j) : (Host.dotGeneral dot_S4x64x128_S4x64x64_S4x128x64_1_1_2_2_0_0 none (res_main_while0b_v96 V0) (res_main_while0b_v26 V0) : (Proc.devRef .tc main_while0b_v107 : DevRef τ sig).ty.Contents (Elt F)) = Cert.ReferenceIdeal.Step.b136 j s := by
  unfold Cert.ReferenceIdeal.Step.b136
  rw [← al_123 h, ← al_23 h]
  try rfl
set_option maxRecDepth 8192 in
theorem al_137 (h : Holds V0 s j) : (transpose S4x64x128 [0, 2, 1] (Host.dotGeneral dot_S4x64x128_S4x64x64_S4x128x64_1_1_2_2_0_0 none (res_main_while0b_v96 V0) (res_main_while0b_v26 V0)) transposes_S4x128x64_S4x64x128_0_2_1 : (Proc.devRef .tc main_while0b_v108 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (res_main_while0b_v109 V0 : (Proc.devRef .tc main_while0b_v109 : DevRef τ sig).ty.Contents (Elt F)) = Cert.ReferenceIdeal.Step.b138 j s := by
  unfold res_main_while0b_v109 Cert.ReferenceIdeal.Step.b138
  rw [← al_125 h, ← al_137 h]
  try rfl
set_option maxRecDepth 8192 in
theorem al_139 (h : Holds V0 s j) : (Host.dotGeneral dot_S4x64x128_S4x64x128_S4x64x64_2_2_1_1_0_0 none (res_main_while0b_v96 V0) (res_main_while0b_v33 V0) : (Proc.devRef .tc main_while0b_v110 : DevRef τ sig).ty.Contents (Elt F)) = Cert.ReferenceIdeal.Step.b139 j s := by
  unfold Cert.ReferenceIdeal.Step.b139
  rw [← al_123 h, ← al_48 h]
  try rfl
set_option maxRecDepth 8192 in
theorem al_140 (h : Holds V0 s j) : (Host.dotGeneral dot_S4x64x128_S4x64x128_S4x128x128_1_1_2_2_0_0 none (res_main_while0b_v96 V0) (res_main_while0b_v27 V0) : (Proc.devRef .tc main_while0b_v111 : DevRef τ sig).ty.Contents (Elt F)) = Cert.ReferenceIdeal.Step.b140 j s := by
  unfold Cert.ReferenceIdeal.Step.b140
  rw [← al_123 h, ← al_28 h]
  try rfl
set_option maxRecDepth 8192 in
theorem al_141 (h : Holds V0 s j) : (transpose S4x128x128 [0, 2, 1] (Host.dotGeneral dot_S4x64x128_S4x64x128_S4x128x128_1_1_2_2_0_0 none (res_main_while0b_v96 V0) (res_main_while0b_v27 V0)) transposes_S4x128x128_S4x128x128_0_2_1 : (Proc.devRef .tc main_while0b_v112 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (addf (mulf (V0 (Proc.devRef .tc main_v10_11)) (broadcastInDim S4x128x128 ![0, 1, 2] bcast_S4x1x1_S4x128x128_0_1_2 (res_main_while0b_v37 V0))) (transpose S4x128x128 [0, 2, 1] (Host.dotGeneral dot_S4x64x128_S4x64x128_S4x128x128_1_1_2_2_0_0 none (res_main_while0b_v96 V0) (res_main_while0b_v27 V0)) transposes_S4x128x128_S4x128x128_0_2_1) : (Proc.devRef .tc main_while0b_v113 : DevRef τ sig).ty.Contents (Elt F)) = Cert.ReferenceIdeal.Step.b142 j s := by
  unfold Cert.ReferenceIdeal.Step.b142
  rw [← al_133 h, ← al_141 h]
  try rfl
set_option maxRecDepth 8192 in
theorem al_143 (h : Holds V0 s j) : (Host.dotGeneral dot_S4x64x128_S4x128x128_S4x64x128_2_2_1_1_0_0 none (res_main_while0b_v96 V0) (res_main_while0b_v23 V0) : (Proc.devRef .tc main_while0b_v114 : DevRef τ sig).ty.Contents (Elt F)) = Cert.ReferenceIdeal.Step.b143 j s := by
  unfold Cert.ReferenceIdeal.Step.b143
  rw [← al_123 h, ← al_8 h]
  try rfl
set_option maxRecDepth 8192 in
theorem al_144 (h : Holds V0 s j) : (res_main_while0b_v115 V0 : (Proc.devRef .tc main_while0b_v115 : DevRef τ sig).ty.Contents (Elt F)) = Cert.ReferenceIdeal.Step.b144 j s := by
  unfold res_main_while0b_v115 Cert.ReferenceIdeal.Step.b144
  rw [← al_138 h]
  try rfl
set_option maxRecDepth 8192 in
theorem al_145 (h : Holds V0 s j) : (Host.dotGeneral dot_S4x64x128_S4x64x128_S4x128x128_1_1_2_2_0_0 none (res_main_while0b_v115 V0) (res_main_while0b_v25 V0) : (Proc.devRef .tc main_while0b_v116 : DevRef τ sig).ty.Contents (Elt F)) = Cert.ReferenceIdeal.Step.b145 j s := by
  unfold Cert.ReferenceIdeal.Step.b145
  rw [← al_144 h, ← al_18 h]
  try rfl
set_option maxRecDepth 8192 in
theorem al_146 (h : Holds V0 s j) : (transpose S4x128x128 [0, 2, 1] (Host.dotGeneral dot_S4x64x128_S4x64x128_S4x128x128_1_1_2_2_0_0 none (res_main_while0b_v115 V0) (res_main_while0b_v25 V0)) transposes_S4x128x128_S4x128x128_0_2_1 : (Proc.devRef .tc main_while0b_v117 : DevRef τ sig).ty.Contents (Elt F)) = Cert.ReferenceIdeal.Step.b146 j s := by
  unfold Cert.ReferenceIdeal.Step.b146
  rw [← al_145 h]
  try rfl
set_option maxRecDepth 8192 in
theorem al_147 (h : Holds V0 s j) : (addf (addf (mulf (V0 (Proc.devRef .tc main_v10_11)) (broadcastInDim S4x128x128 ![0, 1, 2] bcast_S4x1x1_S4x128x128_0_1_2 (res_main_while0b_v37 V0))) (transpose S4x128x128 [0, 2, 1] (Host.dotGeneral dot_S4x64x128_S4x64x128_S4x128x128_1_1_2_2_0_0 none (res_main_while0b_v96 V0) (res_main_while0b_v27 V0)) transposes_S4x128x128_S4x128x128_0_2_1)) (transpose S4x128x128 [0, 2, 1] (Host.dotGeneral dot_S4x64x128_S4x64x128_S4x128x128_1_1_2_2_0_0 none (res_main_while0b_v115 V0) (res_main_while0b_v25 V0)) transposes_S4x128x128_S4x128x128_0_2_1) : (Proc.devRef .tc main_while0b_v118 : DevRef τ sig).ty.Contents (Elt F)) = Cert.ReferenceIdeal.Step.b147 j s := by
  unfold Cert.ReferenceIdeal.Step.b147
  rw [← al_142 h, ← al_146 h]
  try rfl
set_option maxRecDepth 8192 in
theorem al_148 (h : Holds V0 s j) : (Host.dotGeneral dot_S4x64x128_S4x128x128_S4x64x128_2_2_1_1_0_0 none (res_main_while0b_v115 V0) (res_main_while0b_v23 V0) : (Proc.devRef .tc main_while0b_v119 : DevRef τ sig).ty.Contents (Elt F)) = Cert.ReferenceIdeal.Step.b148 j s := by
  unfold Cert.ReferenceIdeal.Step.b148
  rw [← al_144 h, ← al_8 h]
  try rfl
set_option maxRecDepth 8192 in
theorem al_149 (h : Holds V0 s j) : (broadcastInDim S1x4x64x128 ![1, 2, 3] bcast_S4x64x128_S1x4x64x128_1_2_3 (res_main_while0b_v109 V0) : (Proc.devRef .tc main_while0b_call9_v0 : DevRef τ sig).ty.Contents (Elt F)) = Cert.ReferenceIdeal.Step.b149 j s := by
  unfold Cert.ReferenceIdeal.Step.b149
  rw [← al_138 h]
  try rfl
set_option maxRecDepth 8192 in
theorem al_150 (h : Holds V0 s j) : (constantI S_ 32 0#32 : (Proc.devRef .tc main_while0b_call9_c : DevRef τ sig).ty.Contents (Elt F)) = Cert.ReferenceIdeal.Step.b150 j s := by
  unfold Cert.ReferenceIdeal.Step.b150
  rfl
set_option maxRecDepth 8192 in
theorem al_151 (h : Holds V0 s j) : (constantI S_ 32 0#32 : (Proc.devRef .tc main_while0b_call9_c_0 : DevRef τ sig).ty.Contents (Elt F)) = Cert.ReferenceIdeal.Step.b151 j s := by
  unfold Cert.ReferenceIdeal.Step.b151
  rfl
set_option maxRecDepth 8192 in
theorem al_152 (h : Holds V0 s j) : (constantI S_ 32 0#32 : (Proc.devRef .tc main_while0b_call9_c_1 : DevRef τ sig).ty.Contents (Elt F)) = Cert.ReferenceIdeal.Step.b152 j s := by
  unfold Cert.ReferenceIdeal.Step.b152
  rfl
set_option maxRecDepth 8192 in
theorem al_153 (h : Holds V0 s j) : (Host.dynamicUpdateSlice (V0 (Proc.devRef .tc main_v10_12)) (broadcastInDim S1x4x64x128 ![1, 2, 3] bcast_S4x64x128_S1x4x64x128_1_2_3 (res_main_while0b_v109 V0)) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128 : (Proc.devRef .tc main_while0b_v120 : DevRef τ sig).ty.Contents (Elt F)) = Cert.ReferenceIdeal.Step.b153 j s := by
  unfold Cert.ReferenceIdeal.Step.b153
  rw [← al_149 h, ← al_3 h, ← al_150 h, ← al_151 h, ← al_152 h, h.f_12]
  try rfl
set_option maxRecDepth 8192 in
theorem al_154 (h : Holds V0 s j) : (broadcastInDim S1x4x64x128 ![1, 2, 3] bcast_S4x64x128_S1x4x64x128_1_2_3 (Host.dotGeneral dot_S4x64x128_S4x128x128_S4x64x128_2_2_1_1_0_0 none (res_main_while0b_v115 V0) (res_main_while0b_v23 V0)) : (Proc.devRef .tc main_while0b_call10_v0 : DevRef τ sig).ty.Contents (Elt F)) = Cert.ReferenceIdeal.Step.b154 j s := by
  unfold Cert.ReferenceIdeal.Step.b154
  rw [← al_148 h]
  try rfl
set_option maxRecDepth 8192 in
theorem al_155 (h : Holds V0 s j) : (constantI S_ 32 0#32 : (Proc.devRef .tc main_while0b_call10_c : DevRef τ sig).ty.Contents (Elt F)) = Cert.ReferenceIdeal.Step.b155 j s := by
  unfold Cert.ReferenceIdeal.Step.b155
  rfl
set_option maxRecDepth 8192 in
theorem al_156 (h : Holds V0 s j) : (constantI S_ 32 0#32 : (Proc.devRef .tc main_while0b_call10_c_0 : DevRef τ sig).ty.Contents (Elt F)) = Cert.ReferenceIdeal.Step.b156 j s := by
  unfold Cert.ReferenceIdeal.Step.b156
  rfl
set_option maxRecDepth 8192 in
theorem al_157 (h : Holds V0 s j) : (constantI S_ 32 0#32 : (Proc.devRef .tc main_while0b_call10_c_1 : DevRef τ sig).ty.Contents (Elt F)) = Cert.ReferenceIdeal.Step.b157 j s := by
  unfold Cert.ReferenceIdeal.Step.b157
  rfl
set_option maxRecDepth 8192 in
theorem al_158 (h : Holds V0 s j) : (Host.dynamicUpdateSlice (V0 (Proc.devRef .tc main_v10_13)) (broadcastInDim S1x4x64x128 ![1, 2, 3] bcast_S4x64x128_S1x4x64x128_1_2_3 (Host.dotGeneral dot_S4x64x128_S4x128x128_S4x64x128_2_2_1_1_0_0 none (res_main_while0b_v115 V0) (res_main_while0b_v23 V0))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128 : (Proc.devRef .tc main_while0b_v121 : DevRef τ sig).ty.Contents (Elt F)) = Cert.ReferenceIdeal.Step.b158 j s := by
  unfold Cert.ReferenceIdeal.Step.b158
  rw [← al_154 h, ← al_3 h, ← al_155 h, ← al_156 h, ← al_157 h, h.f_13]
  try rfl
set_option maxRecDepth 8192 in
theorem al_159 (h : Holds V0 s j) : (broadcastInDim S1x4x64x128 ![1, 2, 3] bcast_S4x64x128_S1x4x64x128_1_2_3 (Host.dotGeneral dot_S4x64x128_S4x128x128_S4x64x128_2_2_1_1_0_0 none (res_main_while0b_v96 V0) (res_main_while0b_v23 V0)) : (Proc.devRef .tc main_while0b_call11_v0 : DevRef τ sig).ty.Contents (Elt F)) = Cert.ReferenceIdeal.Step.b159 j s := by
  unfold Cert.ReferenceIdeal.Step.b159
  rw [← al_143 h]
  try rfl
set_option maxRecDepth 8192 in
theorem al_160 (h : Holds V0 s j) : (constantI S_ 32 0#32 : (Proc.devRef .tc main_while0b_call11_c : DevRef τ sig).ty.Contents (Elt F)) = Cert.ReferenceIdeal.Step.b160 j s := by
  unfold Cert.ReferenceIdeal.Step.b160
  rfl
set_option maxRecDepth 8192 in
theorem al_161 (h : Holds V0 s j) : (constantI S_ 32 0#32 : (Proc.devRef .tc main_while0b_call11_c_0 : DevRef τ sig).ty.Contents (Elt F)) = Cert.ReferenceIdeal.Step.b161 j s := by
  unfold Cert.ReferenceIdeal.Step.b161
  rfl
set_option maxRecDepth 8192 in
theorem al_162 (h : Holds V0 s j) : (constantI S_ 32 0#32 : (Proc.devRef .tc main_while0b_call11_c_1 : DevRef τ sig).ty.Contents (Elt F)) = Cert.ReferenceIdeal.Step.b162 j s := by
  unfold Cert.ReferenceIdeal.Step.b162
  rfl
set_option maxRecDepth 8192 in
theorem al_163 (h : Holds V0 s j) : (Host.dynamicUpdateSlice (V0 (Proc.devRef .tc main_v10_14)) (broadcastInDim S1x4x64x128 ![1, 2, 3] bcast_S4x64x128_S1x4x64x128_1_2_3 (Host.dotGeneral dot_S4x64x128_S4x128x128_S4x64x128_2_2_1_1_0_0 none (res_main_while0b_v96 V0) (res_main_while0b_v23 V0))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128 : (Proc.devRef .tc main_while0b_v122 : DevRef τ sig).ty.Contents (Elt F)) = Cert.ReferenceIdeal.Step.b163 j s := by
  unfold Cert.ReferenceIdeal.Step.b163
  rw [← al_159 h, ← al_3 h, ← al_160 h, ← al_161 h, ← al_162 h, h.f_14]
  try rfl
set_option maxRecDepth 8192 in
theorem al_164 (h : Holds V0 s j) : (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v10_11)) (res_main_while0b_v33 V0)) transposes_S4x128x64_S4x64x128_0_2_1) : (Proc.devRef .tc main_while0b_call12_v0 : DevRef τ sig).ty.Contents (Elt F)) = Cert.ReferenceIdeal.Step.b164 j s := by
  unfold Cert.ReferenceIdeal.Step.b164
  rw [← al_127 h]
  try rfl
set_option maxRecDepth 8192 in
theorem al_165 (h : Holds V0 s j) : (constantI S_ 32 0#32 : (Proc.devRef .tc main_while0b_call12_c : DevRef τ sig).ty.Contents (Elt F)) = Cert.ReferenceIdeal.Step.b165 j s := by
  unfold Cert.ReferenceIdeal.Step.b165
  rfl
set_option maxRecDepth 8192 in
theorem al_166 (h : Holds V0 s j) : (constantI S_ 32 0#32 : (Proc.devRef .tc main_while0b_call12_c_0 : DevRef τ sig).ty.Contents (Elt F)) = Cert.ReferenceIdeal.Step.b166 j s := by
  unfold Cert.ReferenceIdeal.Step.b166
  rfl
set_option maxRecDepth 8192 in
theorem al_167 (h : Holds V0 s j) : (constantI S_ 32 0#32 : (Proc.devRef .tc main_while0b_call12_c_1 : DevRef τ sig).ty.Contents (Elt F)) = Cert.ReferenceIdeal.Step.b167 j s := by
  unfold Cert.ReferenceIdeal.Step.b167
  rfl
set_option maxRecDepth 8192 in
theorem al_168 (h : Holds V0 s j) : (Host.dynamicUpdateSlice (V0 (Proc.devRef .tc main_v10_15)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v10_11)) (res_main_while0b_v33 V0)) transposes_S4x128x64_S4x64x128_0_2_1)) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128 : (Proc.devRef .tc main_while0b_v123 : DevRef τ sig).ty.Contents (Elt F)) = Cert.ReferenceIdeal.Step.b168 j s := by
  unfold Cert.ReferenceIdeal.Step.b168
  rw [← al_164 h, ← al_3 h, ← al_165 h, ← al_166 h, ← al_167 h, h.f_15]
  try rfl
set_option maxRecDepth 8192 in
theorem al_169 (h : Holds V0 s j) : (broadcastInDim S1x64x4x128 ![1, 2, 3] bcast_S64x4x128_S1x64x4x128_1_2_3 (addf (mulf (res_main_while0b_v70 V0) (res_main_while0b_v64 V0)) (mulf (mulf (res_main_while0b_v30 V0) (res_main_while0b_v70 V0)) (mulf (res_main_while0b_v64 V0) (subf (broadcastInDim S64x4x128 ![] bcast_S_S64x4x128 (constant S_ .f32 0x3F800000#32)) (res_main_while0b_v64 V0))))) : (Proc.devRef .tc main_while0b_call13_v0 : DevRef τ sig).ty.Contents (Elt F)) = Cert.ReferenceIdeal.Step.b169 j s := by
  unfold Cert.ReferenceIdeal.Step.b169
  rw [← al_97 h]
  try rfl
set_option maxRecDepth 8192 in
theorem al_170 (h : Holds V0 s j) : (constantI S_ 32 0#32 : (Proc.devRef .tc main_while0b_call13_c : DevRef τ sig).ty.Contents (Elt F)) = Cert.ReferenceIdeal.Step.b170 j s := by
  unfold Cert.ReferenceIdeal.Step.b170
  rfl
set_option maxRecDepth 8192 in
theorem al_171 (h : Holds V0 s j) : (constantI S_ 32 0#32 : (Proc.devRef .tc main_while0b_call13_c_0 : DevRef τ sig).ty.Contents (Elt F)) = Cert.ReferenceIdeal.Step.b171 j s := by
  unfold Cert.ReferenceIdeal.Step.b171
  rfl
set_option maxRecDepth 8192 in
theorem al_172 (h : Holds V0 s j) : (constantI S_ 32 0#32 : (Proc.devRef .tc main_while0b_call13_c_1 : DevRef τ sig).ty.Contents (Elt F)) = Cert.ReferenceIdeal.Step.b172 j s := by
  unfold Cert.ReferenceIdeal.Step.b172
  rfl
set_option maxRecDepth 8192 in
theorem al_173 (h : Holds V0 s j) : (Host.dynamicUpdateSlice (V0 (Proc.devRef .tc main_v10_16)) (broadcastInDim S1x64x4x128 ![1, 2, 3] bcast_S64x4x128_S1x64x4x128_1_2_3 (addf (mulf (res_main_while0b_v70 V0) (res_main_while0b_v64 V0)) (mulf (mulf (res_main_while0b_v30 V0) (res_main_while0b_v70 V0)) (mulf (res_main_while0b_v64 V0) (subf (broadcastInDim S64x4x128 ![] bcast_S_S64x4x128 (constant S_ .f32 0x3F800000#32)) (res_main_while0b_v64 V0)))))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x64x4x128_S1x64x4x128 : (Proc.devRef .tc main_while0b_v124 : DevRef τ sig).ty.Contents (Elt F)) = Cert.ReferenceIdeal.Step.b173 j s := by
  unfold Cert.ReferenceIdeal.Step.b173
  rw [← al_169 h, ← al_3 h, ← al_170 h, ← al_171 h, ← al_172 h, h.f_16]
  try rfl
set_option maxRecDepth 8192 in
theorem al_174 (h : Holds V0 s j) : (broadcastInDim S1x128 ![1] bcast_S128_S1x128_1 (Host.reduceAdd (shapeCast S1x1x128 (Host.reduceAdd (mulf (res_main_while0b_v55 V0) (res_main_while0b_v71 V0)) (constant S_ .f32 0x00000000#32) reducesTo_S64x4x128_S128_d0_1 h_S_) shapeCasts_S128_S1x1x128) (constant S_ .f32 0x00000000#32) reducesTo_S1x1x128_S128_d0_1 h_S_) : (Proc.devRef .tc main_while0b_call14_v0 : DevRef τ sig).ty.Contents (Elt F)) = Cert.ReferenceIdeal.Step.b174 j s := by
  unfold Cert.ReferenceIdeal.Step.b174
  rw [← al_105 h]
  try rfl
set_option maxRecDepth 8192 in
theorem al_175 (h : Holds V0 s j) : (constantI S_ 32 0#32 : (Proc.devRef .tc main_while0b_call14_c : DevRef τ sig).ty.Contents (Elt F)) = Cert.ReferenceIdeal.Step.b175 j s := by
  unfold Cert.ReferenceIdeal.Step.b175
  rfl
set_option maxRecDepth 8192 in
theorem al_176 (h : Holds V0 s j) : (Host.dynamicUpdateSlice (V0 (Proc.devRef .tc main_v10_17)) (broadcastInDim S1x128 ![1] bcast_S128_S1x128_1 (Host.reduceAdd (shapeCast S1x1x128 (Host.reduceAdd (mulf (res_main_while0b_v55 V0) (res_main_while0b_v71 V0)) (constant S_ .f32 0x00000000#32) reducesTo_S64x4x128_S128_d0_1 h_S_) shapeCasts_S128_S1x1x128) (constant S_ .f32 0x00000000#32) reducesTo_S1x1x128_S128_d0_1 h_S_)) (fun k => (((![res_main_while0b_v22 V0, constantI S_ 32 0#32] : Fin 2 → (⟨S_, .i32⟩ : BufTy).Contents (Elt F))) k (Shape.Idx.first h_S_)).toInt) updateFits_S64x128_S1x128 : (Proc.devRef .tc main_while0b_v125 : DevRef τ sig).ty.Contents (Elt F)) = Cert.ReferenceIdeal.Step.b176 j s := by
  unfold Cert.ReferenceIdeal.Step.b176
  rw [← al_174 h, ← al_3 h, ← al_175 h, h.f_17]
  try rfl

/-! One trip's step of the carried values is `step`, field by field; a counter steps to the next number. -/

theorem step_11 (h : Holds V0 s j) : step_main_v10_11 V0 = (step j s).main_v10_11 := by
  unfold step_main_v10_11 Cert.ReferenceIdeal.Step.step
  show id (addf (addf (mulf (V0 (Proc.devRef .tc main_v10_11)) (broadcastInDim S4x128x128 ![0, 1, 2] bcast_S4x1x1_S4x128x128_0_1_2 (res_main_while0b_v37 V0))) (transpose S4x128x128 [0, 2, 1] (Host.dotGeneral dot_S4x64x128_S4x64x128_S4x128x128_1_1_2_2_0_0 none (res_main_while0b_v96 V0) (res_main_while0b_v27 V0)) transposes_S4x128x128_S4x128x128_0_2_1)) (transpose S4x128x128 [0, 2, 1] (Host.dotGeneral dot_S4x64x128_S4x64x128_S4x128x128_1_1_2_2_0_0 none (res_main_while0b_v115 V0) (res_main_while0b_v25 V0)) transposes_S4x128x128_S4x128x128_0_2_1)) = _
  exact al_147 h
theorem step_12 (h : Holds V0 s j) : step_main_v10_12 V0 = (step j s).main_v10_12 := by
  unfold step_main_v10_12 Cert.ReferenceIdeal.Step.step
  show id (Host.dynamicUpdateSlice (V0 (Proc.devRef .tc main_v10_12)) (broadcastInDim S1x4x64x128 ![1, 2, 3] bcast_S4x64x128_S1x4x64x128_1_2_3 (res_main_while0b_v109 V0)) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128) = _
  exact al_153 h
theorem step_13 (h : Holds V0 s j) : step_main_v10_13 V0 = (step j s).main_v10_13 := by
  unfold step_main_v10_13 Cert.ReferenceIdeal.Step.step
  show id (Host.dynamicUpdateSlice (V0 (Proc.devRef .tc main_v10_13)) (broadcastInDim S1x4x64x128 ![1, 2, 3] bcast_S4x64x128_S1x4x64x128_1_2_3 (Host.dotGeneral dot_S4x64x128_S4x128x128_S4x64x128_2_2_1_1_0_0 none (res_main_while0b_v115 V0) (res_main_while0b_v23 V0))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128) = _
  exact al_158 h
theorem step_14 (h : Holds V0 s j) : step_main_v10_14 V0 = (step j s).main_v10_14 := by
  unfold step_main_v10_14 Cert.ReferenceIdeal.Step.step
  show id (Host.dynamicUpdateSlice (V0 (Proc.devRef .tc main_v10_14)) (broadcastInDim S1x4x64x128 ![1, 2, 3] bcast_S4x64x128_S1x4x64x128_1_2_3 (Host.dotGeneral dot_S4x64x128_S4x128x128_S4x64x128_2_2_1_1_0_0 none (res_main_while0b_v96 V0) (res_main_while0b_v23 V0))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128) = _
  exact al_163 h
theorem step_15 (h : Holds V0 s j) : step_main_v10_15 V0 = (step j s).main_v10_15 := by
  unfold step_main_v10_15 Cert.ReferenceIdeal.Step.step
  show id (Host.dynamicUpdateSlice (V0 (Proc.devRef .tc main_v10_15)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v10_11)) (res_main_while0b_v33 V0)) transposes_S4x128x64_S4x64x128_0_2_1)) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x4x64x128_S1x4x64x128) = _
  exact al_168 h
theorem step_16 (h : Holds V0 s j) : step_main_v10_16 V0 = (step j s).main_v10_16 := by
  unfold step_main_v10_16 Cert.ReferenceIdeal.Step.step
  show id (Host.dynamicUpdateSlice (V0 (Proc.devRef .tc main_v10_16)) (broadcastInDim S1x64x4x128 ![1, 2, 3] bcast_S64x4x128_S1x64x4x128_1_2_3 (addf (mulf (res_main_while0b_v70 V0) (res_main_while0b_v64 V0)) (mulf (mulf (res_main_while0b_v30 V0) (res_main_while0b_v70 V0)) (mulf (res_main_while0b_v64 V0) (subf (broadcastInDim S64x4x128 ![] bcast_S_S64x4x128 (constant S_ .f32 0x3F800000#32)) (res_main_while0b_v64 V0)))))) (fun k => (((![res_main_while0b_v22 V0, constantI S_ 32 0#32, constantI S_ 32 0#32, constantI S_ 32 0#32] : Fin 4 → (⟨S_, .i32⟩ : BufTy).Contents (Elt F))) k (Shape.Idx.first h_S_)).toInt) updateFits_S64x64x4x128_S1x64x4x128) = _
  exact al_173 h
theorem step_17 (h : Holds V0 s j) : step_main_v10_17 V0 = (step j s).main_v10_17 := by
  unfold step_main_v10_17 Cert.ReferenceIdeal.Step.step
  show id (Host.dynamicUpdateSlice (V0 (Proc.devRef .tc main_v10_17)) (broadcastInDim S1x128 ![1] bcast_S128_S1x128_1 (Host.reduceAdd (shapeCast S1x1x128 (Host.reduceAdd (mulf (res_main_while0b_v55 V0) (res_main_while0b_v71 V0)) (constant S_ .f32 0x00000000#32) reducesTo_S64x4x128_S128_d0_1 h_S_) shapeCasts_S128_S1x1x128) (constant S_ .f32 0x00000000#32) reducesTo_S1x1x128_S128_d0_1 h_S_)) (fun k => (((![res_main_while0b_v22 V0, constantI S_ 32 0#32] : Fin 2 → (⟨S_, .i32⟩ : BufTy).Contents (Elt F))) k (Shape.Idx.first h_S_)).toInt) updateFits_S64x128_S1x128) = _
  exact al_176 h
theorem step_10 (h : Holds V0 s j) : step_main_v10_10 V0 = constantI S_ 32 (BitVec.ofNat 32 (j + 1)) := by
  unfold step_main_v10_10
  rw [h.n_10]
  funext i
  show BitVec.ofNat 32 j + 1#32 = BitVec.ofNat 32 (j + 1)
  simp only [BitVec.ofNat_add]

set_option maxRecDepth 8192 in
theorem out_main_v11_holds (h : Holds V0 s j) : out_main_v11 V0 = Cert.ReferenceIdeal.Step.R_main_v11 s := by
  unfold out_main_v11 Cert.ReferenceIdeal.Step.R_main_v11
  rw [h.f_12]
  try rfl

set_option maxRecDepth 8192 in
theorem out_main_v12_holds (h : Holds V0 s j) : out_main_v12 V0 = Cert.ReferenceIdeal.Step.R_main_v12 s := by
  unfold out_main_v12 Cert.ReferenceIdeal.Step.R_main_v12
  rw [h.f_13]
  try rfl

set_option maxRecDepth 8192 in
theorem out_main_v13_holds (h : Holds V0 s j) : out_main_v13 V0 = Cert.ReferenceIdeal.Step.R_main_v13 s := by
  unfold out_main_v13 Cert.ReferenceIdeal.Step.R_main_v13
  rw [h.f_14]
  try rfl

set_option maxRecDepth 8192 in
theorem out_main_v14_holds (h : Holds V0 s j) : out_main_v14 V0 = Cert.ReferenceIdeal.Step.R_main_v14 s := by
  unfold out_main_v14 Cert.ReferenceIdeal.Step.R_main_v14
  rw [h.f_15]
  try rfl

set_option maxRecDepth 8192 in
theorem out_main_v16_holds (h : Holds V0 s j) : out_main_v16 V0 = Cert.ReferenceIdeal.Step.R_main_v16 s := by
  unfold out_main_v16 Cert.ReferenceIdeal.Step.R_main_v16
  rw [h.f_16]
  try rfl

set_option maxRecDepth 8192 in
theorem out_main_v20_holds (h : Holds V0 s j) : out_main_v20 V0 = Cert.ReferenceIdeal.Step.R_main_v20 s := by
  unfold out_main_v20 Cert.ReferenceIdeal.Step.R_main_v20
  rw [h.f_17]
  try rfl

/-- One trip keeps the valuation holding: `step` of the state, the same set-up values, the next number. -/
theorem holds_step (h : Holds V0 s j) : Holds (STEP V0) (step j s) (j + 1) where
  f_11 := (STEP_main_v10_11 V0).trans (step_11 h)
  f_12 := (STEP_main_v10_12 V0).trans (step_12 h)
  f_13 := (STEP_main_v10_13 V0).trans (step_13 h)
  f_14 := (STEP_main_v10_14 V0).trans (step_14 h)
  f_15 := (STEP_main_v10_15 V0).trans (step_15 h)
  f_16 := (STEP_main_v10_16 V0).trans (step_16 h)
  f_17 := (STEP_main_v10_17 V0).trans (step_17 h)
  n_10 := (STEP_main_v10_10 V0).trans (step_10 h)
  f_0 := (STEP_main_v10_0 V0).trans h.f_0
  f_1 := (STEP_main_v10_1 V0).trans h.f_1
  f_2 := (STEP_main_v10_2 V0).trans h.f_2
  f_3 := (STEP_main_v10_3 V0).trans h.f_3
  f_4 := (STEP_main_v10_4 V0).trans h.f_4
  f_5 := (STEP_main_v10_5 V0).trans h.f_5
  f_6 := (STEP_main_v10_6 V0).trans h.f_6
  f_7 := (STEP_main_v10_7 V0).trans h.f_7
  f_8 := (STEP_main_v10_8 V0).trans h.f_8
  f_9 := (STEP_main_v10_9 V0).trans h.f_9

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg7)) (m ((c.tc : Thread nD τ).loc main_arg9))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v11) = Cert.ReferenceIdeal.Step.R_main_v11 (it c 64)
      ∧ r.2.mem ((c.tc : Thread nD τ).loc main_v12) = Cert.ReferenceIdeal.Step.R_main_v12 (it c 64)
      ∧ r.2.mem ((c.tc : Thread nD τ).loc main_v13) = Cert.ReferenceIdeal.Step.R_main_v13 (it c 64)
      ∧ r.2.mem ((c.tc : Thread nD τ).loc main_v14) = Cert.ReferenceIdeal.Step.R_main_v14 (it c 64)
      ∧ r.2.mem ((c.tc : Thread nD τ).loc main_v16) = Cert.ReferenceIdeal.Step.R_main_v16 (it c 64)
      ∧ r.2.mem ((c.tc : Thread nD τ).loc main_v20) = Cert.ReferenceIdeal.Step.R_main_v20 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 64
    ⟨(h c).1.trans (out_main_v11_holds hk), (h c).2.1.trans (out_main_v12_holds hk), (h c).2.2.1.trans (out_main_v13_holds hk), (h c).2.2.2.1.trans (out_main_v14_holds hk), (h c).2.2.2.2.1.trans (out_main_v16_holds hk), (h c).2.2.2.2.2.1.trans (out_main_v20_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Value.run m ρ)

end Cert.Scan.RefRun

end
-- ==== Proof.Spec.lean ====
/- One chunk of the reverse pass, entry by entry over the extended reals: what the gradient of one step of the recurrence is, as
   sums and products of the chunk's entries. Both programs are compared with this text. -/
module

public import Idealize.ShloMosaic.Lib.Pointwise

@[expose] public section

noncomputable section

namespace Cert.Scan

open Idealize.ShloMosaic

/-- The gradient of the state that one chunk hands the chunk before it: by head, row and column. -/
abbrev Grad := Fin 4 → Fin 128 → Fin 128 → EReal

/-- What the step at one chunk reads, by head: the state before it, the chunk's `u`, `w`, `q`, `k`, the mixing block `a`, the decay `l`,
    the gate's input `z`, the norm's weight and the gradient `g` of the gated output. -/
structure Inp where
  S : Fin 4 → Fin 128 → Fin 128 → EReal
  u : Fin 4 → Fin 64 → Fin 128 → EReal
  w : Fin 4 → Fin 64 → Fin 128 → EReal
  a : Fin 4 → Fin 64 → Fin 64 → EReal
  q : Fin 4 → Fin 64 → Fin 128 → EReal
  k : Fin 4 → Fin 64 → Fin 128 → EReal
  l : Fin 4 → EReal
  z : Fin 4 → Fin 64 → Fin 128 → EReal
  nw : Fin 128 → EReal
  g : Fin 4 → Fin 64 → Fin 128 → EReal

namespace Inp

variable (x : Inp) (d : Grad)

/-- The corrected values: `u - w S`. -/
def vn (h : Fin 4) (c : Fin 64) (v : Fin 128) : EReal := x.u h c v - ∑ i, x.w h c i * x.S h i v

/-- The chunk's output before the norm: `q S + a (u - w S)`. -/
def o (h : Fin 4) (c : Fin 64) (v : Fin 128) : EReal := ∑ i, x.q h c i * x.S h i v + ∑ j, x.a h c j * x.vn h j v

/-- The mean square of a row, with the norm's epsilon. -/
def ms (h : Fin 4) (c : Fin 64) : EReal :=
  Ideal.div (∑ v, x.o h c v * x.o h c v) (Ideal.ofBits FTy.f32 0x43000000#32) + Ideal.ofBits FTy.f32 0x358637BD#32

/-- Its reciprocal root. -/
def r (h : Fin 4) (c : Fin 64) : EReal := Ideal.rsqrt (x.ms h c)

/-- The derivative of the reciprocal root. -/
def t (h : Fin 4) (c : Fin 64) : EReal := Ideal.ofBits FTy.f32 0xBF000000#32 * Ideal.div (x.r h c) (x.ms h c)

/-- The normalised row. -/
def y (h : Fin 4) (c : Fin 64) (v : Fin 128) : EReal := x.o h c v * x.r h c

/-- The gate's sigmoid. -/
def sg (h : Fin 4) (c : Fin 64) (v : Fin 128) : EReal := Ideal.logistic (x.z h c v)

/-- The gradient of the gate's factor: the normalised and weighted row times the gradient of the gated output. -/
def yg (h : Fin 4) (c : Fin 64) (v : Fin 128) : EReal := x.y h c v * x.nw v * x.g h c v

/-- The gradient of the gate's input. -/
def dz (h : Fin 4) (c : Fin 64) (v : Fin 128) : EReal :=
  x.yg h c v * x.sg h c v + x.z h c v * x.yg h c v * (x.sg h c v * (1 - x.sg h c v))

/-- The gradient of the normalised and weighted row. -/
def gz (h : Fin 4) (c : Fin 64) (v : Fin 128) : EReal := x.g h c v * (x.z h c v * x.sg h c v)

/-- What the chunk adds to the gradient of the norm's weight. -/
def dnw (v : Fin 128) : EReal := ∑ h, ∑ c, x.y h c v * x.gz h c v

/-- The gradient of the normalised row. -/
def gn (h : Fin 4) (c : Fin 64) (v : Fin 128) : EReal := x.gz h c v * x.nw v

/-- The gradient that reaches a row through its mean square, half of it. -/
def e (h : Fin 4) (c : Fin 64) : EReal := Ideal.div ((∑ v, x.o h c v * x.gn h c v) * x.t h c) (Ideal.ofBits FTy.f32 0x43000000#32)

/-- The gradient of the output before the norm. -/
def do' (h : Fin 4) (c : Fin 64) (v : Fin 128) : EReal :=
  x.gn h c v * x.r h c + x.o h c v * x.e h c + x.e h c * x.o h c v

/-- The gradient of the corrected values, which is that of `u`. -/
def du (h : Fin 4) (c : Fin 64) (v : Fin 128) : EReal := ∑ i, d h i v * x.k h c i + ∑ i, x.do' h i v * x.a h i c

/-- The gradient of `w`. -/
def dw (h : Fin 4) (c : Fin 64) (i : Fin 128) : EReal := ∑ v, -(x.du d h c v) * x.S h i v

/-- The gradient of `q`. -/
def dq (h : Fin 4) (c : Fin 64) (i : Fin 128) : EReal := ∑ v, x.do' h c v * x.S h i v

/-- The gradient of `k`. -/
def dk (h : Fin 4) (c : Fin 64) (i : Fin 128) : EReal := ∑ v, d h i v * x.vn h c v

/-- The gradient of the state before the chunk. -/
def next : Grad := fun h i v =>
  d h i v * x.l h + ∑ c, x.do' h c v * x.q h c i + ∑ c, -(x.du d h c v) * x.w h c i

end Inp

end Cert.Scan

end
-- ==== Proof.Rec.lean ====
/- The reverse pass over the chunks: the gradient of the state that every chunk starts from, and the step's entries as entries of the
   arguments. -/
module

public import proofs.«01_k».proof.Proof.Spec

@[expose] public section

noncomputable section

namespace Cert.Scan

open Idealize.ShloMosaic

/-- The gradient of the state after `j` chunks of the reverse pass, the last chunk first. -/
def D (Y : Fin 64 → Inp) : ℕ → Grad
  | 0 => fun _ _ _ => 0
  | j + 1 => (Y (Fin.ofNat 64 (63 - j))).next (D Y j)

/-- Row `c` of head `h` of chunk `n`, all stacked. -/
def rowN (n : Fin 64) (h : Fin 4) (c : Fin 64) : Fin 16384 := ⟨256 * n.val + 64 * h.val + c.val, by omega⟩
/-- Row `k` of the state of head `h` before chunk `n`, all stacked. -/
def rowK (n : Fin 64) (h : Fin 4) (k : Fin 128) : Fin 32768 := ⟨512 * n.val + 128 * h.val + k.val, by omega⟩
/-- Token `c` of chunk `n`. -/
def tok (n c : Fin 64) : Fin 4096 := ⟨64 * n.val + c.val, by omega⟩
/-- Column `v` of head `h`, the heads side by side. -/
def lane (h : Fin 4) (v : Fin 128) : Fin 512 := ⟨128 * h.val + v.val, by omega⟩
/-- That column among the projection's. -/
def gate (h : Fin 4) (v : Fin 128) : Fin 3072 := ⟨2560 + 128 * h.val + v.val, by omega⟩

/-- What the step at chunk `n` reads of the arguments. -/
def inputs (u w : (⟨4, ![64, 4, 64, 128]⟩ : Shape).Idx → EReal) (a : (⟨4, ![64, 4, 64, 64]⟩ : Shape).Idx → EReal)
    (q k : (⟨4, ![64, 4, 64, 128]⟩ : Shape).Idx → EReal) (l : (⟨2, ![64, 4]⟩ : Shape).Idx → EReal)
    (S : (⟨4, ![64, 4, 128, 128]⟩ : Shape).Idx → EReal) (p : (⟨2, ![4096, 3072]⟩ : Shape).Idx → EReal)
    (nw : (⟨1, ![128]⟩ : Shape).Idx → EReal) (g : (⟨2, ![4096, 512]⟩ : Shape).Idx → EReal) (n : Fin 64) : Inp where
  S h k v := S (ix4 n h k v)
  u h c v := u (ix4 n h c v)
  w h c v := w (ix4 n h c v)
  a h c i := a (ix4 n h c i)
  q h c v := q (ix4 n h c v)
  k h c v := k (ix4 n h c v)
  l h := l (ix2 n h)
  z h c v := p (ix2 (tok n c) (gate h v))
  nw v := nw (ix1 v)
  g h c v := g (ix2 (tok n c) (lane h v))

/-- Every index of the stacked rows is a chunk's, a head's row. -/
theorem exists_rowN (r : Fin 16384) : ∃ n h c, rowN n h c = r :=
  ⟨⟨r.val / 256, by omega⟩, ⟨r.val % 256 / 64, by omega⟩, ⟨r.val % 64, by omega⟩, Fin.ext (by simp only [rowN]; omega)⟩
theorem exists_tok (r : Fin 4096) : ∃ n c, tok n c = r :=
  ⟨⟨r.val / 64, by omega⟩, ⟨r.val % 64, by omega⟩, Fin.ext (by simp only [tok]; omega)⟩
theorem exists_lane (r : Fin 512) : ∃ h v, lane h v = r :=
  ⟨⟨r.val / 128, by omega⟩, ⟨r.val % 128, by omega⟩, Fin.ext (by simp only [lane]; omega)⟩

end Cert.Scan

end
-- ==== Proof.RefChunk.lean ====
/- One trip of the reference's loop, entry by entry: what it adds to each carried array is the gradient of one chunk. -/
module

public import proofs.«01_k».proof.Proof.Spec
public import proofs.«01_k».proof.Proof.Gen.ReferenceIdeal.Step

@[expose] public section

noncomputable section

namespace Cert.Scan.Ref

open Idealize.ShloMosaic Cert.ReferenceIdeal Cert.ReferenceIdeal.Gen Cert.ReferenceIdeal.Step

/-! ## Sums over the two leading axes -/

theorem drop01 {n0 n1 n2 : ℕ} (h : (⟨3, ![n0, n1, n2]⟩ : Shape).ReducesTo [0, 1] ⟨1, ![n2]⟩) (v : Fin n2) (i : (⟨3, ![n0, n1, n2]⟩ : Shape).Idx) :
    h.drop i = ix1 v ↔ ∃ k : Fin n0 × Fin n1, ix3 k.1 k.2 v = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    apply Fin.ext
    match b with
    | ⟨0, _⟩ => rfl

theorem sum01 {n0 n1 n2 : ℕ} (h : (⟨3, ![n0, n1, n2]⟩ : Shape).ReducesTo [0, 1] ⟨1, ![n2]⟩) (x : (⟨3, ![n0, n1, n2]⟩ : Shape).Idx → EReal)
    (a : EReal) (v : Fin n2) : Ideal.hostReduceAdd h x a (ix1 v) = a + ∑ c, ∑ k, x (ix3 c k v) := by
  unfold Ideal.hostReduceAdd
  refine congrArg (a + ·) ?_
  refine (Finset.sum_filter_eq_sum_of_fiber _ (fun k : Fin n0 × Fin n1 => ix3 k.1 k.2 v)
    (fun _ _ e => Prod.ext (congrFun e 0) (congrFun e 1)) (drop01 h v) x).trans ?_
  simp only [Fintype.sum_prod_type]

/-! ## Where a trip reads and writes -/

theorem start (j : Fin 64) : ((64#32 - BitVec.ofNat 32 j.val) - 1#32).toInt = ((63 - j.val : ℕ) : ℤ) := by
  revert j; decide

variable (s : State Ideal) (j : Fin 64)

/-- Trip `j` is at chunk `63 - j`. -/
theorem b3_at (i : S_.Idx) : (b3 j.val s i).toInt = ((63 - j.val : ℕ) : ℤ) := start j

theorem b8_at (h : Fin 4) (k v : Fin 128) : b8 j.val s (ix3 h k v) = s.main_v10_0 (ix4 j.rev h k v) := by
  pointwise [b8, b7, b6, b5, b4]
  refine congrArg _ ?_
  congr 1 <;> apply Fin.ext <;> simp [Host.clampedStart, b3_at, constantI, Fin.rev] <;> omega

theorem b13_at (h : Fin 4) (c : Fin 64) (v : Fin 128) : b13 j.val s (ix3 h c v) = s.main_v10_1 (ix4 j.rev h c v) := by
  pointwise [b13, b12, b11, b10, b9]
  refine congrArg _ ?_
  congr 1 <;> apply Fin.ext <;> simp [Host.clampedStart, b3_at, constantI, Fin.rev] <;> omega

theorem b18_at (h : Fin 4) (c : Fin 64) (v : Fin 128) : b18 j.val s (ix3 h c v) = s.main_v10_2 (ix4 j.rev h c v) := by
  pointwise [b18, b17, b16, b15, b14]
  refine congrArg _ ?_
  congr 1 <;> apply Fin.ext <;> simp [Host.clampedStart, b3_at, constantI, Fin.rev] <;> omega

theorem b23_at (h : Fin 4) (c i : Fin 64) : b23 j.val s (ix3 h c i) = s.main_v10_3 (ix4 j.rev h c i) := by
  pointwise [b23, b22, b21, b20, b19]
  refine congrArg _ ?_
  congr 1 <;> apply Fin.ext <;> simp [Host.clampedStart, b3_at, constantI, Fin.rev] <;> omega

theorem b28_at (h : Fin 4) (c : Fin 64) (v : Fin 128) : b28 j.val s (ix3 h c v) = s.main_v10_4 (ix4 j.rev h c v) := by
  pointwise [b28, b27, b26, b25, b24]
  refine congrArg _ ?_
  congr 1 <;> apply Fin.ext <;> simp [Host.clampedStart, b3_at, constantI, Fin.rev] <;> omega

theorem b33_at (h : Fin 4) (c : Fin 64) (v : Fin 128) : b33 j.val s (ix3 h c v) = s.main_v10_5 (ix4 j.rev h c v) := by
  pointwise [b33, b32, b31, b30, b29]
  refine congrArg _ ?_
  congr 1 <;> apply Fin.ext <;> simp [Host.clampedStart, b3_at, constantI, Fin.rev] <;> omega

theorem b41_at (c : Fin 64) (h : Fin 4) (v : Fin 128) : b41 j.val s (ix3 c h v) = s.main_v10_7 (ix4 j.rev c h v) := by
  pointwise [b41, b40, b39, b38, b37]
  refine congrArg _ ?_
  congr 1 <;> apply Fin.ext <;> simp [Host.clampedStart, b3_at, constantI, Fin.rev] <;> omega

theorem b46_at (c : Fin 64) (h : Fin 4) (v : Fin 128) : b46 j.val s (ix3 c h v) = s.main_v10_8 (ix4 j.rev c h v) := by
  pointwise [b46, b45, b44, b43, b42]
  refine congrArg _ ?_
  congr 1 <;> apply Fin.ext <;> simp [Host.clampedStart, b3_at, constantI, Fin.rev] <;> omega

theorem b36_at (h : Fin 4) : b36 j.val s (ix1 h) = s.main_v10_6 (ix2 j.rev h) := by
  pointwise [b36, b35, b34]
  refine congrArg _ ?_
  congr 1 <;> apply Fin.ext <;> simp [Host.clampedStart, b3_at, constantI, Fin.rev] <;> omega

theorem b153_at (n : Fin 64) (h : Fin 4) (c : Fin 64) (v : Fin 128) : b153 j.val s (ix4 n h c v) = if n = j.rev then b138 j.val s (ix3 h c v) else s.main_v10_12 (ix4 n h c v) := by
  pointwise [b153, b149, b150, b151, b152]
  simp [Host.clampedStart, b3_at, constantI]
  exact if_congr (by rw [Fin.ext_iff, Fin.val_rev]; have := n.isLt; have := j.isLt; omega) rfl rfl

theorem b158_at (n : Fin 64) (h : Fin 4) (c : Fin 64) (v : Fin 128) : b158 j.val s (ix4 n h c v) = if n = j.rev then b148 j.val s (ix3 h c v) else s.main_v10_13 (ix4 n h c v) := by
  pointwise [b158, b154, b155, b156, b157]
  simp [Host.clampedStart, b3_at, constantI]
  exact if_congr (by rw [Fin.ext_iff, Fin.val_rev]; have := n.isLt; have := j.isLt; omega) rfl rfl

theorem b163_at (n : Fin 64) (h : Fin 4) (c : Fin 64) (v : Fin 128) : b163 j.val s (ix4 n h c v) = if n = j.rev then b143 j.val s (ix3 h c v) else s.main_v10_14 (ix4 n h c v) := by
  pointwise [b163, b159, b160, b161, b162]
  simp [Host.clampedStart, b3_at, constantI]
  exact if_congr (by rw [Fin.ext_iff, Fin.val_rev]; have := n.isLt; have := j.isLt; omega) rfl rfl

theorem b168_at (n : Fin 64) (h : Fin 4) (c : Fin 64) (v : Fin 128) : b168 j.val s (ix4 n h c v) = if n = j.rev then b127 j.val s (ix3 h c v) else s.main_v10_15 (ix4 n h c v) := by
  pointwise [b168, b164, b165, b166, b167]
  simp [Host.clampedStart, b3_at, constantI]
  exact if_congr (by rw [Fin.ext_iff, Fin.val_rev]; have := n.isLt; have := j.isLt; omega) rfl rfl

theorem b173_at (n : Fin 64) (c : Fin 64) (h : Fin 4) (v : Fin 128) : b173 j.val s (ix4 n c h v) = if n = j.rev then b97 j.val s (ix3 c h v) else s.main_v10_16 (ix4 n c h v) := by
  pointwise [b173, b169, b170, b171, b172]
  simp [Host.clampedStart, b3_at, constantI]
  exact if_congr (by rw [Fin.ext_iff, Fin.val_rev]; have := n.isLt; have := j.isLt; omega) rfl rfl

theorem b176_at (n : Fin 64) (v : Fin 128) : b176 j.val s (ix2 n v) = if n = j.rev then b105 j.val s (ix1 v) else s.main_v10_17 (ix2 n v) := by
  pointwise [b176, b174, b175]
  simp [Host.clampedStart, b3_at, constantI]
  exact if_congr (by rw [Fin.ext_iff, Fin.val_rev]; have := n.isLt; have := j.isLt; omega) rfl rfl

/-! ## The chunk -/

/-- What a trip reads at chunk `63 - j`. -/
def inp : Inp where
  S h k v := s.main_v10_0 (ix4 j.rev h k v)
  u h c v := s.main_v10_1 (ix4 j.rev h c v)
  w h c v := s.main_v10_2 (ix4 j.rev h c v)
  a h c i := s.main_v10_3 (ix4 j.rev h c i)
  q h c v := s.main_v10_4 (ix4 j.rev h c v)
  k h c v := s.main_v10_5 (ix4 j.rev h c v)
  l h := s.main_v10_6 (ix2 j.rev h)
  z h c v := s.main_v10_7 (ix4 j.rev c h v)
  g h c v := s.main_v10_8 (ix4 j.rev c h v)
  nw v := s.main_v10_9 (ix1 v)

/-- The gradient of the state that a trip starts from. -/
def grd : Grad := fun h k v => s.main_v10_11 (ix3 h k v)

variable (h : Fin 4) (c : Fin 64) (v i : Fin 128)

theorem vn_at : b48 j.val s (ix3 h c v) = (inp s j).vn h c v := by
  pointwise [b48, b47]
  simp only [b8_at, b13_at, b18_at]
  rfl
theorem o_at : b51 j.val s (ix3 h c v) = (inp s j).o h c v := by
  pointwise [b51, b50, b49]
  simp only [b8_at, b23_at, b28_at, vn_at]
  rfl
theorem oT_at : b57 j.val s (ix3 c h v) = (inp s j).o h c v := by
  pointwise [b57]
  exact o_at s j h c v
theorem ms_at : b67 j.val s (ix3 c h 0) = (inp s j).ms h c := by
  pointwise [b67, b66, b65, b64, b63, b62, b61, b60, b59, b58]
  simp only [oT_at]
  first | rfl | (simp only [Ideal.ofBits_zero_f32, zero_add]; rfl)
theorem r_at : b68 j.val s (ix3 c h 0) = (inp s j).r h c := by
  pointwise [b68]
  simp only [ms_at]
  rfl
theorem t_at : b72 j.val s (ix3 c h 0) = (inp s j).t h c := by
  pointwise [b72, b71, b70, b69]
  simp only [ms_at, r_at]
  rfl
theorem y_at : b74 j.val s (ix3 c h v) = (inp s j).y h c v := by
  pointwise [b74, b73]
  simp only [oT_at, r_at]
  rfl
theorem sg_at : b85 j.val s (ix3 c h v) = (inp s j).sg h c v := by
  pointwise [b85, b84, b83, b82, b81, b80, b79, b78]
  simp only [b41_at]
  rfl
theorem nw_at : b77 j.val s (ix3 c h v) = (inp s j).y h c v * (inp s j).nw v := by
  pointwise [b77, b76, b75]
  simp only [y_at]
  rfl
theorem yg_at : b92 j.val s (ix3 c h v) = (inp s j).yg h c v := by
  pointwise [b92]
  simp only [nw_at, b46_at]
  rfl
theorem dz_at : b97 j.val s (ix3 c h v) = (inp s j).dz h c v := by
  pointwise [b97, b96, b95, b94, b89, b88, b87, b86]
  simp only [yg_at, sg_at, b41_at]
  first | rfl | (simp only [Ideal.ofBits_one_f32]; rfl)
theorem gz_at : b93 j.val s (ix3 c h v) = (inp s j).gz h c v := by
  pointwise [b93, b90]
  simp only [sg_at, b41_at, b46_at]
  rfl
theorem dnw_at : b105 j.val s (ix1 v) = (inp s j).dnw v := by
  have e : b100 j.val s (ix1 v) = ∑ c, ∑ h, b98 j.val s (ix3 c h v) := by
    refine (sum01 reducesTo_S64x4x128_S128_d0_1 (b98 j.val s) _ v).trans ?_
    pointwise [b99]
  refine (sum01 reducesTo_S1x1x128_S128_d0_1 (b101 j.val s) _ v).trans ?_
  pointwise [b104, b101]
  simp only [Finset.univ_unique, Finset.sum_singleton]
  refine e.trans ?_
  rw [Finset.sum_comm]
  pointwise [b98]
  simp only [y_at, gz_at]
  rfl
theorem gn_at : b103 j.val s (ix3 c h v) = (inp s j).gn h c v := by
  pointwise [b103, b102, b75]
  simp only [gz_at]
  rfl
theorem e_at : b117 j.val s (ix2 c h) = (inp s j).e h c := by
  pointwise [b117, b116, b115, b114, b113, b112, b109, b108, b107, b106]
  simp only [Finset.univ_unique, Finset.sum_singleton, Fin.default_eq_zero]
  simp only [gn_at, oT_at, t_at]
  rfl
theorem do_at : b123 j.val s (ix3 h c v) = (inp s j).do' h c v := by
  pointwise [b123, b122, b121, b120, b119, b118, b111, b110]
  simp only [gn_at, oT_at, e_at, r_at]
  rfl
theorem du_at : b138 j.val s (ix3 h c v) = (inp s j).du (grd s) h c v := by
  pointwise [b138, b137, b136, b125, b124]
  simp only [b33_at, b23_at, do_at]
  rfl
theorem dk_at : b127 j.val s (ix3 h c i) = (inp s j).dk (grd s) h c i := by
  pointwise [b127, b126]
  simp only [vn_at]
  rfl
theorem dq_at : b143 j.val s (ix3 h c i) = (inp s j).dq h c i := by
  pointwise [b143]
  simp only [b8_at, do_at]
  rfl
theorem dw_at : b148 j.val s (ix3 h c i) = (inp s j).dw (grd s) h c i := by
  pointwise [b148, b144]
  simp only [b8_at, du_at]
  rfl
theorem next_at : b147 j.val s (ix3 h i v) = (inp s j).next (grd s) h i v := by
  pointwise [b147, b146, b145, b144, b142, b141, b140, b133, b132, b52]
  simp only [b36_at, b28_at, b18_at, do_at, du_at]
  rfl

end Cert.Scan.Ref

end
-- ==== Proof.RefIter.lean ====
/- The reference's loop: after its 64 trips every carried array holds, chunk by chunk, the gradient of that chunk. -/
module

public import proofs.«01_k».proof.Proof.Rec
public import proofs.«01_k».proof.Proof.RefChunk

@[expose] public section

noncomputable section

namespace Cert.Scan.Ref

open Idealize.ShloMosaic Cert.ReferenceIdeal Cert.ReferenceIdeal.Gen Cert.ReferenceIdeal.Step

/-- A row that every trip writes at its own place and nowhere else. -/
theorem filled {α : Type} (f : ℕ → Fin 64 → α) (g : Fin 64 → α)
    (hs : ∀ (j : Fin 64) (n : Fin 64), f (j.val + 1) n = if n = j.rev then g n else f j.val n) (n : Fin 64) : f 64 n = g n := by
  have key : ∀ j, j ≤ 64 → 63 - n.val < j → f j n = g n := by
    intro j
    induction j with
    | zero => intro _ h; omega
    | succ j ih =>
      intro h1 h2
      rw [hs ⟨j, by omega⟩ n]
      split_ifs with e
      · rfl
      · refine ih (by omega) ?_
        have : n.val ≠ 63 - j := fun h => e (Fin.ext (by rw [Fin.val_rev]; show n.val = 64 - (j + 1); omega))
        omega
  exact key 64 (le_refl _) (by omega)

variable (it : ℕ → State Ideal) (hs : ∀ n, it (n + 1) = step n (it n))

theorem inp_step (j : ℕ) (s : State Ideal) (i : Fin 64) : inp (step j s) i = inp s i := rfl

include hs

theorem inp_it (i : Fin 64) : ∀ j, inp (it j) i = inp (it 0) i
  | 0 => rfl
  | j + 1 => by rw [hs j, inp_step]; exact inp_it i j

variable (Y : Fin 64 → Inp) (hY : ∀ i : Fin 64, inp (it 0) i = Y i.rev) (h0 : ∀ i, (it 0).main_v10_11 i = 0)
include hY h0

theorem inp_eq (j : Fin 64) : inp (it j.val) j = Y j.rev := (inp_it it hs j j.val).trans (hY j)

theorem grd_it : ∀ j, j ≤ 64 → grd (it j) = D Y j
  | 0, _ => by funext h k v; exact h0 _
  | j + 1, hj => by
    have e := inp_eq it hs Y hY h0 ⟨j, by omega⟩
    have ih := grd_it j (by omega)
    rw [hs j]
    funext h k v
    show b147 j (it j) (ix3 h k v) = _
    rw [show b147 j (it j) (ix3 h k v) = _ from next_at (it j) ⟨j, by omega⟩ h v k, e, ih]
    show (Y (Fin.rev ⟨j, _⟩)).next (D Y j) h k v = (Y (Fin.ofNat 64 (63 - j))).next (D Y j) h k v
    rw [show (Fin.rev (⟨j, by omega⟩ : Fin 64)) = Fin.ofNat 64 (63 - j) from Fin.ext (by rw [Fin.val_rev]; show 64 - (j + 1) = (63 - j) % 64; omega)]

theorem grd_eq (j : Fin 64) : grd (it j.val) = D Y (63 - j.rev.val) := by
  rw [grd_it it hs Y hY h0 j.val (by omega), show j.val = 63 - j.rev.val by rw [Fin.val_rev]; omega]

variable (n : Fin 64) (h : Fin 4) (c : Fin 64) (v : Fin 128)

theorem du_it : (it 64).main_v10_12 (ix4 n h c v) = (Y n).du (D Y (63 - n.val)) h c v :=
  filled (fun j n => (it j).main_v10_12 (ix4 n h c v)) (fun n => (Y n).du (D Y (63 - n.val)) h c v) (fun j n => by
    show (it (j.val + 1)).main_v10_12 (ix4 n h c v) = _
    rw [hs]
    refine (b153_at (it j.val) j n h c v).trans ?_
    split_ifs with e
    · rw [du_at, inp_eq it hs Y hY h0, grd_eq it hs Y hY h0, e]
    · rfl) n
theorem dw_it : (it 64).main_v10_13 (ix4 n h c v) = (Y n).dw (D Y (63 - n.val)) h c v :=
  filled (fun j n => (it j).main_v10_13 (ix4 n h c v)) (fun n => (Y n).dw (D Y (63 - n.val)) h c v) (fun j n => by
    show (it (j.val + 1)).main_v10_13 (ix4 n h c v) = _
    rw [hs]
    refine (b158_at (it j.val) j n h c v).trans ?_
    split_ifs with e
    · rw [dw_at, inp_eq it hs Y hY h0, grd_eq it hs Y hY h0, e]
    · rfl) n
theorem dq_it : (it 64).main_v10_14 (ix4 n h c v) = (Y n).dq h c v :=
  filled (fun j n => (it j).main_v10_14 (ix4 n h c v)) (fun n => (Y n).dq h c v) (fun j n => by
    show (it (j.val + 1)).main_v10_14 (ix4 n h c v) = _
    rw [hs]
    refine (b163_at (it j.val) j n h c v).trans ?_
    split_ifs with e
    · rw [dq_at, inp_eq it hs Y hY h0, e]
    · rfl) n
theorem dk_it : (it 64).main_v10_15 (ix4 n h c v) = (Y n).dk (D Y (63 - n.val)) h c v :=
  filled (fun j n => (it j).main_v10_15 (ix4 n h c v)) (fun n => (Y n).dk (D Y (63 - n.val)) h c v) (fun j n => by
    show (it (j.val + 1)).main_v10_15 (ix4 n h c v) = _
    rw [hs]
    refine (b168_at (it j.val) j n h c v).trans ?_
    split_ifs with e
    · rw [dk_at, inp_eq it hs Y hY h0, grd_eq it hs Y hY h0, e]
    · rfl) n
theorem dz_it : (it 64).main_v10_16 (ix4 n c h v) = (Y n).dz h c v :=
  filled (fun j n => (it j).main_v10_16 (ix4 n c h v)) (fun n => (Y n).dz h c v) (fun j n => by
    show (it (j.val + 1)).main_v10_16 (ix4 n c h v) = _
    rw [hs]
    refine (b173_at (it j.val) j n c h v).trans ?_
    split_ifs with e
    · rw [dz_at, inp_eq it hs Y hY h0, e]
    · rfl) n
theorem dnw_it : (it 64).main_v10_17 (ix2 n v) = (Y n).dnw v :=
  filled (fun j n => (it j).main_v10_17 (ix2 n v)) (fun n => (Y n).dnw v) (fun j n => by
    show (it (j.val + 1)).main_v10_17 (ix2 n v) = _
    rw [hs]
    refine (b176_at (it j.val) j n v).trans ?_
    split_ifs with e
    · rw [dnw_at, inp_eq it hs Y hY h0, e]
    · rfl) n

omit hs hY h0

/-! ## The results, and what the first trip starts from -/

variable (s : State Ideal)

theorem R11_at : R_main_v11 s (ix2 (rowN n h c) v) = s.main_v10_12 (ix4 n h c v) := by
  pointwise [R_main_v11]
  refine congrArg _ ?_
  congr 1 <;> apply Fin.ext <;> simp [rowN] <;> omega
theorem R12_at : R_main_v12 s (ix2 (rowN n h c) v) = s.main_v10_13 (ix4 n h c v) := by
  pointwise [R_main_v12]
  refine congrArg _ ?_
  congr 1 <;> apply Fin.ext <;> simp [rowN] <;> omega
theorem R13_at : R_main_v13 s (ix2 (rowN n h c) v) = s.main_v10_14 (ix4 n h c v) := by
  pointwise [R_main_v13]
  refine congrArg _ ?_
  congr 1 <;> apply Fin.ext <;> simp [rowN] <;> omega
theorem R14_at : R_main_v14 s (ix2 (rowN n h c) v) = s.main_v10_15 (ix4 n h c v) := by
  pointwise [R_main_v14]
  refine congrArg _ ?_
  congr 1 <;> apply Fin.ext <;> simp [rowN] <;> omega
theorem R16_at : R_main_v16 s (ix2 (tok n c) (lane h v)) = s.main_v10_16 (ix4 n c h v) := by
  pointwise [R_main_v16]
  refine congrArg _ ?_
  congr 1 <;> apply Fin.ext <;> simp [tok, lane] <;> omega
theorem R20_at (r : Fin 8) : R_main_v20 s (ix2 r v) = if r = 0 then ∑ n, s.main_v10_17 (ix2 n v) else 0 := by
  pointwise [R_main_v20]
  refine if_congr ?_ rfl rfl
  rw [Fin.ext_iff]; show _ ↔ r.val = 0; omega

variable (u w : (⟨S64x4x64x128, .f32⟩ : BufTy).Contents (Elt Ideal)) (a : (⟨S64x4x64x64, .f32⟩ : BufTy).Contents (Elt Ideal))
  (q k : (⟨S64x4x64x128, .f32⟩ : BufTy).Contents (Elt Ideal)) (l : (⟨S64x4, .f32⟩ : BufTy).Contents (Elt Ideal))
  (S : (⟨S64x4x128x128, .f32⟩ : BufTy).Contents (Elt Ideal)) (p : (⟨S4096x3072, .f32⟩ : BufTy).Contents (Elt Ideal))
  (nw : (⟨S128, .f32⟩ : BufTy).Contents (Elt Ideal)) (g : (⟨S4096x512, .f32⟩ : BufTy).Contents (Elt Ideal))

theorem z_init : A_main_v2 p g (ix4 n c h v) = p (ix2 (tok n c) (gate h v)) := by
  pointwise [A_main_v2, A_main_v1]
  refine congrArg _ ?_
  congr 1 <;> apply Fin.ext <;> simp [tok, gate] <;> omega
theorem g_init : A_main_v3 p g (ix4 n c h v) = g (ix2 (tok n c) (lane h v)) := by
  pointwise [A_main_v3]
  refine congrArg _ ?_
  congr 1 <;> apply Fin.ext <;> simp [tok, lane] <;> omega
theorem inp_init (i : Fin 64) : inp (init S u w a q k l nw p g) i = inputs u w a q k l S p nw g i.rev := by
  unfold inp inputs init
  simp only [z_init, g_init]
theorem zero_init (i : S4x128x128.Idx) : (init S u w a q k l nw p g).main_v10_11 i = 0 := by
  show K_main_v0 (F := Ideal) i = 0
  pointwise [K_main_v0, K_main_cst]

end Cert.Scan.Ref

end
-- ==== Proof.Voc.lean ====
/- One chunk of the kernel's body as one set of definitions: what the body computes from the blocks it loads and from the gradient of the
   state. The body holds this computation eight times over, once for every chunk of a grid point. -/
module

public import proofs.«01_k».proof.Proof.Gen.KernelIdeal.Skeleton

@[expose] public section

noncomputable section

namespace Cert.Scan.Voc

open Idealize.ShloMosaic Cert.KernelIdeal Cert.KernelIdeal.Gen

variable {F : FTy → Type} [FloatOps F]

/-- The blocks one chunk loads: the states of the four heads, then `u`, `w`, `q`, `k`, the mixing block, the decay, the gate's input, the
    gradient of the gated output and the norm's weight. -/
structure Ins (F : FTy → Type) [FloatOps F] where
  s0 : Vec F S128x128 .f32
  s1 : Vec F S128x128 .f32
  s2 : Vec F S128x128 .f32
  s3 : Vec F S128x128 .f32
  u : Vec F S256x128 .f32
  w : Vec F S256x128 .bf16
  q : Vec F S256x128 .bf16
  k : Vec F S256x128 .bf16
  a : Vec F S256x256 .bf16
  e : Vec F S256x128 .f32
  z : Vec F S64x512 .f32
  g : Vec F S64x512 .f32
  nw : Vec F S1x128 .f32

/-- The gradient of the state, a block a head. -/
structure Dn (F : FTy → Type) [FloatOps F] where
  d0 : FVec F S128x128 .f32
  d1 : FVec F S128x128 .f32
  d2 : FVec F S128x128 .f32
  d3 : FVec F S128x128 .f32

/-! ## Rows of the heads -/

def h0 (v : FVec F S256x128 .f32) : FVec F S64x128 .f32 := extractStridedSlice S64x128 ![0, 0] v slices_S256x128_o0_0_S64x128
def h1 (v : FVec F S256x128 .f32) : FVec F S64x128 .f32 := extractStridedSlice S64x128 ![64, 0] v slices_S256x128_o64_0_S64x128
def h2 (v : FVec F S256x128 .f32) : FVec F S64x128 .f32 := extractStridedSlice S64x128 ![128, 0] v slices_S256x128_o128_0_S64x128
def h3 (v : FVec F S256x128 .f32) : FVec F S64x128 .f32 := extractStridedSlice S64x128 ![192, 0] v slices_S256x128_o192_0_S64x128
def cat (a b c d : FVec F S64x128 .f32) : FVec F S256x128 .f32 :=
  concatenate S256x128 0 [⟨S64x128, a⟩, ⟨S64x128, b⟩, ⟨S64x128, c⟩, ⟨S64x128, d⟩] concatenates_S64x128_S64x128_S64x128_S64x128_S256x128_d0
/-- A block of tokens by heads, stacked head by head. -/
def stack (z : FVec F S64x512 .f32) : FVec F S256x128 .f32 :=
  cat (extractStridedSlice S64x128 ![0, 0] z slices_S64x512_o0_0_S64x128) (extractStridedSlice S64x128 ![0, 128] z slices_S64x512_o0_128_S64x128)
    (extractStridedSlice S64x128 ![0, 256] z slices_S64x512_o0_256_S64x128) (extractStridedSlice S64x128 ![0, 384] z slices_S64x512_o0_384_S64x128)
/-- And back. -/
def unstack (v : FVec F S256x128 .f32) : FVec F S64x512 .f32 :=
  concatenate S64x512 1 [⟨S64x128, h0 v⟩, ⟨S64x128, h1 v⟩, ⟨S64x128, h2 v⟩, ⟨S64x128, h3 v⟩] concatenates_S64x128_S64x128_S64x128_S64x128_S64x512_d1

/-! ## Products -/

def b64 (v : FVec F S64x128 .f32) : FVec F S64x128 .bf16 := truncf .bf16 v bitsLt_bf16_f32
def b128 (v : FVec F S128x128 .f32) : FVec F S128x128 .bf16 := truncf .bf16 v bitsLt_bf16_f32
def b256 (v : FVec F S256x128 .f32) : FVec F S256x128 .bf16 := truncf .bf16 v bitsLt_bf16_f32
/-- rows times state -/
def mulS (a : FVec F S64x128 .bf16) (s : FVec F S128x128 .bf16) : FVec F S64x128 .f32 :=
  matmul dot_S64x128_S128x128_S64x128_1_0_0_1_n_n none a s (constant S64x128 .f32 0x00000000#32)
/-- rows times transposed state, rounded -/
def mulST (a : FVec F S64x128 .f32) (s : FVec F S128x128 .bf16) : FVec F S64x128 .f32 :=
  extf .f32 (truncf .bf16 (matmul dot_S64x128_S128x128_S64x128_1_1_0_0_n_n none a s (constant S64x128 .f32 0x00000000#32)) bitsLt_bf16_f32) bitsLt_bf16_f32
/-- transposed rows times rows, transposed and rounded -/
def outer (a : FVec F S64x128 .f32) (b : FVec F S64x128 .bf16) : FVec F S128x128 .f32 :=
  extf .f32 (truncf .bf16 (transpose S128x128 [1, 0] (matmul dot_S64x128_S64x128_S128x128_0_0_1_1_n_n none a b (constant S128x128 .f32 0x00000000#32))
    transposes_S128x128_p1_0_S128x128) bitsLt_bf16_f32) bitsLt_bf16_f32
/-- a state's gradient times rows, over its rows, transposed and rounded -/
def gradT (d : FVec F S128x128 .f32) (b : FVec F S64x128 .bf16) : FVec F S64x128 .f32 :=
  extf .f32 (truncf .bf16 (transpose S64x128 [1, 0] (matmul dot_S128x128_S64x128_S128x64_0_1_1_0_n_n none d b (constant S128x64 .f32 0x00000000#32))
    transposes_S128x64_p1_0_S64x128) bitsLt_bf16_f32) bitsLt_bf16_f32
/-- the same over its columns -/
def grad (d : FVec F S128x128 .f32) (b : FVec F S64x128 .bf16) : FVec F S64x128 .f32 :=
  extf .f32 (truncf .bf16 (transpose S64x128 [1, 0] (matmul dot_S128x128_S64x128_S128x64_1_1_0_0_n_n none d b (constant S128x64 .f32 0x00000000#32))
    transposes_S128x64_p1_0_S64x128) bitsLt_bf16_f32) bitsLt_bf16_f32
/-- a head's decay, once more below itself -/
def twice (v : FVec F S64x128 .f32) : FVec F S128x128 .f32 :=
  concatenate S128x128 0 [⟨S64x128, v⟩, ⟨S64x128, v⟩] concatenates_S64x128_S64x128_S128x128_d0
def neg (v : FVec F S64x128 .f32) : FVec F S64x128 .f32 := subf (broadcast S64x128 (Scalar.ofBits .f32 0x00000000#32)) v

/-! ## The loaded blocks -/

def stt (s : Vec F S128x128 .f32) : FVec F S128x128 .f32 := shapeCast S128x128 s shapeCasts_S128x128_S128x128
def up (v : Vec F S256x128 .bf16) : FVec F S256x128 .f32 := extf .f32 (shapeCast S256x128 v shapeCasts_S256x128_S256x128) bitsLt_bf16_f32

variable (x : Ins F) (d : Dn F)

def u : FVec F S256x128 .f32 := shapeCast S256x128 x.u shapeCasts_S256x128_S256x128
def e : FVec F S256x128 .f32 := shapeCast S256x128 x.e shapeCasts_S256x128_S256x128
def a : FVec F S256x256 .bf16 := truncf .bf16 (extf .f32 (shapeCast S256x256 x.a shapeCasts_S256x256_S256x256) bitsLt_bf16_f32) bitsLt_bf16_f32
def z : FVec F S256x128 .f32 := stack x.z
def g : FVec F S256x128 .f32 := stack x.g
def nw : FVec F S256x128 .f32 := broadcastTo S256x128 (shapeCast S1x128 x.nw shapeCasts_S1x128_S1x128) broadcasts_S1x128_S256x128

/-! ## The chunk -/

def vn0 : FVec F S64x128 .f32 := subf (h0 (u x)) (mulS (b64 (h0 (up x.w))) (b128 (stt x.s0)))
def vn1 : FVec F S64x128 .f32 := subf (h1 (u x)) (mulS (b64 (h1 (up x.w))) (b128 (stt x.s1)))
def vn2 : FVec F S64x128 .f32 := subf (h2 (u x)) (mulS (b64 (h2 (up x.w))) (b128 (stt x.s2)))
def vn3 : FVec F S64x128 .f32 := subf (h3 (u x)) (mulS (b64 (h3 (up x.w))) (b128 (stt x.s3)))
def o : FVec F S256x128 .f32 :=
  addf (cat (mulS (b64 (h0 (up x.q))) (b128 (stt x.s0))) (mulS (b64 (h1 (up x.q))) (b128 (stt x.s1)))
      (mulS (b64 (h2 (up x.q))) (b128 (stt x.s2))) (mulS (b64 (h3 (up x.q))) (b128 (stt x.s3))))
    (matmul dot_S256x256_S256x128_S256x128_1_0_0_1_n_n none (a x) (b256 (cat (vn0 x) (vn1 x) (vn2 x) (vn3 x))) (constant S256x128 .f32 0x00000000#32))
/-- A row's sum, as a column. -/
def rowSum (v : FVec F S256x128 .f32) : FVec F S256x1 .f32 :=
  shapeCast S256x1 (multiReduction .add [1] S256 v 0x00000000#32 reduces_S256x128_S256 (.inl rfl) rfl) shapeCasts_S256_S256x1
def ms : FVec F S256x1 .f32 :=
  addf (divf (rowSum (mulf (o x) (o x))) (broadcast S256x1 (Scalar.ofBits .f32 0x43000000#32))) (broadcast S256x1 (Scalar.ofBits .f32 0x358637BD#32))
def r : FVec F S256x1 .f32 := rsqrt (ms x)
def t : FVec F S256x1 .f32 := mulf (broadcast S256x1 (Scalar.ofBits .f32 0xBF000000#32)) (divf (r x) (ms x))
def y : FVec F S256x128 .f32 := mulf (o x) (broadcastTo S256x128 (r x) broadcasts_S256x1_S256x128)
def sg : FVec F S256x128 .f32 := logistic (z x)
def yg : FVec F S256x128 .f32 := mulf (mulf (y x) (nw x)) (g x)
def dz : FVec F S256x128 .f32 :=
  addf (mulf (yg x) (sg x)) (mulf (mulf (z x) (yg x)) (mulf (sg x) (subf (broadcast S256x128 (Scalar.ofBits .f32 0x3F800000#32)) (sg x))))
def gz : FVec F S256x128 .f32 := mulf (g x) (mulf (z x) (sg x))
def dnw : FVec F S1x128 .f32 :=
  shapeCast S1x128 (multiReduction .add [0] S128 (mulf (y x) (gz x)) 0x00000000#32 reduces_S256x128_S128 (.inl rfl) rfl) shapeCasts_S128_S1x128
def gn : FVec F S256x128 .f32 := mulf (gz x) (nw x)
def ec : FVec F S256x128 .f32 :=
  broadcastTo S256x128 (shapeCast S256x1 (multiReduction .add [1] S256
    (divf (mulf (rowSum (mulf (o x) (gn x))) (t x)) (broadcast S256x1 (Scalar.ofBits .f32 0x43000000#32))) 0x00000000#32 reduces_S256x1_S256 (.inl rfl) rfl)
    shapeCasts_S256_S256x1) broadcasts_S256x1_S256x128
def do' : FVec F S256x128 .f32 :=
  addf (addf (mulf (gn x) (broadcastTo S256x128 (r x) broadcasts_S256x1_S256x128)) (mulf (o x) (ec x))) (mulf (ec x) (o x))
/-- The part of the corrected values' gradient that comes through the mixing block. -/
def mix : FVec F S256x128 .f32 :=
  extf .f32 (truncf .bf16 (transpose S256x128 [1, 0] (matmul dot_S256x128_S256x256_S128x256_0_0_1_1_n_n none (do' x) (a x) (constant S128x256 .f32 0x00000000#32))
    transposes_S128x256_p1_0_S256x128) bitsLt_bf16_f32) bitsLt_bf16_f32
def du0 : FVec F S64x128 .f32 := addf (gradT d.d0 (b64 (h0 (up x.k)))) (h0 (mix x))
def du1 : FVec F S64x128 .f32 := addf (gradT d.d1 (b64 (h1 (up x.k)))) (h1 (mix x))
def du2 : FVec F S64x128 .f32 := addf (gradT d.d2 (b64 (h2 (up x.k)))) (h2 (mix x))
def du3 : FVec F S64x128 .f32 := addf (gradT d.d3 (b64 (h3 (up x.k)))) (h3 (mix x))
def du : FVec F S256x128 .f32 := cat (du0 x d) (du1 x d) (du2 x d) (du3 x d)
def dw : FVec F S256x128 .f32 :=
  cat (mulST (neg (du0 x d)) (b128 (stt x.s0))) (mulST (neg (du1 x d)) (b128 (stt x.s1)))
    (mulST (neg (du2 x d)) (b128 (stt x.s2))) (mulST (neg (du3 x d)) (b128 (stt x.s3)))
def dq : FVec F S256x128 .f32 :=
  cat (mulST (h0 (do' x)) (b128 (stt x.s0))) (mulST (h1 (do' x)) (b128 (stt x.s1)))
    (mulST (h2 (do' x)) (b128 (stt x.s2))) (mulST (h3 (do' x)) (b128 (stt x.s3)))
def dk : FVec F S256x128 .f32 :=
  cat (grad d.d0 (b64 (vn0 x))) (grad d.d1 (b64 (vn1 x))) (grad d.d2 (b64 (vn2 x))) (grad d.d3 (b64 (vn3 x)))
def dzb : FVec F S64x512 .bf16 := truncf .bf16 (unstack (dz x)) bitsLt_bf16_f32
/-- The gradient of the norm's weight, with the chunk's part added to what it was. -/
def acc (p : Vec F S1x128 .f32) : FVec F S1x128 .f32 := addf (shapeCast S1x128 p shapeCasts_S1x128_S1x128) (dnw x)
/-- The gradient of the state before the chunk. -/
def next : Dn F where
  d0 := addf (addf (mulf d.d0 (twice (h0 (e x)))) (outer (h0 (do' x)) (b64 (h0 (up x.q))))) (outer (neg (du0 x d)) (b64 (h0 (up x.w))))
  d1 := addf (addf (mulf d.d1 (twice (h1 (e x)))) (outer (h1 (do' x)) (b64 (h1 (up x.q))))) (outer (neg (du1 x d)) (b64 (h1 (up x.w))))
  d2 := addf (addf (mulf d.d2 (twice (h2 (e x)))) (outer (h2 (do' x)) (b64 (h2 (up x.q))))) (outer (neg (du2 x d)) (b64 (h2 (up x.w))))
  d3 := addf (addf (mulf d.d3 (twice (h3 (e x)))) (outer (h3 (do' x)) (b64 (h3 (up x.q))))) (outer (neg (du3 x d)) (b64 (h3 (up x.w))))

end Cert.Scan.Voc

end
-- ==== Proof.Chunks.lean ====
/- The blocks that one chunk of a grid point loads, chunk by chunk, and the gradient of the state as it passes from chunk to chunk. -/
module

public import proofs.«01_k».proof.Proof.Voc
public import proofs.«01_k».proof.Proof.Gen.KernelIdeal.Frame.Runs

@[expose] public section

noncomputable section

namespace Cert.Scan.Voc

open Idealize.ShloMosaic Idealize.ShloMosaic.TcCoe Cert.KernelIdeal Cert.KernelIdeal.Gen

variable {F : FTy → Type} [FloatOps F]

theorem inb_rows {n m r o : ℕ} {ss : Fin 2 → ℕ} (h0 : o + r ≤ n) (h1 : ss 0 = r) (h2 : ss 1 = m) : ∀ a : Fin 2, (![o, 0] : Fin 2 → ℕ) a + ss a ≤ (![n, m] : Fin 2 → ℕ) a := by
  intro a
  match a with
  | 0 => simpa [h1] using h0
  | 1 => simp [h2]

/-- Rows `256 k …` of a block of 2048 rows. -/
def rows (k : Fin 8) : Rect S2048x128 := Rect.unit (s := S2048x128) ![256 * k.val, 0] S256x128.size (inb_rows (r := 256) (by have := k.isLt; omega) rfl rfl)
def rowsA (k : Fin 8) : Rect S2048x256 := Rect.unit (s := S2048x256) ![256 * k.val, 0] S256x256.size (inb_rows (r := 256) (by have := k.isLt; omega) rfl rfl)
/-- The state of head `h` in chunk `k`. -/
def rowsS (k : Fin 8) (h : Fin 4) : Rect S4096x128 :=
  Rect.unit (s := S4096x128) ![512 * k.val + 128 * h.val, 0] S128x128.size (inb_rows (r := 128) (by have := k.isLt; have := h.isLt; omega) rfl rfl)
def rowsZ (k : Fin 8) : Rect S512x512 := Rect.unit (s := S512x512) ![64 * k.val, 0] S64x512.size (inb_rows (r := 64) (by have := k.isLt; omega) rfl rfl)
def rowsN : Rect S1x128 := Rect.unit (s := S1x128) ![0, 0] S1x128.size (inb_rows (r := 1) (by omega) rfl rfl)
/-- Head `h` of the carried gradient. -/
def rowsD (h : Fin 4) : Rect S512x128 := Rect.unit (s := S512x128) ![128 * h.val, 0] S128x128.size (inb_rows (r := 128) (by have := h.isLt; omega) rfl rfl)

/-- What chunk `k` of a grid point loads from the point's blocks. -/
def ins (x0 : Vec F S512x512 .f32) (x1 : Vec F S2048x128 .f32) (x2 x3 x4 : Vec F S2048x128 .bf16) (x5 : Vec F S2048x256 .bf16) (x6 : Vec F S2048x128 .f32)
    (x7 : Vec F S4096x128 .f32) (x8 : Vec F S512x512 .f32) (x9 : Vec F S1x128 .f32) (k : Fin 8) : Ins F where
  s0 := View.ld x7 (rowsS k 0)
  s1 := View.ld x7 (rowsS k 1)
  s2 := View.ld x7 (rowsS k 2)
  s3 := View.ld x7 (rowsS k 3)
  u := View.ld x1 (rows k)
  w := View.ld x2 (rows k)
  q := View.ld x3 (rows k)
  k := View.ld x4 (rows k)
  a := View.ld x5 (rowsA k)
  e := View.ld x6 (rows k)
  z := View.ld x8 (rowsZ k)
  g := View.ld x0 (rowsZ k)
  nw := View.ld x9 rowsN

/-- The same loads as the run of the body names them: through the blocks' buffers. -/
def rd (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole)
    (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32) (k : Fin 8) : Ins F where
  s0 := View.readAt (Elt F) arg8.view (rowsS k 0).toLoadRect (harg8.unread x7)
  s1 := View.readAt (Elt F) arg8.view (rowsS k 1).toLoadRect (harg8.unread x7)
  s2 := View.readAt (Elt F) arg8.view (rowsS k 2).toLoadRect (harg8.unread x7)
  s3 := View.readAt (Elt F) arg8.view (rowsS k 3).toLoadRect (harg8.unread x7)
  u := View.readAt (Elt F) arg2.view (rows k).toLoadRect (harg2.unread x1)
  w := View.readAt (Elt F) arg3.view (rows k).toLoadRect (harg3.unread x2)
  q := View.readAt (Elt F) arg4.view (rows k).toLoadRect (harg4.unread x3)
  k := View.readAt (Elt F) arg5.view (rows k).toLoadRect (harg5.unread x4)
  a := View.readAt (Elt F) arg6.view (rowsA k).toLoadRect (harg6.unread x5)
  e := View.readAt (Elt F) arg7.view (rows k).toLoadRect (harg7.unread x6)
  z := View.readAt (Elt F) arg9.view (rowsZ k).toLoadRect (harg9.unread x8)
  g := View.readAt (Elt F) arg1.view (rowsZ k).toLoadRect (harg1.unread x0)
  nw := View.readAt (Elt F) arg10.view rowsN.toLoadRect (harg10.unread x9)

theorem rd_eq (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole)
    (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32) (k : Fin 8) :
    rd arg1 harg1 arg2 harg2 arg3 harg3 arg4 harg4 arg5 harg5 arg6 harg6 arg7 harg7 arg8 harg8 arg9 harg9 arg10 harg10 x0 x1 x2 x3 x4 x5 x6 x7 x8 x9 k = ins x0 x1 x2 x3 x4 x5 x6 x7 x8 x9 k := by
  unfold rd ins
  simp only [View.readAt_eq_ld, Memref.IsWhole.read_unread]

/-- The gradient of the state after `j` of a point's chunks, the last chunk first. -/
def after (X : Fin 8 → Ins F) (d : Dn F) : ℕ → Dn F
  | 0 => d
  | j + 1 => next (X (Fin.ofNat 8 (7 - j))) (after X d j)

/-- A point's stores of one result: the chunks' blocks, the first chunk's store last. -/
def pieces (v0 v1 v2 v3 v4 v5 v6 v7 : FVec F S256x128 .f32) : List (View.Piece (Elt F) S2048x128 .f32) :=
  [⟨rows 0, v0⟩, ⟨rows 1, v1⟩, ⟨rows 2, v2⟩, ⟨rows 3, v3⟩, ⟨rows 4, v4⟩, ⟨rows 5, v5⟩, ⟨rows 6, v6⟩, ⟨rows 7, v7⟩]
def piecesZ (v0 v1 v2 v3 v4 v5 v6 v7 : FVec F S64x512 .bf16) : List (View.Piece (Elt F) S512x512 .bf16) :=
  [⟨rowsZ 0, v0⟩, ⟨rowsZ 1, v1⟩, ⟨rowsZ 2, v2⟩, ⟨rowsZ 3, v3⟩, ⟨rowsZ 4, v4⟩, ⟨rowsZ 5, v5⟩, ⟨rowsZ 6, v6⟩, ⟨rowsZ 7, v7⟩]
/-- A point's stores of the carried gradient. -/
def piecesD (d : Dn F) (L : List (View.Piece (Elt F) S512x128 .f32)) : List (View.Piece (Elt F) S512x128 .f32) :=
  ⟨rowsD 3, shapeCast S128x128 d.d3 shapeCasts_S128x128_S128x128⟩ :: ⟨rowsD 2, shapeCast S128x128 d.d2 shapeCasts_S128x128_S128x128⟩ ::
    ⟨rowsD 1, shapeCast S128x128 d.d1 shapeCasts_S128x128_S128x128⟩ :: ⟨rowsD 0, shapeCast S128x128 d.d0 shapeCasts_S128x128_S128x128⟩ :: L

end Cert.Scan.Voc

end
-- ==== Proof.Store.lean ====
/- What a grid point leaves in its results' blocks: the chunks' stores, read back. -/
module

public import proofs.«01_k».proof.Proof.Chunks
public import Idealize.ShloMosaic.Lib.Pipeline.ReadBack

@[expose] public section

noncomputable section

namespace Cert.Scan.Voc

open Idealize.ShloMosaic Idealize.ShloMosaic.TcCoe Cert.KernelIdeal Cert.KernelIdeal.Gen

variable {F : FTy → Type} [FloatOps F]

/-- A value made from the gradients after one to eight chunks, with the gradients named otherwise. -/
theorem chain {α : Type} {X X' : Fin 8 → Ins F} (hX : X = X') {d d' a1 a2 a3 a4 a5 a6 a7 a8 : Dn F} (hd : d = d')
    (e1 : after X d 1 = a1) (e2 : after X d 2 = a2) (e3 : after X d 3 = a3) (e4 : after X d 4 = a4)
    (e5 : after X d 5 = a5) (e6 : after X d 6 = a6) (e7 : after X d 7 = a7) (e8 : after X d 8 = a8)
    (G : (Fin 8 → Ins F) → Dn F → Dn F → Dn F → Dn F → Dn F → Dn F → Dn F → Dn F → Dn F → α) :
    G X d a1 a2 a3 a4 a5 a6 a7 a8 =
      G X' d' (after X' d' 1) (after X' d' 2) (after X' d' 3) (after X' d' 4) (after X' d' 5) (after X' d' 6) (after X' d' 7) (after X' d' 8) := by
  subst hX hd e1 e2 e3 e4 e5 e6 e7 e8
  rfl

/-- The carried gradient as the four heads' blocks. -/
def fromS (x : Vec F S512x128 .f32) : Dn F where
  d0 := stt (View.ld x (rowsD 0))
  d1 := stt (View.ld x (rowsD 1))
  d2 := stt (View.ld x (rowsD 2))
  d3 := stt (View.ld x (rowsD 3))

/-- The row that the gradient of the norm's weight is summed in. -/
def rowT : Rect S8x128 := Rect.unit (s := S8x128) ![0, 0] S1x128.size (inb_rows (r := 1) (by omega) rfl rfl)

/-- That gradient after `j` of a point's chunks. -/
def accs (X : Fin 8 → Ins F) (p : Vec F S1x128 .f32) : ℕ → Vec F S1x128 .f32
  | 0 => p
  | j + 1 => acc (X (Fin.ofNat 8 (7 - j))) (accs X p j)

theorem chainT {α : Type} {X X' : Fin 8 → Ins F} (hX : X = X') {p p' a1 a2 a3 a4 a5 a6 a7 : Vec F S1x128 .f32} (hp : p = p')
    (e1 : a1 = acc (X 7) p) (e2 : a2 = acc (X 6) a1) (e3 : a3 = acc (X 5) a2) (e4 : a4 = acc (X 4) a3)
    (e5 : a5 = acc (X 3) a4) (e6 : a6 = acc (X 2) a5) (e7 : a7 = acc (X 1) a6)
    (G : Vec F S1x128 .f32 → Vec F S1x128 .f32 → Vec F S1x128 .f32 → Vec F S1x128 .f32 → Vec F S1x128 .f32 → Vec F S1x128 .f32 → Vec F S1x128 .f32 →
      Vec F S1x128 .f32 → α) :
    G (acc (X 7) p) (acc (X 6) a1) (acc (X 5) a2) (acc (X 4) a3) (acc (X 3) a4) (acc (X 2) a5) (acc (X 1) a6) (acc (X 0) a7) =
      G (accs X' p' 1) (accs X' p' 2) (accs X' p' 3) (accs X' p' 4) (accs X' p' 5) (accs X' p' 6) (accs X' p' 7) (accs X' p' 8) := by
  subst hX hp e1 e2 e3 e4 e5 e6 e7
  rfl

/-- What a list of stores leaves, one store over the other. -/
theorem read_writes_overlay {sig : RefSig} {κ : Kind} {sp : Space} {s : Shape} {e : EltTy} {Val : EltTy → Type} (v : View sig κ sp s e)
    (f : v.ty.Contents Val) : ∀ L : List (View.Piece Val s e), v.read Val (v.writes Val f L) = L.foldr (fun p x => p.1.overlay x p.2) (v.read Val f)
  | [] => by rw [View.writes_nil]; rfl
  | p :: L => by
    funext y
    by_cases hy : y ∈ p.1.set
    · obtain ⟨r, w⟩ := p
      obtain ⟨x, rfl⟩ : ∃ x, r.emb x = y := r.exists_idx_of_mem hy
      rw [View.read_writes_cons_emb]
      exact (r.overlay_emb _ _ x).symm
    · have hy' : y ∉ Finset.univ.map p.1.emb := by rwa [Rect.map_emb_univ]
      rw [View.writes_cons, View.read_slice_write_of_not_mem p.1 _ _ _ hy', read_writes_overlay v f L]
      exact (p.1.overlay_of_not_mem _ _ hy).symm

theorem overlay_overlay {s : Shape} {α : Type} (r : Rect s) (x : s.Idx → α) (a b : r.shape.Idx → α) : r.overlay (r.overlay x a) b = r.overlay x b := by
  funext y
  by_cases hy : y ∈ r.set
  · obtain ⟨z, rfl⟩ : ∃ z, r.emb z = y := r.exists_idx_of_mem hy
    rw [r.overlay_emb, r.overlay_emb]
  · rw [r.overlay_of_not_mem _ _ hy, r.overlay_of_not_mem _ _ hy, r.overlay_of_not_mem _ _ hy]

theorem overlay_whole {s : Shape} {α : Type} {off : Fin s.rank → ℕ} (inb : ∀ a, off a + s.size a ≤ s.size a) (h : ∀ a, off a = 0) (x z : s.Idx → α) :
    (Rect.unit off s.size inb).overlay x z = z := by
  funext y
  have e : (Rect.unit off s.size inb).emb y = y :=
    funext fun a => Fin.ext (by
      show off a + 1 * (y a).val = (y a).val
      have := h a; omega)
  conv_lhs => rw [← e]
  exact Rect.overlay_emb _ _ _ _

theorem read_writes_row {sig : RefSig} {κ : Kind} {sp : Space} {s : Shape} {e : EltTy} {Val : EltTy → Type} (v : View sig κ sp s e)
    (f : v.ty.Contents Val) (r : Rect s) (b1 b2 b3 b4 b5 b6 b7 b8 : r.shape.Idx → Val e) (L : List (View.Piece Val s e)) :
    v.read Val (v.writes Val f (⟨r, b8⟩ :: ⟨r, b7⟩ :: ⟨r, b6⟩ :: ⟨r, b5⟩ :: ⟨r, b4⟩ :: ⟨r, b3⟩ :: ⟨r, b2⟩ :: ⟨r, b1⟩ :: L)) =
      r.overlay (v.read Val (v.writes Val f L)) b8 := by
  rw [read_writes_overlay, read_writes_overlay v f L]
  simp only [List.foldr, overlay_overlay]

theorem read_writes_whole {sig : RefSig} {κ : Kind} {sp : Space} {s : Shape} {e : EltTy} {Val : EltTy → Type} (v : View sig κ sp s e)
    (f : v.ty.Contents Val) {off : Fin s.rank → ℕ} (inb : ∀ a, off a + s.size a ≤ s.size a) (h : ∀ a, off a = 0) (z : s.Idx → Val e) :
    v.read Val (v.writes Val f [(⟨Rect.unit off s.size inb, z⟩ : View.Piece Val s e)]) = z := by
  rw [read_writes_overlay]
  exact overlay_whole inb h _ z

/-- A head of the carried gradient, loaded after one store of all of it. -/
theorem fillD {v : View sig .tc .vmem S512x128 .f32} (Z : Vec F S512x128 .f32) (h : Fin 4) :
    v.readCov (Val := Elt F) [⟨Rect.unit (s := S512x128) ![0, 0] S512x128.size inb_S512x128_S512x128_0_0, Z⟩] (rowsD h).toLoadRect = View.ld Z (rowsD h) :=
  View.readCov_fill v inb_S512x128_S512x128_0_0 Z [] (rowsD h) (by decide)

/-- The row of the norm's weight, loaded after one store of its whole block. -/
theorem fillT {v : View sig .tc .vmem S8x128 .f32} (Z : Vec F S8x128 .f32) :
    v.readCov (Val := Elt F) [⟨Rect.unit (s := S8x128) ![0, 0] S8x128.size inb_S8x128_S8x128_0_0, Z⟩] rowT.toLoadRect = View.ld Z rowT :=
  View.readCov_fill v inb_S8x128_S8x128_0_0 Z [] rowT (by decide)

end Cert.Scan.Voc

end
-- ==== Proof.VocAt.lean ====
/- One chunk of the kernel's body, entry by entry: what it computes from its blocks is the gradient of one step of the recurrence. -/
module

public import proofs.«01_k».proof.Proof.Spec
public import proofs.«01_k».proof.Proof.Voc

@[expose] public section

noncomputable section

namespace Cert.Scan.Voc

open Idealize.ShloMosaic Cert.KernelIdeal Cert.KernelIdeal.Gen

/-- Row `c` of head `h`, the heads stacked. -/
def row (h : Fin 4) (c : Fin 64) : Fin 256 := ⟨64 * h.val + c.val, by omega⟩
/-- Column `v` of head `h`, the heads side by side. -/
def col (h : Fin 4) (v : Fin 128) : Fin 512 := ⟨128 * h.val + v.val, by omega⟩

/-- A sum over the stacked rows, head by head. -/
theorem sum_row (f : Fin 256 → EReal) : ∑ r, f r = ∑ h, ∑ c, f (row h c) := by
  rw [← Fintype.sum_prod_type' (f := fun h c => f (row h c))]
  refine (Fintype.sum_equiv (finProdFinEquiv (m := 4) (n := 64)) _ _ fun p => congrArg f (Fin.ext ?_)).symm
  simp [row, finProdFinEquiv]; omega

/-! ## Heads -/

section heads
variable (v : FVec Ideal S256x128 .f32) (a b c d : FVec Ideal S64x128 .f32) (i : Fin 64) (j : Fin 128)

theorem h0_at : h0 v (ix2 i j) = v (ix2 (row 0 i) j) := by
  pointwise [h0]; exact congrArg v (congrArg (fun r => ix2 r j) (Fin.ext (by simp [row])))
theorem h1_at : h1 v (ix2 i j) = v (ix2 (row 1 i) j) := by
  pointwise [h1]; exact congrArg v (congrArg (fun r => ix2 r j) (Fin.ext (by simp [row])))
theorem h2_at : h2 v (ix2 i j) = v (ix2 (row 2 i) j) := by
  pointwise [h2]; exact congrArg v (congrArg (fun r => ix2 r j) (Fin.ext (by simp [row])))
theorem h3_at : h3 v (ix2 i j) = v (ix2 (row 3 i) j) := by
  pointwise [h3]; exact congrArg v (congrArg (fun r => ix2 r j) (Fin.ext (by simp [row])))
theorem cat0_at : cat a b c d (ix2 (row 0 i) j) = a (ix2 i j) := by
  have e : (row 0 i).val = 0 + i.val := by simp [row]
  have := i.isLt
  pointwise [cat]
  rw [dif_pos (by omega)]
  exact congrArg a (congrArg (fun r => ix2 r j) (Fin.ext (by show (row 0 i).val = i.val; omega)))
theorem cat1_at : cat a b c d (ix2 (row 1 i) j) = b (ix2 i j) := by
  have e : (row 1 i).val = 64 + i.val := by simp [row]
  have := i.isLt
  pointwise [cat]
  rw [dif_neg (by omega)]; rw [dif_pos (by omega)]
  exact congrArg b (congrArg (fun r => ix2 r j) (Fin.ext (by show (row 1 i).val - 64 = i.val; omega)))
theorem cat2_at : cat a b c d (ix2 (row 2 i) j) = c (ix2 i j) := by
  have e : (row 2 i).val = 128 + i.val := by simp [row]
  have := i.isLt
  pointwise [cat]
  rw [dif_neg (by omega)]; rw [dif_neg (by omega)]; rw [dif_pos (by omega)]
  exact congrArg c (congrArg (fun r => ix2 r j) (Fin.ext (by show (row 2 i).val - 64 - 64 = i.val; omega)))
theorem cat3_at : cat a b c d (ix2 (row 3 i) j) = d (ix2 i j) := by
  have e : (row 3 i).val = 192 + i.val := by simp [row]
  have := i.isLt
  pointwise [cat]
  rw [dif_neg (by omega)]; rw [dif_neg (by omega)]; rw [dif_neg (by omega)]; skip
  exact congrArg d (congrArg (fun r => ix2 r j) (Fin.ext (by show (row 3 i).val - 64 - 64 - 64 = i.val; omega)))
theorem cat_at (h : Fin 4) : cat a b c d (ix2 (row h i) j) = (![a, b, c, d] h) (ix2 i j) :=
  match h with
  | 0 => cat0_at a b c d i j
  | 1 => cat1_at a b c d i j
  | 2 => cat2_at a b c d i j
  | 3 => cat3_at a b c d i j

end heads

theorem stack_at (z : FVec Ideal S64x512 .f32) (h : Fin 4) (i : Fin 64) (j : Fin 128) : stack z (ix2 (row h i) j) = z (ix2 i (col h j)) := by
  unfold stack
  rw [cat_at]
  fin_cases h <;> (pointwise []; exact congrArg z (congrArg (fun r => ix2 i r) (Fin.ext (by simp [col]))))

theorem unstack0_at (v : FVec Ideal S256x128 .f32) (i : Fin 64) (j : Fin 128) : unstack v (ix2 i (col 0 j)) = v (ix2 (row 0 i) j) := by
  have e : (col 0 j).val = 0 + j.val := by simp [col]
  have := j.isLt
  pointwise [unstack]
  rw [dif_pos (by omega)]
  exact (congrArg (h0 v) (congrArg (fun r => ix2 i r) (Fin.ext (by show (col 0 j).val = j.val; omega)))).trans (h0_at v i j)
theorem unstack1_at (v : FVec Ideal S256x128 .f32) (i : Fin 64) (j : Fin 128) : unstack v (ix2 i (col 1 j)) = v (ix2 (row 1 i) j) := by
  have e : (col 1 j).val = 128 + j.val := by simp [col]
  have := j.isLt
  pointwise [unstack]
  rw [dif_neg (by omega)]; rw [dif_pos (by omega)]
  exact (congrArg (h1 v) (congrArg (fun r => ix2 i r) (Fin.ext (by show (col 1 j).val - 128 = j.val; omega)))).trans (h1_at v i j)
theorem unstack2_at (v : FVec Ideal S256x128 .f32) (i : Fin 64) (j : Fin 128) : unstack v (ix2 i (col 2 j)) = v (ix2 (row 2 i) j) := by
  have e : (col 2 j).val = 256 + j.val := by simp [col]
  have := j.isLt
  pointwise [unstack]
  rw [dif_neg (by omega)]; rw [dif_neg (by omega)]; rw [dif_pos (by omega)]
  exact (congrArg (h2 v) (congrArg (fun r => ix2 i r) (Fin.ext (by show (col 2 j).val - 128 - 128 = j.val; omega)))).trans (h2_at v i j)
theorem unstack3_at (v : FVec Ideal S256x128 .f32) (i : Fin 64) (j : Fin 128) : unstack v (ix2 i (col 3 j)) = v (ix2 (row 3 i) j) := by
  have e : (col 3 j).val = 384 + j.val := by simp [col]
  have := j.isLt
  pointwise [unstack]
  rw [dif_neg (by omega)]; rw [dif_neg (by omega)]; rw [dif_neg (by omega)]; skip
  exact (congrArg (h3 v) (congrArg (fun r => ix2 i r) (Fin.ext (by show (col 3 j).val - 128 - 128 - 128 = j.val; omega)))).trans (h3_at v i j)
theorem unstack_at (v : FVec Ideal S256x128 .f32) (h : Fin 4) (i : Fin 64) (j : Fin 128) : unstack v (ix2 i (col h j)) = v (ix2 (row h i) j) :=
  match h with
  | 0 => unstack0_at v i j
  | 1 => unstack1_at v i j
  | 2 => unstack2_at v i j
  | 3 => unstack3_at v i j

/-! ## Products -/

section products
variable (i j : Fin 128) (c c' : Fin 64)

theorem mulS_at (a : FVec Ideal S64x128 .bf16) (s : FVec Ideal S128x128 .bf16) : mulS a s (ix2 c j) = ∑ i, a (ix2 c i) * s (ix2 i j) := by
  pointwise [mulS]
theorem mulST_at (a : FVec Ideal S64x128 .f32) (s : FVec Ideal S128x128 .bf16) : mulST a s (ix2 c i) = ∑ j, a (ix2 c j) * s (ix2 i j) := by
  pointwise [mulST]
theorem outer_at (a : FVec Ideal S64x128 .f32) (b : FVec Ideal S64x128 .bf16) : outer a b (ix2 i j) = ∑ c, a (ix2 c j) * b (ix2 c i) := by
  pointwise [outer]
theorem gradT_at (d : FVec Ideal S128x128 .f32) (b : FVec Ideal S64x128 .bf16) : gradT d b (ix2 c j) = ∑ i, d (ix2 i j) * b (ix2 c i) := by
  pointwise [gradT]
theorem grad_at (d : FVec Ideal S128x128 .f32) (b : FVec Ideal S64x128 .bf16) : grad d b (ix2 c i) = ∑ j, d (ix2 i j) * b (ix2 c j) := by
  pointwise [grad]
theorem b64_at (v : FVec Ideal S64x128 .f32) : b64 v (ix2 c j) = v (ix2 c j) := by pointwise [b64]
theorem b128_at (v : FVec Ideal S128x128 .f32) : b128 v (ix2 i j) = v (ix2 i j) := by pointwise [b128]
theorem b256_at (v : FVec Ideal S256x128 .f32) (r : Fin 256) : b256 v (ix2 r j) = v (ix2 r j) := by pointwise [b256]
theorem stt_at (s : Vec Ideal S128x128 .f32) : stt s (ix2 i j) = s (ix2 i j) := by pointwise [stt]
theorem up_at (v : Vec Ideal S256x128 .bf16) (r : Fin 256) : up v (ix2 r j) = v (ix2 r j) := by pointwise [up]
theorem neg_at (v : FVec Ideal S64x128 .f32) : neg v (ix2 c j) = -v (ix2 c j) := by
  pointwise [neg]
  first | done | exact zero_sub _
theorem twice_at (v : FVec Ideal S64x128 .f32) (l : EReal) (hl : ∀ c j, v (ix2 c j) = l) : twice v (ix2 i j) = l := by
  pointwise [twice]
  split_ifs <;> first | exact hl _ _ | (simp only [hl]) | (exfalso; omega)

end products

/-! ## The chunk -/

/-- The blocks a chunk loads hold the entries the step reads. -/
structure Rel (x : Ins Ideal) (y : Inp) : Prop where
  s0 : ∀ k v, x.s0 (ix2 k v) = y.S 0 k v
  s1 : ∀ k v, x.s1 (ix2 k v) = y.S 1 k v
  s2 : ∀ k v, x.s2 (ix2 k v) = y.S 2 k v
  s3 : ∀ k v, x.s3 (ix2 k v) = y.S 3 k v
  u : ∀ h c v, x.u (ix2 (row h c) v) = y.u h c v
  w : ∀ h c v, x.w (ix2 (row h c) v) = y.w h c v
  q : ∀ h c v, x.q (ix2 (row h c) v) = y.q h c v
  k : ∀ h c v, x.k (ix2 (row h c) v) = y.k h c v
  a : ∀ h c h' j, x.a (ix2 (row h c) (row h' j)) = if h = h' then y.a h c j else 0
  e : ∀ h c v, x.e (ix2 (row h c) v) = y.l h
  z : ∀ h c v, x.z (ix2 c (col h v)) = y.z h c v
  g : ∀ h c v, x.g (ix2 c (col h v)) = y.g h c v
  nw : ∀ v, x.nw (ix2 0 v) = y.nw v

/-- A gradient's blocks hold its entries. -/
structure RelD (d : Dn Ideal) (D : Grad) : Prop where
  d0 : ∀ k v, d.d0 (ix2 k v) = D 0 k v
  d1 : ∀ k v, d.d1 (ix2 k v) = D 1 k v
  d2 : ∀ k v, d.d2 (ix2 k v) = D 2 k v
  d3 : ∀ k v, d.d3 (ix2 k v) = D 3 k v

namespace Rel

variable {x : Ins Ideal} {y : Inp} (R : Rel x y) {d : Dn Ideal} {D : Grad} (E : RelD d D) (h : Fin 4) (c j : Fin 64) (v i : Fin 128)
include R

theorem u_at : Voc.u x (ix2 (row h c) v) = y.u h c v := by pointwise [Voc.u]; exact R.u h c v
theorem e_at : Voc.e x (ix2 (row h c) v) = y.l h := by pointwise [Voc.e]; exact R.e h c v
theorem a_at (h' : Fin 4) : Voc.a x (ix2 (row h c) (row h' j)) = if h = h' then y.a h c j else 0 := by pointwise [Voc.a]; exact R.a h c h' j
theorem z_at : Voc.z x (ix2 (row h c) v) = y.z h c v := (stack_at _ h c v).trans (R.z h c v)
theorem g_at : Voc.g x (ix2 (row h c) v) = y.g h c v := (stack_at _ h c v).trans (R.g h c v)
theorem nw_at (r : Fin 256) : Voc.nw x (ix2 r v) = y.nw v := by pointwise [Voc.nw]; exact R.nw v

theorem vn0_at : Voc.vn0 x (ix2 c v) = y.vn 0 c v := by
  pointwise [Voc.vn0]; simp only [h0_at, R.u_at, mulS_at, b64_at, up_at, R.w, b128_at, stt_at, R.s0]; rfl
theorem vn1_at : Voc.vn1 x (ix2 c v) = y.vn 1 c v := by
  pointwise [Voc.vn1]; simp only [h1_at, R.u_at, mulS_at, b64_at, up_at, R.w, b128_at, stt_at, R.s1]; rfl
theorem vn2_at : Voc.vn2 x (ix2 c v) = y.vn 2 c v := by
  pointwise [Voc.vn2]; simp only [h2_at, R.u_at, mulS_at, b64_at, up_at, R.w, b128_at, stt_at, R.s2]; rfl
theorem vn3_at : Voc.vn3 x (ix2 c v) = y.vn 3 c v := by
  pointwise [Voc.vn3]; simp only [h3_at, R.u_at, mulS_at, b64_at, up_at, R.w, b128_at, stt_at, R.s3]; rfl
theorem vn_at : cat (Voc.vn0 x) (Voc.vn1 x) (Voc.vn2 x) (Voc.vn3 x) (ix2 (row h c) v) = y.vn h c v := by
  rw [cat_at]
  fin_cases h
  exacts [R.vn0_at c v, R.vn1_at c v, R.vn2_at c v, R.vn3_at c v]

theorem o_at : Voc.o x (ix2 (row h c) v) = y.o h c v := by
  have q : cat (mulS (b64 (h0 (up x.q))) (b128 (stt x.s0))) (mulS (b64 (h1 (up x.q))) (b128 (stt x.s1)))
      (mulS (b64 (h2 (up x.q))) (b128 (stt x.s2))) (mulS (b64 (h3 (up x.q))) (b128 (stt x.s3))) (ix2 (row h c) v) = ∑ i, y.q h c i * y.S h i v := by
    rw [cat_at]
    fin_cases h
    · show mulS (b64 (h0 (up x.q))) (b128 (stt x.s0)) _ = _; simp only [mulS_at, b64_at, h0_at, up_at, R.q, b128_at, stt_at, R.s0]; rfl
    · show mulS (b64 (h1 (up x.q))) (b128 (stt x.s1)) _ = _; simp only [mulS_at, b64_at, h1_at, up_at, R.q, b128_at, stt_at, R.s1]; rfl
    · show mulS (b64 (h2 (up x.q))) (b128 (stt x.s2)) _ = _; simp only [mulS_at, b64_at, h2_at, up_at, R.q, b128_at, stt_at, R.s2]; rfl
    · show mulS (b64 (h3 (up x.q))) (b128 (stt x.s3)) _ = _; simp only [mulS_at, b64_at, h3_at, up_at, R.q, b128_at, stt_at, R.s3]; rfl
  pointwise [Voc.o]
  rw [q, sum_row]
  simp only [R.a_at, b256_at, R.vn_at, ite_mul, zero_mul]
  refine congrArg (_ + ·) ?_
  rw [Finset.sum_comm]
  simp
theorem ms_at : Voc.ms x (ix2 (row h c) 0) = y.ms h c := by
  pointwise [Voc.ms, Voc.rowSum]
  simp only [R.o_at]
  rfl
theorem r_at : Voc.r x (ix2 (row h c) 0) = y.r h c := by
  pointwise [Voc.r]
  simp only [R.ms_at]
  rfl
theorem t_at : Voc.t x (ix2 (row h c) 0) = y.t h c := by
  pointwise [Voc.t]
  simp only [R.ms_at, R.r_at]
  rfl
theorem y_at : Voc.y x (ix2 (row h c) v) = y.y h c v := by
  pointwise [Voc.y]
  simp only [R.o_at, R.r_at]
  rfl
theorem sg_at : Voc.sg x (ix2 (row h c) v) = y.sg h c v := by
  pointwise [Voc.sg]
  simp only [R.z_at]
  rfl
theorem yg_at : Voc.yg x (ix2 (row h c) v) = y.yg h c v := by
  pointwise [Voc.yg]
  simp only [R.y_at, R.nw_at, R.g_at]
  rfl
theorem dz_at : Voc.dz x (ix2 (row h c) v) = y.dz h c v := by
  pointwise [Voc.dz]
  simp only [R.yg_at, R.sg_at, R.z_at]
  first | rfl | (simp only [Ideal.ofBits_one_f32]; rfl)
theorem gz_at : Voc.gz x (ix2 (row h c) v) = y.gz h c v := by
  pointwise [Voc.gz]
  simp only [R.sg_at, R.z_at, R.g_at]
  rfl
theorem dnw_at : Voc.dnw x (ix2 0 v) = y.dnw v := by
  pointwise [Voc.dnw]
  rw [sum_row]
  simp only [R.y_at, R.gz_at]
  rfl
theorem gn_at : Voc.gn x (ix2 (row h c) v) = y.gn h c v := by
  pointwise [Voc.gn]
  simp only [R.gz_at, R.nw_at]
  rfl
theorem ec_at : Voc.ec x (ix2 (row h c) v) = y.e h c := by
  pointwise [Voc.ec, Voc.rowSum]
  simp only [Finset.univ_unique, Finset.sum_singleton, Fin.default_eq_zero]
  simp only [R.gn_at, R.o_at, R.t_at]
  rfl
theorem do_at : Voc.do' x (ix2 (row h c) v) = y.do' h c v := by
  pointwise [Voc.do']
  simp only [R.gn_at, R.o_at, R.ec_at, R.r_at]
  rfl
theorem mix_at : Voc.mix x (ix2 (row h c) v) = ∑ j, y.do' h j v * y.a h j c := by
  pointwise [Voc.mix]
  rw [sum_row]
  simp only [R.a_at, R.do_at, mul_ite, mul_zero]
  rw [Finset.sum_comm]
  simp
theorem acc_at (p : Vec Ideal S1x128 .f32) : Voc.acc x p (ix2 0 v) = p (ix2 0 v) + y.dnw v := by
  pointwise [Voc.acc]
  simp only [R.dnw_at]
theorem dzb_at : Voc.dzb x (ix2 c (col h v)) = y.dz h c v := by
  pointwise [Voc.dzb]
  rw [unstack_at, R.dz_at]
theorem dq_at : Voc.dq x (ix2 (row h c) i) = y.dq h c i := by
  unfold Voc.dq
  rw [cat_at]
  fin_cases h
  · show mulST (h0 _) (b128 (stt x.s0)) _ = _; simp only [mulST_at, h0_at, R.do_at, b128_at, stt_at, R.s0]; rfl
  · show mulST (h1 _) (b128 (stt x.s1)) _ = _; simp only [mulST_at, h1_at, R.do_at, b128_at, stt_at, R.s1]; rfl
  · show mulST (h2 _) (b128 (stt x.s2)) _ = _; simp only [mulST_at, h2_at, R.do_at, b128_at, stt_at, R.s2]; rfl
  · show mulST (h3 _) (b128 (stt x.s3)) _ = _; simp only [mulST_at, h3_at, R.do_at, b128_at, stt_at, R.s3]; rfl

include E

theorem du0_at : Voc.du0 x d (ix2 c v) = y.du D 0 c v := by
  pointwise [Voc.du0]; simp only [gradT_at, E.d0, b64_at, h0_at, up_at, R.k, R.mix_at]; rfl
theorem du1_at : Voc.du1 x d (ix2 c v) = y.du D 1 c v := by
  pointwise [Voc.du1]; simp only [gradT_at, E.d1, b64_at, h1_at, up_at, R.k, R.mix_at]; rfl
theorem du2_at : Voc.du2 x d (ix2 c v) = y.du D 2 c v := by
  pointwise [Voc.du2]; simp only [gradT_at, E.d2, b64_at, h2_at, up_at, R.k, R.mix_at]; rfl
theorem du3_at : Voc.du3 x d (ix2 c v) = y.du D 3 c v := by
  pointwise [Voc.du3]; simp only [gradT_at, E.d3, b64_at, h3_at, up_at, R.k, R.mix_at]; rfl
theorem du_at : Voc.du x d (ix2 (row h c) v) = y.du D h c v := by
  unfold Voc.du
  rw [cat_at]
  fin_cases h
  exacts [R.du0_at E c v, R.du1_at E c v, R.du2_at E c v, R.du3_at E c v]
theorem dw_at : Voc.dw x d (ix2 (row h c) i) = y.dw D h c i := by
  unfold Voc.dw
  rw [cat_at]
  fin_cases h
  · show mulST (neg _) (b128 (stt x.s0)) _ = _; simp only [mulST_at, neg_at, R.du0_at E, b128_at, stt_at, R.s0]; rfl
  · show mulST (neg _) (b128 (stt x.s1)) _ = _; simp only [mulST_at, neg_at, R.du1_at E, b128_at, stt_at, R.s1]; rfl
  · show mulST (neg _) (b128 (stt x.s2)) _ = _; simp only [mulST_at, neg_at, R.du2_at E, b128_at, stt_at, R.s2]; rfl
  · show mulST (neg _) (b128 (stt x.s3)) _ = _; simp only [mulST_at, neg_at, R.du3_at E, b128_at, stt_at, R.s3]; rfl
theorem dk_at : Voc.dk x d (ix2 (row h c) i) = y.dk D h c i := by
  unfold Voc.dk
  rw [cat_at]
  fin_cases h
  · show grad d.d0 (b64 _) _ = _; simp only [grad_at, E.d0, b64_at, R.vn0_at]; rfl
  · show grad d.d1 (b64 _) _ = _; simp only [grad_at, E.d1, b64_at, R.vn1_at]; rfl
  · show grad d.d2 (b64 _) _ = _; simp only [grad_at, E.d2, b64_at, R.vn2_at]; rfl
  · show grad d.d3 (b64 _) _ = _; simp only [grad_at, E.d3, b64_at, R.vn3_at]; rfl
theorem next_at : RelD (Voc.next x d) (y.next D) where
  d0 k v := by
    pointwise [Voc.next]
    simp only [E.d0, twice_at _ _ _ (y.l 0) fun c j => (h0_at _ c j).trans (R.e_at 0 c j), outer_at, h0_at, R.do_at, b64_at, up_at, R.q, neg_at, R.du0_at E, R.w]; rfl
  d1 k v := by
    pointwise [Voc.next]
    simp only [E.d1, twice_at _ _ _ (y.l 1) fun c j => (h1_at _ c j).trans (R.e_at 1 c j), outer_at, h1_at, R.do_at, b64_at, up_at, R.q, neg_at, R.du1_at E, R.w]; rfl
  d2 k v := by
    pointwise [Voc.next]
    simp only [E.d2, twice_at _ _ _ (y.l 2) fun c j => (h2_at _ c j).trans (R.e_at 2 c j), outer_at, h2_at, R.do_at, b64_at, up_at, R.q, neg_at, R.du2_at E, R.w]; rfl
  d3 k v := by
    pointwise [Voc.next]
    simp only [E.d3, twice_at _ _ _ (y.l 3) fun c j => (h3_at _ c j).trans (R.e_at 3 c j), outer_at, h3_at, R.do_at, b64_at, up_at, R.q, neg_at, R.du3_at E, R.w]; rfl

end Rel

end Cert.Scan.Voc

end
-- ==== Proof.Blk.lean ====
/- The kernel's blocks: what every grid point's windows hold, as entries of the arguments. -/
module

public import proofs.«01_k».proof.Proof.Rec
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Scan.Ker

open Idealize.ShloMosaic Idealize.ShloMosaic.TcCoe Cert.KernelIdeal Cert.KernelIdeal.Gen

/-- Chunk `k` of grid point `t`: the points run from the last eight chunks to the first. -/
def chunkAt (t : ℕ) (k : Fin 8) : Fin 64 := ⟨8 * (7 - t) + k.val, by omega⟩

/-- Rows of a point's blocks. -/
def r8 (k : Fin 8) (h : Fin 4) (c : Fin 64) : Fin 2048 := ⟨256 * k.val + 64 * h.val + c.val, by omega⟩
def r8S (k : Fin 8) (h : Fin 4) (i : Fin 128) : Fin 4096 := ⟨512 * k.val + 128 * h.val + i.val, by omega⟩
def r8Z (k : Fin 8) (c : Fin 64) : Fin 512 := ⟨64 * k.val + c.val, by omega⟩
def rowA (h : Fin 4) (j : Fin 64) : Fin 256 := ⟨64 * h.val + j.val, by omega⟩

theorem idx : ∀ t : Fin grid0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![7 - t.val, 0] ∧ win0_6.index t = ![7 - t.val, 0]
    ∧ win0_7.index t = ![7 - t.val, 0] ∧ win0_8.index t = ![7 - t.val, 5] ∧ win0_9.index t = ![0, 0] := by
  decide +kernel

variable (m : (ℓ : Loc nD τ sig) → Buf (Elt Ideal) ℓ) (c0 : Dev nD) (t : Fin cfg0.N) (k : Fin 8) (h : Fin 4) (c j : Fin 64) (v i : Fin 128)

theorem v13 (n : Fin 64) : V m c0 main_v13 (ix2 (rowN n h c) v) = m ((c0.tc : Thread nD τ).loc main_arg0) (ix4 n h c v) := by
  entry_read; pointwise
  refine congrArg (m ((c0.tc : Thread nD τ).loc main_arg0)) ?_
  congr 1 <;> refine Fin.ext ?_ <;> simp only [rowN, rowK] <;> omega
theorem v15 (n : Fin 64) : V m c0 main_v15 (ix2 (rowN n h c) v) = m ((c0.tc : Thread nD τ).loc main_arg1) (ix4 n h c v) := by
  entry_read; pointwise
  refine congrArg (m ((c0.tc : Thread nD τ).loc main_arg1)) ?_
  congr 1 <;> refine Fin.ext ?_ <;> simp only [rowN, rowK] <;> omega
theorem v17 (n : Fin 64) : V m c0 main_v17 (ix2 (rowN n h c) v) = m ((c0.tc : Thread nD τ).loc main_arg3) (ix4 n h c v) := by
  entry_read; pointwise
  refine congrArg (m ((c0.tc : Thread nD τ).loc main_arg3)) ?_
  congr 1 <;> refine Fin.ext ?_ <;> simp only [rowN, rowK] <;> omega
theorem v19 (n : Fin 64) : V m c0 main_v19 (ix2 (rowN n h c) v) = m ((c0.tc : Thread nD τ).loc main_arg4) (ix4 n h c v) := by
  entry_read; pointwise
  refine congrArg (m ((c0.tc : Thread nD τ).loc main_arg4)) ?_
  congr 1 <;> refine Fin.ext ?_ <;> simp only [rowN, rowK] <;> omega
theorem v22 (n : Fin 64) : V m c0 main_v22 (ix2 (rowN n h c) v) = m ((c0.tc : Thread nD τ).loc main_arg5) (ix2 n h) := by
  entry_read; pointwise
  refine congrArg (m ((c0.tc : Thread nD τ).loc main_arg5)) ?_
  congr 1 <;> refine Fin.ext ?_ <;> simp only [rowN, rowK] <;> omega
theorem v23 (n : Fin 64) : V m c0 main_v23 (ix2 (rowK n h i) v) = m ((c0.tc : Thread nD τ).loc main_arg6) (ix4 n h i v) := by
  entry_read; pointwise
  refine congrArg (m ((c0.tc : Thread nD τ).loc main_arg6)) ?_
  congr 1 <;> refine Fin.ext ?_ <;> simp only [rowN, rowK] <;> omega
theorem v24 : V m c0 main_v24 (ix2 0 v) = m ((c0.tc : Thread nD τ).loc main_arg8) (ix1 v) := by
  entry_read; pointwise

/-- The unit the host places a head's block with. -/
theorem eye_at : ∀ a b : Fin 4, IntOp.cmpi CmpIPredicate.eq (IntOp.addi (BitVec.ofNat 32 a.val) 0#32) (BitVec.ofNat 32 b.val)
    = if a = b then 1#1 else 0#1 := by decide

theorem v21 (n : Fin 64) (h' : Fin 4) : V m c0 main_v21 (ix2 (rowN n h c) (rowA h' j))
    = if h = h' then m ((c0.tc : Thread nD τ).loc main_arg2) (ix4 n h c j) else (0 : EReal) := by
  entry_read; pointwise
  have e1 : (rowN n h c).val / 64 % 4 = h.val := by simp only [rowN]; omega
  have e2 : (rowA h' j).val / 64 = h'.val := by simp only [rowA]; omega
  have key : FloatOps.uitofp (F := Ideal) FTy.f32 (IntOp.cmpi CmpIPredicate.eq (IntOp.addi (BitVec.ofNat 32 ((rowN n h c).val / 64 % 4)) 0#32)
      (BitVec.ofNat 32 ((rowA h' j).val / 64))) = if h = h' then (1 : EReal) else 0 := by
    rw [e1, e2, eye_at]
    by_cases hh : h = h'
    · rw [if_pos hh, if_pos hh]; show (((1#1 : BitVec 1).toNat : ℝ) : EReal) = 1; simp
    · rw [if_neg hh, if_neg hh]; show (((0#1 : BitVec 1).toNat : ℝ) : EReal) = 0; simp
  have key2 : (m (c0, Proc.tc.devRef main_arg2) (ix4 (⟨(rowN n h c).val / 256, by omega⟩ : Fin 64) (⟨(rowN n h c).val / 64 % 4, by omega⟩ : Fin 4)
      (⟨(rowN n h c).val % 64, by omega⟩ : Fin 64) (⟨(rowA h' j).val % 64, by omega⟩ : Fin 64)) : EReal)
      = m ((c0.tc : Thread nD τ).loc main_arg2) (ix4 n h c j) := by
    refine congrArg (m ((c0.tc : Thread nD τ).loc main_arg2)) ?_
    congr 1 <;> refine Fin.ext ?_ <;> simp only [rowN, rowA] <;> omega
  refine (congrArg₂ (fun a b : EReal => a * b) key2 key).trans ?_
  by_cases hh : h = h'
  · rw [if_pos hh, if_pos hh]; exact mul_one _
  · rw [if_neg hh, if_neg hh]; exact mul_zero _

/-! The blocks. -/

theorem blk0 : iblk m c0 0 t (ix2 (r8Z k c) (lane h v)) = m ((c0.tc : Thread nD τ).loc main_arg9) (ix2 (tok (chunkAt t k) c) (lane h v)) := by
  have ht : t.val < 8 := t.isLt
  blk_ext [iblk, V, idx t]
  simp only [r8Z, tok, chunkAt]; omega
theorem blk8 : iblk m c0 8 t (ix2 (r8Z k c) (lane h v)) = m ((c0.tc : Thread nD τ).loc main_arg7) (ix2 (tok (chunkAt t k) c) (gate h v)) := by
  have ht : t.val < 8 := t.isLt
  blk_ext [iblk, V, idx t]
  all_goals simp only [r8Z, tok, chunkAt, lane, gate]; omega
theorem blk1 : iblk m c0 1 t (ix2 (r8 k h c) v) = V m c0 main_v13 (ix2 (rowN (chunkAt t k) h c) v) := by
  have ht : t.val < 8 := t.isLt
  refine congrArg (V m c0 main_v13) ?_
  blk_ext [idx t]
  all_goals (try simp only [r8, r8S, rowN, rowK, chunkAt]); omega
theorem blk2 : iblk m c0 2 t (ix2 (r8 k h c) v) = V m c0 main_v15 (ix2 (rowN (chunkAt t k) h c) v) := by
  have ht : t.val < 8 := t.isLt
  refine congrArg (V m c0 main_v15) ?_
  blk_ext [idx t]
  all_goals (try simp only [r8, r8S, rowN, rowK, chunkAt]); omega
theorem blk3 : iblk m c0 3 t (ix2 (r8 k h c) v) = V m c0 main_v17 (ix2 (rowN (chunkAt t k) h c) v) := by
  have ht : t.val < 8 := t.isLt
  refine congrArg (V m c0 main_v17) ?_
  blk_ext [idx t]
  all_goals (try simp only [r8, r8S, rowN, rowK, chunkAt]); omega
theorem blk4 : iblk m c0 4 t (ix2 (r8 k h c) v) = V m c0 main_v19 (ix2 (rowN (chunkAt t k) h c) v) := by
  have ht : t.val < 8 := t.isLt
  refine congrArg (V m c0 main_v19) ?_
  blk_ext [idx t]
  all_goals (try simp only [r8, r8S, rowN, rowK, chunkAt]); omega
theorem blk6 : iblk m c0 6 t (ix2 (r8 k h c) v) = V m c0 main_v22 (ix2 (rowN (chunkAt t k) h c) v) := by
  have ht : t.val < 8 := t.isLt
  refine congrArg (V m c0 main_v22) ?_
  blk_ext [idx t]
  all_goals (try simp only [r8, r8S, rowN, rowK, chunkAt]); omega
theorem blk5 (h1 : Fin 4) : iblk m c0 5 t (ix2 (r8 k h c) (rowA h1 j)) = V m c0 main_v21 (ix2 (rowN (chunkAt t k) h c) (rowA h1 j)) := by
  have ht : t.val < 8 := t.isLt
  refine congrArg (V m c0 main_v21) ?_
  blk_ext [idx t]
  all_goals (try simp only [r8, r8S, rowN, rowK, chunkAt]); omega
theorem blk7 : iblk m c0 7 t (ix2 (r8S k h i) v) = V m c0 main_v23 (ix2 (rowK (chunkAt t k) h i) v) := by
  have ht : t.val < 8 := t.isLt
  refine congrArg (V m c0 main_v23) ?_
  blk_ext [idx t]
  all_goals (try simp only [r8, r8S, rowN, rowK, chunkAt]); omega
theorem blk9 : iblk m c0 9 t (ix2 0 v) = V m c0 main_v24 (ix2 0 v) := by
  have ht : t.val < 8 := t.isLt
  refine congrArg (V m c0 main_v24) ?_
  blk_ext [idx t]
  all_goals (try simp only [r8, r8S, rowN, rowK, chunkAt]); omega

end Cert.Scan.Ker

end
-- ==== Proof.KerChunk.lean ====
/- A grid point's stores, entry by entry: eight chunks of one result, the carried gradient, and the running sum of the norm's weight. -/
module

public import proofs.«01_k».proof.Proof.Store
public import proofs.«01_k».proof.Proof.VocAt
public import proofs.«01_k».proof.Proof.Blk

@[expose] public section

set_option maxRecDepth 16384

noncomputable section

namespace Cert.Scan.Ker

open Idealize.ShloMosaic Idealize.ShloMosaic.TcCoe Cert.KernelIdeal Cert.KernelIdeal.Gen Cert.Scan.Voc

/-! Eight blocks of rows, one under the other. -/

section
variable {F : FTy → Type} [FloatOps F]

/-- Where a rectangle of whole rows puts an index. -/
theorem rows_emb (k : Fin 8) (x : S256x128.Idx) : (rows k).emb x = ix2 (⟨256 * k.val + (x 0).val, by have h0 : (x 0).val < 256 := (x 0).isLt; omega⟩ : Fin 2048) (x 1) := by
  funext a
  match a with
  | 0 => exact Fin.ext (by show 256 * k.val + 1 * (x 0).val = 256 * k.val + (x 0).val; omega)
  | 1 => exact Fin.ext (by show 0 + 1 * (x 1).val = (x 1).val; omega)
theorem rowsA_emb (k : Fin 8) (x : S256x256.Idx) : (rowsA k).emb x = ix2 (⟨256 * k.val + (x 0).val, by have h0 : (x 0).val < 256 := (x 0).isLt; omega⟩ : Fin 2048) (x 1) := by
  funext a
  match a with
  | 0 => exact Fin.ext (by show 256 * k.val + 1 * (x 0).val = 256 * k.val + (x 0).val; omega)
  | 1 => exact Fin.ext (by show 0 + 1 * (x 1).val = (x 1).val; omega)
theorem rowsS_emb (k : Fin 8) (h : Fin 4) (x : S128x128.Idx) :
    (rowsS k h).emb x = ix2 (⟨512 * k.val + 128 * h.val + (x 0).val, by have h0 : (x 0).val < 128 := (x 0).isLt; omega⟩ : Fin 4096) (x 1) := by
  funext a
  match a with
  | 0 => exact Fin.ext (by show 512 * k.val + 128 * h.val + 1 * (x 0).val = 512 * k.val + 128 * h.val + (x 0).val; omega)
  | 1 => exact Fin.ext (by show 0 + 1 * (x 1).val = (x 1).val; omega)
theorem rowsZ_emb (k : Fin 8) (x : S64x512.Idx) : (rowsZ k).emb x = ix2 (⟨64 * k.val + (x 0).val, by have h0 : (x 0).val < 64 := (x 0).isLt; omega⟩ : Fin 512) (x 1) := by
  funext a
  match a with
  | 0 => exact Fin.ext (by show 64 * k.val + 1 * (x 0).val = 64 * k.val + (x 0).val; omega)
  | 1 => exact Fin.ext (by show 0 + 1 * (x 1).val = (x 1).val; omega)
theorem rowsD_emb (h : Fin 4) (x : S128x128.Idx) :
    (rowsD h).emb x = ix2 (⟨128 * h.val + (x 0).val, by have h0 : (x 0).val < 128 := (x 0).isLt; omega⟩ : Fin 512) (x 1) := by
  funext a
  match a with
  | 0 => exact Fin.ext (by show 128 * h.val + 1 * (x 0).val = 128 * h.val + (x 0).val; omega)
  | 1 => exact Fin.ext (by show 0 + 1 * (x 1).val = (x 1).val; omega)
theorem rowsN_emb (x : S1x128.Idx) : rowsN.emb x = x := by
  funext a
  match a with
  | 0 => exact Fin.ext (by show 0 + 1 * (x 0).val = (x 0).val; omega)
  | 1 => exact Fin.ext (by show 0 + 1 * (x 1).val = (x 1).val; omega)
theorem rowT_emb (x : S1x128.Idx) : rowT.emb x = ix2 (0 : Fin 8) (x 1) := by
  funext a
  match a with
  | 0 => exact Fin.ext (by show 0 + 1 * (x 0).val = 0; have h0 : (x 0).val < 1 := (x 0).isLt; omega)
  | 1 => exact Fin.ext (by show 0 + 1 * (x 1).val = (x 1).val; omega)

/-- The blocks `V`, stacked. -/
def glue (V : Fin 8 → FVec F S256x128 .f32) (y : S2048x128.Idx) : F .f32 :=
  V ⟨(y 0).val / 256, by have h0 : (y 0).val < 2048 := (y 0).isLt; omega⟩ (ix2 (⟨(y 0).val % 256, by omega⟩ : Fin 256) (y 1))
def glueZ (V : Fin 8 → FVec F S64x512 .bf16) (y : S512x512.Idx) : F .bf16 :=
  V ⟨(y 0).val / 64, by have h0 : (y 0).val < 512 := (y 0).isLt; omega⟩ (ix2 (⟨(y 0).val % 64, by omega⟩ : Fin 64) (y 1))

theorem glue_rows (V : Fin 8 → FVec F S256x128 .f32) (k : Fin 8) (x : S256x128.Idx) : V k x = glue V ((rows k).emb x) := by
  have h0 : (x 0).val < 256 := (x 0).isLt
  rw [rows_emb]
  refine congrArg₂ V (Fin.ext ?_) ?_
  · show k.val = (256 * k.val + (x 0).val) / 256; omega
  · funext a
    match a with
    | 0 => exact Fin.ext (by show (x 0).val = (256 * k.val + (x 0).val) % 256; omega)
    | 1 => rfl
theorem glueZ_rows (V : Fin 8 → FVec F S64x512 .bf16) (k : Fin 8) (x : S64x512.Idx) : V k x = glueZ V ((rowsZ k).emb x) := by
  have h0 : (x 0).val < 64 := (x 0).isLt
  rw [rowsZ_emb]
  refine congrArg₂ V (Fin.ext ?_) ?_
  · show k.val = (64 * k.val + (x 0).val) / 64; omega
  · funext a
    match a with
    | 0 => exact Fin.ext (by show (x 0).val = (64 * k.val + (x 0).val) % 64; omega)
    | 1 => rfl

theorem emb_mem {s : Shape} (r : Rect s) (x : r.shape.Idx) : r.emb x ∈ r.set := by
  rw [← Rect.map_emb_univ]
  exact Finset.mem_map_of_mem _ (Finset.mem_univ x)

theorem mem_pieces (V : Fin 8 → FVec F S256x128 .f32) : ∀ k : Fin 8, (⟨rows k, V k⟩ : View.Piece (Elt F) S2048x128 .f32)
    ∈ pieces (V 0) (V 1) (V 2) (V 3) (V 4) (V 5) (V 6) (V 7) := by
  intro k
  fin_cases k <;> simp [pieces]
theorem mem_piecesZ (V : Fin 8 → FVec F S64x512 .bf16) : ∀ k : Fin 8, (⟨rowsZ k, V k⟩ : View.Piece (Elt F) S512x512 .bf16)
    ∈ piecesZ (V 0) (V 1) (V 2) (V 3) (V 4) (V 5) (V 6) (V 7) := by
  intro k
  fin_cases k <;> simp [piecesZ]

/-- A chunk's block, read back from the eight stores. -/
theorem canon_pieces [∀ e, Nonempty (Elt F e)] (V : Fin 8 → FVec F S256x128 .f32) (k : Fin 8) (x : S256x128.Idx) :
    View.canon (Val := Elt F) (pieces (V 0) (V 1) (V 2) (V 3) (V 4) (V 5) (V 6) (V 7)) ((rows k).emb x) = V k x := by
  rw [glue_rows V k x, ← List.append_nil (pieces _ _ _ _ _ _ _ _)]
  refine View.canon_append_of_piecesOf (glue V) [] _ ?_ _ ⟨_, mem_pieces V k, emb_mem _ _⟩
  exact ⟨glue_rows V 0, glue_rows V 1, glue_rows V 2, glue_rows V 3, glue_rows V 4, glue_rows V 5, glue_rows V 6, glue_rows V 7, trivial⟩
theorem canon_piecesZ [∀ e, Nonempty (Elt F e)] (V : Fin 8 → FVec F S64x512 .bf16) (k : Fin 8) (x : S64x512.Idx) :
    View.canon (Val := Elt F) (piecesZ (V 0) (V 1) (V 2) (V 3) (V 4) (V 5) (V 6) (V 7)) ((rowsZ k).emb x) = V k x := by
  rw [glueZ_rows V k x, ← List.append_nil (piecesZ _ _ _ _ _ _ _ _)]
  refine View.canon_append_of_piecesOf (glueZ V) [] _ ?_ _ ⟨_, mem_piecesZ V k, emb_mem _ _⟩
  exact ⟨glueZ_rows V 0, glueZ_rows V 1, glueZ_rows V 2, glueZ_rows V 3, glueZ_rows V 4, glueZ_rows V 5, glueZ_rows V 6, glueZ_rows V 7, trivial⟩

/-- Head `h` of the carried gradient, read back from the four stores. -/
theorem canon_piecesD [∀ e, Nonempty (Elt F e)] (d : Dn F) (L : List (View.Piece (Elt F) S512x128 .f32)) (V : Fin 4 → FVec F S128x128 .f32)
    (h0 : V 0 = shapeCast S128x128 d.d0 shapeCasts_S128x128_S128x128) (h1 : V 1 = shapeCast S128x128 d.d1 shapeCasts_S128x128_S128x128)
    (h2 : V 2 = shapeCast S128x128 d.d2 shapeCasts_S128x128_S128x128) (h3 : V 3 = shapeCast S128x128 d.d3 shapeCasts_S128x128_S128x128)
    (h : Fin 4) (x : S128x128.Idx) : View.canon (Val := Elt F) (piecesD d L) ((rowsD h).emb x) = V h x := by
  have key : ∀ (k : Fin 4) (x : S128x128.Idx), V k x = (fun y : S512x128.Idx =>
      V ⟨(y 0).val / 128, by have h0 : (y 0).val < 512 := (y 0).isLt; omega⟩ (ix2 (⟨(y 0).val % 128, by omega⟩ : Fin 128) (y 1))) ((rowsD k).emb x) := by
    intro k x
    have h0 : (x 0).val < 128 := (x 0).isLt
    rw [rowsD_emb]
    refine congrArg₂ V (Fin.ext ?_) ?_
    · show k.val = (128 * k.val + (x 0).val) / 128; omega
    · funext a
      match a with
      | 0 => exact Fin.ext (by show (x 0).val = (128 * k.val + (x 0).val) % 128; omega)
      | 1 => rfl
  rw [key h x]
  show View.canon ([⟨rowsD 3, shapeCast S128x128 d.d3 shapeCasts_S128x128_S128x128⟩, ⟨rowsD 2, shapeCast S128x128 d.d2 shapeCasts_S128x128_S128x128⟩,
    ⟨rowsD 1, shapeCast S128x128 d.d1 shapeCasts_S128x128_S128x128⟩, ⟨rowsD 0, shapeCast S128x128 d.d0 shapeCasts_S128x128_S128x128⟩] ++ L) ((rowsD h).emb x) = _
  refine View.canon_append_of_piecesOf (fun y : S512x128.Idx =>
      V ⟨(y 0).val / 128, by have h0 : (y 0).val < 512 := (y 0).isLt; omega⟩ (ix2 (⟨(y 0).val % 128, by omega⟩ : Fin 128) (y 1))) L [⟨rowsD 3, shapeCast S128x128 d.d3 shapeCasts_S128x128_S128x128⟩, ⟨rowsD 2, shapeCast S128x128 d.d2 shapeCasts_S128x128_S128x128⟩,
    ⟨rowsD 1, shapeCast S128x128 d.d1 shapeCasts_S128x128_S128x128⟩, ⟨rowsD 0, shapeCast S128x128 d.d0 shapeCasts_S128x128_S128x128⟩] ?_ _ ?_
  · rw [← h0, ← h1, ← h2, ← h3]
    exact ⟨key 3, key 2, key 1, key 0, trivial⟩
  · refine ⟨⟨rowsD h, V h⟩, ?_, emb_mem _ _⟩
    rw [← h0, ← h1, ← h2, ← h3]
    fin_cases h <;> simp

end

/-! The same blocks' entries. -/

theorem cast_at (x : FVec Ideal S128x128 .f32) (k v : Fin 128) : shapeCast S128x128 x shapeCasts_S128x128_S128x128 (ix2 k v) = x (ix2 k v) := by
  pointwise

theorem fromS0_at (x : Vec Ideal S512x128 .f32) (k v : Fin 128) : (fromS x).d0 (ix2 k v) = x ((rowsD 0).emb (ix2 k v)) :=
  stt_at k v (View.ld x (rowsD 0))
theorem fromS1_at (x : Vec Ideal S512x128 .f32) (k v : Fin 128) : (fromS x).d1 (ix2 k v) = x ((rowsD 1).emb (ix2 k v)) :=
  stt_at k v (View.ld x (rowsD 1))
theorem fromS2_at (x : Vec Ideal S512x128 .f32) (k v : Fin 128) : (fromS x).d2 (ix2 k v) = x ((rowsD 2).emb (ix2 k v)) :=
  stt_at k v (View.ld x (rowsD 2))
theorem fromS3_at (x : Vec Ideal S512x128 .f32) (k v : Fin 128) : (fromS x).d3 (ix2 k v) = x ((rowsD 3).emb (ix2 k v)) :=
  stt_at k v (View.ld x (rowsD 3))

/-- A gradient stored and loaded again keeps its entries. -/
theorem fromS_piecesD {d : Dn Ideal} {D : Grad} (E : RelD d D) (L : List (View.Piece (Elt Ideal) S512x128 .f32)) : RelD (fromS (View.canon (piecesD d L))) D := by
  have key := canon_piecesD d L ![shapeCast S128x128 d.d0 shapeCasts_S128x128_S128x128, shapeCast S128x128 d.d1 shapeCasts_S128x128_S128x128,
    shapeCast S128x128 d.d2 shapeCasts_S128x128_S128x128, shapeCast S128x128 d.d3 shapeCasts_S128x128_S128x128] rfl rfl rfl rfl
  refine ⟨fun k v => ?_, fun k v => ?_, fun k v => ?_, fun k v => ?_⟩
  · rw [fromS0_at]; exact (key 0 (ix2 k v)).trans ((cast_at _ k v).trans (E.d0 k v))
  · rw [fromS1_at]; exact (key 1 (ix2 k v)).trans ((cast_at _ k v).trans (E.d1 k v))
  · rw [fromS2_at]; exact (key 2 (ix2 k v)).trans ((cast_at _ k v).trans (E.d2 k v))
  · rw [fromS3_at]; exact (key 3 (ix2 k v)).trans ((cast_at _ k v).trans (E.d3 k v))

theorem fromS_zero : RelD (fromS (k0_pay2 (F := Ideal))) (0 : Grad) := by
  have key : ∀ (h : Fin 4) (x : S128x128.Idx), k0_pay2 (F := Ideal) ((rowsD h).emb x) = (0 : EReal) := by
    intro h x
    rw [rowsD_emb]
    pointwise [k0_pay2]
  refine ⟨fun k v => ?_, fun k v => ?_, fun k v => ?_, fun k v => ?_⟩
  · rw [fromS0_at]; exact key 0 (ix2 k v)
  · rw [fromS1_at]; exact key 1 (ix2 k v)
  · rw [fromS2_at]; exact key 2 (ix2 k v)
  · rw [fromS3_at]; exact key 3 (ix2 k v)

/-! Chunk after chunk. -/

variable {Y : Fin 64 → Inp} {t : ℕ} {X : Fin 8 → Ins Ideal} {d : Dn Ideal}

theorem chunkAt_last (ht : t < 8) {j : ℕ} (hj : j < 8) : chunkAt t (Fin.ofNat 8 (7 - j)) = Fin.ofNat 64 (63 - (8 * t + j)) := by
  refine Fin.ext ?_
  show 8 * (7 - t) + (7 - j) % 8 = (63 - (8 * t + j)) % 64
  omega

theorem after_rel (ht : t < 8) (hX : ∀ k, Rel (X k) (Y (chunkAt t k))) (E : RelD d (D Y (8 * t))) : ∀ j, j ≤ 8 → RelD (after X d j) (D Y (8 * t + j))
  | 0, _ => E
  | j + 1, hj => by
    have R := (hX (Fin.ofNat 8 (7 - j))).next_at (after_rel ht hX E j (by omega))
    rw [chunkAt_last ht (by omega)] at R
    exact R

/-- The sum over the last `j` chunks of the gradient of the norm's weight. -/
def T (Y : Fin 64 → Inp) (v : Fin 128) : ℕ → EReal
  | 0 => 0
  | j + 1 => T Y v j + (Y (Fin.ofNat 64 (63 - j))).dnw v

theorem accs_rel (ht : t < 8) (hX : ∀ k, Rel (X k) (Y (chunkAt t k))) (v : Fin 128) {p : Vec Ideal S1x128 .f32} (hp : p (ix2 0 v) = T Y v (8 * t)) :
    ∀ j, j ≤ 8 → accs X p j (ix2 0 v) = T Y v (8 * t + j)
  | 0, _ => hp
  | j + 1, hj => by
    have R := (hX (Fin.ofNat 8 (7 - j))).acc_at v (accs X p j)
    rw [chunkAt_last ht (by omega), accs_rel ht hX v hp j (by omega)] at R
    exact R

theorem T_all (Y : Fin 64 → Inp) (v : Fin 128) : T Y v 64 = ∑ n, (Y n).dnw v := by
  have key : ∀ j, T Y v j = ∑ i ∈ Finset.range j, (Y (Fin.ofNat 64 (63 - i))).dnw v := by
    intro j
    induction j with
    | zero => rfl
    | succ j ih => rw [Finset.sum_range_succ, ← ih]; rfl
  rw [key, ← Fin.sum_univ_eq_sum_range (fun i => (Y (Fin.ofNat 64 (63 - i))).dnw v) 64]
  refine Fintype.sum_equiv Fin.revPerm _ _ fun i => ?_
  refine congrArg (fun n => (Y n).dnw v) (Fin.ext ?_)
  show (63 - i.val) % 64 = 64 - (i.val + 1)
  omega

end Cert.Scan.Ker

end
-- ==== Proof.RunA.lean ====
/- Case A of the body's run: what it stores is what the definitions of one chunk say, chunk by chunk. -/
module

public import proofs.«01_k».proof.Proof.Chunks
public import proofs.«01_k».proof.Proof.Gen.KernelIdeal.Frame.RunA

@[expose] public section

set_option maxRecDepth 16384

noncomputable section

namespace Cert.Scan.Voc.RunA

open Idealize.ShloMosaic Idealize.ShloMosaic.TcCoe Cert.KernelIdeal Cert.KernelIdeal.Gen

variable {F : FTy → Type} [FloatOps F] (c : Dev nD) (i : grid0.Coords) (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x128 .f32) (harg16 : arg16.IsWhole) (arg17 : Memref sig .tc .vmem S512x512 .bf16) (harg17 : arg17.IsWhole) (arg18 : Memref sig .tc .vmem S8x128 .f32) (harg18 : arg18.IsWhole) (arg19 : Memref sig .tc .vmem S512x128 .f32) (harg19 : arg19.IsWhole)
    (hc0 : cond0_0 i) (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32)

/-- The gradient the point starts from. -/
def d0 : Dn F where
  d0 := stt (kernelRun0_A.sl.v3 c arg19)
  d1 := stt (kernelRun0_A.sl.v4 c arg19)
  d2 := stt (kernelRun0_A.sl.v5 c arg19)
  d3 := stt (kernelRun0_A.sl.v6 c arg19)

/-- after chunk 7 -/
theorem step1 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 1 = ⟨(kernelRun0_A.sl.r_106 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_105 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_104 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_100 c arg1 harg1 arg2 harg2 arg3 harg3 arg4 harg4 arg5 harg5 arg6 harg6 arg7 harg7 arg8 harg8 arg9 harg9 arg10 harg10 arg19 x0 x1 x2 x3 x4 x5 x6 x7 x8 x9)⟩ := by
  sl_kernel_rfl

/-- after chunk 6 -/
theorem step2 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 2 = ⟨(kernelRun0_A.sl.r_214 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_213 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_212 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_208 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 6)) (step1 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 5 -/
theorem step3 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 3 = ⟨(kernelRun0_A.sl.r_326 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_325 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_323 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_321 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 5)) (step2 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 4 -/
theorem step4 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 4 = ⟨(kernelRun0_A.sl.r_437 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_436 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_432 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_430 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 4)) (step3 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 3 -/
theorem step5 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 5 = ⟨(kernelRun0_A.sl.r_538 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_537 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_534 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_532 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 3)) (step4 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 2 -/
theorem step6 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 6 = ⟨(kernelRun0_A.sl.r_645 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_642 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_640 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_638 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 2)) (step5 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 1 -/
theorem step7 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 7 = ⟨(kernelRun0_A.sl.r_748 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_744 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_742 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_740 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 1)) (step6 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

/-- after chunk 0 -/
theorem step8 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 c arg19) 8 = ⟨(kernelRun0_A.sl.r_846 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_844 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_842 c arg1 harg1 arg2 harg2 arg3 harg3 arg4 harg4 arg5 harg5 arg6 harg6 arg7 harg7 arg8 harg8 arg9 harg9 arg10 harg10 arg19 x0 x1 x2 x3 x4 x5 x6 x7 x8 x9), (kernelRun0_A.sl.r_840 c arg1 harg1 arg2 harg2 arg3 harg3 arg4 harg4 arg5 harg5 arg6 harg6 arg7 harg7 arg8 harg8 arg9 harg9 arg10 harg10 arg19 x0 x1 x2 x3 x4 x5 x6 x7 x8 x9)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 0)) (step7 c arg1 harg1 arg2 harg2 arg3 harg3 arg4 harg4 arg5 harg5 arg6 harg6 arg7 harg7 arg8 harg8 arg9 harg9 arg10 harg10 arg19 x0 x1 x2 x3 x4 x5 x6 x7 x8 x9)).trans (by sl_kernel_rfl)

end Cert.Scan.Voc.RunA

end
-- ==== Proof.OutA.lean ====
/- Case A of the body's run: what it leaves in every result's block, as the definitions of one chunk at the chunks' blocks. -/
module

public import proofs.«01_k».proof.Proof.RunA
public import proofs.«01_k».proof.Proof.Store
public import proofs.«01_k».proof.Proof.Gen.KernelIdeal.Frame

@[expose] public section

set_option maxRecDepth 16384

noncomputable section

namespace Cert.Scan.Voc.RunA

open Idealize.ShloMosaic Idealize.ShloMosaic.TcCoe Cert.KernelIdeal Cert.KernelIdeal.Gen

variable {F : FTy → Type} [FloatOps F] (c : Dev nD) (i : grid0.Coords) (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x128 .f32) (harg16 : arg16.IsWhole) (arg17 : Memref sig .tc .vmem S512x512 .bf16) (harg17 : arg17.IsWhole) (arg18 : Memref sig .tc .vmem S8x128 .f32) (harg18 : arg18.IsWhole) (arg19 : Memref sig .tc .vmem S512x128 .f32) (harg19 : arg19.IsWhole)
    (hc0 : cond0_0 i) (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32)

theorem rd_ins : (rd (F := F) arg1 harg1 arg2 harg2 arg3 harg3 arg4 harg4 arg5 harg5 arg6 harg6 arg7 harg7 arg8 harg8 arg9 harg9 arg10 harg10 x0 x1 x2 x3 x4 x5 x6 x7 x8 x9) = (ins (F := F) x0 x1 x2 x3 x4 x5 x6 x7 x8 x9) := funext fun k => rd_eq arg1 harg1 arg2 harg2 arg3 harg3 arg4 harg4 arg5 harg5 arg6 harg6 arg7 harg7 arg8 harg8 arg9 harg9 arg10 harg10 x0 x1 x2 x3 x4 x5 x6 x7 x8 x9 k

theorem d0_eq : d0 (F := F) c arg19 = fromS k0_pay2 := by
  show (⟨stt (View.readCov (Val := Elt F) arg19.view [⟨Rect.unit (s := S512x128) ![0, 0] S512x128.size inb_S512x128_S512x128_0_0, k0_pay2 (F := F)⟩] (rowsD 0).toLoadRect),
    stt (View.readCov (Val := Elt F) arg19.view [⟨Rect.unit (s := S512x128) ![0, 0] S512x128.size inb_S512x128_S512x128_0_0, k0_pay2 (F := F)⟩] (rowsD 1).toLoadRect),
    stt (View.readCov (Val := Elt F) arg19.view [⟨Rect.unit (s := S512x128) ![0, 0] S512x128.size inb_S512x128_S512x128_0_0, k0_pay2 (F := F)⟩] (rowsD 2).toLoadRect),
    stt (View.readCov (Val := Elt F) arg19.view [⟨Rect.unit (s := S512x128) ![0, 0] S512x128.size inb_S512x128_S512x128_0_0, k0_pay2 (F := F)⟩] (rowsD 3).toLoadRect)⟩ : Dn F) = _
  rw [fillD, fillD, fillD, fillD]
  rfl

theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (pieces (du ((ins (F := F) x0 x1 x2 x3 x4 x5 x6 x7 x8 x9) 0) (after (ins (F := F) x0 x1 x2 x3 x4 x5 x6 x7 x8 x9) (fromS k0_pay2) 7)) (du ((ins (F := F) x0 x1 x2 x3 x4 x5 x6 x7 x8 x9) 1) (after (ins (F := F) x0 x1 x2 x3 x4 x5 x6 x7 x8 x9) (fromS k0_pay2) 6)) (du ((ins (F := F) x0 x1 x2 x3 x4 x5 x6 x7 x8 x9) 2) (after (ins (F := F) x0 x1 x2 x3 x4 x5 x6 x7 x8 x9) (fromS k0_pay2) 5)) (du ((ins (F := F) x0 x1 x2 x3 x4 x5 x6 x7 x8 x9) 3) (after (ins (F := F) x0 x1 x2 x3 x4 x5 x6 x7 x8 x9) (fromS k0_pay2) 4)) (du ((ins (F := F) x0 x1 x2 x3 x4 x5 x6 x7 x8 x9) 4) (after (ins (F := F) x0 x1 x2 x3 x4 x5 x6 x7 x8 x9) (fromS k0_pay2) 3)) (du ((ins (F := F) x0 x1 x2 x3 x4 x5 x6 x7 x8 x9) 5) (after (ins (F := F) x0 x1 x2 x3 x4 x5 x6 x7 x8 x9) (fromS k0_pay2) 2)) (du ((ins (F := F) x0 x1 x2 x3 x4 x5 x6 x7 x8 x9) 6) (after (ins (F := F) x0 x1 x2 x3 x4 x5 x6 x7 x8 x9) (fromS k0_pay2) 1)) (du ((ins (F := F) x0 x1 x2 x3 x4 x5 x6 x7 x8 x9) 7) (fromS k0_pay2))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VO0_10.read (Elt F) (VO0_10.writes (Elt F) VO0_10.junk (pieces (du (X 0) a7) (du (X 1) a6) (du (X 2) a5) (du (X 3) a4) (du (X 4) a3) (du (X 5) a2) (du (X 6) a1) (du (X 7) d))))))
    (View.read_writes_junk_eq_canon VO0_10 _)

theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (pieces (dw ((ins (F := F) x0 x1 x2 x3 x4 x5 x6 x7 x8 x9) 0) (after (ins (F := F) x0 x1 x2 x3 x4 x5 x6 x7 x8 x9) (fromS k0_pay2) 7)) (dw ((ins (F := F) x0 x1 x2 x3 x4 x5 x6 x7 x8 x9) 1) (after (ins (F := F) x0 x1 x2 x3 x4 x5 x6 x7 x8 x9) (fromS k0_pay2) 6)) (dw ((ins (F := F) x0 x1 x2 x3 x4 x5 x6 x7 x8 x9) 2) (after (ins (F := F) x0 x1 x2 x3 x4 x5 x6 x7 x8 x9) (fromS k0_pay2) 5)) (dw ((ins (F := F) x0 x1 x2 x3 x4 x5 x6 x7 x8 x9) 3) (after (ins (F := F) x0 x1 x2 x3 x4 x5 x6 x7 x8 x9) (fromS k0_pay2) 4)) (dw ((ins (F := F) x0 x1 x2 x3 x4 x5 x6 x7 x8 x9) 4) (after (ins (F := F) x0 x1 x2 x3 x4 x5 x6 x7 x8 x9) (fromS k0_pay2) 3)) (dw ((ins (F := F) x0 x1 x2 x3 x4 x5 x6 x7 x8 x9) 5) (after (ins (F := F) x0 x1 x2 x3 x4 x5 x6 x7 x8 x9) (fromS k0_pay2) 2)) (dw ((ins (F := F) x0 x1 x2 x3 x4 x5 x6 x7 x8 x9) 6) (after (ins (F := F) x0 x1 x2 x3 x4 x5 x6 x7 x8 x9) (fromS k0_pay2) 1)) (dw ((ins (F := F) x0 x1 x2 x3 x4 x5 x6 x7 x8 x9) 7) (fromS k0_pay2))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VO0_11.read (Elt F) (VO0_11.writes (Elt F) VO0_11.junk (pieces (dw (X 0) a7) (dw (X 1) a6) (dw (X 2) a5) (dw (X 3) a4) (dw (X 4) a3) (dw (X 5) a2) (dw (X 6) a1) (dw (X 7) d))))))
    (View.read_writes_junk_eq_canon VO0_11 _)

theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (pieces (dq ((ins (F := F) x0 x1 x2 x3 x4 x5 x6 x7 x8 x9) 0)) (dq ((ins (F := F) x0 x1 x2 x3 x4 x5 x6 x7 x8 x9) 1)) (dq ((ins (F := F) x0 x1 x2 x3 x4 x5 x6 x7 x8 x9) 2)) (dq ((ins (F := F) x0 x1 x2 x3 x4 x5 x6 x7 x8 x9) 3)) (dq ((ins (F := F) x0 x1 x2 x3 x4 x5 x6 x7 x8 x9) 4)) (dq ((ins (F := F) x0 x1 x2 x3 x4 x5 x6 x7 x8 x9) 5)) (dq ((ins (F := F) x0 x1 x2 x3 x4 x5 x6 x7 x8 x9) 6)) (dq ((ins (F := F) x0 x1 x2 x3 x4 x5 x6 x7 x8 x9) 7))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VO0_12.read (Elt F) (VO0_12.writes (Elt F) VO0_12.junk (pieces (dq (X 0)) (dq (X 1)) (dq (X 2)) (dq (X 3)) (dq (X 4)) (dq (X 5)) (dq (X 6)) (dq (X 7)))))))
    (View.read_writes_junk_eq_canon VO0_12 _)

theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (pieces (dk ((ins (F := F) x0 x1 x2 x3 x4 x5 x6 x7 x8 x9) 0) (after (ins (F := F) x0 x1 x2 x3 x4 x5 x6 x7 x8 x9) (fromS k0_pay2) 7)) (dk ((ins (F := F) x0 x1 x2 x3 x4 x5 x6 x7 x8 x9) 1) (after (ins (F := F) x0 x1 x2 x3 x4 x5 x6 x7 x8 x9) (fromS k0_pay2) 6)) (dk ((ins (F := F) x0 x1 x2 x3 x4 x5 x6 x7 x8 x9) 2) (after (ins (F := F) x0 x1 x2 x3 x4 x5 x6 x7 x8 x9) (fromS k0_pay2) 5)) (dk ((ins (F := F) x0 x1 x2 x3 x4 x5 x6 x7 x8 x9) 3) (after (ins (F := F) x0 x1 x2 x3 x4 x5 x6 x7 x8 x9) (fromS k0_pay2) 4)) (dk ((ins (F := F) x0 x1 x2 x3 x4 x5 x6 x7 x8 x9) 4) (after (ins (F := F) x0 x1 x2 x3 x4 x5 x6 x7 x8 x9) (fromS k0_pay2) 3)) (dk ((ins (F := F) x0 x1 x2 x3 x4 x5 x6 x7 x8 x9) 5) (after (ins (F := F) x0 x1 x2 x3 x4 x5 x6 x7 x8 x9) (fromS k0_pay2) 2)) (dk ((ins (F := F) x0 x1 x2 x3 x4 x5 x6 x7 x8 x9) 6) (after (ins (F := F) x0 x1 x2 x3 x4 x5 x6 x7 x8 x9) (fromS k0_pay2) 1)) (dk ((ins (F := F) x0 x1 x2 x3 x4 x5 x6 x7 x8 x9) 7) (fromS k0_pay2))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VO0_13.read (Elt F) (VO0_13.writes (Elt F) VO0_13.junk (pieces (dk (X 0) a7) (dk (X 1) a6) (dk (X 2) a5) (dk (X 3) a4) (dk (X 4) a3) (dk (X 5) a2) (dk (X 6) a1) (dk (X 7) d))))))
    (View.read_writes_junk_eq_canon VO0_13 _)

theorem out16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (piecesZ (dzb ((ins (F := F) x0 x1 x2 x3 x4 x5 x6 x7 x8 x9) 0)) (dzb ((ins (F := F) x0 x1 x2 x3 x4 x5 x6 x7 x8 x9) 1)) (dzb ((ins (F := F) x0 x1 x2 x3 x4 x5 x6 x7 x8 x9) 2)) (dzb ((ins (F := F) x0 x1 x2 x3 x4 x5 x6 x7 x8 x9) 3)) (dzb ((ins (F := F) x0 x1 x2 x3 x4 x5 x6 x7 x8 x9) 4)) (dzb ((ins (F := F) x0 x1 x2 x3 x4 x5 x6 x7 x8 x9) 5)) (dzb ((ins (F := F) x0 x1 x2 x3 x4 x5 x6 x7 x8 x9) 6)) (dzb ((ins (F := F) x0 x1 x2 x3 x4 x5 x6 x7 x8 x9) 7))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VO0_16.read (Elt F) (VO0_16.writes (Elt F) VO0_16.junk (piecesZ (dzb (X 0)) (dzb (X 1)) (dzb (X 2)) (dzb (X 3)) (dzb (X 4)) (dzb (X 5)) (dzb (X 6)) (dzb (X 7)))))))
    (View.read_writes_junk_eq_canon VO0_16 _)

theorem outs : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
    View.canon (piecesD (after (ins (F := F) x0 x1 x2 x3 x4 x5 x6 x7 x8 x9) (fromS k0_pay2) 8) [⟨Rect.unit (s := S512x128) ![0, 0] S512x128.size inb_S512x128_S512x128_0_0, k0_pay2⟩]) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq c arg19) (step1 c arg1 harg1 arg2 harg2 arg3 harg3 arg4 harg4 arg5 harg5 arg6 harg6 arg7 harg7 arg8 harg8 arg9 harg9 arg10 harg10 arg19 x0 x1 x2 x3 x4 x5 x6 x7 x8 x9) (step2 c arg1 harg1 arg2 harg2 arg3 harg3 arg4 harg4 arg5 harg5 arg6 harg6 arg7 harg7 arg8 harg8 arg9 harg9 arg10 harg10 arg19 x0 x1 x2 x3 x4 x5 x6 x7 x8 x9) (step3 c arg1 harg1 arg2 harg2 arg3 harg3 arg4 harg4 arg5 harg5 arg6 harg6 arg7 harg7 arg8 harg8 arg9 harg9 arg10 harg10 arg19 x0 x1 x2 x3 x4 x5 x6 x7 x8 x9) (step4 c arg1 harg1 arg2 harg2 arg3 harg3 arg4 harg4 arg5 harg5 arg6 harg6 arg7 harg7 arg8 harg8 arg9 harg9 arg10 harg10 arg19 x0 x1 x2 x3 x4 x5 x6 x7 x8 x9) (step5 c arg1 harg1 arg2 harg2 arg3 harg3 arg4 harg4 arg5 harg5 arg6 harg6 arg7 harg7 arg8 harg8 arg9 harg9 arg10 harg10 arg19 x0 x1 x2 x3 x4 x5 x6 x7 x8 x9) (step6 c arg1 harg1 arg2 harg2 arg3 harg3 arg4 harg4 arg5 harg5 arg6 harg6 arg7 harg7 arg8 harg8 arg9 harg9 arg10 harg10 arg19 x0 x1 x2 x3 x4 x5 x6 x7 x8 x9) (step7 c arg1 harg1 arg2 harg2 arg3 harg3 arg4 harg4 arg5 harg5 arg6 harg6 arg7 harg7 arg8 harg8 arg9 harg9 arg10 harg10 arg19 x0 x1 x2 x3 x4 x5 x6 x7 x8 x9) (step8 c arg1 harg1 arg2 harg2 arg3 harg3 arg4 harg4 arg5 harg5 arg6 harg6 arg7 harg7 arg8 harg8 arg9 harg9 arg10 harg10 arg19 x0 x1 x2 x3 x4 x5 x6 x7 x8 x9)
      (fun (X : Fin 8 → Ins F) (d a1 a2 a3 a4 a5 a6 a7 a8 : Dn F) => VS0_0.read (Elt F) (VS0_0.writes (Elt F) VS0_0.junk (piecesD a8 [⟨Rect.unit (s := S512x128) ![0, 0] S512x128.size inb_S512x128_S512x128_0_0, k0_pay2⟩])))))
    (View.read_writes_junk_eq_canon VS0_0 _)

theorem acc1 : (kernelRun0_A.sl.v641 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (kernelRun0_A.sl.v326 c arg18) :=
  (by sl_kernel_rfl : (kernelRun0_A.sl.v641 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (kernelRun0_A.sl.v326 c arg18)⟩ :: (kernelRun0_A.sl.H17_1 )) rowT.toLoadRect).trans
    (View.readCov_cons_toLoadRect arg18.view rowT _ _)

theorem acc2 : (kernelRun0_A.sl.v956 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_A.sl.v641 c arg1 harg1 arg2 harg2 arg3 harg3 arg4 harg4 arg6 harg6 arg8 harg8 arg9 harg9 arg18 x0 x1 x2 x3 x5 x7 x8) :=
  (by sl_kernel_rfl : (kernelRun0_A.sl.v956 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_A.sl.v641 c arg1 harg1 arg2 harg2 arg3 harg3 arg4 harg4 arg6 harg6 arg8 harg8 arg9 harg9 arg18 x0 x1 x2 x3 x5 x7 x8)⟩ :: (kernelRun0_A.sl.H17_2 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem acc3 : (kernelRun0_A.sl.v1271 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_A.sl.v956 c arg1 harg1 arg2 harg2 arg3 harg3 arg4 harg4 arg6 harg6 arg8 harg8 arg9 harg9 arg18 x0 x1 x2 x3 x5 x7 x8) :=
  (by sl_kernel_rfl : (kernelRun0_A.sl.v1271 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_A.sl.v956 c arg1 harg1 arg2 harg2 arg3 harg3 arg4 harg4 arg6 harg6 arg8 harg8 arg9 harg9 arg18 x0 x1 x2 x3 x5 x7 x8)⟩ :: (kernelRun0_A.sl.H17_3 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem acc4 : (kernelRun0_A.sl.v1586 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_A.sl.v1271 c arg1 harg1 arg2 harg2 arg3 harg3 arg4 harg4 arg6 harg6 arg8 harg8 arg9 harg9 arg18 x0 x1 x2 x3 x5 x7 x8) :=
  (by sl_kernel_rfl : (kernelRun0_A.sl.v1586 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_A.sl.v1271 c arg1 harg1 arg2 harg2 arg3 harg3 arg4 harg4 arg6 harg6 arg8 harg8 arg9 harg9 arg18 x0 x1 x2 x3 x5 x7 x8)⟩ :: (kernelRun0_A.sl.H17_4 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem acc5 : (kernelRun0_A.sl.v1901 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_A.sl.v1586 c arg1 harg1 arg2 harg2 arg3 harg3 arg4 harg4 arg6 harg6 arg8 harg8 arg9 harg9 arg18 x0 x1 x2 x3 x5 x7 x8) :=
  (by sl_kernel_rfl : (kernelRun0_A.sl.v1901 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_A.sl.v1586 c arg1 harg1 arg2 harg2 arg3 harg3 arg4 harg4 arg6 harg6 arg8 harg8 arg9 harg9 arg18 x0 x1 x2 x3 x5 x7 x8)⟩ :: (kernelRun0_A.sl.H17_5 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem acc6 : (kernelRun0_A.sl.v2216 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_A.sl.v1901 c arg1 harg1 arg2 harg2 arg3 harg3 arg4 harg4 arg6 harg6 arg8 harg8 arg9 harg9 arg18 x0 x1 x2 x3 x5 x7 x8) :=
  (by sl_kernel_rfl : (kernelRun0_A.sl.v2216 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_A.sl.v1901 c arg1 harg1 arg2 harg2 arg3 harg3 arg4 harg4 arg6 harg6 arg8 harg8 arg9 harg9 arg18 x0 x1 x2 x3 x5 x7 x8)⟩ :: (kernelRun0_A.sl.H17_6 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem acc7 : (kernelRun0_A.sl.v2531 c arg1 harg1 arg2 harg2 arg3 harg3 arg4 harg4 arg6 harg6 arg8 harg8 arg9 harg9 arg18 x0 x1 x2 x3 x5 x7 x8) = acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_A.sl.v2216 c arg1 harg1 arg2 harg2 arg3 harg3 arg4 harg4 arg6 harg6 arg8 harg8 arg9 harg9 arg18 x0 x1 x2 x3 x5 x7 x8) :=
  (by sl_kernel_rfl : (kernelRun0_A.sl.v2531 c arg1 harg1 arg2 harg2 arg3 harg3 arg4 harg4 arg6 harg6 arg8 harg8 arg9 harg9 arg18 x0 x1 x2 x3 x5 x7 x8) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_A.sl.v2216 c arg1 harg1 arg2 harg2 arg3 harg3 arg4 harg4 arg6 harg6 arg8 harg8 arg9 harg9 arg18 x0 x1 x2 x3 x5 x7 x8)⟩ :: (kernelRun0_A.sl.H17_7 c arg1 harg1 arg2 harg2 arg3 harg3 arg4 harg4 arg6 harg6 arg8 harg8 arg9 harg9 arg18 x0 x1 x2 x3 x5 x7 x8)) rowT.toLoadRect).trans
    (View.readCov_cons_toLoadRect arg18.view rowT _ _)

theorem p0_eq : (kernelRun0_A.sl.v326 c arg18) = View.ld (k0_pay3 (F := F)) rowT :=
  (by sl_kernel_rfl : (kernelRun0_A.sl.v326 c arg18) = View.readCov (Val := Elt F) arg18.view [⟨Rect.unit (s := S8x128) ![0, 0] S8x128.size inb_S8x128_S8x128_0_0, k0_pay3 (F := F)⟩] rowT.toLoadRect).trans
    (fillT (k0_pay3 (F := F)))

theorem out17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = rowT.overlay k0_pay3 (accs (ins (F := F) x0 x1 x2 x3 x4 x5 x6 x7 x8 x9) (View.ld k0_pay3 rowT) 8) := by
  have h1 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = (fun b1 b2 b3 b4 b5 b6 b7 b8 : Vec F S1x128 .f32 => VO0_17.read (Elt F) (VO0_17.writes (Elt F) VO0_17.junk [⟨rowT, b8⟩, ⟨rowT, b7⟩, ⟨rowT, b6⟩, ⟨rowT, b5⟩, ⟨rowT, b4⟩, ⟨rowT, b3⟩, ⟨rowT, b2⟩, ⟨rowT, b1⟩, ⟨Rect.unit (s := S8x128) ![0, 0] S8x128.size inb_S8x128_S8x128_0_0, k0_pay3⟩])) (acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (kernelRun0_A.sl.v326 c arg18)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_A.sl.v641 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_A.sl.v956 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_A.sl.v1271 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_A.sl.v1586 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_A.sl.v1901 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_A.sl.v2216 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 0) (kernelRun0_A.sl.v2531 c arg1 harg1 arg2 harg2 arg3 harg3 arg4 harg4 arg6 harg6 arg8 harg8 arg9 harg9 arg18 x0 x1 x2 x3 x5 x7 x8)) := by sl_kernel_rfl
  have h2 : (fun b1 b2 b3 b4 b5 b6 b7 b8 : Vec F S1x128 .f32 => VO0_17.read (Elt F) (VO0_17.writes (Elt F) VO0_17.junk [⟨rowT, b8⟩, ⟨rowT, b7⟩, ⟨rowT, b6⟩, ⟨rowT, b5⟩, ⟨rowT, b4⟩, ⟨rowT, b3⟩, ⟨rowT, b2⟩, ⟨rowT, b1⟩, ⟨Rect.unit (s := S8x128) ![0, 0] S8x128.size inb_S8x128_S8x128_0_0, k0_pay3⟩])) (acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (kernelRun0_A.sl.v326 c arg18)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_A.sl.v641 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_A.sl.v956 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_A.sl.v1271 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_A.sl.v1586 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_A.sl.v1901 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_A.sl.v2216 c arg1 harg1 arg2 harg2 arg3 harg3 arg4 harg4 arg6 harg6 arg8 harg8 arg9 harg9 arg18 x0 x1 x2 x3 x5 x7 x8)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 0) (kernelRun0_A.sl.v2531 c arg1 harg1 arg2 harg2 arg3 harg3 arg4 harg4 arg6 harg6 arg8 harg8 arg9 harg9 arg18 x0 x1 x2 x3 x5 x7 x8)) = VO0_17.read (Elt F) (VO0_17.writes (Elt F) VO0_17.junk [⟨rowT, accs (ins (F := F) x0 x1 x2 x3 x4 x5 x6 x7 x8 x9) (View.ld k0_pay3 rowT) 8⟩, ⟨rowT, accs (ins (F := F) x0 x1 x2 x3 x4 x5 x6 x7 x8 x9) (View.ld k0_pay3 rowT) 7⟩, ⟨rowT, accs (ins (F := F) x0 x1 x2 x3 x4 x5 x6 x7 x8 x9) (View.ld k0_pay3 rowT) 6⟩, ⟨rowT, accs (ins (F := F) x0 x1 x2 x3 x4 x5 x6 x7 x8 x9) (View.ld k0_pay3 rowT) 5⟩, ⟨rowT, accs (ins (F := F) x0 x1 x2 x3 x4 x5 x6 x7 x8 x9) (View.ld k0_pay3 rowT) 4⟩, ⟨rowT, accs (ins (F := F) x0 x1 x2 x3 x4 x5 x6 x7 x8 x9) (View.ld k0_pay3 rowT) 3⟩, ⟨rowT, accs (ins (F := F) x0 x1 x2 x3 x4 x5 x6 x7 x8 x9) (View.ld k0_pay3 rowT) 2⟩, ⟨rowT, accs (ins (F := F) x0 x1 x2 x3 x4 x5 x6 x7 x8 x9) (View.ld k0_pay3 rowT) 1⟩, ⟨Rect.unit (s := S8x128) ![0, 0] S8x128.size inb_S8x128_S8x128_0_0, k0_pay3⟩]) :=
    chainT (rd_ins arg1 harg1 arg2 harg2 arg3 harg3 arg4 harg4 arg5 harg5 arg6 harg6 arg7 harg7 arg8 harg8 arg9 harg9 arg10 harg10 x0 x1 x2 x3 x4 x5 x6 x7 x8 x9) (p0_eq c arg18) (acc1 c arg1 harg1 arg2 harg2 arg3 harg3 arg4 harg4 arg5 harg5 arg6 harg6 arg7 harg7 arg8 harg8 arg9 harg9 arg10 harg10 arg18 x0 x1 x2 x3 x4 x5 x6 x7 x8 x9) (acc2 c arg1 harg1 arg2 harg2 arg3 harg3 arg4 harg4 arg5 harg5 arg6 harg6 arg7 harg7 arg8 harg8 arg9 harg9 arg10 harg10 arg18 x0 x1 x2 x3 x4 x5 x6 x7 x8 x9) (acc3 c arg1 harg1 arg2 harg2 arg3 harg3 arg4 harg4 arg5 harg5 arg6 harg6 arg7 harg7 arg8 harg8 arg9 harg9 arg10 harg10 arg18 x0 x1 x2 x3 x4 x5 x6 x7 x8 x9) (acc4 c arg1 harg1 arg2 harg2 arg3 harg3 arg4 harg4 arg5 harg5 arg6 harg6 arg7 harg7 arg8 harg8 arg9 harg9 arg10 harg10 arg18 x0 x1 x2 x3 x4 x5 x6 x7 x8 x9) (acc5 c arg1 harg1 arg2 harg2 arg3 harg3 arg4 harg4 arg5 harg5 arg6 harg6 arg7 harg7 arg8 harg8 arg9 harg9 arg10 harg10 arg18 x0 x1 x2 x3 x4 x5 x6 x7 x8 x9) (acc6 c arg1 harg1 arg2 harg2 arg3 harg3 arg4 harg4 arg5 harg5 arg6 harg6 arg7 harg7 arg8 harg8 arg9 harg9 arg10 harg10 arg18 x0 x1 x2 x3 x4 x5 x6 x7 x8 x9) (acc7 c arg1 harg1 arg2 harg2 arg3 harg3 arg4 harg4 arg5 harg5 arg6 harg6 arg7 harg7 arg8 harg8 arg9 harg9 arg10 harg10 arg18 x0 x1 x2 x3 x4 x5 x6 x7 x8 x9) (fun b1 b2 b3 b4 b5 b6 b7 b8 : Vec F S1x128 .f32 => VO0_17.read (Elt F) (VO0_17.writes (Elt F) VO0_17.junk [⟨rowT, b8⟩, ⟨rowT, b7⟩, ⟨rowT, b6⟩, ⟨rowT, b5⟩, ⟨rowT, b4⟩, ⟨rowT, b3⟩, ⟨rowT, b2⟩, ⟨rowT, b1⟩, ⟨Rect.unit (s := S8x128) ![0, 0] S8x128.size inb_S8x128_S8x128_0_0, k0_pay3⟩]))
  have h3 : VO0_17.read (Elt F) (VO0_17.writes (Elt F) VO0_17.junk [⟨rowT, accs (ins (F := F) x0 x1 x2 x3 x4 x5 x6 x7 x8 x9) (View.ld k0_pay3 rowT) 8⟩, ⟨rowT, accs (ins (F := F) x0 x1 x2 x3 x4 x5 x6 x7 x8 x9) (View.ld k0_pay3 rowT) 7⟩, ⟨rowT, accs (ins (F := F) x0 x1 x2 x3 x4 x5 x6 x7 x8 x9) (View.ld k0_pay3 rowT) 6⟩, ⟨rowT, accs (ins (F := F) x0 x1 x2 x3 x4 x5 x6 x7 x8 x9) (View.ld k0_pay3 rowT) 5⟩, ⟨rowT, accs (ins (F := F) x0 x1 x2 x3 x4 x5 x6 x7 x8 x9) (View.ld k0_pay3 rowT) 4⟩, ⟨rowT, accs (ins (F := F) x0 x1 x2 x3 x4 x5 x6 x7 x8 x9) (View.ld k0_pay3 rowT) 3⟩, ⟨rowT, accs (ins (F := F) x0 x1 x2 x3 x4 x5 x6 x7 x8 x9) (View.ld k0_pay3 rowT) 2⟩, ⟨rowT, accs (ins (F := F) x0 x1 x2 x3 x4 x5 x6 x7 x8 x9) (View.ld k0_pay3 rowT) 1⟩, ⟨Rect.unit (s := S8x128) ![0, 0] S8x128.size inb_S8x128_S8x128_0_0, k0_pay3⟩]) = rowT.overlay k0_pay3 (accs (ins (F := F) x0 x1 x2 x3 x4 x5 x6 x7 x8 x9) (View.ld k0_pay3 rowT) 8) := by
    exact (read_writes_row VO0_17 VO0_17.junk rowT _ _ _ _ _ _ _ _ _).trans
      (congrArg (fun x => rowT.overlay x _) (read_writes_whole (s := S8x128) (off := ![0, 0]) VO0_17 VO0_17.junk inb_S8x128_S8x128_0_0 (by decide) _))
  exact h1.trans (h2.trans h3)

end Cert.Scan.Voc.RunA

end
-- ==== Proof.RunB.lean ====
/- Case B of the body's run: what it stores is what the definitions of one chunk say, chunk by chunk. -/
module

public import proofs.«01_k».proof.Proof.Chunks
public import proofs.«01_k».proof.Proof.Gen.KernelIdeal.Frame.RunB

@[expose] public section

set_option maxRecDepth 16384

noncomputable section

namespace Cert.Scan.Voc.RunB

open Idealize.ShloMosaic Idealize.ShloMosaic.TcCoe Cert.KernelIdeal Cert.KernelIdeal.Gen

variable {F : FTy → Type} [FloatOps F] (c : Dev nD) (i : grid0.Coords) (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x128 .f32) (harg16 : arg16.IsWhole) (arg17 : Memref sig .tc .vmem S512x512 .bf16) (harg17 : arg17.IsWhole) (arg18 : Memref sig .tc .vmem S8x128 .f32) (harg18 : arg18.IsWhole) (arg19 : Memref sig .tc .vmem S512x128 .f32) (harg19 : arg19.IsWhole)
    (hc0 : ¬cond0_0 i) (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32) (xo17 : Vec F S8x128 .f32) (xs0 : Vec F S512x128 .f32)

/-- The gradient the point starts from. -/
def d0 : Dn F where
  d0 := stt (View.readAt (Elt F) arg19.view (rowsD 0).toLoadRect (harg19.unread xs0))
  d1 := stt (View.readAt (Elt F) arg19.view (rowsD 1).toLoadRect (harg19.unread xs0))
  d2 := stt (View.readAt (Elt F) arg19.view (rowsD 2).toLoadRect (harg19.unread xs0))
  d3 := stt (View.readAt (Elt F) arg19.view (rowsD 3).toLoadRect (harg19.unread xs0))

/-- after chunk 7 -/
theorem step1 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 1 = ⟨(kernelRun0_B.sl.r_110 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_109 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_108 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_104 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  sl_kernel_rfl

/-- after chunk 6 -/
theorem step2 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 2 = ⟨(kernelRun0_B.sl.r_218 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_217 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_216 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_212 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 6)) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 5 -/
theorem step3 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 3 = ⟨(kernelRun0_B.sl.r_330 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_329 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_327 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_325 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 5)) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 4 -/
theorem step4 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 4 = ⟨(kernelRun0_B.sl.r_441 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_440 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_436 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_434 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 4)) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 3 -/
theorem step5 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 5 = ⟨(kernelRun0_B.sl.r_542 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_541 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_538 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_536 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 3)) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 2 -/
theorem step6 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 6 = ⟨(kernelRun0_B.sl.r_649 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_646 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_644 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_642 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 2)) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 1 -/
theorem step7 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 7 = ⟨(kernelRun0_B.sl.r_752 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_748 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_746 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_744 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 1)) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

/-- after chunk 0 -/
theorem step8 : after (rd (F := F) arg1 harg1 arg2 harg2 arg3 harg3 arg4 harg4 arg5 harg5 arg6 harg6 arg7 harg7 arg8 harg8 arg9 harg9 arg10 harg10 x0 x1 x2 x3 x4 x5 x6 x7 x8 x9) (d0 arg19 harg19 xs0) 8 = ⟨(kernelRun0_B.sl.r_850 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_848 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_846 c arg1 harg1 arg2 harg2 arg3 harg3 arg4 harg4 arg5 harg5 arg6 harg6 arg7 harg7 arg8 harg8 arg9 harg9 arg10 harg10 arg19 harg19 x0 x1 x2 x3 x4 x5 x6 x7 x8 x9 xs0), (kernelRun0_B.sl.r_844 c arg1 harg1 arg2 harg2 arg3 harg3 arg4 harg4 arg5 harg5 arg6 harg6 arg7 harg7 arg8 harg8 arg9 harg9 arg10 harg10 arg19 harg19 x0 x1 x2 x3 x4 x5 x6 x7 x8 x9 xs0)⟩ := by
  exact (congrArg (next ((rd (F := F) arg1 harg1 arg2 harg2 arg3 harg3 arg4 harg4 arg5 harg5 arg6 harg6 arg7 harg7 arg8 harg8 arg9 harg9 arg10 harg10 x0 x1 x2 x3 x4 x5 x6 x7 x8 x9) 0)) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0)).trans (by sl_kernel_rfl)

end Cert.Scan.Voc.RunB

end
-- ==== Proof.OutB.lean ====
/- Case B of the body's run: what it leaves in every result's block, as the definitions of one chunk at the chunks' blocks. -/
module

public import proofs.«01_k».proof.Proof.RunB
public import proofs.«01_k».proof.Proof.Store
public import proofs.«01_k».proof.Proof.Gen.KernelIdeal.Frame

@[expose] public section

set_option maxRecDepth 16384

noncomputable section

namespace Cert.Scan.Voc.RunB

open Idealize.ShloMosaic Idealize.ShloMosaic.TcCoe Cert.KernelIdeal Cert.KernelIdeal.Gen

variable {F : FTy → Type} [FloatOps F] (c : Dev nD) (i : grid0.Coords) (arg1 : Memref sig .tc .vmem S512x512 .f32) (harg1 : arg1.IsWhole) (arg2 : Memref sig .tc .vmem S2048x128 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x256 .bf16) (harg6 : arg6.IsWhole) (arg7 : Memref sig .tc .vmem S2048x128 .f32) (harg7 : arg7.IsWhole) (arg8 : Memref sig .tc .vmem S4096x128 .f32) (harg8 : arg8.IsWhole) (arg9 : Memref sig .tc .vmem S512x512 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x128 .f32) (harg16 : arg16.IsWhole) (arg17 : Memref sig .tc .vmem S512x512 .bf16) (harg17 : arg17.IsWhole) (arg18 : Memref sig .tc .vmem S8x128 .f32) (harg18 : arg18.IsWhole) (arg19 : Memref sig .tc .vmem S512x128 .f32) (harg19 : arg19.IsWhole)
    (hc0 : ¬cond0_0 i) (x0 : Vec F S512x512 .f32) (x1 : Vec F S2048x128 .f32) (x2 : Vec F S2048x128 .bf16) (x3 : Vec F S2048x128 .bf16) (x4 : Vec F S2048x128 .bf16) (x5 : Vec F S2048x256 .bf16) (x6 : Vec F S2048x128 .f32) (x7 : Vec F S4096x128 .f32) (x8 : Vec F S512x512 .f32) (x9 : Vec F S1x128 .f32) (xo17 : Vec F S8x128 .f32) (xs0 : Vec F S512x128 .f32)

theorem rd_ins : (rd (F := F) arg1 harg1 arg2 harg2 arg3 harg3 arg4 harg4 arg5 harg5 arg6 harg6 arg7 harg7 arg8 harg8 arg9 harg9 arg10 harg10 x0 x1 x2 x3 x4 x5 x6 x7 x8 x9) = (ins (F := F) x0 x1 x2 x3 x4 x5 x6 x7 x8 x9) := funext fun k => rd_eq arg1 harg1 arg2 harg2 arg3 harg3 arg4 harg4 arg5 harg5 arg6 harg6 arg7 harg7 arg8 harg8 arg9 harg9 arg10 harg10 x0 x1 x2 x3 x4 x5 x6 x7 x8 x9 k

theorem d0_eq : d0 (F := F) arg19 harg19 xs0 = fromS xs0 := by
  unfold d0 fromS
  simp only [View.readAt_eq_ld, Memref.IsWhole.read_unread]

theorem out10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (pieces (du ((ins (F := F) x0 x1 x2 x3 x4 x5 x6 x7 x8 x9) 0) (after (ins (F := F) x0 x1 x2 x3 x4 x5 x6 x7 x8 x9) (fromS xs0) 7)) (du ((ins (F := F) x0 x1 x2 x3 x4 x5 x6 x7 x8 x9) 1) (after (ins (F := F) x0 x1 x2 x3 x4 x5 x6 x7 x8 x9) (fromS xs0) 6)) (du ((ins (F := F) x0 x1 x2 x3 x4 x5 x6 x7 x8 x9) 2) (after (ins (F := F) x0 x1 x2 x3 x4 x5 x6 x7 x8 x9) (fromS xs0) 5)) (du ((ins (F := F) x0 x1 x2 x3 x4 x5 x6 x7 x8 x9) 3) (after (ins (F := F) x0 x1 x2 x3 x4 x5 x6 x7 x8 x9) (fromS xs0) 4)) (du ((ins (F := F) x0 x1 x2 x3 x4 x5 x6 x7 x8 x9) 4) (after (ins (F := F) x0 x1 x2 x3 x4 x5 x6 x7 x8 x9) (fromS xs0) 3)) (du ((ins (F := F) x0 x1 x2 x3 x4 x5 x6 x7 x8 x9) 5) (after (ins (F := F) x0 x1 x2 x3 x4 x5 x6 x7 x8 x9) (fromS xs0) 2)) (du ((ins (F := F) x0 x1 x2 x3 x4 x5 x6 x7 x8 x9) 6) (after (ins (F := F) x0 x1 x2 x3 x4 x5 x6 x7 x8 x9) (fromS xs0) 1)) (du ((ins (F := F) x0 x1 x2 x3 x4 x5 x6 x7 x8 x9) 7) (fromS xs0))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VO0_10.read (Elt F) (VO0_10.writes (Elt F) VO0_10.junk (pieces (du (X 0) a7) (du (X 1) a6) (du (X 2) a5) (du (X 3) a4) (du (X 4) a3) (du (X 5) a2) (du (X 6) a1) (du (X 7) d))))))
    (View.read_writes_junk_eq_canon VO0_10 _)

theorem out11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (pieces (dw ((ins (F := F) x0 x1 x2 x3 x4 x5 x6 x7 x8 x9) 0) (after (ins (F := F) x0 x1 x2 x3 x4 x5 x6 x7 x8 x9) (fromS xs0) 7)) (dw ((ins (F := F) x0 x1 x2 x3 x4 x5 x6 x7 x8 x9) 1) (after (ins (F := F) x0 x1 x2 x3 x4 x5 x6 x7 x8 x9) (fromS xs0) 6)) (dw ((ins (F := F) x0 x1 x2 x3 x4 x5 x6 x7 x8 x9) 2) (after (ins (F := F) x0 x1 x2 x3 x4 x5 x6 x7 x8 x9) (fromS xs0) 5)) (dw ((ins (F := F) x0 x1 x2 x3 x4 x5 x6 x7 x8 x9) 3) (after (ins (F := F) x0 x1 x2 x3 x4 x5 x6 x7 x8 x9) (fromS xs0) 4)) (dw ((ins (F := F) x0 x1 x2 x3 x4 x5 x6 x7 x8 x9) 4) (after (ins (F := F) x0 x1 x2 x3 x4 x5 x6 x7 x8 x9) (fromS xs0) 3)) (dw ((ins (F := F) x0 x1 x2 x3 x4 x5 x6 x7 x8 x9) 5) (after (ins (F := F) x0 x1 x2 x3 x4 x5 x6 x7 x8 x9) (fromS xs0) 2)) (dw ((ins (F := F) x0 x1 x2 x3 x4 x5 x6 x7 x8 x9) 6) (after (ins (F := F) x0 x1 x2 x3 x4 x5 x6 x7 x8 x9) (fromS xs0) 1)) (dw ((ins (F := F) x0 x1 x2 x3 x4 x5 x6 x7 x8 x9) 7) (fromS xs0))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VO0_11.read (Elt F) (VO0_11.writes (Elt F) VO0_11.junk (pieces (dw (X 0) a7) (dw (X 1) a6) (dw (X 2) a5) (dw (X 3) a4) (dw (X 4) a3) (dw (X 5) a2) (dw (X 6) a1) (dw (X 7) d))))))
    (View.read_writes_junk_eq_canon VO0_11 _)

theorem out12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (pieces (dq ((ins (F := F) x0 x1 x2 x3 x4 x5 x6 x7 x8 x9) 0)) (dq ((ins (F := F) x0 x1 x2 x3 x4 x5 x6 x7 x8 x9) 1)) (dq ((ins (F := F) x0 x1 x2 x3 x4 x5 x6 x7 x8 x9) 2)) (dq ((ins (F := F) x0 x1 x2 x3 x4 x5 x6 x7 x8 x9) 3)) (dq ((ins (F := F) x0 x1 x2 x3 x4 x5 x6 x7 x8 x9) 4)) (dq ((ins (F := F) x0 x1 x2 x3 x4 x5 x6 x7 x8 x9) 5)) (dq ((ins (F := F) x0 x1 x2 x3 x4 x5 x6 x7 x8 x9) 6)) (dq ((ins (F := F) x0 x1 x2 x3 x4 x5 x6 x7 x8 x9) 7))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VO0_12.read (Elt F) (VO0_12.writes (Elt F) VO0_12.junk (pieces (dq (X 0)) (dq (X 1)) (dq (X 2)) (dq (X 3)) (dq (X 4)) (dq (X 5)) (dq (X 6)) (dq (X 7)))))))
    (View.read_writes_junk_eq_canon VO0_12 _)

theorem out13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (pieces (dk ((ins (F := F) x0 x1 x2 x3 x4 x5 x6 x7 x8 x9) 0) (after (ins (F := F) x0 x1 x2 x3 x4 x5 x6 x7 x8 x9) (fromS xs0) 7)) (dk ((ins (F := F) x0 x1 x2 x3 x4 x5 x6 x7 x8 x9) 1) (after (ins (F := F) x0 x1 x2 x3 x4 x5 x6 x7 x8 x9) (fromS xs0) 6)) (dk ((ins (F := F) x0 x1 x2 x3 x4 x5 x6 x7 x8 x9) 2) (after (ins (F := F) x0 x1 x2 x3 x4 x5 x6 x7 x8 x9) (fromS xs0) 5)) (dk ((ins (F := F) x0 x1 x2 x3 x4 x5 x6 x7 x8 x9) 3) (after (ins (F := F) x0 x1 x2 x3 x4 x5 x6 x7 x8 x9) (fromS xs0) 4)) (dk ((ins (F := F) x0 x1 x2 x3 x4 x5 x6 x7 x8 x9) 4) (after (ins (F := F) x0 x1 x2 x3 x4 x5 x6 x7 x8 x9) (fromS xs0) 3)) (dk ((ins (F := F) x0 x1 x2 x3 x4 x5 x6 x7 x8 x9) 5) (after (ins (F := F) x0 x1 x2 x3 x4 x5 x6 x7 x8 x9) (fromS xs0) 2)) (dk ((ins (F := F) x0 x1 x2 x3 x4 x5 x6 x7 x8 x9) 6) (after (ins (F := F) x0 x1 x2 x3 x4 x5 x6 x7 x8 x9) (fromS xs0) 1)) (dk ((ins (F := F) x0 x1 x2 x3 x4 x5 x6 x7 x8 x9) 7) (fromS xs0))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VO0_13.read (Elt F) (VO0_13.writes (Elt F) VO0_13.junk (pieces (dk (X 0) a7) (dk (X 1) a6) (dk (X 2) a5) (dk (X 3) a4) (dk (X 4) a3) (dk (X 5) a2) (dk (X 6) a1) (dk (X 7) d))))))
    (View.read_writes_junk_eq_canon VO0_13 _)

theorem out16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (piecesZ (dzb ((ins (F := F) x0 x1 x2 x3 x4 x5 x6 x7 x8 x9) 0)) (dzb ((ins (F := F) x0 x1 x2 x3 x4 x5 x6 x7 x8 x9) 1)) (dzb ((ins (F := F) x0 x1 x2 x3 x4 x5 x6 x7 x8 x9) 2)) (dzb ((ins (F := F) x0 x1 x2 x3 x4 x5 x6 x7 x8 x9) 3)) (dzb ((ins (F := F) x0 x1 x2 x3 x4 x5 x6 x7 x8 x9) 4)) (dzb ((ins (F := F) x0 x1 x2 x3 x4 x5 x6 x7 x8 x9) 5)) (dzb ((ins (F := F) x0 x1 x2 x3 x4 x5 x6 x7 x8 x9) 6)) (dzb ((ins (F := F) x0 x1 x2 x3 x4 x5 x6 x7 x8 x9) 7))) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VO0_16.read (Elt F) (VO0_16.writes (Elt F) VO0_16.junk (piecesZ (dzb (X 0)) (dzb (X 1)) (dzb (X 2)) (dzb (X 3)) (dzb (X 4)) (dzb (X 5)) (dzb (X 6)) (dzb (X 7)))))))
    (View.read_writes_junk_eq_canon VO0_16 _)

theorem outs : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 =
    View.canon (piecesD (after (ins (F := F) x0 x1 x2 x3 x4 x5 x6 x7 x8 x9) (fromS xs0) 8) []) :=
  Eq.trans (Eq.trans (by sl_kernel_rfl)
    (chain (rd_ins arg1 harg1 arg2 harg2 arg3 harg3 arg4 harg4 arg5 harg5 arg6 harg6 arg7 harg7 arg8 harg8 arg9 harg9 arg10 harg10 x0 x1 x2 x3 x4 x5 x6 x7 x8 x9) (d0_eq arg19 harg19 xs0) (step1 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step2 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step3 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step4 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step5 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step6 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step7 c arg1 harg1 arg2 harg2 arg3 harg3 arg4 harg4 arg5 harg5 arg6 harg6 arg7 harg7 arg8 harg8 arg9 harg9 arg10 harg10 arg19 harg19 x0 x1 x2 x3 x4 x5 x6 x7 x8 x9 xs0) (step8 c arg1 harg1 arg2 harg2 arg3 harg3 arg4 harg4 arg5 harg5 arg6 harg6 arg7 harg7 arg8 harg8 arg9 harg9 arg10 harg10 arg19 harg19 x0 x1 x2 x3 x4 x5 x6 x7 x8 x9 xs0)
      (fun (X : Fin 8 → Ins F) (d a1 a2 a3 a4 a5 a6 a7 a8 : Dn F) => VS0_0.read (Elt F) (VS0_0.writes (Elt F) VS0_0.junk (piecesD a8 [])))))
    (View.read_writes_junk_eq_canon VS0_0 _)

theorem acc1 : (kernelRun0_B.sl.v641 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (View.readAt (Elt F) arg18.view rowT.toLoadRect (harg18.unread xo17)) :=
  (by sl_kernel_rfl : (kernelRun0_B.sl.v641 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (View.readAt (Elt F) arg18.view rowT.toLoadRect (harg18.unread xo17))⟩ :: []) rowT.toLoadRect).trans
    (View.readCov_cons_toLoadRect arg18.view rowT _ _)

theorem acc2 : (kernelRun0_B.sl.v956 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_B.sl.v641 c arg1 harg1 arg2 harg2 arg3 harg3 arg4 harg4 arg6 harg6 arg8 harg8 arg9 harg9 arg18 harg18 x0 x1 x2 x3 x5 x7 x8 xo17) :=
  (by sl_kernel_rfl : (kernelRun0_B.sl.v956 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_B.sl.v641 c arg1 harg1 arg2 harg2 arg3 harg3 arg4 harg4 arg6 harg6 arg8 harg8 arg9 harg9 arg18 harg18 x0 x1 x2 x3 x5 x7 x8 xo17)⟩ :: (kernelRun0_B.sl.H17_1 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem acc3 : (kernelRun0_B.sl.v1271 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_B.sl.v956 c arg1 harg1 arg2 harg2 arg3 harg3 arg4 harg4 arg6 harg6 arg8 harg8 arg9 harg9 arg18 harg18 x0 x1 x2 x3 x5 x7 x8 xo17) :=
  (by sl_kernel_rfl : (kernelRun0_B.sl.v1271 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_B.sl.v956 c arg1 harg1 arg2 harg2 arg3 harg3 arg4 harg4 arg6 harg6 arg8 harg8 arg9 harg9 arg18 harg18 x0 x1 x2 x3 x5 x7 x8 xo17)⟩ :: (kernelRun0_B.sl.H17_2 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem acc4 : (kernelRun0_B.sl.v1586 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_B.sl.v1271 c arg1 harg1 arg2 harg2 arg3 harg3 arg4 harg4 arg6 harg6 arg8 harg8 arg9 harg9 arg18 harg18 x0 x1 x2 x3 x5 x7 x8 xo17) :=
  (by sl_kernel_rfl : (kernelRun0_B.sl.v1586 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_B.sl.v1271 c arg1 harg1 arg2 harg2 arg3 harg3 arg4 harg4 arg6 harg6 arg8 harg8 arg9 harg9 arg18 harg18 x0 x1 x2 x3 x5 x7 x8 xo17)⟩ :: (kernelRun0_B.sl.H17_3 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem acc5 : (kernelRun0_B.sl.v1901 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_B.sl.v1586 c arg1 harg1 arg2 harg2 arg3 harg3 arg4 harg4 arg6 harg6 arg8 harg8 arg9 harg9 arg18 harg18 x0 x1 x2 x3 x5 x7 x8 xo17) :=
  (by sl_kernel_rfl : (kernelRun0_B.sl.v1901 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_B.sl.v1586 c arg1 harg1 arg2 harg2 arg3 harg3 arg4 harg4 arg6 harg6 arg8 harg8 arg9 harg9 arg18 harg18 x0 x1 x2 x3 x5 x7 x8 xo17)⟩ :: (kernelRun0_B.sl.H17_4 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem acc6 : (kernelRun0_B.sl.v2216 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_B.sl.v1901 c arg1 harg1 arg2 harg2 arg3 harg3 arg4 harg4 arg6 harg6 arg8 harg8 arg9 harg9 arg18 harg18 x0 x1 x2 x3 x5 x7 x8 xo17) :=
  (by sl_kernel_rfl : (kernelRun0_B.sl.v2216 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_B.sl.v1901 c arg1 harg1 arg2 harg2 arg3 harg3 arg4 harg4 arg6 harg6 arg8 harg8 arg9 harg9 arg18 harg18 x0 x1 x2 x3 x5 x7 x8 xo17)⟩ :: (kernelRun0_B.sl.H17_5 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem acc7 : (kernelRun0_B.sl.v2531 c arg1 harg1 arg2 harg2 arg3 harg3 arg4 harg4 arg6 harg6 arg8 harg8 arg9 harg9 arg18 harg18 x0 x1 x2 x3 x5 x7 x8 xo17) = acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_B.sl.v2216 c arg1 harg1 arg2 harg2 arg3 harg3 arg4 harg4 arg6 harg6 arg8 harg8 arg9 harg9 arg18 harg18 x0 x1 x2 x3 x5 x7 x8 xo17) :=
  (by sl_kernel_rfl : (kernelRun0_B.sl.v2531 c arg1 harg1 arg2 harg2 arg3 harg3 arg4 harg4 arg6 harg6 arg8 harg8 arg9 harg9 arg18 harg18 x0 x1 x2 x3 x5 x7 x8 xo17) = View.readCov arg18.view (⟨rowT, acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_B.sl.v2216 c arg1 harg1 arg2 harg2 arg3 harg3 arg4 harg4 arg6 harg6 arg8 harg8 arg9 harg9 arg18 harg18 x0 x1 x2 x3 x5 x7 x8 xo17)⟩ :: (kernelRun0_B.sl.H17_6 c arg1 harg1 arg2 harg2 arg3 harg3 arg4 harg4 arg6 harg6 arg8 harg8 arg9 harg9 arg18 harg18 x0 x1 x2 x3 x5 x7 x8 xo17)) rowT.toLoadRect).trans
    (View.readCov_cons_toLoadRect arg18.view rowT _ _)

theorem p0_eq : (View.readAt (Elt F) arg18.view rowT.toLoadRect (harg18.unread xo17)) = View.ld xo17 rowT := by
  simp only [View.readAt_eq_ld, Memref.IsWhole.read_unread]

theorem out17 : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 = rowT.overlay xo17 (accs (ins (F := F) x0 x1 x2 x3 x4 x5 x6 x7 x8 x9) (View.ld xo17 rowT) 8) := by
  have h1 : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 xs0 = (fun b1 b2 b3 b4 b5 b6 b7 b8 : Vec F S1x128 .f32 => arg18.view.read (Elt F) (arg18.view.writes (Elt F) (harg18.unread xo17) [⟨rowT, b8⟩, ⟨rowT, b7⟩, ⟨rowT, b6⟩, ⟨rowT, b5⟩, ⟨rowT, b4⟩, ⟨rowT, b3⟩, ⟨rowT, b2⟩, ⟨rowT, b1⟩])) (acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (View.readAt (Elt F) arg18.view rowT.toLoadRect (harg18.unread xo17))) (acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_B.sl.v641 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_B.sl.v956 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_B.sl.v1271 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_B.sl.v1586 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_B.sl.v1901 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_B.sl.v2216 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 0) (kernelRun0_B.sl.v2531 c arg1 harg1 arg2 harg2 arg3 harg3 arg4 harg4 arg6 harg6 arg8 harg8 arg9 harg9 arg18 harg18 x0 x1 x2 x3 x5 x7 x8 xo17)) := by sl_kernel_rfl
  have h2 : (fun b1 b2 b3 b4 b5 b6 b7 b8 : Vec F S1x128 .f32 => arg18.view.read (Elt F) (arg18.view.writes (Elt F) (harg18.unread xo17) [⟨rowT, b8⟩, ⟨rowT, b7⟩, ⟨rowT, b6⟩, ⟨rowT, b5⟩, ⟨rowT, b4⟩, ⟨rowT, b3⟩, ⟨rowT, b2⟩, ⟨rowT, b1⟩])) (acc ((rd (F := F) arg1 harg1 arg2 harg2 arg3 harg3 arg4 harg4 arg5 harg5 arg6 harg6 arg7 harg7 arg8 harg8 arg9 harg9 arg10 harg10 x0 x1 x2 x3 x4 x5 x6 x7 x8 x9) 7) (View.readAt (Elt F) arg18.view rowT.toLoadRect (harg18.unread xo17))) (acc ((rd (F := F) arg1 harg1 arg2 harg2 arg3 harg3 arg4 harg4 arg5 harg5 arg6 harg6 arg7 harg7 arg8 harg8 arg9 harg9 arg10 harg10 x0 x1 x2 x3 x4 x5 x6 x7 x8 x9) 6) (kernelRun0_B.sl.v641 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 5) (kernelRun0_B.sl.v956 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 4) (kernelRun0_B.sl.v1271 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 3) (kernelRun0_B.sl.v1586 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 2) (kernelRun0_B.sl.v1901 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 1) (kernelRun0_B.sl.v2216 c arg1 harg1 arg2 harg2 arg3 harg3 arg4 harg4 arg6 harg6 arg8 harg8 arg9 harg9 arg18 harg18 x0 x1 x2 x3 x5 x7 x8 xo17)) (acc ((rd (F := F) arg1 harg1 arg2 harg2 arg3 harg3 arg4 harg4 arg5 harg5 arg6 harg6 arg7 harg7 arg8 harg8 arg9 harg9 arg10 harg10 x0 x1 x2 x3 x4 x5 x6 x7 x8 x9) 0) (kernelRun0_B.sl.v2531 c arg1 harg1 arg2 harg2 arg3 harg3 arg4 harg4 arg6 harg6 arg8 harg8 arg9 harg9 arg18 harg18 x0 x1 x2 x3 x5 x7 x8 xo17)) = arg18.view.read (Elt F) (arg18.view.writes (Elt F) (harg18.unread xo17) [⟨rowT, accs (ins (F := F) x0 x1 x2 x3 x4 x5 x6 x7 x8 x9) (View.ld xo17 rowT) 8⟩, ⟨rowT, accs (ins (F := F) x0 x1 x2 x3 x4 x5 x6 x7 x8 x9) (View.ld xo17 rowT) 7⟩, ⟨rowT, accs (ins (F := F) x0 x1 x2 x3 x4 x5 x6 x7 x8 x9) (View.ld xo17 rowT) 6⟩, ⟨rowT, accs (ins (F := F) x0 x1 x2 x3 x4 x5 x6 x7 x8 x9) (View.ld xo17 rowT) 5⟩, ⟨rowT, accs (ins (F := F) x0 x1 x2 x3 x4 x5 x6 x7 x8 x9) (View.ld xo17 rowT) 4⟩, ⟨rowT, accs (ins (F := F) x0 x1 x2 x3 x4 x5 x6 x7 x8 x9) (View.ld xo17 rowT) 3⟩, ⟨rowT, accs (ins (F := F) x0 x1 x2 x3 x4 x5 x6 x7 x8 x9) (View.ld xo17 rowT) 2⟩, ⟨rowT, accs (ins (F := F) x0 x1 x2 x3 x4 x5 x6 x7 x8 x9) (View.ld xo17 rowT) 1⟩]) :=
    chainT (rd_ins arg1 harg1 arg2 harg2 arg3 harg3 arg4 harg4 arg5 harg5 arg6 harg6 arg7 harg7 arg8 harg8 arg9 harg9 arg10 harg10 x0 x1 x2 x3 x4 x5 x6 x7 x8 x9) (p0_eq arg18 harg18 xo17) (acc1 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc2 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc3 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc4 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc5 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc6 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (acc7 c arg1 harg1 arg2 harg2 arg3 harg3 arg4 harg4 arg5 harg5 arg6 harg6 arg7 harg7 arg8 harg8 arg9 harg9 arg10 harg10 arg18 harg18 x0 x1 x2 x3 x4 x5 x6 x7 x8 x9 xo17) (fun b1 b2 b3 b4 b5 b6 b7 b8 : Vec F S1x128 .f32 => arg18.view.read (Elt F) (arg18.view.writes (Elt F) (harg18.unread xo17) [⟨rowT, b8⟩, ⟨rowT, b7⟩, ⟨rowT, b6⟩, ⟨rowT, b5⟩, ⟨rowT, b4⟩, ⟨rowT, b3⟩, ⟨rowT, b2⟩, ⟨rowT, b1⟩]))
  have h3 : arg18.view.read (Elt F) (arg18.view.writes (Elt F) (harg18.unread xo17) [⟨rowT, accs (ins (F := F) x0 x1 x2 x3 x4 x5 x6 x7 x8 x9) (View.ld xo17 rowT) 8⟩, ⟨rowT, accs (ins (F := F) x0 x1 x2 x3 x4 x5 x6 x7 x8 x9) (View.ld xo17 rowT) 7⟩, ⟨rowT, accs (ins (F := F) x0 x1 x2 x3 x4 x5 x6 x7 x8 x9) (View.ld xo17 rowT) 6⟩, ⟨rowT, accs (ins (F := F) x0 x1 x2 x3 x4 x5 x6 x7 x8 x9) (View.ld xo17 rowT) 5⟩, ⟨rowT, accs (ins (F := F) x0 x1 x2 x3 x4 x5 x6 x7 x8 x9) (View.ld xo17 rowT) 4⟩, ⟨rowT, accs (ins (F := F) x0 x1 x2 x3 x4 x5 x6 x7 x8 x9) (View.ld xo17 rowT) 3⟩, ⟨rowT, accs (ins (F := F) x0 x1 x2 x3 x4 x5 x6 x7 x8 x9) (View.ld xo17 rowT) 2⟩, ⟨rowT, accs (ins (F := F) x0 x1 x2 x3 x4 x5 x6 x7 x8 x9) (View.ld xo17 rowT) 1⟩]) = rowT.overlay xo17 (accs (ins (F := F) x0 x1 x2 x3 x4 x5 x6 x7 x8 x9) (View.ld xo17 rowT) 8) := by
    exact (read_writes_row arg18.view (harg18.unread xo17) rowT _ _ _ _ _ _ _ _ _).trans
      (congrArg (fun x => rowT.overlay x _) (harg18.read_unread xo17))
  exact h1.trans (h2.trans h3)

end Cert.Scan.Voc.RunB

end
-- ==== Proof.KerPoint.lean ====
/- What every grid point leaves: the chunks' results, the carried gradient of the state, the running sum of the norm's weight. -/
module

public import proofs.«01_k».proof.Proof.KerChunk
public import proofs.«01_k».proof.Proof.OutA
public import proofs.«01_k».proof.Proof.OutB

@[expose] public section

set_option maxRecDepth 16384

noncomputable section

namespace Cert.Scan.Ker

open Idealize.ShloMosaic Idealize.ShloMosaic.TcCoe Cert.KernelIdeal Cert.KernelIdeal.Gen Cert.Scan.Voc

variable (m : (ℓ : Loc nD τ sig) → Buf (Elt Ideal) ℓ) (c0 : Dev nD)

/-- What the step at every chunk reads, from the kernel's arguments. -/
def Ys : Fin 64 → Inp :=
  inputs (m ((c0.tc : Thread nD τ).loc main_arg0)) (m ((c0.tc : Thread nD τ).loc main_arg1)) (m ((c0.tc : Thread nD τ).loc main_arg2))
    (m ((c0.tc : Thread nD τ).loc main_arg3)) (m ((c0.tc : Thread nD τ).loc main_arg4)) (m ((c0.tc : Thread nD τ).loc main_arg5))
    (m ((c0.tc : Thread nD τ).loc main_arg6)) (m ((c0.tc : Thread nD τ).loc main_arg7)) (m ((c0.tc : Thread nD τ).loc main_arg8))
    (m ((c0.tc : Thread nD τ).loc main_arg9))

/-- The blocks of point `t`, as its chunks load them. -/
abbrev Xs (t : Fin cfg0.N) : Fin 8 → Ins Ideal :=
  ins (iblk m c0 0 t) (iblk m c0 1 t) (iblk m c0 2 t) (iblk m c0 3 t) (iblk m c0 4 t) (iblk m c0 5 t) (iblk m c0 6 t) (iblk m c0 7 t) (iblk m c0 8 t) (iblk m c0 9 t)

section
variable (x7 : Vec Ideal S4096x128 .f32) (x1 : Vec Ideal S2048x128 .f32) (x2 : Vec Ideal S2048x128 .bf16) (x5 : Vec Ideal S2048x256 .bf16) (x8 : Vec Ideal S512x512 .f32)
  (x9 : Vec Ideal S1x128 .f32) (k : Fin 8) (h h' : Fin 4) (c j : Fin 64) (v i : Fin 128)

theorem ldS : View.ld x7 (rowsS k h) (ix2 i v) = x7 (ix2 (r8S k h i) v) := congrArg x7 (rowsS_emb k h (ix2 i v))
theorem ldR : View.ld x1 (rows k) (ix2 (row h c) v) = x1 (ix2 (r8 k h c) v) :=
  congrArg x1 ((rows_emb k (ix2 (row h c) v)).trans (congrArg (fun r : Fin 2048 => ix2 r v) (Fin.ext (by simp only [r8, row]; exact (Nat.add_assoc _ _ _).symm))))
theorem ldB : View.ld x2 (rows k) (ix2 (row h c) v) = x2 (ix2 (r8 k h c) v) :=
  congrArg x2 ((rows_emb k (ix2 (row h c) v)).trans (congrArg (fun r : Fin 2048 => ix2 r v) (Fin.ext (by simp only [r8, row]; exact (Nat.add_assoc _ _ _).symm))))
theorem ldA : View.ld x5 (rowsA k) (ix2 (row h c) (row h' j)) = x5 (ix2 (r8 k h c) (rowA h' j)) :=
  congrArg x5 ((rowsA_emb k (ix2 (row h c) (row h' j))).trans (congrArg (fun r : Fin 2048 => ix2 r (rowA h' j)) (Fin.ext (by simp only [r8, row]; exact (Nat.add_assoc _ _ _).symm))))
theorem ldZ : View.ld x8 (rowsZ k) (ix2 c (col h v)) = x8 (ix2 (r8Z k c) (lane h v)) := congrArg x8 (rowsZ_emb k (ix2 c (col h v)))
theorem ldN : View.ld x9 rowsN (ix2 0 v) = x9 (ix2 0 v) := congrArg x9 (rowsN_emb (ix2 0 v))
end

/-- What a chunk loads, from its blocks' entries. -/
theorem ins_rel_of {y : Inp} (x0 : Vec Ideal S512x512 .f32) (x1 : Vec Ideal S2048x128 .f32) (x2 x3 x4 : Vec Ideal S2048x128 .bf16) (x5 : Vec Ideal S2048x256 .bf16)
    (x6 : Vec Ideal S2048x128 .f32) (x7 : Vec Ideal S4096x128 .f32) (x8 : Vec Ideal S512x512 .f32) (x9 : Vec Ideal S1x128 .f32) (k : Fin 8)
    (h7 : ∀ h i v, x7 (ix2 (r8S k h i) v) = y.S h i v) (h1 : ∀ h c v, x1 (ix2 (r8 k h c) v) = y.u h c v) (h2 : ∀ h c v, x2 (ix2 (r8 k h c) v) = y.w h c v)
    (h3 : ∀ h c v, x3 (ix2 (r8 k h c) v) = y.q h c v) (h4 : ∀ h c v, x4 (ix2 (r8 k h c) v) = y.k h c v)
    (h5 : ∀ h c h' j, x5 (ix2 (r8 k h c) (rowA h' j)) = if h = h' then y.a h c j else 0) (h6 : ∀ h c v, x6 (ix2 (r8 k h c) v) = y.l h)
    (h8 : ∀ h c v, x8 (ix2 (r8Z k c) (lane h v)) = y.z h c v) (h0 : ∀ h c v, x0 (ix2 (r8Z k c) (lane h v)) = y.g h c v) (h9 : ∀ v, x9 (ix2 0 v) = y.nw v) :
    Rel (ins x0 x1 x2 x3 x4 x5 x6 x7 x8 x9 k) y where
  s0 i v := (ldS x7 k 0 v i).trans (h7 0 i v)
  s1 i v := (ldS x7 k 1 v i).trans (h7 1 i v)
  s2 i v := (ldS x7 k 2 v i).trans (h7 2 i v)
  s3 i v := (ldS x7 k 3 v i).trans (h7 3 i v)
  u h c v := (ldR x1 k h c v).trans (h1 h c v)
  w h c v := (ldB x2 k h c v).trans (h2 h c v)
  q h c v := (ldB x3 k h c v).trans (h3 h c v)
  k h c v := (ldB x4 k h c v).trans (h4 h c v)
  a h c h' j := (ldA x5 k h h' c j).trans (h5 h c h' j)
  e h c v := (ldR x6 k h c v).trans (h6 h c v)
  z h c v := (ldZ x8 k h c v).trans (h8 h c v)
  g h c v := (ldZ x0 k h c v).trans (h0 h c v)
  nw v := (ldN x9 v).trans (h9 v)

/-- Every chunk's blocks are the arguments' entries at the chunk. -/
theorem ins_rel (t : Fin cfg0.N) (k : Fin 8) : Rel (Xs m c0 t k) (Ys m c0 (chunkAt t k)) :=
  ins_rel_of (iblk m c0 0 t) (iblk m c0 1 t) (iblk m c0 2 t) (iblk m c0 3 t) (iblk m c0 4 t) (iblk m c0 5 t) (iblk m c0 6 t) (iblk m c0 7 t) (iblk m c0 8 t)
    (iblk m c0 9 t) k
    (fun h i v => (blk7 m c0 t k h v i).trans (v23 m c0 h v i _))
    (fun h c v => (blk1 m c0 t k h c v).trans (v13 m c0 h c v _))
    (fun h c v => (blk2 m c0 t k h c v).trans (v15 m c0 h c v _))
    (fun h c v => (blk3 m c0 t k h c v).trans (v17 m c0 h c v _))
    (fun h c v => (blk4 m c0 t k h c v).trans (v19 m c0 h c v _))
    (fun h c h' j => (blk5 m c0 t k h c j h').trans (v21 m c0 h c j _ h'))
    (fun h c v => (blk6 m c0 t k h c v).trans (v22 m c0 h c v _))
    (fun h c v => blk8 m c0 t k h c v)
    (fun h c v => blk0 m c0 t k h c v)
    (fun v => (blk9 m c0 t v).trans (v24 m c0 v))

/-- A point's results: `n` is a chunk of the point, and `D` the gradient of the state after it. -/
structure Left (Y : Fin 64 → Inp) (t : ℕ) (o10 o11 o12 o13 : Vec Ideal S2048x128 .f32) (o16 : Vec Ideal S512x512 .bf16) (o17 : Vec Ideal S8x128 .f32)
    (s : Vec Ideal S512x128 .f32) : Prop where
  du : ∀ k h c v, o10 (ix2 (r8 k h c) v) = (Y (chunkAt t k)).du (D Y (8 * t + (7 - k.val))) h c v
  dw : ∀ k h c v, o11 (ix2 (r8 k h c) v) = (Y (chunkAt t k)).dw (D Y (8 * t + (7 - k.val))) h c v
  dq : ∀ k h c v, o12 (ix2 (r8 k h c) v) = (Y (chunkAt t k)).dq h c v
  dk : ∀ k h c v, o13 (ix2 (r8 k h c) v) = (Y (chunkAt t k)).dk (D Y (8 * t + (7 - k.val))) h c v
  dz : ∀ k h c v, o16 (ix2 (r8Z k c) (lane h v)) = (Y (chunkAt t k)).dz h c v
  row0 : ∀ v, o17 (ix2 0 v) = T Y v (8 * (t + 1))
  rest : ∀ r v, r ≠ 0 → o17 (ix2 r v) = (0 : EReal)
  grd : RelD (fromS s) (D Y (8 * (t + 1)))

/-- A chunk's block of rows among the point's. -/
theorem rows_r8 (k : Fin 8) (h : Fin 4) (c : Fin 64) (v : Fin 128) : (rows k).emb (ix2 (row h c) v) = ix2 (r8 k h c) v :=
  (rows_emb k (ix2 (row h c) v)).trans (congrArg (fun r : Fin 2048 => ix2 r v) (Fin.ext (by simp only [r8, row]; exact (Nat.add_assoc _ _ _).symm)))

theorem left_of {Y : Fin 64 → Inp} {t : ℕ} (ht : t < 8) {I : Fin 8 → Ins Ideal} (hX : ∀ k, Rel (I k) (Y (chunkAt t k)))
    {SS : Vec Ideal S512x128 .f32} (E : RelD (fromS SS) (D Y (8 * t))) {TT : Vec Ideal S8x128 .f32} (hT : ∀ v, TT (ix2 0 v) = T Y v (8 * t))
    (hR : ∀ r v, r ≠ 0 → TT (ix2 r v) = (0 : EReal)) (L : List (View.Piece (Elt Ideal) S512x128 .f32))
    {o10 o11 o12 o13 : Vec Ideal S2048x128 .f32} {o16 : Vec Ideal S512x512 .bf16} {o17 : Vec Ideal S8x128 .f32} {s : Vec Ideal S512x128 .f32}
    (e10 : o10 = View.canon (pieces (du (I 0) (after I (fromS SS) 7)) (du (I 1) (after I (fromS SS) 6)) (du (I 2) (after I (fromS SS) 5)) (du (I 3) (after I (fromS SS) 4)) (du (I 4) (after I (fromS SS) 3)) (du (I 5) (after I (fromS SS) 2)) (du (I 6) (after I (fromS SS) 1)) (du (I 7) (fromS SS))))
    (e11 : o11 = View.canon (pieces (dw (I 0) (after I (fromS SS) 7)) (dw (I 1) (after I (fromS SS) 6)) (dw (I 2) (after I (fromS SS) 5)) (dw (I 3) (after I (fromS SS) 4)) (dw (I 4) (after I (fromS SS) 3)) (dw (I 5) (after I (fromS SS) 2)) (dw (I 6) (after I (fromS SS) 1)) (dw (I 7) (fromS SS))))
    (e13 : o13 = View.canon (pieces (dk (I 0) (after I (fromS SS) 7)) (dk (I 1) (after I (fromS SS) 6)) (dk (I 2) (after I (fromS SS) 5)) (dk (I 3) (after I (fromS SS) 4)) (dk (I 4) (after I (fromS SS) 3)) (dk (I 5) (after I (fromS SS) 2)) (dk (I 6) (after I (fromS SS) 1)) (dk (I 7) (fromS SS))))
    (e12 : o12 = View.canon (pieces (dq (I 0)) (dq (I 1)) (dq (I 2)) (dq (I 3)) (dq (I 4)) (dq (I 5)) (dq (I 6)) (dq (I 7))))
    (e16 : o16 = View.canon (piecesZ (dzb (I 0)) (dzb (I 1)) (dzb (I 2)) (dzb (I 3)) (dzb (I 4)) (dzb (I 5)) (dzb (I 6)) (dzb (I 7))))
    (e17 : o17 = rowT.overlay TT (accs I (View.ld TT rowT) 8)) (es : s = View.canon (piecesD (after I (fromS SS) 8) L)) :
    Left Y t o10 o11 o12 o13 o16 o17 s where
  du k h c v := by
    rw [e10, ← rows_r8]
    refine (canon_pieces (fun k : Fin 8 => du (I k) (after I (fromS SS) (7 - k.val))) k (ix2 (row h c) v)).trans ?_
    exact (hX k).du_at (after_rel ht hX E _ (by omega)) h c v
  dw k h c v := by
    rw [e11, ← rows_r8]
    refine (canon_pieces (fun k : Fin 8 => dw (I k) (after I (fromS SS) (7 - k.val))) k (ix2 (row h c) v)).trans ?_
    exact (hX k).dw_at (after_rel ht hX E _ (by omega)) h c v
  dk k h c v := by
    rw [e13, ← rows_r8]
    refine (canon_pieces (fun k : Fin 8 => dk (I k) (after I (fromS SS) (7 - k.val))) k (ix2 (row h c) v)).trans ?_
    exact (hX k).dk_at (after_rel ht hX E _ (by omega)) h c v
  dq k h c v := by
    rw [e12, ← rows_r8]
    refine (canon_pieces (fun k : Fin 8 => dq (I k)) k (ix2 (row h c) v)).trans ?_
    exact (hX k).dq_at h c v
  dz k h c v := by
    rw [e16]
    refine (congrArg _ (rowsZ_emb k (ix2 c (col h v))).symm).trans ((canon_piecesZ (fun k : Fin 8 => dzb (I k)) k (ix2 c (col h v))).trans ?_)
    exact (hX k).dzb_at h c v
  row0 v := by
    rw [e17]
    refine (congrArg _ (rowT_emb (ix2 0 v)).symm).trans ((Rect.overlay_emb rowT TT _ (ix2 0 v)).trans ?_)
    exact accs_rel ht hX v ((congrArg TT (rowT_emb (ix2 0 v))).trans (hT v)) 8 (le_refl 8)
  rest r v hr := by
    rw [e17]
    refine (Rect.overlay_of_not_mem rowT TT _ ?_).trans (hR r v hr)
    intro hm
    obtain ⟨x, hx⟩ := rowT.exists_idx_of_mem hm
    exact hr (congrFun ((rowT_emb x).symm.trans hx) 0).symm
  grd := by
    rw [es]
    exact fromS_piecesD (after_rel ht hX E 8 (le_refl 8)) L

theorem row_zero : ∀ (r : Fin 8) (v : Fin 128), k0_pay3 (F := Ideal) (ix2 r v) = (0 : EReal) := by
  intro r v
  pointwise [k0_pay3]

/-- What the first point leaves. -/
theorem left_A (t : Fin cfg0.N) (h0 : t.val % 8 = 0) : Left (Ys m c0) t.val (outsAt0 m c0 t.val t.isLt).1 (outsAt0 m c0 t.val t.isLt).2.1 (outsAt0 m c0 t.val t.isLt).2.2.1 (outsAt0 m c0 t.val t.isLt).2.2.2.1
    (outsAt0 m c0 t.val t.isLt).2.2.2.2.2.2.1 (outsAt0 m c0 t.val t.isLt).2.2.2.2.2.2.2.1 (outsAt0 m c0 t.val t.isLt).2.2.2.2.2.2.2.2 := by
  have ht : t.val < 8 := t.isLt
  have hz : 8 * t.val = 0 := by omega
  have E : RelD (fromS (k0_pay2 (F := Ideal))) (D (Ys m c0) (8 * t.val)) := by rw [hz]; exact fromS_zero
  have hT : ∀ v, k0_pay3 (F := Ideal) (ix2 0 v) = T (Ys m c0) v (8 * t.val) := fun v => by rw [hz]; exact row_zero 0 v
  rw [outsAt0_A m c0 t h0]
  dsimp only
  exact left_of (SS := k0_pay2 (F := Ideal)) (TT := k0_pay3 (F := Ideal)) ht (ins_rel m c0 t) E hT
      (fun r v _ => row_zero r v) [⟨Rect.unit (s := S512x128) ![0, 0] S512x128.size inb_S512x128_S512x128_0_0, k0_pay2 (F := Ideal)⟩]
      (RunA.out10 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.out11 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.out13 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.out12 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.out16 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.out17 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))
      (RunA.outs (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) ((hcond0_0 t).mpr h0) (iblk m c0 0 t) (iblk m c0 1 t) (iblk m c0 2 t) (iblk m c0 3 t) (iblk m c0 4 t) (iblk m c0 5 t) (iblk m c0 6 t) (iblk m c0 7 t) (iblk m c0 8 t) (iblk m c0 9 t))

/-- What a later point leaves, over what the point before left. -/
theorem left_B (t : Fin cfg0.N) (h0 : ¬t.val % 8 = 0)
    (i : Left (Ys m c0) (t.val - 1) (outsAt0 m c0 (t.val - 1) (Nat.lt_of_le_of_lt (Nat.sub_le _ _) t.isLt)).1 (outsAt0 m c0 (t.val - 1) (Nat.lt_of_le_of_lt (Nat.sub_le _ _) t.isLt)).2.1 (outsAt0 m c0 (t.val - 1) (Nat.lt_of_le_of_lt (Nat.sub_le _ _) t.isLt)).2.2.1 (outsAt0 m c0 (t.val - 1) (Nat.lt_of_le_of_lt (Nat.sub_le _ _) t.isLt)).2.2.2.1
    (outsAt0 m c0 (t.val - 1) (Nat.lt_of_le_of_lt (Nat.sub_le _ _) t.isLt)).2.2.2.2.2.2.1 (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2) :
    Left (Ys m c0) t.val (outsAt0 m c0 t.val t.isLt).1 (outsAt0 m c0 t.val t.isLt).2.1 (outsAt0 m c0 t.val t.isLt).2.2.1 (outsAt0 m c0 t.val t.isLt).2.2.2.1
    (outsAt0 m c0 t.val t.isLt).2.2.2.2.2.2.1 (outsAt0 m c0 t.val t.isLt).2.2.2.2.2.2.2.1 (outsAt0 m c0 t.val t.isLt).2.2.2.2.2.2.2.2 := by
  have ht : t.val < 8 := t.isLt
  have hz : 8 * (t.val - 1 + 1) = 8 * t.val := by omega
  rw [outsAt0_B m c0 t h0]
  dsimp only
  have ig := i.grd
  have ir := i.row0
  rw [hz] at ig ir
  exact left_of ht (ins_rel m c0 t) ig ir i.rest []
      (RunB.out10 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.out11 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.out13 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.out12 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.out16 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.out17 (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)
      (RunB.outs (F := Ideal) c0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (fun h => h0 ((hcond0_0 t).mp h)) (iblk m c0 0 t) (iblk m c0 1 t) (iblk m c0 2 t) (iblk m c0 3 t) (iblk m c0 4 t) (iblk m c0 5 t) (iblk m c0 6 t) (iblk m c0 7 t) (iblk m c0 8 t) (iblk m c0 9 t) (outsAt0 m c0 (t.val - 1) (Nat.lt_of_le_of_lt (Nat.sub_le _ _) t.isLt)).2.2.2.2.2.2.2.1 (outsAt0 m c0 (t.val - 1) (Nat.lt_of_le_of_lt (Nat.sub_le _ _) t.isLt)).2.2.2.2.2.2.2.2)

theorem left_at : ∀ (n : ℕ) (hn : n < cfg0.N), Left (Ys m c0) n (outsAt0 m c0 n hn).1 (outsAt0 m c0 n hn).2.1 (outsAt0 m c0 n hn).2.2.1 (outsAt0 m c0 n hn).2.2.2.1
    (outsAt0 m c0 n hn).2.2.2.2.2.2.1 (outsAt0 m c0 n hn).2.2.2.2.2.2.2.1 (outsAt0 m c0 n hn).2.2.2.2.2.2.2.2 := by
  intro n
  induction n with
  | zero => exact fun hn => left_A m c0 ⟨0, hn⟩ rfl
  | succ n ih =>
    intro hn
    have hn8 : n + 1 < 8 := hn
    exact left_B m c0 ⟨n + 1, hn⟩ (by show ¬(n + 1) % 8 = 0; omega) (ih (Nat.lt_of_succ_lt hn))

end Cert.Scan.Ker

end
-- ==== Proof.KerArr.lean ====
/- The kernel's result arrays, entry by entry. -/
module

public import proofs.«01_k».proof.Proof.KerPoint

@[expose] public section

set_option maxRecDepth 16384

noncomputable section

namespace Cert.Scan.Ker

open Idealize.ShloMosaic Idealize.ShloMosaic.TcCoe Cert.KernelIdeal Cert.KernelIdeal.Gen Cert.KernelIdeal.Value

theorem idxO : ∀ t : Fin grid0.N, win0_10.index t = ![7 - t.val, 0] ∧ win0_11.index t = ![7 - t.val, 0] ∧ win0_12.index t = ![7 - t.val, 0]
    ∧ win0_13.index t = ![7 - t.val, 0] ∧ win0_16.index t = ![7 - t.val, 0] := by
  decide +kernel
theorem flushes : ∀ t : Fin grid0.N, win0_10.flush t = true ∧ win0_11.flush t = true ∧ win0_12.flush t = true ∧ win0_13.flush t = true ∧ win0_16.flush t = true := by
  decide +kernel

variable (m : (ℓ : Loc nD τ sig) → Buf (Elt Ideal) ℓ) (c0 : Dev nD) (n : Fin 64) (h : Fin 4) (c : Fin 64) (v : Fin 128)

/-- The grid point and the place in it of a chunk. -/
def ptOf : Fin cfg0.N := (⟨7 - n.val / 8, by omega⟩ : Fin 8)
def inPt : Fin 8 := ⟨n.val % 8, by omega⟩
theorem chunkAt_ptOf : chunkAt (ptOf n).val (inPt n) = n := Fin.ext (by
  show 8 * (7 - (7 - n.val / 8)) + n.val % 8 = n.val
  have := n.isLt; omega)
theorem after_ptOf : 8 * (ptOf n).val + (7 - (inPt n).val) = 63 - n.val := by
  show 8 * (7 - n.val / 8) + (7 - n.val % 8) = 63 - n.val
  have := n.isLt; omega

theorem du_arr : (dats m 0 c0).arrAt 10 cfg0.N (ix2 (rowN n h c) v) = (Ys m c0 n).du (D (Ys m c0) (63 - n.val)) h c v := by
  have b := congrFun (blocks10 m c0 (ptOf n) (flushes _).1) (ix2 (r8 (inPt n) h c) v)
  rw [flushed10] at b
  have e := (left_at m c0 (ptOf n).val (ptOf n).isLt).du (inPt n) h c v
  rw [chunkAt_ptOf, after_ptOf] at e
  refine Eq.trans ?_ (b.trans (Eq.trans ?_ e))
  · refine congrArg ((dats m 0 c0).arrAt 10 cfg0.N) ?_
    blk_ext [idxO (ptOf n)]
    all_goals (try simp only [r8, r8Z, rowN, tok, ptOf, inPt]); omega
  · rfl
theorem dw_arr : (dats m 0 c0).arrAt 11 cfg0.N (ix2 (rowN n h c) v) = (Ys m c0 n).dw (D (Ys m c0) (63 - n.val)) h c v := by
  have b := congrFun (blocks11 m c0 (ptOf n) (flushes _).2.1) (ix2 (r8 (inPt n) h c) v)
  rw [flushed11] at b
  have e := (left_at m c0 (ptOf n).val (ptOf n).isLt).dw (inPt n) h c v
  rw [chunkAt_ptOf, after_ptOf] at e
  refine Eq.trans ?_ (b.trans (Eq.trans ?_ e))
  · refine congrArg ((dats m 0 c0).arrAt 11 cfg0.N) ?_
    blk_ext [idxO (ptOf n)]
    all_goals (try simp only [r8, r8Z, rowN, tok, ptOf, inPt]); omega
  · rfl
theorem dq_arr : (dats m 0 c0).arrAt 12 cfg0.N (ix2 (rowN n h c) v) = (Ys m c0 n).dq h c v := by
  have b := congrFun (blocks12 m c0 (ptOf n) (flushes _).2.2.1) (ix2 (r8 (inPt n) h c) v)
  rw [flushed12] at b
  have e := (left_at m c0 (ptOf n).val (ptOf n).isLt).dq (inPt n) h c v
  rw [chunkAt_ptOf] at e
  refine Eq.trans ?_ (b.trans (Eq.trans ?_ e))
  · refine congrArg ((dats m 0 c0).arrAt 12 cfg0.N) ?_
    blk_ext [idxO (ptOf n)]
    all_goals (try simp only [r8, r8Z, rowN, tok, ptOf, inPt]); omega
  · rfl
theorem dk_arr : (dats m 0 c0).arrAt 13 cfg0.N (ix2 (rowN n h c) v) = (Ys m c0 n).dk (D (Ys m c0) (63 - n.val)) h c v := by
  have b := congrFun (blocks13 m c0 (ptOf n) (flushes _).2.2.2.1) (ix2 (r8 (inPt n) h c) v)
  rw [flushed13] at b
  have e := (left_at m c0 (ptOf n).val (ptOf n).isLt).dk (inPt n) h c v
  rw [chunkAt_ptOf, after_ptOf] at e
  refine Eq.trans ?_ (b.trans (Eq.trans ?_ e))
  · refine congrArg ((dats m 0 c0).arrAt 13 cfg0.N) ?_
    blk_ext [idxO (ptOf n)]
    all_goals (try simp only [r8, r8Z, rowN, tok, ptOf, inPt]); omega
  · rfl
theorem dz_arr : (dats m 0 c0).arrAt 16 cfg0.N (ix2 (tok n c) (lane h v)) = (Ys m c0 n).dz h c v := by
  have b := congrFun (blocks16 m c0 (ptOf n) (flushes _).2.2.2.2) (ix2 (r8Z (inPt n) c) (lane h v))
  rw [flushed16] at b
  have e := (left_at m c0 (ptOf n).val (ptOf n).isLt).dz (inPt n) h c v
  rw [chunkAt_ptOf] at e
  refine Eq.trans ?_ (b.trans (Eq.trans ?_ e))
  · refine congrArg ((dats m 0 c0).arrAt 16 cfg0.N) ?_
    blk_ext [idxO (ptOf n)]
    all_goals (try simp only [r8, r8Z, rowN, tok, ptOf, inPt]); omega
  · rfl

theorem dnw_arr (r : Fin 8) : (dats m 0 c0).arrAt 17 cfg0.N (ix2 r v) = (if r = 0 then ∑ n, (Ys m c0 n).dnw v else 0 : EReal) := by
  have e := left_at m c0 7 (by decide)
  have a := (dats m 0 c0).arrAt_eq_of_after_last 17 t0_7 (by decide +kernel) (outsAt0 m c0 7 (by decide)).2.2.2.2.2.2.2.1 fun j => by
    blk_simp
    rw [after0_17]
    rfl
  refine (congrFun a (ix2 r v)).trans ?_
  by_cases hr : r = 0
  · rw [if_pos hr, hr, ← T_all]
    exact e.row0 v
  · rw [if_neg hr]
    exact e.rest r v hr

end Cert.Scan.Ker

end
-- ==== Proof.Meet.lean ====
/- The reference's results are the kernel's, entry by entry. -/
module

public import proofs.«01_k».proof.Proof.RefRun
public import proofs.«01_k».proof.Proof.RefIter
public import proofs.«01_k».proof.Proof.KerArr

@[expose] public section

set_option maxRecDepth 16384

noncomputable section

namespace Cert.Scan

open Idealize.ShloMosaic Idealize.ShloMosaic.TcCoe Cert.ReferenceIdeal.Step

/-- The reference's states, trip after trip. -/
def trips (m' : (ℓ : Loc Cert.ReferenceIdeal.nD Cert.ReferenceIdeal.τ Cert.ReferenceIdeal.sig) → Buf (Elt Ideal) ℓ) (c : Dev Cert.ReferenceIdeal.nD) : ℕ → State Ideal
  | 0 => RefRun.initState m' c
  | n + 1 => step n (trips m' c n)

/-- Both programs run on the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD} (g : Agree m m' c)
include g

theorem trips_inp (i : Fin 64) : Ref.inp (trips m' c 0) i = Ker.Ys m c i.rev := by
  refine (Ref.inp_init _ _ _ _ _ _ _ _ _ _ i).trans ?_
  obtain ⟨g0, g1, g2, g3, g4, g5, g6, g7, g8, g9⟩ := g
  rw [g0, g1, g2, g3, g4, g5, g6, g7, g8, g9]
  rfl

omit g in
theorem trips_zero (i : Cert.ReferenceIdeal.S4x128x128.Idx) : (trips m' c 0).main_v10_11 i = 0 := Ref.zero_init _ _ _ _ _ _ _ _ _ _ i

theorem meet11 (y : Cert.KernelIdeal.S16384x128.Idx) : R_main_v11 (trips m' c 64) y = (Cert.KernelIdeal.Gen.dats m 0 c).arrAt 10 Cert.KernelIdeal.cfg0.N y := by
  obtain ⟨n, h, i, hr⟩ := exists_rowN (y 0)
  have e : y = ix2 (rowN n h i) (y 1) := by
    funext a
    match a with
    | 0 => exact hr.symm
    | 1 => rfl
  rw [e]
  exact (Ref.R11_at n h i (y 1) _).trans ((Ref.du_it (trips m' c) (fun _ => rfl) (Ker.Ys m c) (trips_inp g) trips_zero n h i (y 1)).trans (Ker.du_arr m c n h i (y 1)).symm)
theorem meet12 (y : Cert.KernelIdeal.S16384x128.Idx) : R_main_v12 (trips m' c 64) y = (Cert.KernelIdeal.Gen.dats m 0 c).arrAt 11 Cert.KernelIdeal.cfg0.N y := by
  obtain ⟨n, h, i, hr⟩ := exists_rowN (y 0)
  have e : y = ix2 (rowN n h i) (y 1) := by
    funext a
    match a with
    | 0 => exact hr.symm
    | 1 => rfl
  rw [e]
  exact (Ref.R12_at n h i (y 1) _).trans ((Ref.dw_it (trips m' c) (fun _ => rfl) (Ker.Ys m c) (trips_inp g) trips_zero n h i (y 1)).trans (Ker.dw_arr m c n h i (y 1)).symm)
theorem meet13 (y : Cert.KernelIdeal.S16384x128.Idx) : R_main_v13 (trips m' c 64) y = (Cert.KernelIdeal.Gen.dats m 0 c).arrAt 12 Cert.KernelIdeal.cfg0.N y := by
  obtain ⟨n, h, i, hr⟩ := exists_rowN (y 0)
  have e : y = ix2 (rowN n h i) (y 1) := by
    funext a
    match a with
    | 0 => exact hr.symm
    | 1 => rfl
  rw [e]
  exact (Ref.R13_at n h i (y 1) _).trans ((Ref.dq_it (trips m' c) (fun _ => rfl) (Ker.Ys m c) (trips_inp g) trips_zero n h i (y 1)).trans (Ker.dq_arr m c n h i (y 1)).symm)
theorem meet14 (y : Cert.KernelIdeal.S16384x128.Idx) : R_main_v14 (trips m' c 64) y = (Cert.KernelIdeal.Gen.dats m 0 c).arrAt 13 Cert.KernelIdeal.cfg0.N y := by
  obtain ⟨n, h, i, hr⟩ := exists_rowN (y 0)
  have e : y = ix2 (rowN n h i) (y 1) := by
    funext a
    match a with
    | 0 => exact hr.symm
    | 1 => rfl
  rw [e]
  exact (Ref.R14_at n h i (y 1) _).trans ((Ref.dk_it (trips m' c) (fun _ => rfl) (Ker.Ys m c) (trips_inp g) trips_zero n h i (y 1)).trans (Ker.dk_arr m c n h i (y 1)).symm)
theorem meet16 (y : Cert.KernelIdeal.S4096x512.Idx) : R_main_v16 (trips m' c 64) y = (Cert.KernelIdeal.Gen.dats m 0 c).arrAt 16 Cert.KernelIdeal.cfg0.N y := by
  obtain ⟨n, i, hr⟩ := exists_tok (y 0)
  obtain ⟨h, v, hv⟩ := exists_lane (y 1)
  have e : y = ix2 (tok n i) (lane h v) := by
    funext a
    match a with
    | 0 => exact hr.symm
    | 1 => exact hv.symm
  rw [e]
  exact (Ref.R16_at n h i v _).trans ((Ref.dz_it (trips m' c) (fun _ => rfl) (Ker.Ys m c) (trips_inp g) trips_zero n h i v).trans (Ker.dz_arr m c n h i v).symm)
theorem meet20_at (r : Fin 8) (v : Fin 128) : R_main_v20 (trips m' c 64) (ix2 r v) = (Cert.KernelIdeal.Gen.dats m 0 c).arrAt 17 Cert.KernelIdeal.cfg0.N (ix2 r v) := by
  refine (Ref.R20_at v _ r).trans (Eq.trans ?_ (Ker.dnw_arr m c v r).symm)
  rw [Finset.sum_congr rfl fun n _ => Ref.dnw_it (trips m' c) (fun _ => rfl) (Ker.Ys m c) (trips_inp g) trips_zero n v]
theorem meet20 (y : Cert.KernelIdeal.S8x128.Idx) : R_main_v20 (trips m' c 64) y = (Cert.KernelIdeal.Gen.dats m 0 c).arrAt 17 Cert.KernelIdeal.cfg0.N y := by
  have e : y = ix2 (y 0) (y 1) := by
    funext a
    match a with
    | 0 => rfl
    | 1 => rfl
  rw [e]
  exact meet20_at g (y 0) (y 1)

end Cert.Scan

end
-- ==== Proof.Layer.lean ====
/- What the layer's calls share: sums cut into the blocks a grid visits, and an output array read at one entry. -/
module

public import Idealize.ShloMosaic.PureOps.Ideal
public import Idealize.ShloMosaic.Lib.Pipeline.ValueKit
public import Idealize.ShloMosaic.Lib.Claim

@[expose] public section

noncomputable section

namespace Cert.Layer

open Idealize.ShloMosaic Idealize.ShloMosaic.TcCoe

/-- The tokens in the two halves the grid of a weight gradient visits. -/
theorem sum_half (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- `xᵀ·y` over the tokens. -/
def tn {a b : ℕ} (x : Fin 4096 → Fin a → EReal) (y : Fin 4096 → Fin b → EReal) (i : Fin a) (j : Fin b) : EReal := ∑ k, x k i * y k j

/-- The reciprocal root of a row's mean square (over its 1024 entries, with the small number added). -/
def rinv (x : Fin 1024 → EReal) : EReal :=
  Ideal.rsqrt (Ideal.div (∑ k, x k * x k) (Ideal.ofBits FTy.f32 1149239296#32) + Ideal.ofBits FTy.f32 897988541#32)

/-- A row normalised, scaled and shifted. -/
def modn (x nw sc sh : Fin 1024 → EReal) (j : Fin 1024) : EReal := x j * rinv x * nw j * (1 + sc j) + sh j

theorem sitofp_zero (φ : FTy) : FloatOps.sitofp (F := Ideal) φ 0#32 = (0 : EReal) := by
  show (((0#32 : BitVec 32).toInt : ℝ) : EReal) = 0
  simp

/-- A two-entry index is its entries. -/
theorem eta2 {a b : ℕ} (y : (⟨2, ![a, b]⟩ : Shape).Idx) : y = ix2 (y 0) (y 1) := by
  funext k
  match k with
  | 0 => rfl
  | 1 => rfl

end Cert.Layer

end
-- ==== Proof.GradIn.lean ====
/- The gradient of the input projection's weight: the kernel's blocks of `hᵀ·dproj`, summed over two halves of the tokens. -/
module

public import proofs.«01_k».proof.Proof.Layer
public import proofs.«01_k».proof.Proof.Gen.InIdeal.Value
public import proofs.«01_k».proof.Proof.Gen.InReferenceIdeal.Run

@[expose] public section

set_option maxRecDepth 16384

noncomputable section

namespace Cert.Layer.GradIn

open Idealize.ShloMosaic Idealize.ShloMosaic.TcCoe Cert.InIdeal Cert.InIdeal.Gen Cert.InIdeal.Value

theorem idx : ∀ t : Fin grid0.N, win0_0.index t = ![t.val % 2, 0] ∧ win0_1.index t = ![t.val % 2, t.val / 2] ∧ win0_2.index t = ![0, t.val / 2] := by
  decide +kernel

/-- The product of two blocks of tokens, added to what is there. -/
theorem pay2_at (x0 : FVec Ideal S2048x1024 .bf16) (x1 : FVec Ideal S2048x640 .bf16) (a : FVec Ideal S1024x640 .f32) (i : Fin 1024) (j : Fin 640) :
    k0_pay2 (F := Ideal) x0 x1 a (ix2 i j) = a (ix2 i j) + ∑ k : Fin 2048, x0 (ix2 k i) * x1 (ix2 k j) := by
  pointwise [k0_pay2]
theorem pay1_at (i : Fin 1024) (j : Fin 640) : k0_pay1 (F := Ideal) (ix2 i j) = 0 := by
  pointwise [k0_pay1]

variable (m : (ℓ : Loc nD τ sig) → Buf (Elt Ideal) ℓ) (c : Dev nD)

/-- The two arguments' entries. -/
def X (k : Fin 4096) (i : Fin 1024) : EReal := m ((c.tc : Thread nD τ).loc main_arg0) (ix2 k i)
def Y (k : Fin 4096) (j : Fin 3200) : EReal := m ((c.tc : Thread nD τ).loc main_arg1) (ix2 k j)

theorem v0_at (k : Fin 4096) (i : Fin 1024) : V m c main_v0 (ix2 k i) = X m c k i := by
  unfold X; entry_read; pointwise
theorem v1_at (k : Fin 4096) (j : Fin 3200) : V m c main_v1 (ix2 k j) = Y m c k j := by
  unfold Y; entry_read; pointwise

theorem blk0 (t : Fin cfg0.N) (k : Fin 2048) (i : Fin 1024) :
    iblk m c 0 t (ix2 k i) = X m c (⟨2048 * (t.val % 2) + k.val, by omega⟩ : Fin 4096) i := by
  rw [← v0_at m c]
  refine congrArg (V m c main_v0) ?_
  blk_ext [idx t]
  all_goals omega
theorem blk1 (t : Fin cfg0.N) (k : Fin 2048) (j : Fin 640) (hj : 640 * (t.val / 2) + j.val < 3200) :
    iblk m c 1 t (ix2 k j) = Y m c (⟨2048 * (t.val % 2) + k.val, by omega⟩ : Fin 4096) (⟨640 * (t.val / 2) + j.val, hj⟩ : Fin 3200) := by
  rw [← v1_at m c]
  refine congrArg (V m c main_v1) ?_
  blk_ext [idx t]
  all_goals omega

/-- What a block's second visit leaves: the sum over all the tokens. -/
theorem left_at (t : Fin cfg0.N) (ht : t.val % 2 = 1) (i : Fin 1024) (j : Fin 640) (hj : 640 * (t.val / 2) + j.val < 3200) :
    outsAt0 m c t.val t.isLt (ix2 i j)
      = tn (X m c) (Y m c) i (⟨640 * (t.val / 2) + j.val, hj⟩ : Fin 3200) := by
  unfold tn
  have hp : t.val - 1 < cfg0.N := Nat.lt_of_le_of_lt (Nat.sub_le _ _) t.isLt
  have e0 : 2048 * ((t.val - 1) % 2) = 0 := by omega
  have e1 : (t.val - 1) / 2 = t.val / 2 := by omega
  rw [outsAt0_B m c t (by omega), outsAt0_A m c ⟨t.val - 1, hp⟩ (by show (t.val - 1) % 2 = 0; omega), out_B_2_eq, out_A_2_eq, pay2_at, pay2_at, pay1_at, zero_add, ← sum_half]
  refine congrArg₂ (· + ·) (Finset.sum_congr rfl fun k _ => ?_) (Finset.sum_congr rfl fun k _ => ?_)
  · rw [blk0 m c ⟨t.val - 1, hp⟩, blk1 m c ⟨t.val - 1, hp⟩ k j (by show 640 * ((t.val - 1) / 2) + j.val < 3200; omega)]
    simp only [e0, e1, Nat.zero_add]
  · rw [blk0 m c t, blk1 m c t k j hj]
    simp only [ht, Nat.mul_one]

/-- The product, entry by entry. -/
def prod : Buf (Elt Ideal) ((c : Thread nD τ).loc main_v2) := fun y =>
  tn (X m c) (Y m c) (y 0) (y 1)

theorem flushed_at (t : Fin cfg0.N) (hf : (cfg0.win 2).flush t = true) :
    (dats m 0 c).flushed 2 t = ((cfg0.win 2).blk t).view.read (Elt Ideal) (prod m c) := by
  have hN : t.val < 10 := lt_of_lt_of_eq t.isLt (show cfg0.N = 10 from N_0)
  rw [flushed2]
  funext y
  have hy1 : (y 1).val < 640 := (y 1).isLt
  refine Eq.trans (show _ = outsAt0 m c t.val t.isLt (ix2 (y 0) (y 1)) from congrArg (outsAt0 m c t.val t.isLt) (eta2 y)) ?_
  refine (left_at m c t ((flush0_2 t).mp hf) (y 0) (y 1) (by omega)).trans ?_
  refine congrArg (prod m c) (a₁ := ix2 (y 0) (⟨640 * (t.val / 2) + (y 1).val, by omega⟩ : Fin 3200)) ?_
  blk_ext [idx t]
  all_goals omega

/-- The kernel's result. -/
theorem ker_at (i : Fin 1024) (j : Fin 3200) : (dats m 0 c).arrAt 2 cfg0.N (ix2 i j) = tn (X m c) (Y m c) i j :=
  (congrFun ((dats m 0 c).arrAt_eq_of_cover 2 (prod m c) (flushed_at m c) (fun i => (covered_iff2 i).2
    ⟨Nat.zero_le _, (i 0).isLt, Nat.zero_le _, (i 1).isLt⟩)) (ix2 i j))

end Cert.Layer.GradIn

namespace Cert.Layer.GradIn.Ref

open Idealize.ShloMosaic Idealize.ShloMosaic.TcCoe Cert.InReferenceIdeal Cert.InReferenceIdeal.Gen

/-- The reference's result. -/
theorem ref_at (x : FVec Ideal S4096x1024 .f32) (y : FVec Ideal S4096x3200 .f32) (i : Fin 1024) (j : Fin 3200) :
    Host.dotGeneral (F := Ideal) (φ₁ := .f32) (φ₂ := .f32) dot_S1024x4096_S4096x3200_S1024x3200_1_0_0_1_n_n none
      (transpose S1024x4096 [1, 0] x transposes_S4096x1024_S1024x4096_1_0) y (ix2 i j)
      = tn (fun k i => x (ix2 k i)) (fun k j => y (ix2 k j)) i j := by
  unfold tn; pointwise

end Cert.Layer.GradIn.Ref

end
-- ==== Proof.GradUp.lean ====
/- The gradient of the MLP's first weight: the kernel's blocks of `h2ᵀ·dup`, summed over two halves of the tokens. -/
module

public import proofs.«01_k».proof.Proof.Layer
public import proofs.«01_k».proof.Proof.Gen.UpIdeal.Value
public import proofs.«01_k».proof.Proof.Gen.UpReferenceIdeal.Run

@[expose] public section

set_option maxRecDepth 16384

noncomputable section

namespace Cert.Layer.GradUp

open Idealize.ShloMosaic Idealize.ShloMosaic.TcCoe Cert.UpIdeal Cert.UpIdeal.Gen Cert.UpIdeal.Value

theorem idx : ∀ t : Fin grid0.N, win0_0.index t = ![t.val % 2, 0] ∧ win0_1.index t = ![t.val % 2, t.val / 2] ∧ win0_2.index t = ![0, t.val / 2, 0, 0] := by
  decide +kernel

theorem hz2 : (![0, 0] : Fin 2 → Nat) = fun _ => 0 := funext fun a => by fin_cases a <;> rfl
theorem hzO : (![0, 0, 0, 0] : Fin 4 → Nat) = fun _ => 0 := funext fun a => by fin_cases a <;> rfl

/-- The first visit of a block: nothing is there but the zeros just stored. -/
theorem out_A_2_eq (c : Dev nD) (i : grid0.Coords) (arg3 : Memref sig .tc .vmem S2048x1024 .bf16) (harg3 : arg3.IsWhole) (arg4 : Memref sig .tc .vmem S2048x512 .bf16) (harg4 : arg4.IsWhole) (arg6 : Memref sig .tc .vmem S1x1x1024x512 .f32) (harg6 : arg6.IsWhole) (hc0 : cond0_0 i)
    (x0 : Vec Ideal S2048x1024 .bf16) (x1 : Vec Ideal S2048x512 .bf16) :
    out0_A_2 c i arg3 harg3 arg4 harg4 arg6 harg6 hc0 x0 x1 = k0_pay2 x0 x1 (k0_pay1 (F := Ideal)) := by
  unfold out0_A_2
  rw [View.read_writes_eq_canon _ _ _ (cover0_A_2 c i arg3 harg3 arg4 harg4 arg6 harg6 hc0 x0 x1)]
  unfold kernelRun0_A
  dsimp only
  try sl_unfold_words
  rw [View.canon_cons_unit_zero (S := S1x1x1024x512) hzO, View.readCov_unit_zero (S := S1x1x1024x512) _ hzO]
  simp only [View.readAt_eq_ld, harg3.read_unread, harg4.read_unread, harg6.read_unread, View.ld_unit_zero (S := S1x1x1024x512) hzO, View.ld_unit_zero (S := S2048x1024) hz2, View.ld_unit_zero (S := S2048x512) hz2, shapeCast_self]

/-- The second visit adds to what the first left. -/
theorem out_B_2_eq (c : Dev nD) (i : grid0.Coords) (arg3 : Memref sig .tc .vmem S2048x1024 .bf16) (harg3 : arg3.IsWhole) (arg4 : Memref sig .tc .vmem S2048x512 .bf16) (harg4 : arg4.IsWhole) (arg6 : Memref sig .tc .vmem S1x1x1024x512 .f32) (harg6 : arg6.IsWhole) (hc0 : ¬cond0_0 i)
    (x0 : Vec Ideal S2048x1024 .bf16) (x1 : Vec Ideal S2048x512 .bf16) (xo2 : Vec Ideal S1x1x1024x512 .f32) :
    out0_B_2 c i arg3 harg3 arg4 harg4 arg6 harg6 hc0 x0 x1 xo2 = k0_pay2 x0 x1 xo2 := by
  unfold out0_B_2
  rw [View.read_writes_eq_canon _ _ _ (cover0_B_2 c i arg3 harg3 arg4 harg4 arg6 harg6 hc0 x0 x1 xo2)]
  unfold kernelRun0_B
  dsimp only
  try sl_unfold_words
  rw [View.canon_unit_zero hzO]
  simp only [View.readAt_eq_ld, harg3.read_unread, harg4.read_unread, harg6.read_unread, View.ld_unit_zero (S := S1x1x1024x512) hzO, View.ld_unit_zero (S := S2048x1024) hz2, View.ld_unit_zero (S := S2048x512) hz2, shapeCast_self]

/-- The product of two blocks of tokens, added to what is there. -/
theorem pay2_at (x0 : FVec Ideal S2048x1024 .bf16) (x1 : FVec Ideal S2048x512 .bf16) (a : FVec Ideal S1x1x1024x512 .f32) (i : Fin 1024) (j : Fin 512) :
    k0_pay2 (F := Ideal) x0 x1 a (ix4 0 0 i j) = a (ix4 0 0 i j) + ∑ k : Fin 2048, x0 (ix2 k i) * x1 (ix2 k j) := by
  pointwise [k0_pay2]
theorem pay1_at (i : Fin 1024) (j : Fin 512) : k0_pay1 (F := Ideal) (ix4 0 0 i j) = 0 := by
  pointwise [k0_pay1]

variable (m : (ℓ : Loc nD τ sig) → Buf (Elt Ideal) ℓ) (c : Dev nD)

/-- The two arguments' entries. -/
def X (k : Fin 4096) (i : Fin 1024) : EReal := m ((c.tc : Thread nD τ).loc main_arg0) (ix2 k i)
def Y (k : Fin 4096) (j : Fin 4096) : EReal := m ((c.tc : Thread nD τ).loc main_arg1) (ix2 k j)

theorem v0_at (k : Fin 4096) (i : Fin 1024) : V m c main_v0 (ix2 k i) = X m c k i := by
  unfold X; entry_read; pointwise
theorem v1_at (k : Fin 4096) (j : Fin 4096) : V m c main_v1 (ix2 k j) = Y m c k j := by
  unfold Y; entry_read; pointwise

theorem blk0 (t : Fin cfg0.N) (k : Fin 2048) (i : Fin 1024) :
    iblk m c 0 t (ix2 k i) = X m c (⟨2048 * (t.val % 2) + k.val, by omega⟩ : Fin 4096) i := by
  rw [← v0_at m c]
  refine congrArg (V m c main_v0) ?_
  blk_ext [idx t]
  all_goals omega
theorem blk1 (t : Fin cfg0.N) (k : Fin 2048) (j : Fin 512) (hj : 512 * (t.val / 2) + j.val < 4096) :
    iblk m c 1 t (ix2 k j) = Y m c (⟨2048 * (t.val % 2) + k.val, by omega⟩ : Fin 4096) (⟨512 * (t.val / 2) + j.val, hj⟩ : Fin 4096) := by
  rw [← v1_at m c]
  refine congrArg (V m c main_v1) ?_
  blk_ext [idx t]
  all_goals omega

/-- What a block's second visit leaves: the sum over all the tokens. -/
theorem left_at (t : Fin cfg0.N) (ht : t.val % 2 = 1) (i : Fin 1024) (j : Fin 512) (hj : 512 * (t.val / 2) + j.val < 4096) :
    outsAt0 m c t.val t.isLt (ix4 0 0 i j) = tn (X m c) (Y m c) i (⟨512 * (t.val / 2) + j.val, hj⟩ : Fin 4096) := by
  unfold tn
  have hp : t.val - 1 < cfg0.N := Nat.lt_of_le_of_lt (Nat.sub_le _ _) t.isLt
  have e0 : 2048 * ((t.val - 1) % 2) = 0 := by omega
  have e1 : (t.val - 1) / 2 = t.val / 2 := by omega
  rw [outsAt0_B m c t (by omega), outsAt0_A m c ⟨t.val - 1, hp⟩ (by show (t.val - 1) % 2 = 0; omega), out_B_2_eq, out_A_2_eq, pay2_at, pay2_at, pay1_at, zero_add, ← sum_half]
  refine congrArg₂ (· + ·) (Finset.sum_congr rfl fun k _ => ?_) (Finset.sum_congr rfl fun k _ => ?_)
  · rw [blk0 m c ⟨t.val - 1, hp⟩, blk1 m c ⟨t.val - 1, hp⟩ k j (by show 512 * ((t.val - 1) / 2) + j.val < 4096; omega)]
    simp only [e0, e1, Nat.zero_add]
  · rw [blk0 m c t, blk1 m c t k j hj]
    simp only [ht, Nat.mul_one]

/-- The product, laid out by blocks of 512 columns. -/
def prod : Buf (Elt Ideal) ((c : Thread nD τ).loc main_v3) := fun y =>
  tn (X m c) (Y m c) (y 2) (⟨512 * (y 1).val + (y 3).val, by have h1 : (y 1).val < 8 := (y 1).isLt; have h3 : (y 3).val < 512 := (y 3).isLt; omega⟩ : Fin 4096)

theorem flushed_at (t : Fin cfg0.N) (hf : (cfg0.win 2).flush t = true) :
    (dats m 0 c).flushed 2 t = ((cfg0.win 2).blk t).view.read (Elt Ideal) (prod m c) := by
  have hN : t.val < 16 := lt_of_lt_of_eq t.isLt (show cfg0.N = 16 from N_0)
  rw [flushed2]
  funext y
  have hy3 : (y 3).val < 512 := (y 3).isLt
  have ey : y = ix4 0 0 (y 2) (y 3) := by
    funext a
    match a with
    | 0 => exact Subsingleton.elim (α := Fin 1) _ _
    | 1 => exact Subsingleton.elim (α := Fin 1) _ _
    | 2 => rfl
    | 3 => rfl
  refine Eq.trans (show _ = outsAt0 m c t.val t.isLt (ix4 0 0 (y 2) (y 3)) from congrArg (outsAt0 m c t.val t.isLt) ey) ?_
  refine (left_at m c t ((flush0_2 t).mp hf) (y 2) (y 3) (by omega)).trans ?_
  refine congrArg (prod m c) (a₁ := ix4 (0 : Fin 1) (⟨t.val / 2, by omega⟩ : Fin 8) (y 2) (y 3)) ?_
  blk_ext [idx t]
  all_goals omega

/-- The kernel's result. -/
theorem ker_at (s : Fin 8) (i : Fin 1024) (j : Fin 512) : (dats m 0 c).arrAt 2 cfg0.N (ix4 0 s i j)
    = tn (X m c) (Y m c) i (⟨512 * s.val + j.val, by omega⟩ : Fin 4096) := by
  have ht : 2 * s.val + 1 < cfg0.N := lt_of_lt_of_eq (by omega : 2 * s.val + 1 < 16) (show 16 = cfg0.N from N_0.symm)
  have b := congrFun ((dats m 0 c).read_blk_arrAt 2 (prod m c) (flushed_at m c) ⟨2 * s.val + 1, ht⟩ ((flush0_2 _).mpr (by show (2 * s.val + 1) % 2 = 1; omega))) (ix4 (0 : Fin 1) (0 : Fin 1) i j)
  have e : ix4 (0 : Fin 1) s i j = ((cfg0.win 2).blk ⟨2 * s.val + 1, ht⟩).view.emb (ix4 (0 : Fin 1) (0 : Fin 1) i j) := by
    blk_ext [idx ⟨2 * s.val + 1, ht⟩]
    all_goals omega
  refine Eq.trans (congrArg ((dats m 0 c).arrAt 2 cfg0.N) e) (b.trans ?_)
  exact (congrArg (prod m c) e).symm

end Cert.Layer.GradUp

namespace Cert.Layer.GradUp.Ref

open Idealize.ShloMosaic Idealize.ShloMosaic.TcCoe Cert.UpReferenceIdeal Cert.UpReferenceIdeal.Gen

/-- The reference's result. -/
theorem ref_at (x : FVec Ideal S4096x1024 .f32) (y : FVec Ideal S4096x4096 .f32) (s : Fin 8) (i : Fin 1024) (j : Fin 512) :
    broadcastInDim S1x8x1024x512 ![1, 2, 3] bcast_S8x1024x512_S1x8x1024x512_1_2_3 (transpose S8x1024x512 [1, 0, 2] (shapeCast S1024x8x512
      (Host.dotGeneral (F := Ideal) (φ₁ := .f32) (φ₂ := .f32) dot_S1024x4096_S4096x4096_S1024x4096_1_0_0_1_n_n none
        (transpose S1024x4096 [1, 0] x transposes_S4096x1024_S1024x4096_1_0) y) shapeCasts_S1024x4096_S1024x8x512) transposes_S1024x8x512_S8x1024x512_1_0_2) (ix4 0 s i j)
      = tn (fun k i => x (ix2 k i)) (fun k j => y (ix2 k j)) i (⟨512 * s.val + j.val, by omega⟩ : Fin 4096) := by
  unfold tn; pointwise
  simp only [Nat.mul_comm s.val 512]

end Cert.Layer.GradUp.Ref

end
-- ==== Proof.GradDown.lean ====
/- The gradient of the MLP's second weight: the kernel's blocks of `actᵀ·dff`, summed over two halves of the tokens. -/
module

public import proofs.«01_k».proof.Proof.Layer
public import proofs.«01_k».proof.Proof.Gen.DownIdeal.Value
public import proofs.«01_k».proof.Proof.Gen.DownReferenceIdeal.Run

@[expose] public section

set_option maxRecDepth 16384

noncomputable section

namespace Cert.Layer.GradDown

open Idealize.ShloMosaic Idealize.ShloMosaic.TcCoe Cert.DownIdeal Cert.DownIdeal.Gen Cert.DownIdeal.Value

theorem idx : ∀ t : Fin grid0.N, win0_0.index t = ![t.val % 2, t.val / 2] ∧ win0_1.index t = ![t.val % 2, 0] ∧ win0_2.index t = ![0, t.val / 2, 0] := by
  decide +kernel

theorem hz2 : (![0, 0] : Fin 2 → Nat) = fun _ => 0 := funext fun a => by fin_cases a <;> rfl
theorem hzO : (![0, 0, 0] : Fin 3 → Nat) = fun _ => 0 := funext fun a => by fin_cases a <;> rfl

/-- The first visit of a block: nothing is there but the zeros just stored. -/
theorem out_A_2_eq (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .f32) (harg6 : arg6.IsWhole) (hc0 : cond0_0 i)
    (x0 : Vec Ideal S2048x1024 .bf16) (x1 : Vec Ideal S2048x1024 .bf16) :
    out0_A_2 c i arg3 harg3 arg4 harg4 arg6 harg6 hc0 x0 x1 = k0_pay2 x0 x1 (k0_pay1 (F := Ideal)) := by
  unfold out0_A_2
  rw [View.read_writes_eq_canon _ _ _ (cover0_A_2 c i arg3 harg3 arg4 harg4 arg6 harg6 hc0 x0 x1)]
  unfold kernelRun0_A
  dsimp only
  try sl_unfold_words
  rw [View.canon_cons_unit_zero (S := S1x1024x1024) hzO, View.readCov_unit_zero (S := S1x1024x1024) _ hzO]
  simp only [View.readAt_eq_ld, harg3.read_unread, harg4.read_unread, harg6.read_unread, View.ld_unit_zero (S := S1x1024x1024) hzO, View.ld_unit_zero (S := S2048x1024) hz2, View.ld_unit_zero (S := S2048x1024) hz2, shapeCast_self]

/-- The second visit adds to what the first left. -/
theorem out_B_2_eq (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .f32) (harg6 : arg6.IsWhole) (hc0 : ¬cond0_0 i)
    (x0 : Vec Ideal S2048x1024 .bf16) (x1 : Vec Ideal S2048x1024 .bf16) (xo2 : Vec Ideal S1x1024x1024 .f32) :
    out0_B_2 c i arg3 harg3 arg4 harg4 arg6 harg6 hc0 x0 x1 xo2 = k0_pay2 x0 x1 xo2 := by
  unfold out0_B_2
  rw [View.read_writes_eq_canon _ _ _ (cover0_B_2 c i arg3 harg3 arg4 harg4 arg6 harg6 hc0 x0 x1 xo2)]
  unfold kernelRun0_B
  dsimp only
  try sl_unfold_words
  rw [View.canon_unit_zero hzO]
  simp only [View.readAt_eq_ld, harg3.read_unread, harg4.read_unread, harg6.read_unread, View.ld_unit_zero (S := S1x1024x1024) hzO, View.ld_unit_zero (S := S2048x1024) hz2, View.ld_unit_zero (S := S2048x1024) hz2, shapeCast_self]

/-- The product of two blocks of tokens, added to what is there. -/
theorem pay2_at (x0 : FVec Ideal S2048x1024 .bf16) (x1 : FVec Ideal S2048x1024 .bf16) (a : FVec Ideal S1x1024x1024 .f32) (i : Fin 1024) (j : Fin 1024) :
    k0_pay2 (F := Ideal) x0 x1 a (ix3 0 i j) = a (ix3 0 i j) + ∑ k : Fin 2048, x0 (ix2 k i) * x1 (ix2 k j) := by
  pointwise [k0_pay2]
theorem pay1_at (i : Fin 1024) (j : Fin 1024) : k0_pay1 (F := Ideal) (ix3 0 i j) = 0 := by
  pointwise [k0_pay1]

variable (m : (ℓ : Loc nD τ sig) → Buf (Elt Ideal) ℓ) (c : Dev nD)

/-- The two arguments' entries. -/
def X (k : Fin 4096) (i : Fin 4096) : EReal := m ((c.tc : Thread nD τ).loc main_arg0) (ix2 k i)
def Y (k : Fin 4096) (j : Fin 1024) : EReal := m ((c.tc : Thread nD τ).loc main_arg1) (ix2 k j)

theorem v0_at (k : Fin 4096) (i : Fin 4096) : V m c main_v0 (ix2 k i) = X m c k i := by
  unfold X; entry_read; pointwise
theorem v1_at (k : Fin 4096) (j : Fin 1024) : V m c main_v1 (ix2 k j) = Y m c k j := by
  unfold Y; entry_read; pointwise

theorem blk0 (t : Fin cfg0.N) (k : Fin 2048) (i : Fin 1024) (hi : 1024 * (t.val / 2) + i.val < 4096) :
    iblk m c 0 t (ix2 k i) = X m c (⟨2048 * (t.val % 2) + k.val, by omega⟩ : Fin 4096) (⟨1024 * (t.val / 2) + i.val, hi⟩ : Fin 4096) := by
  rw [← v0_at m c]
  refine congrArg (V m c main_v0) ?_
  blk_ext [idx t]
  all_goals omega
theorem blk1 (t : Fin cfg0.N) (k : Fin 2048) (j : Fin 1024) :
    iblk m c 1 t (ix2 k j) = Y m c (⟨2048 * (t.val % 2) + k.val, by omega⟩ : Fin 4096) j := by
  rw [← v1_at m c]
  refine congrArg (V m c main_v1) ?_
  blk_ext [idx t]
  all_goals omega

/-- What a block's second visit leaves: the sum over all the tokens. -/
theorem left_at (t : Fin cfg0.N) (ht : t.val % 2 = 1) (i : Fin 1024) (j : Fin 1024) (hi : 1024 * (t.val / 2) + i.val < 4096) :
    outsAt0 m c t.val t.isLt (ix3 0 i j) = tn (X m c) (Y m c) (⟨1024 * (t.val / 2) + i.val, hi⟩ : Fin 4096) j := by
  unfold tn
  have hp : t.val - 1 < cfg0.N := Nat.lt_of_le_of_lt (Nat.sub_le _ _) t.isLt
  have e0 : 2048 * ((t.val - 1) % 2) = 0 := by omega
  have e1 : (t.val - 1) / 2 = t.val / 2 := by omega
  rw [outsAt0_B m c t (by omega), outsAt0_A m c ⟨t.val - 1, hp⟩ (by show (t.val - 1) % 2 = 0; omega), out_B_2_eq, out_A_2_eq, pay2_at, pay2_at, pay1_at, zero_add, ← sum_half]
  refine congrArg₂ (· + ·) (Finset.sum_congr rfl fun k _ => ?_) (Finset.sum_congr rfl fun k _ => ?_)
  · rw [blk0 m c ⟨t.val - 1, hp⟩ k i (by show 1024 * ((t.val - 1) / 2) + i.val < 4096; omega), blk1 m c ⟨t.val - 1, hp⟩]
    simp only [e0, e1, Nat.zero_add]
  · rw [blk0 m c t k i hi, blk1 m c t]
    simp only [ht, Nat.mul_one]

/-- The product, under its leading axis of one. -/
def prod : Buf (Elt Ideal) ((c : Thread nD τ).loc main_v3) := fun y => tn (X m c) (Y m c) (y 1) (y 2)

theorem flushed_at (t : Fin cfg0.N) (hf : (cfg0.win 2).flush t = true) :
    (dats m 0 c).flushed 2 t = ((cfg0.win 2).blk t).view.read (Elt Ideal) (prod m c) := by
  have hN : t.val < 8 := lt_of_lt_of_eq t.isLt (show cfg0.N = 8 from N_0)
  rw [flushed2]
  funext y
  have hy1 : (y 1).val < 1024 := (y 1).isLt
  have ey : y = ix3 0 (y 1) (y 2) := by
    funext a
    match a with
    | 0 => exact Subsingleton.elim (α := Fin 1) _ _
    | 1 => rfl
    | 2 => rfl
  refine Eq.trans (show _ = outsAt0 m c t.val t.isLt (ix3 0 (y 1) (y 2)) from congrArg (outsAt0 m c t.val t.isLt) ey) ?_
  refine (left_at m c t ((flush0_2 t).mp hf) (y 1) (y 2) (by omega)).trans ?_
  refine congrArg (prod m c) (a₁ := ix3 (0 : Fin 1) (⟨1024 * (t.val / 2) + (y 1).val, by omega⟩ : Fin 4096) (y 2)) ?_
  blk_ext [idx t]
  all_goals omega

/-- The kernel's result. -/
theorem ker_at (i : Fin 4096) (j : Fin 1024) : (dats m 0 c).arrAt 2 cfg0.N (ix3 0 i j) = tn (X m c) (Y m c) i j := by
  have hs : i.val / 1024 < 4 := by omega
  have ht : 2 * (i.val / 1024) + 1 < cfg0.N := lt_of_lt_of_eq (by omega : 2 * (i.val / 1024) + 1 < 8) (show 8 = cfg0.N from N_0.symm)
  have b := congrFun ((dats m 0 c).read_blk_arrAt 2 (prod m c) (flushed_at m c) ⟨2 * (i.val / 1024) + 1, ht⟩ ((flush0_2 _).mpr (by show (2 * (i.val / 1024) + 1) % 2 = 1; omega)))
    (ix3 (0 : Fin 1) (⟨i.val % 1024, Nat.mod_lt _ (by decide)⟩ : Fin 1024) j)
  have e : ix3 (0 : Fin 1) i j = ((cfg0.win 2).blk ⟨2 * (i.val / 1024) + 1, ht⟩).view.emb (ix3 (0 : Fin 1) (⟨i.val % 1024, Nat.mod_lt _ (by decide)⟩ : Fin 1024) j) := by
    blk_ext [idx ⟨2 * (i.val / 1024) + 1, ht⟩]
    all_goals omega
  refine Eq.trans (congrArg ((dats m 0 c).arrAt 2 cfg0.N) e) (b.trans ?_)
  exact (congrArg (prod m c) e).symm

end Cert.Layer.GradDown

namespace Cert.Layer.GradDown.Ref

open Idealize.ShloMosaic Idealize.ShloMosaic.TcCoe Cert.DownReferenceIdeal Cert.DownReferenceIdeal.Gen

/-- The reference's result. -/
theorem ref_at (x : FVec Ideal S4096x4096 .f32) (y : FVec Ideal S4096x1024 .f32) (i : Fin 4096) (j : Fin 1024) :
    broadcastInDim S1x4096x1024 ![1, 2] bcast_S4096x1024_S1x4096x1024_1_2
      (Host.dotGeneral (F := Ideal) (φ₁ := .f32) (φ₂ := .f32) dot_S4096x4096_S4096x1024_S4096x1024_1_0_0_1_n_n none
        (transpose S4096x4096 [1, 0] x transposes_S4096x4096_S4096x4096_1_0) y) (ix3 0 i j)
      = tn (fun k i => x (ix2 k i)) (fun k j => y (ix2 k j)) i j := by
  unfold tn; pointwise

end Cert.Layer.GradDown.Ref

end
-- ==== Proof.ProjFwd.lean ====
/- The input projection: every block of 512 tokens is normalised, modulated, and multiplied with the weight's two parts. -/
module

public import proofs.«01_k».proof.Proof.Layer
public import proofs.«01_k».proof.Proof.Gen.ProjIdeal.Value
public import proofs.«01_k».proof.Proof.Gen.ProjReferenceIdeal.Run

@[expose] public section

set_option maxRecDepth 16384

noncomputable section

namespace Cert.Layer

/-- The projection's entries: 3072 columns, and the eight last ones padded to 128. -/
def projAt (x : Fin 4096 → Fin 1024 → EReal) (nw sc sh : Fin 1024 → EReal) (w : Fin 1024 → Fin 3080 → EReal) (i : Fin 4096) (j : Fin 3072) : EReal :=
  ∑ k, modn (x i) nw sc sh k * w k ⟨j.val, by omega⟩
def baAt (x : Fin 4096 → Fin 1024 → EReal) (nw sc sh : Fin 1024 → EReal) (w : Fin 1024 → Fin 3080 → EReal) (i : Fin 4096) (j : Fin 128) : EReal :=
  ∑ k, modn (x i) nw sc sh k * (if h : j.val < 8 then w k ⟨3072 + j.val, by omega⟩ else 0)

end Cert.Layer

namespace Cert.Layer.ProjFwd

open Idealize.ShloMosaic Idealize.ShloMosaic.TcCoe Cert.ProjIdeal Cert.ProjIdeal.Gen Cert.ProjIdeal.Value

theorem idx : ∀ t : Fin grid0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![t.val, 0] ∧ win0_7.index t = ![t.val, 0] := by
  decide +kernel
theorem flushes : ∀ t : Fin grid0.N, win0_6.flush t = true ∧ win0_7.flush t = true := by
  decide +kernel

/-- The body's values, entry by entry. -/
theorem pay1_at (x : FVec Ideal S512x1024 .f32) (nw sc sh : FVec Ideal S1x1024 .f32) (i : Fin 512) (k : Fin 1024) :
    k0_pay1 (F := Ideal) x nw sc sh (ix2 i k) = modn (fun k => x (ix2 i k)) (fun k => nw (ix2 0 k)) (fun k => sc (ix2 0 k)) (fun k => sh (ix2 0 k)) k := by
  unfold modn rinv; pointwise [k0_pay1]
theorem pay2_at (x : FVec Ideal S512x1024 .f32) (nw sc sh : FVec Ideal S1x1024 .f32) (w : FVec Ideal S1x1024x3072 .bf16) (i : Fin 512) (j : Fin 3072) :
    k0_pay2 (F := Ideal) x nw sc sh w (ix2 i j) = ∑ k, k0_pay1 (F := Ideal) x nw sc sh (ix2 i k) * w (ix3 0 k j) := by
  pointwise [k0_pay2]
theorem pay3_at (x : FVec Ideal S512x1024 .f32) (nw sc sh : FVec Ideal S1x1024 .f32) (w : FVec Ideal S1x1024x128 .bf16) (i : Fin 512) (j : Fin 128) :
    k0_pay3 (F := Ideal) x nw sc sh w (ix2 i j) = ∑ k, k0_pay1 (F := Ideal) x nw sc sh (ix2 i k) * w (ix3 0 k j) := by
  pointwise [k0_pay3]

theorem hz2 : (![0, 0] : Fin 2 → Nat) = fun _ => 0 := funext fun a => by fin_cases a <;> rfl
theorem hz3 : (![0, 0, 0] : Fin 3 → Nat) = fun _ => 0 := funext fun a => by fin_cases a <;> rfl

section outs
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x1024x3072 .bf16) (harg5 : arg5.IsWhole) (arg6 : Memref sig .tc .vmem S1x1024x128 .bf16) (harg6 : arg6.IsWhole)
  (arg7 : Memref sig .tc .vmem S512x3072 .f32) (harg7 : arg7.IsWhole) (arg8 : Memref sig .tc .vmem S512x128 .f32) (harg8 : arg8.IsWhole)
  (x0 : Vec Ideal S512x1024 .f32) (x1 : Vec Ideal S1x1024 .f32) (x2 : Vec Ideal S1x1024 .f32) (x3 : Vec Ideal S1x1024 .f32) (x4 : Vec Ideal S1x1024x3072 .bf16) (x5 : Vec Ideal S1x1024x128 .bf16)

theorem out6_eq : out0_A_6 c i arg1 harg1 arg2 harg2 arg3 harg3 arg4 harg4 arg5 harg5 arg6 harg6 arg7 harg7 arg8 harg8 x0 x1 x2 x3 x4 x5 = k0_pay2 x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  try sl_unfold_words
  rw [View.canon_unit_zero hz2]
  simp only [View.readAt_eq_ld, harg1.read_unread, harg2.read_unread, harg3.read_unread, harg4.read_unread, harg5.read_unread,
    View.ld_unit_zero (S := S512x1024) hz2, View.ld_unit_zero (S := S1x1024) hz2, View.ld_unit_zero (S := S1x1024x3072) hz3, shapeCast_self]
theorem out7_eq : out0_A_7 c i arg1 harg1 arg2 harg2 arg3 harg3 arg4 harg4 arg5 harg5 arg6 harg6 arg7 harg7 arg8 harg8 x0 x1 x2 x3 x4 x5 = k0_pay3 x0 x1 x2 x3 x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  unfold kernelRun0_A
  dsimp only
  try sl_unfold_words
  rw [View.canon_unit_zero hz2]
  simp only [View.readAt_eq_ld, harg1.read_unread, harg2.read_unread, harg3.read_unread, harg4.read_unread, harg6.read_unread,
    View.ld_unit_zero (S := S512x1024) hz2, View.ld_unit_zero (S := S1x1024) hz2, View.ld_unit_zero (S := S1x1024x128) hz3, shapeCast_self]
end outs

variable (m : (ℓ : Loc nD τ sig) → Buf (Elt Ideal) ℓ) (c : Dev nD)

/-- The arguments' entries. -/
def X (i : Fin 4096) (k : Fin 1024) : EReal := m ((c.tc : Thread nD τ).loc main_arg0) (ix2 i k)
def NW (k : Fin 1024) : EReal := m ((c.tc : Thread nD τ).loc main_arg1) (ix1 k)
def SC (k : Fin 1024) : EReal := m ((c.tc : Thread nD τ).loc main_arg2) (ix1 k)
def SH (k : Fin 1024) : EReal := m ((c.tc : Thread nD τ).loc main_arg3) (ix1 k)
def W (k : Fin 1024) (j : Fin 3080) : EReal := m ((c.tc : Thread nD τ).loc main_arg4) (ix2 k j)

theorem v4_at (k : Fin 1024) : V m c main_v4 (ix2 0 k) = NW m c k := by
  unfold NW
  dsimp only [V, hostOps0, hostOps0_1, hostOps0_2, List.flatten_cons, List.flatten_nil, List.append_nil, List.cons_append, List.nil_append]
  entry_read; pointwise
theorem v5_at (k : Fin 1024) : V m c main_v5 (ix2 0 k) = SC m c k := by
  unfold SC
  dsimp only [V, hostOps0, hostOps0_1, hostOps0_2, List.flatten_cons, List.flatten_nil, List.append_nil, List.cons_append, List.nil_append]
  entry_read; pointwise
theorem v6_at (k : Fin 1024) : V m c main_v6 (ix2 0 k) = SH m c k := by
  unfold SH
  dsimp only [V, hostOps0, hostOps0_1, hostOps0_2, List.flatten_cons, List.flatten_nil, List.append_nil, List.cons_append, List.nil_append]
  entry_read; pointwise
theorem v1_at (k : Fin 1024) (j : Fin 3080) : V m c main_v1 (ix3 0 k j) = W m c k j := by
  unfold W
  dsimp only [V, hostOps0, hostOps0_1, hostOps0_2, List.flatten_cons, List.flatten_nil, List.append_nil, List.cons_append, List.nil_append]
  entry_read; pointwise
theorem v3_at (k : Fin 1024) (j : Fin 128) : V m c main_v3 (ix3 0 k j) = if h : j.val < 8 then W m c k ⟨3072 + j.val, by omega⟩ else 0 := by
  unfold W
  dsimp only [V, hostOps0, hostOps0_1, hostOps0_2, List.flatten_cons, List.flatten_nil, List.append_nil, List.cons_append, List.nil_append]
  entry_read; pointwise
  show pad S1x1024x128 ![0, 0, 0] ![0, 0, 120] ![0, 0, 0]
    (extractStridedSlice S1x1024x8 ![0, 0, 3072] (fun i => m (c, Proc.tc.devRef main_arg4) (ix2 (i 1) (i 2)) : FVec Ideal S1x1024x3080 .bf16) slices_S1x1024x3080_S1x1024x8_0_0_3072)
    (sitofp .bf16 (constantI S_ 32 0#32) : FVec Ideal S_ .bf16) pads_S1x1024x8_S1x1024x128_000_000_01200 h_S_ (ix3 0 k j) = _
  pointwise
  simp only [sitofp_zero, Nat.add_comm]

variable (t : Fin cfg0.N)
theorem blk0 (i : Fin 512) (k : Fin 1024) (hi : 512 * t.val + i.val < 4096) : iblk m c 0 t (ix2 i k) = X m c ⟨512 * t.val + i.val, hi⟩ k := by
  blk_ext [iblk, V, X, idx t]
  all_goals omega
theorem blk1 (k : Fin 1024) : iblk m c 1 t (ix2 0 k) = NW m c k := by
  rw [← v4_at m c]
  refine congrArg (V m c main_v4) ?_
  blk_ext [idx t]
theorem blk2 (k : Fin 1024) : iblk m c 2 t (ix2 0 k) = SC m c k := by
  rw [← v5_at m c]
  refine congrArg (V m c main_v5) ?_
  blk_ext [idx t]
theorem blk3 (k : Fin 1024) : iblk m c 3 t (ix2 0 k) = SH m c k := by
  rw [← v6_at m c]
  refine congrArg (V m c main_v6) ?_
  blk_ext [idx t]
theorem blk4 (k : Fin 1024) (j : Fin 3072) : X0_4 m c t (ix3 0 k j) = W m c k ⟨j.val, by omega⟩ := by
  rw [← v1_at m c]
  unfold X0_4 Pipeline.Window.fill
  rw [dif_pos (moved0_4 t _)]
  refine congrArg (V m c main_v1) ?_
  blk_ext [idx t]
theorem blk5 (k : Fin 1024) (j : Fin 128) : iblk m c 5 t (ix3 0 k j) = if h : j.val < 8 then W m c k ⟨3072 + j.val, by omega⟩ else 0 := by
  rw [← v3_at m c]
  refine congrArg (V m c main_v3) ?_
  blk_ext [idx t]

/-- The normalised tokens of a point's block. -/
theorem h_at (i : Fin 512) (k : Fin 1024) (hi : 512 * t.val + i.val < 4096) :
    k0_pay1 (F := Ideal) (iblk m c 0 t) (iblk m c 1 t) (iblk m c 2 t) (iblk m c 3 t) (ix2 i k) = modn (X m c ⟨512 * t.val + i.val, hi⟩) (NW m c) (SC m c) (SH m c) k := by
  rw [pay1_at]
  simp only [blk0 m c t _ _ hi, blk1 m c t, blk2 m c t, blk3 m c t]

theorem proj_at (i : Fin 4096) (j : Fin 3072) : (dats m 0 c).arrAt 6 cfg0.N (ix2 i j) = projAt (X m c) (NW m c) (SC m c) (SH m c) (W m c) i j := by
  have ht : i.val / 512 < cfg0.N := lt_of_lt_of_eq (by omega : i.val / 512 < 8) (show 8 = cfg0.N from N_0.symm)
  have hi : 512 * (i.val / 512) + i.val % 512 < 4096 := by omega
  have b := congrFun (blocks6 m c ⟨i.val / 512, ht⟩ (flushes _).1) (ix2 (⟨i.val % 512, Nat.mod_lt _ (by decide)⟩ : Fin 512) j)
  rw [flushed6_A, out6_eq] at b
  refine Eq.trans ?_ (b.trans ((pay2_at _ _ _ _ _ _ _).trans ?_))
  · refine congrArg ((dats m 0 c).arrAt 6 cfg0.N) ?_
    blk_ext [idx ⟨i.val / 512, ht⟩]
    all_goals omega
  · unfold projAt
    refine Finset.sum_congr rfl fun k _ => ?_
    rw [h_at m c ⟨i.val / 512, ht⟩ _ k hi, blk4]
    simp only [Nat.div_add_mod]
theorem ba_at (i : Fin 4096) (j : Fin 128) : (dats m 0 c).arrAt 7 cfg0.N (ix2 i j) = baAt (X m c) (NW m c) (SC m c) (SH m c) (W m c) i j := by
  have ht : i.val / 512 < cfg0.N := lt_of_lt_of_eq (by omega : i.val / 512 < 8) (show 8 = cfg0.N from N_0.symm)
  have hi : 512 * (i.val / 512) + i.val % 512 < 4096 := by omega
  have b := congrFun (blocks7 m c ⟨i.val / 512, ht⟩ (flushes _).2) (ix2 (⟨i.val % 512, Nat.mod_lt _ (by decide)⟩ : Fin 512) j)
  rw [flushed7_A, out7_eq] at b
  refine Eq.trans ?_ (b.trans ((pay3_at _ _ _ _ _ _ _).trans ?_))
  · refine congrArg ((dats m 0 c).arrAt 7 cfg0.N) ?_
    blk_ext [idx ⟨i.val / 512, ht⟩]
    all_goals omega
  · unfold baAt
    refine Finset.sum_congr rfl fun k _ => ?_
    rw [h_at m c ⟨i.val / 512, ht⟩ _ k hi, blk5]
    simp only [Nat.div_add_mod]

end Cert.Layer.ProjFwd

namespace Cert.Layer.ProjFwd.Ref

open Idealize.ShloMosaic Idealize.ShloMosaic.TcCoe Cert.ProjReferenceIdeal Cert.ProjReferenceIdeal.Gen

/-- The reference's product, before its columns are told apart. -/
def full (x : FVec Ideal S4096x1024 .f32) (nw sc sh : FVec Ideal S1024 .f32) (w : FVec Ideal S1024x3080 .f32) : FVec Ideal S4096x3200 .f32 :=
  Host.dotGeneral (F := Ideal) (φ₁ := .f32) (φ₂ := .f32) dot_S4096x1024_S1024x3200_S4096x3200_1_0_0_1_n_n none (addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 nw))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) sc)))) (broadcastInDim S4096x1024 ![0, 1] bcast_S1x1024_S4096x1024_0_1 (broadcastInDim S1x1024 ![1] bcast_S1024_S1x1024_1 sh))) (pad S1024x3200 ![0, 0] ![0, 120] ![0, 0] w (sitofp .f32 (constantI S_ 32 0#32)) pads_S1024x3080_S1024x3200_000_01200 h_S_)

variable (x : FVec Ideal S4096x1024 .f32) (nw sc sh : FVec Ideal S1024 .f32) (w : FVec Ideal S1024x3080 .f32) (i : Fin 4096)
theorem full_at (j : Fin 3200) : full x nw sc sh w (ix2 i j)
    = ∑ k, modn (fun k => x (ix2 i k)) (fun k => nw (ix1 k)) (fun k => sc (ix1 k)) (fun k => sh (ix1 k)) k * (if h : j.val < 3080 then w (ix2 k ⟨j.val, h⟩) else 0) := by
  unfold modn rinv full; pointwise
  simp only [sitofp_zero]
theorem proj_at (j : Fin 3072) : extractStridedSlice S4096x3072 ![0, 0] (full x nw sc sh w) slices_S4096x3200_S4096x3072_0_0 (ix2 i j)
    = projAt (fun i k => x (ix2 i k)) (fun k => nw (ix1 k)) (fun k => sc (ix1 k)) (fun k => sh (ix1 k)) (fun k j => w (ix2 k j)) i j := by
  pointwise
  rw [full_at]
  unfold projAt
  refine Finset.sum_congr rfl fun k _ => ?_
  rw [dif_pos (by show j.val < 3080; omega)]
theorem ba_at (j : Fin 128) : extractStridedSlice S4096x128 ![0, 3072] (full x nw sc sh w) slices_S4096x3200_S4096x128_0_3072 (ix2 i j)
    = baAt (fun i k => x (ix2 i k)) (fun k => nw (ix1 k)) (fun k => sc (ix1 k)) (fun k => sh (ix1 k)) (fun k j => w (ix2 k j)) i j := by
  pointwise
  rw [full_at]
  unfold baAt
  refine Finset.sum_congr rfl fun k _ => congrArg _ ?_
  by_cases h : j.val < 8
  · rw [dif_pos h, dif_pos (by show _ < 3080; simp only []; omega)]
  · rw [dif_neg h, dif_neg (by show ¬ _ < 3080; simp only []; omega)]

end Cert.Layer.ProjFwd.Ref

end
-- ==== Proof.MlpRun.lean ====
/- The cases of the MLP backward body: what a point leaves in every result's block, as terms of its input blocks. -/
module

public import proofs.«01_k».proof.Proof.Layer
public import proofs.«01_k».proof.Proof.Store
public import proofs.«01_k».proof.Proof.Gen.MlpIdeal.Frame

@[expose] public section

set_option maxRecDepth 16384

noncomputable section

namespace Cert.Layer.MlpBack

open Idealize.ShloMosaic Idealize.ShloMosaic.TcCoe Cert.MlpIdeal Cert.MlpIdeal.Gen Cert.Scan.Voc

theorem hz2 : (![0, 0] : Fin 2 → Nat) = fun _ => 0 := funext fun a => by fin_cases a <;> rfl

/-- The four blocks of 512 columns of the first weight, and of 512 rows of the second, that a point works through. -/
def up0 (x : Vec Ideal S4x1x1024x512 .bf16) : Vec Ideal S1x1x1024x512 .bf16 := View.ld x (Rect.unit ![0, 0, 0, 0] ![1, 1, 1024, 512] inb_S4x1x1024x512_S1x1x1024x512_0_0_0_0)
def up1 (x : Vec Ideal S4x1x1024x512 .bf16) : Vec Ideal S1x1x1024x512 .bf16 := View.ld x (Rect.unit ![1, 0, 0, 0] ![1, 1, 1024, 512] inb_S4x1x1024x512_S1x1x1024x512_1_0_0_0)
def up2 (x : Vec Ideal S4x1x1024x512 .bf16) : Vec Ideal S1x1x1024x512 .bf16 := View.ld x (Rect.unit ![2, 0, 0, 0] ![1, 1, 1024, 512] inb_S4x1x1024x512_S1x1x1024x512_2_0_0_0)
def up3 (x : Vec Ideal S4x1x1024x512 .bf16) : Vec Ideal S1x1x1024x512 .bf16 := View.ld x (Rect.unit ![3, 0, 0, 0] ![1, 1, 1024, 512] inb_S4x1x1024x512_S1x1x1024x512_3_0_0_0)
def dn0 (x : Vec Ideal S4x1x512x1024 .bf16) : Vec Ideal S1x1x512x1024 .bf16 := View.ld x (Rect.unit ![0, 0, 0, 0] ![1, 1, 512, 1024] inb_S4x1x512x1024_S1x1x512x1024_0_0_0_0)
def dn1 (x : Vec Ideal S4x1x512x1024 .bf16) : Vec Ideal S1x1x512x1024 .bf16 := View.ld x (Rect.unit ![1, 0, 0, 0] ![1, 1, 512, 1024] inb_S4x1x512x1024_S1x1x512x1024_1_0_0_0)
def dn2 (x : Vec Ideal S4x1x512x1024 .bf16) : Vec Ideal S1x1x512x1024 .bf16 := View.ld x (Rect.unit ![2, 0, 0, 0] ![1, 1, 512, 1024] inb_S4x1x512x1024_S1x1x512x1024_2_0_0_0)
def dn3 (x : Vec Ideal S4x1x512x1024 .bf16) : Vec Ideal S1x1x512x1024 .bf16 := View.ld x (Rect.unit ![3, 0, 0, 0] ![1, 1, 512, 1024] inb_S4x1x512x1024_S1x1x512x1024_3_0_0_0)

/-- The activations of a point's 2048 columns, and their gradients, in the four pieces they are stored by. -/
def acts (h : Vec Ideal S512x1024 .bf16) (u : Vec Ideal S4x1x1024x512 .bf16) : Vec Ideal S512x2048 .bf16 :=
  View.canon [⟨Rect.unit ![0, 1536] ![512, 512] inb_S512x2048_S512x512_0_1536, k0_pay2 (F := Ideal) (k0_pay33 h) (k0_pay34 (up3 u)) (constant S512x512 FTy.f32 0#32)⟩,
    ⟨Rect.unit ![0, 1024] ![512, 512] inb_S512x2048_S512x512_0_1024, k0_pay30 (F := Ideal) h (up2 u)⟩,
    ⟨Rect.unit ![0, 512] ![512, 512] inb_S512x2048_S512x512_0_512, k0_pay26 (F := Ideal) h (up1 u)⟩,
    ⟨Rect.unit ![0, 0] ![512, 512] inb_S512x2048_S512x512_0_0, k0_pay23 (F := Ideal) h (up0 u)⟩]
def dups (h d : Vec Ideal S512x1024 .bf16) (u : Vec Ideal S4x1x1024x512 .bf16) (w : Vec Ideal S4x1x512x1024 .bf16) : Vec Ideal S512x2048 .bf16 :=
  View.canon [⟨Rect.unit ![0, 1536] ![512, 512] inb_S512x2048_S512x512_0_1536, k0_pay3 (F := Ideal) (k0_pay33 h) (k0_pay34 (up3 u)) (constant S512x512 FTy.f32 0#32) d (dn3 w)⟩,
    ⟨Rect.unit ![0, 1024] ![512, 512] inb_S512x2048_S512x512_0_1024, k0_pay31 (F := Ideal) h (up2 u) d (dn2 w)⟩,
    ⟨Rect.unit ![0, 512] ![512, 512] inb_S512x2048_S512x512_0_512, k0_pay27 (F := Ideal) h (up1 u) d (dn1 w)⟩,
    ⟨Rect.unit ![0, 0] ![512, 512] inb_S512x2048_S512x512_0_0, k0_pay24 (F := Ideal) h (up0 u) d (dn0 w)⟩]

/-- What a point adds to the gradient of the normalised tokens `p`. -/
def dhs (h d : Vec Ideal S512x1024 .bf16) (u : Vec Ideal S4x1x1024x512 .bf16) (w : Vec Ideal S4x1x512x1024 .bf16) (p : Vec Ideal S512x1024 .f32) : Vec Ideal S512x1024 .f32 :=
  k0_pay4 (F := Ideal) (k0_pay32 (k0_pay28 (k0_pay24 h (up0 u) d (dn0 w)) (up0 u) h (up1 u) d (dn1 w) (up1 u)) h (up2 u) d (dn2 w) (up2 u))
    (k0_pay33 h) (k0_pay34 (up3 u)) (constant S512x512 FTy.f32 0#32) d (dn3 w) (up3 u) p

/-- The rows of the block of sums: read, and replaced. -/
def row0 : Rect S8x1024 := Rect.unit ![0, 0] ![1, 1024] inb_S8x1024_S1x1024_0_0
def get0 (x : Vec Ideal S8x1024 .f32) : Vec Ideal S1x1024 .f32 := View.ld x row0
def put0 (x : Vec Ideal S8x1024 .f32) (w : Vec Ideal S1x1024 .f32) : Vec Ideal S8x1024 .f32 := row0.overlay x w
def row1 : Rect S8x1024 := Rect.unit ![1, 0] ![1, 1024] inb_S8x1024_S1x1024_1_0
def get1 (x : Vec Ideal S8x1024 .f32) : Vec Ideal S1x1024 .f32 := View.ld x row1
def put1 (x : Vec Ideal S8x1024 .f32) (w : Vec Ideal S1x1024 .f32) : Vec Ideal S8x1024 .f32 := row1.overlay x w
def row2 : Rect S8x1024 := Rect.unit ![2, 0] ![1, 1024] inb_S8x1024_S1x1024_2_0
def get2 (x : Vec Ideal S8x1024 .f32) : Vec Ideal S1x1024 .f32 := View.ld x row2
def put2 (x : Vec Ideal S8x1024 .f32) (w : Vec Ideal S1x1024 .f32) : Vec Ideal S8x1024 .f32 := row2.overlay x w
def row3 : Rect S8x1024 := Rect.unit ![3, 0] ![1, 1024] inb_S8x1024_S1x1024_3_0
def get3 (x : Vec Ideal S8x1024 .f32) : Vec Ideal S1x1024 .f32 := View.ld x row3
def put3 (x : Vec Ideal S8x1024 .f32) (w : Vec Ideal S1x1024 .f32) : Vec Ideal S8x1024 .f32 := row3.overlay x w

/-- A row of the sums, loaded after one store of the whole block. -/
theorem fill2 {v : View sig .tc .vmem S8x1024 .f32} (Z : Vec Ideal S8x1024 .f32) :
    v.readCov (Val := Elt Ideal) [⟨Rect.unit (s := S8x1024) ![0, 0] ![8, 1024] inb_S8x1024_S8x1024_0_0, Z⟩] (Rect.unit (s := S8x1024) ![2, 0] ![1, 1024] inb_S8x1024_S1x1024_2_0).toLoadRect = get2 Z :=
  View.readCov_fill v inb_S8x1024_S8x1024_0_0 Z [] row2 (by decide)
theorem whole_overlay (x z : Vec Ideal S8x1024 .f32) : (Rect.unit (s := S8x1024) ![0, 0] ![8, 1024] inb_S8x1024_S8x1024_0_0).overlay x z = z :=
  overlay_whole (s := S8x1024) (off := ![0, 0]) inb_S8x1024_S8x1024_0_0 (fun a => by fin_cases a <;> rfl) x z

section outs
variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x1x1024x512 .bf16) (harg9 : arg9.IsWhole) (arg10 : Memref sig .tc .vmem S4x1x512x1024 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S8x1024 .f32) (harg16 : arg16.IsWhole) (arg17 : Memref sig .tc .vmem S512x1024 .f32) (harg17 : arg17.IsWhole) (x0 : Vec Ideal S512x1024 .f32) (x1 : Vec Ideal S512x1024 .f32) (x2 : Vec Ideal S512x1024 .bf16) (x3 : Vec Ideal S1x1024 .f32) (x4 : Vec Ideal S1x1024 .f32) (x5 : Vec Ideal S1x1024 .f32) (x6 : Vec Ideal S1x1024 .f32) (x7 : Vec Ideal S4x1x1024x512 .bf16) (x8 : Vec Ideal S4x1x512x1024 .bf16) (xo11 : Vec Ideal S512x1024 .bf16) (xo12 : Vec Ideal S512x1024 .bf16) (xo14 : Vec Ideal S8x1024 .f32) (xs0 : Vec Ideal S512x1024 .f32)

theorem out_A_9 (hc0 : cond0_0 i) (hc1 : cond0_1 i) (hc2 : ¬cond0_2 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = acts (k0_pay5 x1 x3 x4 x5) x7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem out_A_10 (hc0 : cond0_0 i) (hc1 : cond0_1 i) (hc2 : ¬cond0_2 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = dups (k0_pay5 x1 x3 x4 x5) (k0_pay6 x0 x6) x7 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem sout_A_0 (hc0 : cond0_0 i) (hc1 : cond0_1 i) (hc2 : ¬cond0_2 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = dhs (k0_pay5 x1 x3 x4 x5) (k0_pay6 x0 x6) x7 x8 (k0_pay21 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_cons_unit_zero (S := S512x1024) hz2 _ _ _
theorem out_A_11 (hc0 : cond0_0 i) (hc1 : cond0_1 i) (hc2 : ¬cond0_2 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = (k0_pay5 x1 x3 x4 x5) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_A_12 (hc0 : cond0_0 i) (hc1 : cond0_1 i) (hc2 : ¬cond0_2 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = (k0_pay6 x0 x6) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_B_9 (hc0 : ¬cond0_0 i) (hc1 : ¬cond0_1 i) (hc2 : cond0_2 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = acts xo11 x7 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem out_B_10 (hc0 : ¬cond0_0 i) (hc1 : ¬cond0_1 i) (hc2 : cond0_2 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = dups xo11 xo12 x7 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem sout_B_0 (hc0 : ¬cond0_0 i) (hc1 : ¬cond0_1 i) (hc2 : cond0_2 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = dhs xo11 xo12 x7 x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_B_11 (hc0 : ¬cond0_0 i) (hc1 : ¬cond0_1 i) (hc2 : cond0_2 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = k0_pay13 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_B_12 (hc0 : ¬cond0_0 i) (hc1 : ¬cond0_1 i) (hc2 : cond0_2 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = k0_pay14 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_C_9 (hc0 : ¬cond0_0 i) (hc1 : cond0_1 i) (hc2 : ¬cond0_2 i) : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = acts (k0_pay5 x1 x3 x4 x5) x7 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem out_C_10 (hc0 : ¬cond0_0 i) (hc1 : cond0_1 i) (hc2 : ¬cond0_2 i) : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = dups (k0_pay5 x1 x3 x4 x5) (k0_pay6 x0 x6) x7 x8 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rfl
theorem sout_C_0 (hc0 : ¬cond0_0 i) (hc1 : cond0_1 i) (hc2 : ¬cond0_2 i) : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = dhs (k0_pay5 x1 x3 x4 x5) (k0_pay6 x0 x6) x7 x8 (k0_pay21 (F := Ideal)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_cons_unit_zero (S := S512x1024) hz2 _ _ _
theorem out_C_11 (hc0 : ¬cond0_0 i) (hc1 : cond0_1 i) (hc2 : ¬cond0_2 i) : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = (k0_pay5 x1 x3 x4 x5) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_C_12 (hc0 : ¬cond0_0 i) (hc1 : cond0_1 i) (hc2 : ¬cond0_2 i) : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = (k0_pay6 x0 x6) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_B_13 (hc0 : ¬cond0_0 i) (hc1 : ¬cond0_1 i) (hc2 : cond0_2 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = k0_pay15 (k0_pay10 x1 (dhs xo11 xo12 x7 x8 xs0) x3 x4) x0 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  exact View.canon_unit_zero (S := S512x1024) hz2 _ _
theorem out_A_14 (hc0 : cond0_0 i) (hc1 : cond0_1 i) (hc2 : ¬cond0_2 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8
    = put2 (k0_pay19 (F := Ideal)) (k0_pay20 (F := Ideal) x0 (k0_pay7 (get2 (k0_pay19 (F := Ideal)))) x2) := by
  unfold out0_A_14
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rw [read_writes_overlay]
  simp only [List.foldr_cons, List.foldr_nil]
  rw [whole_overlay, fill2]
  rfl
theorem out_C_14 (hc0 : ¬cond0_0 i) (hc1 : cond0_1 i) (hc2 : ¬cond0_2 i) : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo14
    = put2 xo14 (k0_pay20 (F := Ideal) x0 (k0_pay7 (get2 xo14)) x2) := by
  unfold out0_C_14
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rw [read_writes_overlay, harg16.read_unread]
  rfl
theorem out_B_14 (hc0 : ¬cond0_0 i) (hc1 : ¬cond0_1 i) (hc2 : cond0_2 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xo11 xo12 xo14 xs0
    = put3 (put1 (put0 xo14 (k0_pay16 (F := Ideal) (k0_pay11 (dhs xo11 xo12 x7 x8 xs0)) (get0 xo14)))
      (k0_pay17 (F := Ideal) (k0_pay12 x1 x3 (dhs xo11 xo12 x7 x8 xs0)) (get1 xo14)))
      (k0_pay18 (F := Ideal) x1 (k0_pay8 x1) (k0_pay9 (dhs xo11 xo12 x7 x8 xs0) x4) (get3 xo14)) := by
  unfold out0_B_14
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x1024) hz2, View.ld_unit_zero (S := S1x1024) hz2, View.ld_unit_zero (S := S8x1024) hz2,
    View.readCov_unit_zero (S := S512x1024) _ hz2, shapeCast_self]
  rw [read_writes_overlay, harg16.read_unread]
  simp only [List.foldr_cons, List.foldr_nil, dhs, up0, up1, up2, up3, dn0, dn1, dn2, dn3, row0, row1, row2, row3, get0, get1, get3, put0, put1, put3]
end outs

end Cert.Layer.MlpBack

end
-- ==== Proof.Norm.lean ====
/- The norm's gradient, in the kernel's form and in the reference's; sums over the tokens block by block; the MLP's entries. -/
module

public import proofs.«01_k».proof.Proof.Layer

@[expose] public section

noncomputable section

namespace Cert.Layer

open Idealize.ShloMosaic Idealize.ShloMosaic.TcCoe

theorem ofBits_1024 : Ideal.ofBits FTy.f32 1149239296#32 = ((1024 : ℝ) : EReal) := by
  simp [Ideal.ofBits, Ideal.ieee, -EReal.coe_mul]; norm_num
theorem ofBits_half : Ideal.ofBits FTy.f32 3204448256#32 = ((-(1 / 2) : ℝ) : EReal) := by
  simp [Ideal.ofBits, Ideal.ieee, -EReal.coe_mul, -EReal.coe_neg]; norm_num
theorem ofBits_eps : Ideal.ofBits FTy.f32 897988541#32 = ((8796093 * 2 ^ (-43 : ℤ) : ℝ) : EReal) := by
  simp [Ideal.ofBits, Ideal.ieee, -EReal.coe_mul]

/-- The mean square of a row, with the small number added. -/
def msq (x : Fin 1024 → EReal) : EReal := Ideal.div (∑ k, x k * x k) (Ideal.ofBits FTy.f32 1149239296#32) + Ideal.ofBits FTy.f32 897988541#32

theorem rinv_eq (x : Fin 1024 → EReal) : rinv x = Ideal.rsqrt (msq x) := rfl

theorem sq_nonneg' (a : EReal) : 0 ≤ a * a := by
  rcases le_total 0 a with h | h
  · exact EReal.mul_nonneg h h
  · exact EReal.mul_nonneg_iff.mpr (Or.inr ⟨h, h⟩)

/-- The reciprocal root is a real, not negative, and its cube is itself over the mean square. -/
theorem rinv_real (x : Fin 1024 → EReal) : ∃ r : ℝ, rinv x = (r : EReal) ∧ 0 ≤ r ∧ Ideal.div (rinv x) (msq x) = ((r * r * r : ℝ) : EReal) := by
  obtain ⟨e, he, hee⟩ : ∃ e : ℝ, 0 < e ∧ Ideal.ofBits FTy.f32 897988541#32 = (e : EReal) := ⟨_, by positivity, ofBits_eps⟩
  have hs : 0 ≤ ∑ k, x k * x k := Finset.sum_nonneg fun k _ => sq_nonneg' (x k)
  rw [rinv_eq]
  have hm : msq x = (∑ k, x k * x k) * ((1 / 1024 : ℝ) : EReal) + (e : EReal) := by
    rw [msq, hee, ofBits_1024, Ideal.div_coe (by norm_num)]
  rw [hm]
  generalize (∑ k, x k * x k) = s at hs
  induction s using EReal.rec with
  | bot => exact absurd hs (by simp)
  | top =>
    refine ⟨0, ?_, le_refl _, ?_⟩
    · rw [EReal.top_mul_coe_of_pos (by norm_num), EReal.top_add_coe, Ideal.rsqrt_top]; rfl
    · rw [EReal.top_mul_coe_of_pos (by norm_num), EReal.top_add_coe, Ideal.rsqrt_top]
      simp [Ideal.div]
  | coe s =>
    have hs' : 0 ≤ s := by exact_mod_cast hs
    have hv : 0 < s * (1 / 1024) + e := by positivity
    rw [← EReal.coe_mul, ← EReal.coe_add]
    generalize s * (1 / 1024) + e = v at hv
    have e1 : Ideal.rsqrt (v : EReal) = (((Real.sqrt v)⁻¹ : ℝ) : EReal) := by
      rw [Ideal.rsqrt_coe, if_neg (not_lt.mpr hv.le), if_neg hv.ne']
    refine ⟨(Real.sqrt v)⁻¹, e1, by positivity, ?_⟩
    rw [e1, Ideal.div_coe hv.ne', ← EReal.coe_mul]
    have h2 : Real.sqrt v * Real.sqrt v = v := Real.mul_self_sqrt hv.le
    refine congrArg Real.toEReal ?_
    have h0 : Real.sqrt v ≠ 0 := (Real.sqrt_pos.mpr hv).ne'
    rw [← h2]
    simp only [Real.sqrt_mul_self (Real.sqrt_nonneg v)]
    field_simp

/-- A row's gradient through the norm, from the gradient `g` of the normalised row. -/
def dnorm (x g : Fin 1024 → EReal) (k : Fin 1024) : EReal :=
  rinv x * g k - x k * (rinv x * rinv x * rinv x) * Ideal.div (∑ k, g k * x k) (Ideal.ofBits FTy.f32 1149239296#32)

/-- The half sums of the mean square's derivative, added, are the whole. -/
theorem dnorm_eq (x g : Fin 1024 → EReal) (k : Fin 1024) (q : EReal)
    (hq : q = Ideal.div ((∑ k, x k * g k) * (Ideal.ofBits FTy.f32 3204448256#32 * Ideal.div (rinv x) (msq x))) (Ideal.ofBits FTy.f32 1149239296#32)) :
    g k * rinv x + x k * q + q * x k = dnorm x g k := by
  obtain ⟨r, hr, h0, hd⟩ := rinv_real x
  unfold dnorm
  rw [hq, hd, hr, ofBits_half, ofBits_1024, Ideal.div_coe (by norm_num), Ideal.div_coe (by norm_num)]
  have hS : ∑ k, x k * g k = ∑ k, g k * x k := Finset.sum_congr rfl fun k _ => EReal.mul_comm _ _
  rw [hS]
  generalize (∑ k, g k * x k) = S
  rw [add_assoc, mul_comm (g k), sub_eq_add_neg]
  refine congrArg (fun z : EReal => (r : EReal) * g k + z) ?_
  have e1 : S * (((-(1 / 2) : ℝ) : EReal) * ((r * r * r : ℝ) : EReal)) * ((1 / 1024 : ℝ) : EReal) = -(((1 / 2 : ℝ) : EReal) * (((r * r * r * (1 / 1024) : ℝ) : EReal) * S)) := by
    have a1 : ((-(1 / 2) : ℝ) : EReal) * ((r * r * r : ℝ) : EReal) = ((-(1 / 2) * (r * r * r) : ℝ) : EReal) := (EReal.coe_mul _ _).symm
    have a2 : ((-(1 / 2) * (r * r * r) : ℝ) : EReal) * ((1 / 1024 : ℝ) : EReal) = ((-(1 / 2) * (r * r * r) * (1 / 1024) : ℝ) : EReal) := (EReal.coe_mul _ _).symm
    have a3 : ((1 / 2 : ℝ) : EReal) * ((r * r * r * (1 / 1024) : ℝ) : EReal) = ((1 / 2 * (r * r * r * (1 / 1024)) : ℝ) : EReal) := (EReal.coe_mul _ _).symm
    rw [a1, mul_assoc S, a2, ← mul_assoc ((1 / 2 : ℝ) : EReal), a3, mul_comm S, ← neg_mul, ← EReal.coe_neg]
    refine congrArg (fun z : EReal => z * S) (congrArg Real.toEReal ?_)
    ring
  have e2 : x k * (↑r * ↑r * ↑r) * (S * ((1 / 1024 : ℝ) : EReal)) = (((r * r * r * (1 / 1024) : ℝ) : EReal) * S) * x k := by
    have a1 : (r : EReal) * r * r = ((r * r * r : ℝ) : EReal) := by rw [EReal.coe_mul, EReal.coe_mul]
    have a2 : ((r * r * r : ℝ) : EReal) * ((1 / 1024 : ℝ) : EReal) = ((r * r * r * (1 / 1024) : ℝ) : EReal) := (EReal.coe_mul _ _).symm
    rw [a1, mul_comm S, mul_assoc (x k), ← mul_assoc _ _ S, a2, mul_comm (x k)]
  rw [e1, e2, mul_comm (x k)]
  generalize (((r * r * r * (1 / 1024) : ℝ) : EReal) * S) = T
  rw [neg_mul, mul_assoc]
  generalize T * x k = U
  induction U using EReal.rec with
  | bot => rw [EReal.coe_mul_bot_of_pos (by norm_num)]; rfl
  | top => rw [EReal.coe_mul_top_of_pos (by norm_num)]; rfl
  | coe u =>
    rw [← EReal.coe_mul, ← EReal.coe_neg, ← EReal.coe_add, ← EReal.coe_neg]
    refine congrArg Real.toEReal ?_
    ring

/-- A sum over 4096 entries, the first `n` blocks of 512 of it. -/
def ext (f : Fin 4096 → EReal) (k : ℕ) : EReal := if h : k < 4096 then f ⟨k, h⟩ else 0
def blk (f : Fin 4096 → EReal) (b : ℕ) : EReal := ∑ i : Fin 512, ext f (512 * b + i.val)
def part (f : Fin 4096 → EReal) (n : ℕ) : EReal := ∑ b ∈ Finset.range n, blk f b

theorem part_zero (f : Fin 4096 → EReal) : part f 0 = 0 := Finset.sum_range_zero _
theorem part_succ (f : Fin 4096 → EReal) (n : ℕ) : part f (n + 1) = part f n + blk f n := Finset.sum_range_succ _ n

theorem part_eq (f : Fin 4096 → EReal) : ∀ n, part f n = ∑ k ∈ Finset.range (512 * n), ext f k
  | 0 => rfl
  | n + 1 => by
    rw [part_succ, part_eq f n, Nat.mul_succ, Finset.sum_range_add]
    exact congrArg (_ + ·) (Fin.sum_univ_eq_sum_range (fun i => ext f (512 * n + i)) 512)

theorem part_all (f : Fin 4096 → EReal) : part f 8 = ∑ k, f k := by
  rw [part_eq, ← Fin.sum_univ_eq_sum_range]
  exact Finset.sum_congr rfl fun k _ => dif_pos k.isLt

theorem blk_eq (f : Fin 4096 → EReal) (b : ℕ) (h : ∀ i : Fin 512, 512 * b + i.val < 4096) : blk f b = ∑ i : Fin 512, f ⟨512 * b + i.val, h i⟩ :=
  Finset.sum_congr rfl fun i _ => dif_pos (h i)

/-- The arguments of the MLP's backward call. -/
structure MlpArgs where
  D2 : Fin 4096 → Fin 1024 → EReal
  X : Fin 4096 → Fin 1024 → EReal
  NW : Fin 1024 → EReal
  SC : Fin 1024 → EReal
  SH : Fin 1024 → EReal
  G : Fin 1024 → EReal
  U : Fin 1024 → Fin 4096 → EReal
  W : Fin 4096 → Fin 1024 → EReal

namespace MlpArgs
variable (A : MlpArgs)

def h (i : Fin 4096) (k : Fin 1024) : EReal := modn (A.X i) A.NW A.SC A.SH k
def up (i : Fin 4096) (j : Fin 4096) : EReal := max (∑ k, A.h i k * A.U k j) 0
def act (i : Fin 4096) (j : Fin 4096) : EReal := A.up i j * A.up i j
def ff (i : Fin 4096) (k : Fin 1024) : EReal := ∑ j, A.act i j * A.W j k
def dff (i : Fin 4096) (k : Fin 1024) : EReal := A.D2 i k * A.G k
def dup (i : Fin 4096) (j : Fin 4096) : EReal := (∑ k, A.dff i k * A.W j k) * (Ideal.ofBits FTy.f32 1073741824#32 * A.up i j)
def dh (i : Fin 4096) (k : Fin 1024) : EReal := ∑ j, A.dup i j * A.U k j
def dxn (i : Fin 4096) (k : Fin 1024) : EReal := A.dh i k * (1 + A.SC k) * A.NW k
def dx1 (i : Fin 4096) (k : Fin 1024) : EReal := A.D2 i k + dnorm (A.X i) (A.dxn i) k

/-- The gradients that are sums over the tokens: of the shift, the scale, the gate and the norm's weight. -/
def gsh (k : Fin 1024) (i : Fin 4096) : EReal := A.dh i k
def gsc (k : Fin 1024) (i : Fin 4096) : EReal := A.dh i k * (A.X i k * rinv (A.X i) * A.NW k)
def gg (k : Fin 1024) (i : Fin 4096) : EReal := A.D2 i k * A.ff i k
def gnw (k : Fin 1024) (i : Fin 4096) : EReal := A.dh i k * (1 + A.SC k) * A.X i k * rinv (A.X i)

/-- A row of the sums, over the first blocks of tokens. -/
def rows (na nb : ℕ) (r : Fin 8) (k : Fin 1024) : EReal :=
  if r.val = 0 then part (A.gsh k) na else if r.val = 1 then part (A.gsc k) na
  else if r.val = 2 then part (A.gg k) nb else if r.val = 3 then part (A.gnw k) na else 0
end MlpArgs

end Cert.Layer

end
-- ==== Proof.MlpBlk.lean ====
/- The MLP backward body's terms, entry by entry: sums over the blocks a point reads. -/
module

public import proofs.«01_k».proof.Proof.MlpRun
public import proofs.«01_k».proof.Proof.Norm

@[expose] public section

set_option maxRecDepth 16384

noncomputable section

namespace Cert.Layer.MlpBack

open Idealize.ShloMosaic Idealize.ShloMosaic.TcCoe Cert.MlpIdeal Cert.MlpIdeal.Gen

/-- The four pieces of a block of 2048 columns, at an entry. -/
theorem cols4 (G : Fin 4 → Vec Ideal S512x512 .bf16) (s : Fin 4) (i j : Fin 512) (h : 512 * s.val + j.val < 2048) :
    View.canon (Val := Elt Ideal) (s := S512x2048) (e := .bf16) [⟨Rect.unit ![0, 1536] ![512, 512] inb_S512x2048_S512x512_0_1536, G 3⟩, ⟨Rect.unit ![0, 1024] ![512, 512] inb_S512x2048_S512x512_0_1024, G 2⟩,
      ⟨Rect.unit ![0, 512] ![512, 512] inb_S512x2048_S512x512_0_512, G 1⟩, ⟨Rect.unit ![0, 0] ![512, 512] inb_S512x2048_S512x512_0_0, G 0⟩] (ix2 i (⟨512 * s.val + j.val, h⟩ : Fin 2048))
      = G s (ix2 i j) := by
  have key : ∀ (c : Fin 4) (x : S512x512.Idx), i.val = 0 + (x 0).val → 512 * s.val + j.val = 512 * c.val + (x 1).val → G c x = G s (ix2 i j) := by
    intro c x h0 h1
    have hx : (x 1).val < 512 := (x 1).isLt
    have e : c = s := Fin.ext (by omega)
    subst e
    refine congrArg (G c) ((eta2 x).trans ?_)
    have e0 : x 0 = i := Fin.ext (by omega)
    have e1 : x 1 = j := Fin.ext (by omega)
    rw [e0, e1]
    rfl
  refine View.canon_eq_of_allAt _ _ _ (View.cover_of_tiled_head _ _ _ rfl _) ?_
  refine View.allAt_cons_unit _ _ _ _ _ (fun x hx => key 3 x (hx 0) (hx 1)) ?_
  refine View.allAt_cons_unit _ _ _ _ _ (fun x hx => key 2 x (hx 0) (hx 1)) ?_
  refine View.allAt_cons_unit _ _ _ _ _ (fun x hx => key 1 x (hx 0) (hx 1)) ?_
  refine View.allAt_cons_unit _ _ _ _ _ (fun x hx => key 0 x (hx 0) (hx 1)) ?_
  exact View.allAt_nil _ _

/-- The blocks of the weights. -/
theorem up0_at (x : Vec Ideal S4x1x1024x512 .bf16) (k : Fin 1024) (j : Fin 512) : up0 x (ix4 0 0 k j) = x (ix4 0 0 k j) := View.ld_unit_apply_of x _ _ _ _ _ (by intro a; fin_cases a <;> simp)
theorem up1_at (x : Vec Ideal S4x1x1024x512 .bf16) (k : Fin 1024) (j : Fin 512) : up1 x (ix4 0 0 k j) = x (ix4 1 0 k j) := View.ld_unit_apply_of x _ _ _ _ _ (by intro a; fin_cases a <;> simp)
theorem up2_at (x : Vec Ideal S4x1x1024x512 .bf16) (k : Fin 1024) (j : Fin 512) : up2 x (ix4 0 0 k j) = x (ix4 2 0 k j) := View.ld_unit_apply_of x _ _ _ _ _ (by intro a; fin_cases a <;> simp)
theorem up3_at (x : Vec Ideal S4x1x1024x512 .bf16) (k : Fin 1024) (j : Fin 512) : up3 x (ix4 0 0 k j) = x (ix4 3 0 k j) := View.ld_unit_apply_of x _ _ _ _ _ (by intro a; fin_cases a <;> simp)
theorem dn0_at (x : Vec Ideal S4x1x512x1024 .bf16) (j : Fin 512) (k : Fin 1024) : dn0 x (ix4 0 0 j k) = x (ix4 0 0 j k) := View.ld_unit_apply_of x _ _ _ _ _ (by intro a; fin_cases a <;> simp)
theorem dn1_at (x : Vec Ideal S4x1x512x1024 .bf16) (j : Fin 512) (k : Fin 1024) : dn1 x (ix4 0 0 j k) = x (ix4 1 0 j k) := View.ld_unit_apply_of x _ _ _ _ _ (by intro a; fin_cases a <;> simp)
theorem dn2_at (x : Vec Ideal S4x1x512x1024 .bf16) (j : Fin 512) (k : Fin 1024) : dn2 x (ix4 0 0 j k) = x (ix4 2 0 j k) := View.ld_unit_apply_of x _ _ _ _ _ (by intro a; fin_cases a <;> simp)
theorem dn3_at (x : Vec Ideal S4x1x512x1024 .bf16) (j : Fin 512) (k : Fin 1024) : dn3 x (ix4 0 0 j k) = x (ix4 3 0 j k) := View.ld_unit_apply_of x _ _ _ _ _ (by intro a; fin_cases a <;> simp)

variable (h d : FVec Ideal S512x1024 .bf16) (u : FVec Ideal S4x1x1024x512 .bf16) (w : FVec Ideal S4x1x512x1024 .bf16)

/-- The up projection of a block, after the rectifier; the gradient before it. -/
def bup (s : Fin 4) (i j : Fin 512) : EReal := max (∑ k : Fin 1024, h (ix2 i k) * u (ix4 s 0 k j)) 0
def bdup (s : Fin 4) (i j : Fin 512) : EReal := (∑ k : Fin 1024, d (ix2 i k) * w (ix4 s 0 j k)) * (Ideal.ofBits FTy.f32 1073741824#32 * bup h u s i j)

theorem pay22_at (i j : Fin 512) : k0_pay22 (F := Ideal) h (up0 u) (ix2 i j) = bup h u 0 i j := by
  unfold bup; pointwise [k0_pay22]; simp only [up0_at]
theorem pay25_at (i j : Fin 512) : k0_pay25 (F := Ideal) h (up1 u) (ix2 i j) = bup h u 1 i j := by
  unfold bup; pointwise [k0_pay25]; simp only [up1_at]
theorem pay29_at (i j : Fin 512) : k0_pay29 (F := Ideal) h (up2 u) (ix2 i j) = bup h u 2 i j := by
  unfold bup; pointwise [k0_pay29]; simp only [up2_at]
theorem pay1_at (i j : Fin 512) : k0_pay1 (F := Ideal) (k0_pay33 h) (k0_pay34 (up3 u)) (constant S512x512 FTy.f32 0#32) (ix2 i j) = bup h u 3 i j := by
  unfold bup; pointwise [k0_pay1, k0_pay33, k0_pay34]; simp only [up3_at, zero_add]

theorem pay23_at (i j : Fin 512) : k0_pay23 (F := Ideal) h (up0 u) (ix2 i j) = bup h u 0 i j * bup h u 0 i j := by
  pointwise [k0_pay23]; rw [pay22_at]
theorem pay26_at (i j : Fin 512) : k0_pay26 (F := Ideal) h (up1 u) (ix2 i j) = bup h u 1 i j * bup h u 1 i j := by
  pointwise [k0_pay26]; rw [pay25_at]
theorem pay30_at (i j : Fin 512) : k0_pay30 (F := Ideal) h (up2 u) (ix2 i j) = bup h u 2 i j * bup h u 2 i j := by
  pointwise [k0_pay30]; rw [pay29_at]
theorem pay2_at (i j : Fin 512) : k0_pay2 (F := Ideal) (k0_pay33 h) (k0_pay34 (up3 u)) (constant S512x512 FTy.f32 0#32) (ix2 i j) = bup h u 3 i j * bup h u 3 i j := by
  pointwise [k0_pay2]; rw [pay1_at]

theorem pay24_at (i j : Fin 512) : k0_pay24 (F := Ideal) h (up0 u) d (dn0 w) (ix2 i j) = bdup h d u w 0 i j := by
  unfold bdup; pointwise [k0_pay24]; rw [pay22_at]; simp only [dn0_at]
theorem pay27_at (i j : Fin 512) : k0_pay27 (F := Ideal) h (up1 u) d (dn1 w) (ix2 i j) = bdup h d u w 1 i j := by
  unfold bdup; pointwise [k0_pay27]; rw [pay25_at]; simp only [dn1_at]
theorem pay31_at (i j : Fin 512) : k0_pay31 (F := Ideal) h (up2 u) d (dn2 w) (ix2 i j) = bdup h d u w 2 i j := by
  unfold bdup; pointwise [k0_pay31]; rw [pay29_at]; simp only [dn2_at]
theorem pay3_at (i j : Fin 512) : k0_pay3 (F := Ideal) (k0_pay33 h) (k0_pay34 (up3 u)) (constant S512x512 FTy.f32 0#32) d (dn3 w) (ix2 i j) = bdup h d u w 3 i j := by
  unfold bdup; pointwise [k0_pay3]; rw [pay1_at]; simp only [dn3_at]

theorem acts_at (s : Fin 4) (i j : Fin 512) (hs : 512 * s.val + j.val < 2048) : acts h u (ix2 i (⟨512 * s.val + j.val, hs⟩ : Fin 2048)) = bup h u s i j * bup h u s i j := by
  refine (cols4 ![_, _, _, _] s i j hs).trans ?_
  match s with
  | 0 => exact pay23_at h u i j
  | 1 => exact pay26_at h u i j
  | 2 => exact pay30_at h u i j
  | 3 => exact pay2_at h u i j
theorem dups_at (s : Fin 4) (i j : Fin 512) (hs : 512 * s.val + j.val < 2048) : dups h d u w (ix2 i (⟨512 * s.val + j.val, hs⟩ : Fin 2048)) = bdup h d u w s i j := by
  refine (cols4 ![_, _, _, _] s i j hs).trans ?_
  match s with
  | 0 => exact pay24_at h d u w i j
  | 1 => exact pay27_at h d u w i j
  | 2 => exact pay31_at h d u w i j
  | 3 => exact pay3_at h d u w i j

/-- A block's share of the gradient of the normalised tokens. -/
def bdh (s : Fin 4) (i : Fin 512) (k : Fin 1024) : EReal := ∑ j : Fin 512, bdup h d u w s i j * u (ix4 s 0 k j)

theorem dhs_at (p : FVec Ideal S512x1024 .f32) (i : Fin 512) (k : Fin 1024) :
    dhs h d u w p (ix2 i k) = p (ix2 i k) + (bdh h d u w 0 i k + bdh h d u w 1 i k + bdh h d u w 2 i k + bdh h d u w 3 i k) := by
  unfold bdh dhs
  pointwise [k0_pay4, k0_pay32, k0_pay28]
  simp only [pay24_at, pay27_at, pay31_at, pay3_at, up0_at, up1_at, up2_at, up3_at]

end Cert.Layer.MlpBack

end
-- ==== Proof.MlpBack.lean ====
/- The MLP's backward call: the blocks a grid point reads, what a point leaves, and the arrays after the last one. -/
module

public import proofs.«01_k».proof.Proof.MlpBlk
public import proofs.«01_k».proof.Proof.Gen.MlpIdeal.Value

@[expose] public section

set_option maxRecDepth 16384

noncomputable section

namespace Cert.Layer.MlpBack

open Idealize.ShloMosaic Idealize.ShloMosaic.TcCoe Cert.MlpIdeal Cert.MlpIdeal.Gen Cert.MlpIdeal.Value

theorem idxA : ∀ t : Fin grid0.N, win0_0.index t = ![t.val / 2, 0] ∧ win0_1.index t = ![t.val / 2, 0] ∧ win0_2.index t = ![t.val / 2, 0] ∧ win0_3.index t = ![0, 0]
    ∧ win0_4.index t = ![0, 0] ∧ win0_5.index t = ![0, 0] ∧ win0_6.index t = ![0, 0] ∧ win0_7.index t = ![t.val % 2, 0, 0, 0] ∧ win0_8.index t = ![t.val % 2, 0, 0, 0] := by
  decide +kernel
theorem idxB : ∀ t : Fin grid0.N, win0_9.index t = ![t.val / 2, t.val % 2] ∧ win0_10.index t = ![t.val / 2, t.val % 2] ∧ win0_11.index t = ![t.val / 2, 0]
    ∧ win0_12.index t = ![t.val / 2, 0] ∧ win0_13.index t = ![t.val / 2, 0] ∧ win0_14.index t = ![0, 0] := by
  decide +kernel

variable (m : (ℓ : Loc nD τ sig) → Buf (Elt Ideal) ℓ) (c : Dev nD)

/-- The arguments' entries. -/
def A : MlpArgs where
  D2 i k := m ((c.tc : Thread nD τ).loc main_arg0) (ix2 i k)
  X i k := m ((c.tc : Thread nD τ).loc main_arg1) (ix2 i k)
  NW k := m ((c.tc : Thread nD τ).loc main_arg2) (ix1 k)
  SC k := m ((c.tc : Thread nD τ).loc main_arg3) (ix1 k)
  SH k := m ((c.tc : Thread nD τ).loc main_arg4) (ix1 k)
  G k := m ((c.tc : Thread nD τ).loc main_arg5) (ix1 k)
  U k j := m ((c.tc : Thread nD τ).loc main_arg6) (ix2 k j)
  W j k := m ((c.tc : Thread nD τ).loc main_arg7) (ix2 j k)

theorem v32_at (k : Fin 1024) : V m c main_v32 (ix2 0 k) = (A m c).NW k := by
  dsimp only [A, V, hostOps0, hostOps0_1, hostOps0_2, List.flatten_cons, List.flatten_nil, List.append_nil, List.cons_append, List.nil_append]
  entry_read; pointwise
theorem v33_at (k : Fin 1024) : V m c main_v33 (ix2 0 k) = (A m c).SC k := by
  dsimp only [A, V, hostOps0, hostOps0_1, hostOps0_2, List.flatten_cons, List.flatten_nil, List.append_nil, List.cons_append, List.nil_append]
  entry_read; pointwise
theorem v34_at (k : Fin 1024) : V m c main_v34 (ix2 0 k) = (A m c).SH k := by
  dsimp only [A, V, hostOps0, hostOps0_1, hostOps0_2, List.flatten_cons, List.flatten_nil, List.append_nil, List.cons_append, List.nil_append]
  entry_read; pointwise
theorem v35_at (k : Fin 1024) : V m c main_v35 (ix2 0 k) = (A m c).G k := by
  dsimp only [A, V, hostOps0, hostOps0_1, hostOps0_2, List.flatten_cons, List.flatten_nil, List.append_nil, List.cons_append, List.nil_append]
  entry_read; pointwise
theorem v29_at (s : Fin 8) (k : Fin 1024) (j : Fin 512) : V m c main_v29 (ix4 s 0 k j) = (A m c).U k (⟨512 * s.val + j.val, by omega⟩ : Fin 4096) := by
  dsimp only [A, V, hostOps0, hostOps0_1, hostOps0_2, List.flatten_cons, List.flatten_nil, List.append_nil, List.cons_append, List.nil_append]
  entry_read; pointwise
  simp only [Nat.mul_comm s.val 512]
theorem v31_at (s : Fin 8) (j : Fin 512) (k : Fin 1024) : V m c main_v31 (ix4 s 0 j k) = (A m c).W (⟨512 * s.val + j.val, by omega⟩ : Fin 4096) k := by
  dsimp only [A, V, hostOps0, hostOps0_1, hostOps0_2, List.flatten_cons, List.flatten_nil, List.append_nil, List.cons_append, List.nil_append]
  entry_read; pointwise
  simp only [Nat.mul_comm s.val 512]
theorem v25_at (i : Fin 4096) (k : Fin 1024) : V m c main_v25 (ix2 i k) = (A m c).ff i k := by
  unfold MlpArgs.ff MlpArgs.act MlpArgs.up MlpArgs.h modn rinv
  dsimp only [A, V, hostOps0, hostOps0_1, hostOps0_2, List.flatten_cons, List.flatten_nil, List.append_nil, List.cons_append, List.nil_append]
  entry_read
  simp -implicitDefEqProofs only [StableHlo.TRef.toBuf, StableHlo.TRef.ofBuf, cast_eq]
  pointwise

theorem tok_lt (t : Fin cfg0.N) (i : Fin 512) : 512 * (t.val / 2) + i.val < 4096 := by
  have hN : t.val < 16 := lt_of_lt_of_eq t.isLt (show cfg0.N = 16 from N_0)
  omega
/-- The token of a point's row, and the column of one of its four blocks. -/
def tok (t : Fin cfg0.N) (i : Fin 512) : Fin 4096 := ⟨512 * (t.val / 2) + i.val, tok_lt t i⟩
def col (t : Fin cfg0.N) (s : Fin 4) (j : Fin 512) : Fin 4096 := ⟨512 * (4 * (t.val % 2) + s.val) + j.val, by omega⟩

variable (t : Fin cfg0.N)

theorem blk0 (i : Fin 512) (k : Fin 1024) : iblk m c 0 t (ix2 i k) = (A m c).D2 (tok t i) k := by
  blk_ext [iblk, V, A, tok, idxA t]
  all_goals omega
theorem blk1 (i : Fin 512) (k : Fin 1024) : iblk m c 1 t (ix2 i k) = (A m c).X (tok t i) k := by
  blk_ext [iblk, V, A, tok, idxA t]
  all_goals omega
theorem blk2 (i : Fin 512) (k : Fin 1024) : iblk m c 2 t (ix2 i k) = (A m c).ff (tok t i) k := by
  rw [← v25_at m c]
  refine congrArg (V m c main_v25) ?_
  blk_ext [tok, idxA t]
  all_goals omega
theorem blk3 (k : Fin 1024) : iblk m c 3 t (ix2 0 k) = (A m c).NW k := by
  rw [← v32_at m c]
  refine congrArg (V m c main_v32) ?_
  blk_ext [idxA t]
theorem blk4 (k : Fin 1024) : iblk m c 4 t (ix2 0 k) = (A m c).SC k := by
  rw [← v33_at m c]
  refine congrArg (V m c main_v33) ?_
  blk_ext [idxA t]
theorem blk5 (k : Fin 1024) : iblk m c 5 t (ix2 0 k) = (A m c).SH k := by
  rw [← v34_at m c]
  refine congrArg (V m c main_v34) ?_
  blk_ext [idxA t]
theorem blk6 (k : Fin 1024) : iblk m c 6 t (ix2 0 k) = (A m c).G k := by
  rw [← v35_at m c]
  refine congrArg (V m c main_v35) ?_
  blk_ext [idxA t]
theorem blk7 (s : Fin 4) (k : Fin 1024) (j : Fin 512) : iblk m c 7 t (ix4 s 0 k j) = (A m c).U k (col t s j) := by
  refine Eq.trans ?_ (v29_at m c (⟨4 * (t.val % 2) + s.val, by omega⟩ : Fin 8) k j)
  refine congrArg (V m c main_v29) ?_
  blk_ext [idxA t]
  all_goals omega
theorem blk8 (s : Fin 4) (j : Fin 512) (k : Fin 1024) : iblk m c 8 t (ix4 s 0 j k) = (A m c).W (col t s j) k := by
  refine Eq.trans ?_ (v31_at m c (⟨4 * (t.val % 2) + s.val, by omega⟩ : Fin 8) j k)
  refine congrArg (V m c main_v31) ?_
  blk_ext [idxA t]
  all_goals omega

end Cert.Layer.MlpBack

end
-- ==== Proof.MlpArr.lean ====
/- The MLP's backward call: what every grid point leaves, and the six result arrays, entry by entry. -/
module

public import proofs.«01_k».proof.Proof.MlpBack

@[expose] public section

set_option maxRecDepth 16384

noncomputable section

namespace Cert.Layer.MlpBack

open Idealize.ShloMosaic Idealize.ShloMosaic.TcCoe Cert.MlpIdeal Cert.MlpIdeal.Gen Cert.MlpIdeal.Value

/-! ## The body's other terms -/

theorem pay5_at (x : FVec Ideal S512x1024 .f32) (nw sc sh : FVec Ideal S1x1024 .f32) (i : Fin 512) (k : Fin 1024) :
    k0_pay5 (F := Ideal) x nw sc sh (ix2 i k) = modn (fun k => x (ix2 i k)) (fun k => nw (ix2 0 k)) (fun k => sc (ix2 0 k)) (fun k => sh (ix2 0 k)) k := by
  unfold modn rinv; pointwise [k0_pay5]
theorem pay6_at (x : FVec Ideal S512x1024 .f32) (g : FVec Ideal S1x1024 .f32) (i : Fin 512) (k : Fin 1024) :
    k0_pay6 (F := Ideal) x g (ix2 i k) = x (ix2 i k) * g (ix2 0 k) := by
  pointwise [k0_pay6]
theorem pay8_at (x : FVec Ideal S512x1024 .f32) (i : Fin 512) : k0_pay8 (F := Ideal) x (ix2 i 0) = rinv (fun k => x (ix2 i k)) := by
  unfold rinv; pointwise [k0_pay8]
theorem pay13_at (x : FVec Ideal S512x1024 .bf16) (i : Fin 512) (k : Fin 1024) : k0_pay13 (F := Ideal) x (ix2 i k) = x (ix2 i k) := by
  pointwise [k0_pay13]
theorem pay14_at (x : FVec Ideal S512x1024 .bf16) (i : Fin 512) (k : Fin 1024) : k0_pay14 (F := Ideal) x (ix2 i k) = x (ix2 i k) := by
  pointwise [k0_pay14]
theorem pay15_at (x D x0 : FVec Ideal S512x1024 .f32) (nw sc : FVec Ideal S1x1024 .f32) (i : Fin 512) (k : Fin 1024) :
    k0_pay15 (F := Ideal) (k0_pay10 x D nw sc) x0 (ix2 i k)
      = x0 (ix2 i k) + dnorm (fun k => x (ix2 i k)) (fun k => D (ix2 i k) * (1 + sc (ix2 0 k)) * nw (ix2 0 k)) k := by
  unfold dnorm
  pointwise [k0_pay15, k0_pay10, k0_pay9]
  simp only [pay8_at]
theorem pay16_at (D : FVec Ideal S512x1024 .f32) (v : FVec Ideal S1x1024 .f32) (k : Fin 1024) :
    k0_pay16 (F := Ideal) (k0_pay11 D) v (ix2 0 k) = v (ix2 0 k) + ∑ i : Fin 512, D (ix2 i k) := by
  pointwise [k0_pay16, k0_pay11]
theorem pay17_at (x D : FVec Ideal S512x1024 .f32) (nw v : FVec Ideal S1x1024 .f32) (k : Fin 1024) :
    k0_pay17 (F := Ideal) (k0_pay12 x nw D) v (ix2 0 k) = v (ix2 0 k) + ∑ i : Fin 512, D (ix2 i k) * (x (ix2 i k) * rinv (fun k => x (ix2 i k)) * nw (ix2 0 k)) := by
  pointwise [k0_pay17, k0_pay12]
  simp only [pay8_at]
theorem pay18_at (x D : FVec Ideal S512x1024 .f32) (sc v : FVec Ideal S1x1024 .f32) (k : Fin 1024) :
    k0_pay18 (F := Ideal) x (k0_pay8 x) (k0_pay9 D sc) v (ix2 0 k) = v (ix2 0 k) + ∑ i : Fin 512, D (ix2 i k) * (1 + sc (ix2 0 k)) * x (ix2 i k) * rinv (fun k => x (ix2 i k)) := by
  pointwise [k0_pay18, k0_pay9]
  simp only [pay8_at]
theorem pay20_at (x : FVec Ideal S512x1024 .f32) (v : FVec Ideal S1x1024 .f32) (f : FVec Ideal S512x1024 .bf16) (k : Fin 1024) :
    k0_pay20 (F := Ideal) x (k0_pay7 v) f (ix2 0 k) = v (ix2 0 k) + ∑ i : Fin 512, x (ix2 i k) * f (ix2 i k) := by
  pointwise [k0_pay20, k0_pay7]
theorem pay19_at (r : Fin 8) (k : Fin 1024) : k0_pay19 (F := Ideal) (ix2 r k) = 0 := by
  pointwise [k0_pay19]
theorem pay21_at (i : Fin 512) (k : Fin 1024) : k0_pay21 (F := Ideal) (ix2 i k) = 0 := by
  pointwise [k0_pay21]

/-- A row of the sums replaced, and a row of them read. -/
theorem overlay_at (r0 : ℕ) (inb : ∀ a, ![r0, 0] a + ![1, 1024] a ≤ S8x1024.size a) (x : Vec Ideal S8x1024 .f32) (w : Vec Ideal S1x1024 .f32) (r : Fin 8) (k : Fin 1024) :
    (Rect.unit (s := S8x1024) ![r0, 0] ![1, 1024] inb).overlay x w (ix2 r k) = if r.val = r0 then w (ix2 0 k) else x (ix2 r k) := by
  by_cases h : r.val = r0
  · rw [if_pos h]
    have e : (Rect.unit (s := S8x1024) ![r0, 0] ![1, 1024] inb).emb (ix2 (0 : Fin 1) k) = ix2 r k := funext fun a => Fin.ext (by
      match a with
      | 0 => show r0 + 1 * 0 = r.val; omega
      | 1 => show 0 + 1 * k.val = k.val; omega)
    rw [← e]
    exact Rect.overlay_emb _ _ _ _
  · rw [if_neg h]
    refine Rect.overlay_of_not_mem _ _ _ fun hm => ?_
    obtain ⟨x', hx⟩ : ∃ x', (Rect.unit (s := S8x1024) ![r0, 0] ![1, 1024] inb).emb x' = ix2 r k := (Rect.unit (s := S8x1024) ![r0, 0] ![1, 1024] inb).exists_idx_of_mem hm
    have h0 := congrArg (fun y : S8x1024.Idx => (y 0).val) hx
    have hlt : (x' 0).val < 1 := (x' 0).isLt
    have h1 : r0 + 1 * (x' 0).val = r.val := h0
    omega
theorem ld_at (r0 : Fin 8) (inb : ∀ a, ![r0.val, 0] a + ![1, 1024] a ≤ S8x1024.size a) (x : Vec Ideal S8x1024 .f32) (k : Fin 1024) :
    View.ld x (Rect.unit (s := S8x1024) ![r0.val, 0] ![1, 1024] inb) (ix2 0 k) = x (ix2 r0 k) :=
  View.ld_unit_apply_of x _ _ _ _ _ (by intro a; fin_cases a <;> simp)

theorem put0_at (x : Vec Ideal S8x1024 .f32) (w : Vec Ideal S1x1024 .f32) (r : Fin 8) (k : Fin 1024) : put0 x w (ix2 r k) = if r.val = 0 then w (ix2 0 k) else x (ix2 r k) := overlay_at 0 _ x w r k
theorem get0_at (x : Vec Ideal S8x1024 .f32) (k : Fin 1024) : get0 x (ix2 0 k) = x (ix2 0 k) := ld_at 0 _ x k
theorem put1_at (x : Vec Ideal S8x1024 .f32) (w : Vec Ideal S1x1024 .f32) (r : Fin 8) (k : Fin 1024) : put1 x w (ix2 r k) = if r.val = 1 then w (ix2 0 k) else x (ix2 r k) := overlay_at 1 _ x w r k
theorem get1_at (x : Vec Ideal S8x1024 .f32) (k : Fin 1024) : get1 x (ix2 0 k) = x (ix2 1 k) := ld_at 1 _ x k
theorem put2_at (x : Vec Ideal S8x1024 .f32) (w : Vec Ideal S1x1024 .f32) (r : Fin 8) (k : Fin 1024) : put2 x w (ix2 r k) = if r.val = 2 then w (ix2 0 k) else x (ix2 r k) := overlay_at 2 _ x w r k
theorem get2_at (x : Vec Ideal S8x1024 .f32) (k : Fin 1024) : get2 x (ix2 0 k) = x (ix2 2 k) := ld_at 2 _ x k
theorem put3_at (x : Vec Ideal S8x1024 .f32) (w : Vec Ideal S1x1024 .f32) (r : Fin 8) (k : Fin 1024) : put3 x w (ix2 r k) = if r.val = 3 then w (ix2 0 k) else x (ix2 r k) := overlay_at 3 _ x w r k
theorem get3_at (x : Vec Ideal S8x1024 .f32) (k : Fin 1024) : get3 x (ix2 0 k) = x (ix2 3 k) := ld_at 3 _ x k

variable (m : (ℓ : Loc nD τ sig) → Buf (Elt Ideal) ℓ) (c : Dev nD) (t : Fin cfg0.N)

/-! ## What a point leaves -/

theorem hB_at (i : Fin 512) (k : Fin 1024) :
    k0_pay5 (F := Ideal) (iblk m c 1 t) (iblk m c 3 t) (iblk m c 4 t) (iblk m c 5 t) (ix2 i k) = (A m c).h (tok t i) k := by
  unfold MlpArgs.h
  rw [pay5_at]
  simp only [blk1 m c t, blk3 m c t, blk4 m c t, blk5 m c t]
theorem dB_at (i : Fin 512) (k : Fin 1024) : k0_pay6 (F := Ideal) (iblk m c 0 t) (iblk m c 6 t) (ix2 i k) = (A m c).dff (tok t i) k := by
  unfold MlpArgs.dff
  rw [pay6_at]
  simp only [blk0 m c t, blk6 m c t]

section block
variable (h d : FVec Ideal S512x1024 .bf16) (hh : ∀ i k, h (ix2 i k) = (A m c).h (tok t i) k) (hd : ∀ i k, d (ix2 i k) = (A m c).dff (tok t i) k)
include hh

theorem bup_at (s : Fin 4) (i j : Fin 512) : bup h (iblk m c 7 t) s i j = (A m c).up (tok t i) (col t s j) := by
  unfold bup MlpArgs.up
  simp only [hh, blk7 m c t]

include hd
theorem bdup_at (s : Fin 4) (i j : Fin 512) : bdup h d (iblk m c 7 t) (iblk m c 8 t) s i j = (A m c).dup (tok t i) (col t s j) := by
  unfold bdup MlpArgs.dup
  rw [bup_at m c t h hh]
  simp only [hd, blk8 m c t]
theorem bdh_at (s : Fin 4) (i : Fin 512) (k : Fin 1024) :
    bdh h d (iblk m c 7 t) (iblk m c 8 t) s i k = blk (fun j => (A m c).dup (tok t i) j * (A m c).U k j) (4 * (t.val % 2) + s.val) := by
  unfold bdh
  rw [blk_eq _ _ (fun j => (col t s j).isLt)]
  refine Finset.sum_congr rfl fun j _ => ?_
  rw [bdup_at m c t h d hh hd, blk7 m c t]
  rfl
end block

/-- The normalised tokens and the gated gradients, kept from a block's first point to its second. -/
theorem h_at (i : Fin 512) (k : Fin 1024) : (outsAt0 m c t.val t.isLt).2.2.1 (ix2 i k) = (A m c).h (tok t i) k := by
  have even : ∀ t : Fin cfg0.N, t.val % 2 = 0 → (outsAt0 m c t.val t.isLt).2.2.1 (ix2 i k) = (A m c).h (tok t i) k := by
    intro t h1
    by_cases h0 : t.val % 16 = 0
    · rw [outsAt0_A m c t h0 h1 (by omega)]
      dsimp only
      rw [out_A_11]
      exact hB_at m c t i k
    · rw [outsAt0_C m c t h0 h1 (by omega)]
      dsimp only
      rw [out_C_11]
      exact hB_at m c t i k
  by_cases h1 : t.val % 2 = 0
  · exact even t h1
  · rw [outsAt0_B m c t (by omega) h1 (by omega)]
    dsimp only
    rw [out_B_11, pay13_at]
    refine (even ⟨t.val - 1, Nat.lt_of_le_of_lt (Nat.sub_le _ _) t.isLt⟩ (by show (t.val - 1) % 2 = 0; omega)).trans ?_
    refine congrArg (fun a => (A m c).h a k) (Fin.ext ?_)
    show 512 * ((t.val - 1) / 2) + i.val = 512 * (t.val / 2) + i.val
    omega
theorem d_at (i : Fin 512) (k : Fin 1024) : (outsAt0 m c t.val t.isLt).2.2.2.1 (ix2 i k) = (A m c).dff (tok t i) k := by
  have even : ∀ t : Fin cfg0.N, t.val % 2 = 0 → (outsAt0 m c t.val t.isLt).2.2.2.1 (ix2 i k) = (A m c).dff (tok t i) k := by
    intro t h1
    by_cases h0 : t.val % 16 = 0
    · rw [outsAt0_A m c t h0 h1 (by omega)]
      dsimp only
      rw [out_A_12]
      exact dB_at m c t i k
    · rw [outsAt0_C m c t h0 h1 (by omega)]
      dsimp only
      rw [out_C_12]
      exact dB_at m c t i k
  by_cases h1 : t.val % 2 = 0
  · exact even t h1
  · rw [outsAt0_B m c t (by omega) h1 (by omega)]
    dsimp only
    rw [out_B_12, pay14_at]
    refine (even ⟨t.val - 1, Nat.lt_of_le_of_lt (Nat.sub_le _ _) t.isLt⟩ (by show (t.val - 1) % 2 = 0; omega)).trans ?_
    refine congrArg (fun a => (A m c).dff a k) (Fin.ext ?_)
    show 512 * ((t.val - 1) / 2) + i.val = 512 * (t.val / 2) + i.val
    omega

/-- What a block's second point finds of them. -/
def tp : Fin cfg0.N := ⟨t.val - 1, Nat.lt_of_le_of_lt (Nat.sub_le _ _) t.isLt⟩
theorem tok_tp (h1 : t.val % 2 = 1) (i : Fin 512) : tok (tp t) i = tok t i := Fin.ext (by
  show 512 * ((t.val - 1) / 2) + i.val = 512 * (t.val / 2) + i.val
  omega)
theorem hp_at (h1 : t.val % 2 = 1) (i : Fin 512) (k : Fin 1024) : (outsAt0 m c (t.val - 1) (Nat.lt_of_le_of_lt (Nat.sub_le _ _) t.isLt)).2.2.1 (ix2 i k) = (A m c).h (tok t i) k := by
  rw [← tok_tp t h1]; exact h_at m c (tp t) i k
theorem dp_at (h1 : t.val % 2 = 1) (i : Fin 512) (k : Fin 1024) : (outsAt0 m c (t.val - 1) (Nat.lt_of_le_of_lt (Nat.sub_le _ _) t.isLt)).2.2.2.1 (ix2 i k) = (A m c).dff (tok t i) k := by
  rw [← tok_tp t h1]; exact d_at m c (tp t) i k

theorem act_at (s : Fin 4) (i j : Fin 512) (hs : 512 * s.val + j.val < 2048) :
    (outsAt0 m c t.val t.isLt).1 (ix2 i (⟨512 * s.val + j.val, hs⟩ : Fin 2048)) = (A m c).act (tok t i) (col t s j) := by
  unfold MlpArgs.act
  by_cases h1 : t.val % 2 = 0
  · by_cases h0 : t.val % 16 = 0
    · rw [outsAt0_A m c t h0 h1 (by omega)]
      dsimp only
      rw [out_A_9, acts_at, bup_at m c t _ (hB_at m c t)]
    · rw [outsAt0_C m c t h0 h1 (by omega)]
      dsimp only
      rw [out_C_9, acts_at, bup_at m c t _ (hB_at m c t)]
  · rw [outsAt0_B m c t (by omega) h1 (by omega)]
    dsimp only
    rw [out_B_9, acts_at, bup_at m c t _ (hp_at m c t (by omega))]
theorem dup_at (s : Fin 4) (i j : Fin 512) (hs : 512 * s.val + j.val < 2048) :
    (outsAt0 m c t.val t.isLt).2.1 (ix2 i (⟨512 * s.val + j.val, hs⟩ : Fin 2048)) = (A m c).dup (tok t i) (col t s j) := by
  by_cases h1 : t.val % 2 = 0
  · by_cases h0 : t.val % 16 = 0
    · rw [outsAt0_A m c t h0 h1 (by omega)]
      dsimp only
      rw [out_A_10, dups_at, bdup_at m c t _ _ (hB_at m c t) (dB_at m c t)]
    · rw [outsAt0_C m c t h0 h1 (by omega)]
      dsimp only
      rw [out_C_10, dups_at, bdup_at m c t _ _ (hB_at m c t) (dB_at m c t)]
  · rw [outsAt0_B m c t (by omega) h1 (by omega)]
    dsimp only
    rw [out_B_10, dups_at, bdup_at m c t _ _ (hp_at m c t (by omega)) (dp_at m c t (by omega))]

/-- The gradient of the normalised tokens: half the columns at a block's first point, and all of them at its second. -/
theorem half_at (h1 : t.val % 2 = 0) (i : Fin 512) (k : Fin 1024) :
    (outsAt0 m c t.val t.isLt).2.2.2.2.2.2 (ix2 i k) = part (fun j => (A m c).dup (tok t i) j * (A m c).U k j) 4 := by
  have key : dhs (k0_pay5 (F := Ideal) (iblk m c 1 t) (iblk m c 3 t) (iblk m c 4 t) (iblk m c 5 t)) (k0_pay6 (F := Ideal) (iblk m c 0 t) (iblk m c 6 t)) (iblk m c 7 t) (iblk m c 8 t) (k0_pay21 (F := Ideal)) (ix2 i k)
      = part (fun j => (A m c).dup (tok t i) j * (A m c).U k j) 4 := by
    rw [dhs_at, pay21_at]
    simp only [bdh_at m c t _ _ (hB_at m c t) (dB_at m c t), h1]
    simp only [part_succ _ 3, part_succ _ 2, part_succ _ 1, part_succ _ 0, part_zero, zero_add]
    rfl
  by_cases h0 : t.val % 16 = 0
  · rw [outsAt0_A m c t h0 h1 (by omega)]
    dsimp only
    rw [sout_A_0]
    exact key
  · rw [outsAt0_C m c t h0 h1 (by omega)]
    dsimp only
    rw [sout_C_0]
    exact key
/-- What a block's second point computes of it. -/
def dhF : Vec Ideal S512x1024 .f32 :=
  dhs (outsAt0 m c (t.val - 1) (Nat.lt_of_le_of_lt (Nat.sub_le _ _) t.isLt)).2.2.1 (outsAt0 m c (t.val - 1) (Nat.lt_of_le_of_lt (Nat.sub_le _ _) t.isLt)).2.2.2.1
    (iblk m c 7 t) (iblk m c 8 t) (outsAt0 m c (t.val - 1) (Nat.lt_of_le_of_lt (Nat.sub_le _ _) t.isLt)).2.2.2.2.2.2
theorem dhF_at (h1 : t.val % 2 = 1) (i : Fin 512) (k : Fin 1024) : dhF m c t (ix2 i k) = (A m c).dh (tok t i) k := by
  have e := half_at m c (tp t) (by show (t.val - 1) % 2 = 0; omega) i k
  rw [tok_tp t h1] at e
  unfold dhF MlpArgs.dh
  rw [dhs_at, ← part_all]
  simp only [bdh_at m c t _ _ (hp_at m c t h1) (dp_at m c t h1), h1]
  refine (congrArg (fun z : EReal => z + _) e).trans ?_
  simp only [part_succ _ 7, part_succ _ 6, part_succ _ 5, part_succ _ 4, add_assoc]
  rfl

theorem dx_at (h1 : t.val % 2 = 1) (i : Fin 512) (k : Fin 1024) : (outsAt0 m c t.val t.isLt).2.2.2.2.1 (ix2 i k) = (A m c).dx1 (tok t i) k := by
  rw [outsAt0_B m c t (by omega) (by omega) h1]
  dsimp only
  rw [out_B_13]
  refine (pay15_at (iblk m c 1 t) (dhF m c t) (iblk m c 0 t) (iblk m c 3 t) (iblk m c 4 t) i k).trans ?_
  simp only [dhF_at m c t h1, blk0 m c t, blk1 m c t, blk3 m c t, blk4 m c t]
  rfl

/-- The sums over the tokens, after a point: the gate's has the point's block from its first point on, the others from its second. -/
theorem rows_at : ∀ (n : ℕ) (hn : n < cfg0.N) (r : Fin 8) (k : Fin 1024),
    (outsAt0 m c n hn).2.2.2.2.2.1 (ix2 r k) = (A m c).rows ((n + 1) / 2) (n / 2 + 1) r k := by
  have gate : ∀ (t : Fin cfg0.N) (k : Fin 1024), (∑ i : Fin 512, (A m c).D2 (tok t i) k * (A m c).ff (tok t i) k) = blk ((A m c).gg k) (t.val / 2) := fun t k =>
    (blk_eq ((A m c).gg k) (t.val / 2) (tok_lt t)).symm
  intro n
  induction n with
  | zero =>
    intro hn r k
    have h2 : ¬(⟨0, hn⟩ : Fin cfg0.N).val % 2 = 1 := by show ¬0 % 2 = 1; decide
    refine Eq.trans (congrFun (congrArg (fun z => z.2.2.2.2.2.1) (outsAt0_A m c ⟨0, hn⟩ rfl rfl h2)) (ix2 r k)) ?_
    dsimp only
    rw [out_A_14, put2_at, pay20_at, get2_at, pay19_at, pay19_at]
    simp only [blk0 m c ⟨0, hn⟩, blk2 m c ⟨0, hn⟩]
    rw [gate]
    unfold MlpArgs.rows
    simp only [Nat.zero_add, Nat.reduceDiv, part_zero, part_succ _ 0]
    split_ifs <;> first | (exfalso; omega) | rfl
  | succ n ih =>
    intro hn r k
    have hp : n < cfg0.N := Nat.lt_of_succ_lt hn
    by_cases h1 : (n + 1) % 2 = 0
    · have h0 : ¬(⟨n + 1, hn⟩ : Fin cfg0.N).val % 16 = 0 := by
        have hN : n + 1 < 16 := lt_of_lt_of_eq hn (show cfg0.N = 16 from N_0)
        show ¬(n + 1) % 16 = 0; omega
      have h2 : ¬(⟨n + 1, hn⟩ : Fin cfg0.N).val % 2 = 1 := by show ¬(n + 1) % 2 = 1; omega
      refine Eq.trans (congrFun (congrArg (fun z => z.2.2.2.2.2.1) (outsAt0_C m c ⟨n + 1, hn⟩ h0 h1 h2)) (ix2 r k)) ?_
      dsimp only [Nat.add_sub_cancel]
      rw [out_C_14, put2_at, pay20_at, get2_at]
      simp only [blk0 m c ⟨n + 1, hn⟩, blk2 m c ⟨n + 1, hn⟩]
      rw [gate]
      have e1 : (n + 1 + 1) / 2 = (n + 1) / 2 := by omega
      have e2 : n / 2 + 1 = (n + 1) / 2 := by omega
      have ihr : ∀ r, (outsAt0 m c (n + 1 - 1) (Nat.lt_of_le_of_lt (Nat.sub_le _ _) hn)).2.2.2.2.2.1 (ix2 r k) = (A m c).rows ((n + 1) / 2) ((n + 1) / 2) r k := fun r => (ih hp r k).trans (by rw [e2])
      rw [ihr, ihr, e1]
      unfold MlpArgs.rows
      simp only [part_succ _ ((n + 1) / 2)]
      split_ifs <;> first | (exfalso; omega) | rfl
    · have h0 : ¬(⟨n + 1, hn⟩ : Fin cfg0.N).val % 16 = 0 := by show ¬(n + 1) % 16 = 0; omega
      have h2 : (⟨n + 1, hn⟩ : Fin cfg0.N).val % 2 = 1 := by show (n + 1) % 2 = 1; omega
      refine Eq.trans (congrFun (congrArg (fun z => z.2.2.2.2.2.1) (outsAt0_B m c ⟨n + 1, hn⟩ h0 h1 h2)) (ix2 r k)) ?_
      dsimp only [Nat.add_sub_cancel]
      rw [out_B_14]
      have hD := dhF_at m c ⟨n + 1, hn⟩ h2
      refine Eq.trans (b := put3 (put1 (put0 (outsAt0 m c n hp).2.2.2.2.2.1 (k0_pay16 (F := Ideal) (k0_pay11 (dhF m c ⟨n + 1, hn⟩)) (get0 (outsAt0 m c n hp).2.2.2.2.2.1)))
        (k0_pay17 (F := Ideal) (k0_pay12 (iblk m c 1 ⟨n + 1, hn⟩) (iblk m c 3 ⟨n + 1, hn⟩) (dhF m c ⟨n + 1, hn⟩)) (get1 (outsAt0 m c n hp).2.2.2.2.2.1)))
        (k0_pay18 (F := Ideal) (iblk m c 1 ⟨n + 1, hn⟩) (k0_pay8 (iblk m c 1 ⟨n + 1, hn⟩)) (k0_pay9 (dhF m c ⟨n + 1, hn⟩) (iblk m c 4 ⟨n + 1, hn⟩)) (get3 (outsAt0 m c n hp).2.2.2.2.2.1)) (ix2 r k)) rfl ?_
      rw [put3_at, put1_at, put0_at, pay16_at, pay17_at, pay18_at, get0_at, get1_at, get3_at]
      simp only [hD, blk1 m c ⟨n + 1, hn⟩, blk3 m c ⟨n + 1, hn⟩, blk4 m c ⟨n + 1, hn⟩]
      have e1 : (n + 1 + 1) / 2 = (n + 1) / 2 + 1 := by omega
      have e2 : n / 2 + 1 = (n + 1) / 2 + 1 := by omega
      rw [ih hp, ih hp, ih hp, ih hp, e1, e2]
      have s0 : (∑ i : Fin 512, (A m c).dh (tok ⟨n + 1, hn⟩ i) k) = blk ((A m c).gsh k) ((n + 1) / 2) := (blk_eq ((A m c).gsh k) ((n + 1) / 2) (tok_lt ⟨n + 1, hn⟩)).symm
      have s1 : (∑ i : Fin 512, (A m c).dh (tok ⟨n + 1, hn⟩ i) k * ((A m c).X (tok ⟨n + 1, hn⟩ i) k * rinv (fun k => (A m c).X (tok ⟨n + 1, hn⟩ i) k) * (A m c).NW k)) = blk ((A m c).gsc k) ((n + 1) / 2) :=
        (blk_eq ((A m c).gsc k) ((n + 1) / 2) (tok_lt ⟨n + 1, hn⟩)).symm
      have s3 : (∑ i : Fin 512, (A m c).dh (tok ⟨n + 1, hn⟩ i) k * (1 + (A m c).SC k) * (A m c).X (tok ⟨n + 1, hn⟩ i) k * rinv (fun k => (A m c).X (tok ⟨n + 1, hn⟩ i) k)) = blk ((A m c).gnw k) ((n + 1) / 2) :=
        (blk_eq ((A m c).gnw k) ((n + 1) / 2) (tok_lt ⟨n + 1, hn⟩)).symm
      rw [s0, s1, s3]
      unfold MlpArgs.rows
      simp only [part_succ _ ((n + 1) / 2)]
      split_ifs <;> first | (exfalso; omega) | rfl

end Cert.Layer.MlpBack

end
-- ==== Proof.MlpKer.lean ====
/- The MLP's backward call: the six result arrays. -/
module

public import proofs.«01_k».proof.Proof.MlpArr

@[expose] public section

set_option maxRecDepth 16384

noncomputable section

namespace Cert.Layer.MlpBack

open Idealize.ShloMosaic Idealize.ShloMosaic.TcCoe Cert.MlpIdeal Cert.MlpIdeal.Gen Cert.MlpIdeal.Value

variable (m : (ℓ : Loc nD τ sig) → Buf (Elt Ideal) ℓ) (c : Dev nD)

theorem pt_lt (i : Fin 4096) (b : ℕ) (hb : b < 2) : 2 * (i.val / 512) + b < cfg0.N := lt_of_lt_of_eq (by omega : 2 * (i.val / 512) + b < 16) (show 16 = cfg0.N from N_0.symm)

def actA : Buf (Elt Ideal) ((c : Thread nD τ).loc main_v36_0) := fun y => (A m c).act (y 0) (y 1)
theorem act_flushed (t : Fin cfg0.N) (hf : (cfg0.win 9).flush t = true) :
    (dats m 0 c).flushed 9 t = ((cfg0.win 9).blk t).view.read (Elt Ideal) (actA m c) := by
  have hN : t.val < 16 := lt_of_lt_of_eq t.isLt (show cfg0.N = 16 from N_0)
  rw [flushed9]
  funext y
  have hy : (y 1).val < 2048 := (y 1).isLt
  have ey : y = ix2 (y 0) (⟨512 * ((y 1).val / 512) + (y 1).val % 512, by omega⟩ : Fin 2048) := by
    funext a
    match a with
    | 0 => rfl
    | 1 => exact Fin.ext (Nat.div_add_mod _ _).symm
  refine Eq.trans (show _ = (outsAt0 m c t.val t.isLt).1 (ix2 (y 0) _) from congrArg (outsAt0 m c t.val t.isLt).1 ey) ?_
  refine (act_at m c t (⟨(y 1).val / 512, by omega⟩ : Fin 4) (y 0) (⟨(y 1).val % 512, by omega⟩ : Fin 512) (by show 512 * ((y 1).val / 512) + (y 1).val % 512 < 2048; omega)).trans ?_
  refine congrArg (actA m c) (a₁ := ix2 (tok t (y 0)) (col t (⟨(y 1).val / 512, by omega⟩ : Fin 4) (⟨(y 1).val % 512, by omega⟩ : Fin 512))) ?_
  blk_ext [tok, col, idxB t]
  all_goals omega
theorem act_arr (i j : Fin 4096) : (dats m 0 c).arrAt 9 cfg0.N (ix2 i j) = (A m c).act i j := by
  have ht := pt_lt i (j.val / 2048) (by omega)
  have b := congrFun ((dats m 0 c).read_blk_arrAt 9 (actA m c) (act_flushed m c) ⟨2 * (i.val / 512) + j.val / 2048, ht⟩ (flush0_9 _)) (ix2 (⟨i.val % 512, by omega⟩ : Fin 512) (⟨j.val % 2048, by omega⟩ : Fin 2048))
  have e : ix2 i j = ((cfg0.win 9).blk ⟨2 * (i.val / 512) + j.val / 2048, ht⟩).view.emb (ix2 (⟨i.val % 512, by omega⟩ : Fin 512) (⟨j.val % 2048, by omega⟩ : Fin 2048)) := by
    blk_ext [idxB ⟨2 * (i.val / 512) + j.val / 2048, ht⟩]
    all_goals omega
  refine Eq.trans (congrArg ((dats m 0 c).arrAt 9 cfg0.N) e) (b.trans ?_)
  exact (congrArg (actA m c) e).symm

def dupA : Buf (Elt Ideal) ((c : Thread nD τ).loc main_v36_1) := fun y => (A m c).dup (y 0) (y 1)
theorem dup_flushed (t : Fin cfg0.N) (hf : (cfg0.win 10).flush t = true) :
    (dats m 0 c).flushed 10 t = ((cfg0.win 10).blk t).view.read (Elt Ideal) (dupA m c) := by
  have hN : t.val < 16 := lt_of_lt_of_eq t.isLt (show cfg0.N = 16 from N_0)
  rw [flushed10]
  funext y
  have hy : (y 1).val < 2048 := (y 1).isLt
  have ey : y = ix2 (y 0) (⟨512 * ((y 1).val / 512) + (y 1).val % 512, by omega⟩ : Fin 2048) := by
    funext a
    match a with
    | 0 => rfl
    | 1 => exact Fin.ext (Nat.div_add_mod _ _).symm
  refine Eq.trans (show _ = (outsAt0 m c t.val t.isLt).2.1 (ix2 (y 0) _) from congrArg (outsAt0 m c t.val t.isLt).2.1 ey) ?_
  refine (dup_at m c t (⟨(y 1).val / 512, by omega⟩ : Fin 4) (y 0) (⟨(y 1).val % 512, by omega⟩ : Fin 512) (by show 512 * ((y 1).val / 512) + (y 1).val % 512 < 2048; omega)).trans ?_
  refine congrArg (dupA m c) (a₁ := ix2 (tok t (y 0)) (col t (⟨(y 1).val / 512, by omega⟩ : Fin 4) (⟨(y 1).val % 512, by omega⟩ : Fin 512))) ?_
  blk_ext [tok, col, idxB t]
  all_goals omega
theorem dup_arr (i j : Fin 4096) : (dats m 0 c).arrAt 10 cfg0.N (ix2 i j) = (A m c).dup i j := by
  have ht := pt_lt i (j.val / 2048) (by omega)
  have b := congrFun ((dats m 0 c).read_blk_arrAt 10 (dupA m c) (dup_flushed m c) ⟨2 * (i.val / 512) + j.val / 2048, ht⟩ (flush0_10 _)) (ix2 (⟨i.val % 512, by omega⟩ : Fin 512) (⟨j.val % 2048, by omega⟩ : Fin 2048))
  have e : ix2 i j = ((cfg0.win 10).blk ⟨2 * (i.val / 512) + j.val / 2048, ht⟩).view.emb (ix2 (⟨i.val % 512, by omega⟩ : Fin 512) (⟨j.val % 2048, by omega⟩ : Fin 2048)) := by
    blk_ext [idxB ⟨2 * (i.val / 512) + j.val / 2048, ht⟩]
    all_goals omega
  refine Eq.trans (congrArg ((dats m 0 c).arrAt 10 cfg0.N) e) (b.trans ?_)
  exact (congrArg (dupA m c) e).symm

def hA : Buf (Elt Ideal) ((c : Thread nD τ).loc main_v36_2) := fun y => (A m c).h (y 0) (y 1)
theorem h_flushed (t : Fin cfg0.N) (hf : (cfg0.win 11).flush t = true) :
    (dats m 0 c).flushed 11 t = ((cfg0.win 11).blk t).view.read (Elt Ideal) (hA m c) := by
  have hN : t.val < 16 := lt_of_lt_of_eq t.isLt (show cfg0.N = 16 from N_0)
  rw [flushed11]
  funext y
  refine Eq.trans (show _ = (outsAt0 m c t.val t.isLt).2.2.1 (ix2 (y 0) (y 1)) from congrArg (outsAt0 m c t.val t.isLt).2.2.1 (eta2 y)) ?_
  refine (h_at m c t (y 0) (y 1)).trans ?_
  refine congrArg (hA m c) (a₁ := ix2 (tok t (y 0)) (y 1)) ?_
  blk_ext [tok, idxB t]
  all_goals omega
theorem h_arr (i : Fin 4096) (k : Fin 1024) : (dats m 0 c).arrAt 11 cfg0.N (ix2 i k) = (A m c).h i k := by
  have ht := pt_lt i 1 (by omega)
  have b := congrFun ((dats m 0 c).read_blk_arrAt 11 (hA m c) (h_flushed m c) ⟨2 * (i.val / 512) + 1, ht⟩ ((flush0_11 _).mpr (by show (2 * (i.val / 512) + 1) % 2 = 1; omega))) (ix2 (⟨i.val % 512, by omega⟩ : Fin 512) k)
  have e : ix2 i k = ((cfg0.win 11).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 11 cfg0.N) e) (b.trans ?_)
  exact (congrArg (hA m c) e).symm

def dffA : Buf (Elt Ideal) ((c : Thread nD τ).loc main_v36_3) := fun y => (A m c).dff (y 0) (y 1)
theorem dff_flushed (t : Fin cfg0.N) (hf : (cfg0.win 12).flush t = true) :
    (dats m 0 c).flushed 12 t = ((cfg0.win 12).blk t).view.read (Elt Ideal) (dffA m c) := by
  have hN : t.val < 16 := lt_of_lt_of_eq t.isLt (show cfg0.N = 16 from N_0)
  rw [flushed12]
  funext y
  refine Eq.trans (show _ = (outsAt0 m c t.val t.isLt).2.2.2.1 (ix2 (y 0) (y 1)) from congrArg (outsAt0 m c t.val t.isLt).2.2.2.1 (eta2 y)) ?_
  refine (d_at m c t (y 0) (y 1)).trans ?_
  refine congrArg (dffA m c) (a₁ := ix2 (tok t (y 0)) (y 1)) ?_
  blk_ext [tok, idxB t]
  all_goals omega
theorem dff_arr (i : Fin 4096) (k : Fin 1024) : (dats m 0 c).arrAt 12 cfg0.N (ix2 i k) = (A m c).dff i k := by
  have ht := pt_lt i 1 (by omega)
  have b := congrFun ((dats m 0 c).read_blk_arrAt 12 (dffA m c) (dff_flushed m c) ⟨2 * (i.val / 512) + 1, ht⟩ ((flush0_12 _).mpr (by show (2 * (i.val / 512) + 1) % 2 = 1; omega))) (ix2 (⟨i.val % 512, by omega⟩ : Fin 512) k)
  have e : ix2 i k = ((cfg0.win 12).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 12 cfg0.N) e) (b.trans ?_)
  exact (congrArg (dffA m c) e).symm

def dx1A : Buf (Elt Ideal) ((c : Thread nD τ).loc main_v36_4) := fun y => (A m c).dx1 (y 0) (y 1)
theorem dx1_flushed (t : Fin cfg0.N) (hf : (cfg0.win 13).flush t = true) :
    (dats m 0 c).flushed 13 t = ((cfg0.win 13).blk t).view.read (Elt Ideal) (dx1A m c) := by
  have hN : t.val < 16 := lt_of_lt_of_eq t.isLt (show cfg0.N = 16 from N_0)
  rw [flushed13]
  funext y
  refine Eq.trans (show _ = (outsAt0 m c t.val t.isLt).2.2.2.2.1 (ix2 (y 0) (y 1)) from congrArg (outsAt0 m c t.val t.isLt).2.2.2.2.1 (eta2 y)) ?_
  refine (dx_at m c t ((flush0_13 t).mp hf) (y 0) (y 1)).trans ?_
  refine congrArg (dx1A m c) (a₁ := ix2 (tok t (y 0)) (y 1)) ?_
  blk_ext [tok, idxB t]
  all_goals omega
theorem dx1_arr (i : Fin 4096) (k : Fin 1024) : (dats m 0 c).arrAt 13 cfg0.N (ix2 i k) = (A m c).dx1 i k := by
  have ht := pt_lt i 1 (by omega)
  have b := congrFun ((dats m 0 c).read_blk_arrAt 13 (dx1A m c) (dx1_flushed m c) ⟨2 * (i.val / 512) + 1, ht⟩ ((flush0_13 _).mpr (by show (2 * (i.val / 512) + 1) % 2 = 1; omega))) (ix2 (⟨i.val % 512, by omega⟩ : Fin 512) k)
  have e : ix2 i k = ((cfg0.win 13).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 13 cfg0.N) e) (b.trans ?_)
  exact (congrArg (dx1A m c) e).symm

def rowsA : Buf (Elt Ideal) ((c : Thread nD τ).loc main_v36_5) := fun y => (A m c).rows 8 8 (y 0) (y 1)
theorem rows_flushed (t : Fin cfg0.N) (hf : (cfg0.win 14).flush t = true) :
    (dats m 0 c).flushed 14 t = ((cfg0.win 14).blk t).view.read (Elt Ideal) (rowsA m c) := by
  have hN : t.val < 16 := lt_of_lt_of_eq t.isLt (show cfg0.N = 16 from N_0)
  have ht : t.val % 16 = 15 := (flush0_14 t).mp hf
  have e1 : (t.val + 1) / 2 = 8 := by omega
  have e2 : t.val / 2 + 1 = 8 := by omega
  rw [flushed14]
  funext y
  refine Eq.trans (show _ = (outsAt0 m c t.val t.isLt).2.2.2.2.2.1 (ix2 (y 0) (y 1)) from congrArg (outsAt0 m c t.val t.isLt).2.2.2.2.2.1 (eta2 y)) ?_
  refine (rows_at m c t.val t.isLt (y 0) (y 1)).trans ?_
  rw [e1, e2]
  refine congrArg (rowsA m c) (a₁ := ix2 (y 0) (y 1)) ?_
  blk_ext [idxB t]
theorem rows_arr (r : Fin 8) (k : Fin 1024) : (dats m 0 c).arrAt 14 cfg0.N (ix2 r k) = (A m c).rows 8 8 r k := by
  have last : ∀ t : Fin cfg0.N, t.val % 16 = 15 → (dats m 0 c).arrAt 14 cfg0.N (ix2 r k) = (A m c).rows 8 8 r k := by
    intro t ht
    have b := congrFun ((dats m 0 c).read_blk_arrAt 14 (rowsA m c) (rows_flushed m c) t ((flush0_14 _).mpr ht)) (ix2 r k)
    have e : ix2 r k = ((cfg0.win 14).blk t).view.emb (ix2 r k) := by
      blk_ext [idxB t]
    refine Eq.trans (congrArg ((dats m 0 c).arrAt 14 cfg0.N) e) (b.trans ?_)
    exact (congrArg (rowsA m c) e).symm
  exact last ⟨15, lt_of_lt_of_eq (by omega : 15 < 16) (show 16 = cfg0.N from N_0.symm)⟩ rfl

end Cert.Layer.MlpBack

end
-- ==== Proof.MlpRef.lean ====
/- The MLP's backward call: the reference's arrays, entry by entry. -/
module

public import proofs.«01_k».proof.Proof.Norm
public import proofs.«01_k».proof.Proof.Voc
public import proofs.«01_k».proof.Proof.Gen.MlpReferenceIdeal.Run

@[expose] public section

set_option maxRecDepth 16384

noncomputable section

namespace Cert.Layer.MlpBack.Ref

open Idealize.ShloMosaic Idealize.ShloMosaic.TcCoe Cert.MlpReferenceIdeal Cert.MlpReferenceIdeal.Gen

/-- A row repeated over the tokens. -/
def bc (v : FVec Ideal S1024 .f32) : FVec Ideal S4096x1024 .f32 :=
  broadcastInDim S4096x1024 ![0, 1] bcast_S1x1024_S4096x1024_0_1 (broadcastInDim S1x1024 ![1] bcast_S1024_S1x1024_1 v)
/-- A column repeated over the features. -/
def bt (v : FVec Ideal S4096x1 .f32) : FVec Ideal S4096x1024 .f32 := broadcastInDim S4096x1024 ![0, 1] bcast_S4096x1_S4096x1024_0_1 v
/-- The square array of zeros. -/
def zs : FVec Ideal S4096x4096 .f32 := broadcastInDim S4096x4096 ![] bcast_S_S4096x4096 (constant S_ .f32 0x00000000#32)
def one (v : FVec Ideal S1024 .f32) : FVec Ideal S1024 .f32 := addf (broadcastInDim S1024 ![] bcast_S_S1024 (constant S_ .f32 0x3F800000#32)) v
def ms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rs (x : FVec Ideal S4096x1024 .f32) : FVec Ideal S4096x1 .f32 := Host.rsqrt (ms x)
/-- The sum of an array over the tokens. -/
def tot (x : FVec Ideal S4096x1024 .f32) : FVec Ideal S1x1024 .f32 :=
  broadcastInDim S1x1024 ![1] bcast_S1024_S1x1024_1 (Host.reduceAdd (shapeCast _ (Host.reduceAdd x (constant S_ .f32 0x00000000#32) reducesTo_S4096x1024_S1024_d0 h_S_) shapeCasts_S1024_S1x1024) (constant S_ .f32 0x00000000#32) reducesTo_S1x1024_S1024_d0 h_S_)

/-- The coefficient with which a row's own entries come back through its mean square. -/
def qv (x d : FVec Ideal S4096x1024 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (rs x) (ms x)))) (broadcastInDim S4096x1 ![] bcast_S_S4096x1 (constant S_ .f32 0x44800000#32))) (constant S_ .f32 0x00000000#32) reducesTo_S4096x1_S4096_d1 h_S_)

variable (d2 x : FVec Ideal S4096x1024 .f32) (nw sc sh g : FVec Ideal S1024 .f32) (u : FVec Ideal S1024x4096 .f32) (w : FVec Ideal S4096x1024 .f32)

def hv : FVec Ideal S4096x1024 .f32 := addf (mulf (mulf (mulf x (bt (rs x))) (bc nw)) (bc (one sc))) (bc sh)
def pre : FVec Ideal S4096x4096 .f32 := Host.dotGeneral (F := Ideal) (φ₁ := .f32) (φ₂ := .f32) dot_S4096x1024_S1024x4096_S4096x4096_1_0_0_1_n_n none (hv x nw sc sh) u
def upv : FVec Ideal S4096x4096 .f32 := maximumf (pre x nw sc sh u) zs
def actv : FVec Ideal S4096x4096 .f32 := mulf (upv x nw sc sh u) (upv x nw sc sh u)
def ffv : FVec Ideal S4096x1024 .f32 := Host.dotGeneral (F := Ideal) (φ₁ := .f32) (φ₂ := .f32) dot_S4096x4096_S4096x1024_S4096x1024_1_0_0_1_n_n none (actv x nw sc sh u) w
def dffv : FVec Ideal S4096x1024 .f32 := mulf (bc g) (shapeCast S4096x1024 d2 shapeCasts_S4096x1024_S4096x1024)
def dupv : FVec Ideal S4096x4096 .f32 :=
  select (cmpf .ogt (pre x nw sc sh u) zs) (mulf (Host.dotGeneral (F := Ideal) (φ₁ := .f32) (φ₂ := .f32) dot_S4096x1024_S4096x1024_S4096x4096_1_1_0_0_n_n none (dffv d2 g) w) (mulf (broadcastInDim S4096x4096 ![] bcast_S_S4096x4096 (constant S_ .f32 0x40000000#32)) (upv x nw sc sh u))) zs
def dhv : FVec Ideal S4096x1024 .f32 := Host.dotGeneral (F := Ideal) (φ₁ := .f32) (φ₂ := .f32) dot_S4096x4096_S1024x4096_S4096x1024_1_1_0_0_n_n none (dupv d2 x nw sc sh g u w) u
def dnv : FVec Ideal S4096x1024 .f32 := mulf (dhv d2 x nw sc sh g u w) (bc (one sc))
def dxnv : FVec Ideal S4096x1024 .f32 := mulf (dnv d2 x nw sc sh g u w) (bc nw)
def dx1v : FVec Ideal S4096x1024 .f32 :=
  addf d2 (addf (addf (mulf (dxnv d2 x nw sc sh g u w) (bt (rs x))) (mulf x (qv x (dxnv d2 x nw sc sh g u w)))) (mulf (qv x (dxnv d2 x nw sc sh g u w)) x))
def rowsv : FVec Ideal S8x1024 .f32 :=
  concatenate S8x1024 0 [⟨S4x1024, concatenate S4x1024 0 [⟨S1x1024, tot (dhv d2 x nw sc sh g u w)⟩, ⟨S1x1024, tot (mulf (mulf (mulf x (bt (rs x))) (bc nw)) (dhv d2 x nw sc sh g u w))⟩,
    ⟨S1x1024, tot (mulf (shapeCast S4096x1024 d2 shapeCasts_S4096x1024_S4096x1024) (ffv x nw sc sh u w))⟩, ⟨S1x1024, tot (mulf (mulf x (bt (rs x))) (dnv d2 x nw sc sh g u w))⟩] concatenates_S1x1024_S1x1024_S1x1024_S1x1024_S4x1024_d0⟩,
    ⟨S4x1024, broadcastInDim S4x1024 ![] bcast_S_S4x1024 (constant S_ .f32 0x00000000#32)⟩] concatenates_S4x1024_S4x1024_S8x1024_d0

/-- The arguments' entries. -/
def B : MlpArgs where
  D2 i k := d2 (ix2 i k)
  X i k := x (ix2 i k)
  NW k := nw (ix1 k)
  SC k := sc (ix1 k)
  SH k := sh (ix1 k)
  G k := g (ix1 k)
  U k j := u (ix2 k j)
  W j k := w (ix2 j k)

theorem bc_at (v : FVec Ideal S1024 .f32) (i : Fin 4096) (k : Fin 1024) : bc v (ix2 i k) = v (ix1 k) := by unfold bc; pointwise
theorem bt_at (v : FVec Ideal S4096x1 .f32) (i : Fin 4096) (k : Fin 1024) : bt v (ix2 i k) = v (ix2 i 0) := by unfold bt; pointwise
theorem zs_at (i j : Fin 4096) : zs (ix2 i j) = 0 := by unfold zs; pointwise
theorem one_at (v : FVec Ideal S1024 .f32) (k : Fin 1024) : one v (ix1 k) = 1 + v (ix1 k) := by unfold one; pointwise
theorem ms_at (i : Fin 4096) : ms x (ix2 i 0) = msq (fun k => x (ix2 i k)) := by unfold ms msq; pointwise
theorem rs_at (i : Fin 4096) : rs x (ix2 i 0) = rinv (fun k => x (ix2 i k)) := by unfold rs ms rinv; pointwise
theorem tot_at (r : Fin 1) (k : Fin 1024) : tot x (ix2 r k) = ∑ i, x (ix2 i k) := by
  unfold tot; pointwise
  exact Fin.sum_univ_one _
theorem qv_at (d : FVec Ideal S4096x1024 .f32) (i : Fin 4096) (k : Fin 1024) : qv x d (ix2 i k)
    = Ideal.div ((∑ k, x (ix2 i k) * d (ix2 i k)) * (Ideal.ofBits FTy.f32 3204448256#32 * Ideal.div (rinv (fun k => x (ix2 i k))) (msq (fun k => x (ix2 i k))))) (Ideal.ofBits FTy.f32 1149239296#32) := by
  unfold qv; pointwise
  refine (Fin.sum_univ_one _).trans ?_
  simp only [rs_at, ms_at]
theorem hv_at (i : Fin 4096) (k : Fin 1024) : hv x nw sc sh (ix2 i k) = (B d2 x nw sc sh g u w).h i k := by
  unfold hv MlpArgs.h modn; pointwise
  simp only [bc_at, bt_at, one_at, rs_at, B]
theorem pre_at (i j : Fin 4096) : pre x nw sc sh u (ix2 i j) = ∑ k, (B d2 x nw sc sh g u w).h i k * u (ix2 k j) := by
  unfold pre; pointwise
  simp only [hv_at d2 x nw sc sh g u w]
theorem upv_at (i j : Fin 4096) : upv x nw sc sh u (ix2 i j) = (B d2 x nw sc sh g u w).up i j := by
  unfold upv MlpArgs.up; pointwise
  simp only [pre_at d2 x nw sc sh g u w, zs_at, B]
theorem actv_at (i j : Fin 4096) : actv x nw sc sh u (ix2 i j) = (B d2 x nw sc sh g u w).act i j := by
  unfold actv MlpArgs.act; pointwise
  simp only [upv_at d2 x nw sc sh g u w]
theorem ffv_at (i : Fin 4096) (k : Fin 1024) : ffv x nw sc sh u w (ix2 i k) = (B d2 x nw sc sh g u w).ff i k := by
  unfold ffv MlpArgs.ff; pointwise
  simp only [actv_at d2 x nw sc sh g u w, B]
theorem dffv_at (i : Fin 4096) (k : Fin 1024) : dffv d2 g (ix2 i k) = (B d2 x nw sc sh g u w).dff i k := by
  unfold dffv MlpArgs.dff; pointwise
  simp only [bc_at, B]
  exact mul_comm _ _
theorem gate (a p : EReal) : (if p > 0 then a * (Ideal.ofBits FTy.f32 1073741824#32 * max p 0) else 0) = a * (Ideal.ofBits FTy.f32 1073741824#32 * max p 0) := by
  by_cases h : p > 0
  · rw [if_pos h]
  · rw [if_neg h, max_eq_right (not_lt.mp h), mul_zero, mul_zero]
theorem dupv_at (i j : Fin 4096) : dupv d2 x nw sc sh g u w (ix2 i j) = (B d2 x nw sc sh g u w).dup i j := by
  unfold dupv MlpArgs.dup; pointwise
  simp only [upv_at d2 x nw sc sh g u w, pre_at d2 x nw sc sh g u w, zs_at, dffv_at d2 x nw sc sh g u w]
  exact gate _ _
theorem dhv_at (i : Fin 4096) (k : Fin 1024) : dhv d2 x nw sc sh g u w (ix2 i k) = (B d2 x nw sc sh g u w).dh i k := by
  unfold dhv MlpArgs.dh; pointwise
  simp only [dupv_at, B]
theorem dnv_at (i : Fin 4096) (k : Fin 1024) : dnv d2 x nw sc sh g u w (ix2 i k) = (B d2 x nw sc sh g u w).dh i k * (1 + sc (ix1 k)) := by
  unfold dnv; pointwise
  simp only [dhv_at, bc_at, one_at]
theorem dxnv_at (i : Fin 4096) (k : Fin 1024) : dxnv d2 x nw sc sh g u w (ix2 i k) = (B d2 x nw sc sh g u w).dxn i k := by
  unfold dxnv MlpArgs.dxn; pointwise
  simp only [dnv_at, bc_at, B]
theorem dx1v_at (i : Fin 4096) (k : Fin 1024) : dx1v d2 x nw sc sh g u w (ix2 i k) = (B d2 x nw sc sh g u w).dx1 i k := by
  unfold dx1v MlpArgs.dx1; pointwise
  simp only [dxnv_at, bt_at, rs_at]
  exact congrArg (d2 (ix2 i k) + ·) (dnorm_eq (fun k => x (ix2 i k)) _ k _ (by rw [qv_at]; simp only [dxnv_at]))
theorem rowsv_at (r : Fin 8) (k : Fin 1024) : rowsv d2 x nw sc sh g u w (ix2 r k) = (B d2 x nw sc sh g u w).rows 8 8 r k := by
  have e1 : ∀ i, dhv d2 x nw sc sh g u w (ix2 i k) = (B d2 x nw sc sh g u w).gsh k i := fun i => dhv_at _ _ _ _ _ _ _ _ i k
  have e2 : ∀ i, mulf (mulf (mulf x (bt (rs x))) (bc nw)) (dhv d2 x nw sc sh g u w) (ix2 i k) = (B d2 x nw sc sh g u w).gsc k i := fun i => by
    unfold MlpArgs.gsc; pointwise
    simp only [bt_at, bc_at, rs_at, dhv_at]
    exact mul_comm _ _
  have e3 : ∀ i, mulf d2 (ffv x nw sc sh u w) (ix2 i k) = (B d2 x nw sc sh g u w).gg k i := fun i => by
    unfold MlpArgs.gg; pointwise
    simp only [ffv_at d2 x nw sc sh g u w, B]
  have e4 : ∀ i, mulf (mulf x (bt (rs x))) (dnv d2 x nw sc sh g u w) (ix2 i k) = (B d2 x nw sc sh g u w).gnw k i := fun i => by
    unfold MlpArgs.gnw; pointwise
    simp only [bt_at, rs_at, dnv_at]
    rw [mul_assoc ((B d2 x nw sc sh g u w).dh i k * _)]
    exact mul_comm _ _
  unfold rowsv MlpArgs.rows
  simp only [part_all]
  pointwise
  simp only [tot_at, e1, e2, e3, e4]
  split_ifs <;> first | (exfalso; omega) | rfl

end Cert.Layer.MlpBack.Ref

end
-- ==== Proof.BackArgs.lean ====
/- The backward calls of the projections: their arguments' entries, and the results' entries as functions of them. -/
module

public import proofs.«01_k».proof.Proof.Norm

@[expose] public section

noncomputable section

namespace Cert.Layer

open Idealize.ShloMosaic Idealize.ShloMosaic.TcCoe

/-- The arguments of the output projection's backward call. -/
structure OutArgs where
  D : Fin 4096 → Fin 1024 → EReal
  OL : Fin 4096 → Fin 512 → EReal
  OG : Fin 4096 → Fin 512 → EReal
  G1 : Fin 1024 → EReal
  WO : Fin 1024 → Fin 1024 → EReal

namespace OutArgs
variable (A : OutArgs)

def mix (i : Fin 4096) (k : Fin 1024) : EReal :=
  (∑ x : Fin 512, A.OL i x * A.WO ⟨x.val, by omega⟩ k) + ∑ x : Fin 512, A.OG i x * A.WO ⟨512 + x.val, by omega⟩ k
def dmix (i : Fin 4096) (k : Fin 1024) : EReal := A.D i k * A.G1 k
def dol (i : Fin 4096) (j : Fin 512) : EReal := ∑ k, A.dmix i k * A.WO ⟨j.val, by omega⟩ k
def dog (i : Fin 4096) (j : Fin 512) : EReal := ∑ k, A.dmix i k * A.WO ⟨512 + j.val, by omega⟩ k
/-- What a token adds to the gate's gradient. -/
def gg (k : Fin 1024) (i : Fin 4096) : EReal := A.D i k * A.mix i k
/-- A row of the sums, over the first blocks of tokens. -/
def rows (n : ℕ) (r : Fin 8) (k : Fin 1024) : EReal := if r.val = 0 then part (A.gg k) n else 0
end OutArgs

/-- The arguments of the input projection's backward call. -/
structure ProjArgs where
  PL : Fin 4096 → Fin 1024 → EReal
  PQ : Fin 4096 → Fin 1536 → EReal
  PZ : Fin 4096 → Fin 512 → EReal
  PB : Fin 4096 → Fin 128 → EReal
  X : Fin 4096 → Fin 1024 → EReal
  D : Fin 4096 → Fin 1024 → EReal
  NW : Fin 1024 → EReal
  SC : Fin 1024 → EReal
  SH : Fin 1024 → EReal
  W : Fin 1024 → Fin 3080 → EReal

namespace ProjArgs
variable (A : ProjArgs)

/-- The gradient of the normalised tokens: the four slices of the projection's gradient, each against its columns of the weight. -/
def dh (i : Fin 4096) (k : Fin 1024) : EReal :=
  (∑ j : Fin 1024, A.PL i j * A.W k ⟨j.val, by omega⟩) + (∑ j : Fin 1536, A.PQ i j * A.W k ⟨1024 + j.val, by omega⟩)
    + (∑ j : Fin 512, A.PZ i j * A.W k ⟨2560 + j.val, by omega⟩) + ∑ j : Fin 128, A.PB i j * (if h : j.val < 8 then A.W k ⟨3072 + j.val, by omega⟩ else 0)
def hb (i : Fin 4096) (k : Fin 1024) : EReal := modn (A.X i) A.NW A.SC A.SH k
def dxn (i : Fin 4096) (k : Fin 1024) : EReal := A.dh i k * (1 + A.SC k) * A.NW k
def dx (i : Fin 4096) (k : Fin 1024) : EReal := A.D i k + dnorm (A.X i) (A.dxn i) k
/-- What a token adds to the gradients of the shift, the scale and the norm's weight. -/
def gsh (k : Fin 1024) (i : Fin 4096) : EReal := A.dh i k
def gsc (k : Fin 1024) (i : Fin 4096) : EReal := A.dh i k * (A.X i k * rinv (A.X i) * A.NW k)
def gnw (k : Fin 1024) (i : Fin 4096) : EReal := A.dh i k * (1 + A.SC k) * A.X i k * rinv (A.X i)
/-- A row of the sums, over the first blocks of tokens. -/
def rows (n : ℕ) (r : Fin 8) (k : Fin 1024) : EReal :=
  if r.val = 0 then part (A.gsh k) n else if r.val = 1 then part (A.gsc k) n else if r.val = 2 then part (A.gnw k) n else 0
end ProjArgs

end Cert.Layer

end
-- ==== Proof.ProjBackRun.lean ====
/- The cases of the input projection's backward body: what a point leaves in every result's block, as terms of its input blocks. -/
module

public import proofs.«01_k».proof.Proof.MlpArr
public import proofs.«01_k».proof.Proof.BackArgs
public import proofs.«01_k».proof.Proof.Gen.ProjBackIdeal.Value

@[expose] public section

set_option maxRecDepth 16384

noncomputable section

namespace Cert.Layer.ProjBack

open Idealize.ShloMosaic Idealize.ShloMosaic.TcCoe Cert.ProjBackIdeal Cert.ProjBackIdeal.Gen Cert.ProjBackIdeal.Value
open Cert.Layer.MlpBack (hz2 row0 get0 put0 get0_at put0_at row1 get1 put1 get1_at put1_at row2 get2 put2 get2_at put2_at whole_overlay)
open Cert.Scan.Voc (read_writes_overlay)

theorem hz3 : (![0, 0, 0] : Fin 3 → Nat) = fun _ => 0 := funext fun a => by fin_cases a <;> rfl

/-- A load after stores reads the stores laid over each other. -/
theorem readCov_foldr (v : View sig .tc .vmem S8x1024 .f32) (L : List (View.Piece (Elt Ideal) S8x1024 .f32)) (r : Rect S8x1024) :
    v.readCov (Val := Elt Ideal) L r.toLoadRect = View.ld (L.foldr (fun p x => p.1.overlay x p.2) (v.read (Elt Ideal) v.junk)) r := by
  unfold View.readCov
  rw [View.readAt_eq_ld, read_writes_overlay]
theorem fill0 {v : View sig .tc .vmem S8x1024 .f32} (Z : Vec Ideal S8x1024 .f32) :
    v.readCov (Val := Elt Ideal) [⟨Rect.unit (s := S8x1024) ![0, 0] ![8, 1024] inb_S8x1024_S8x1024_0_0, Z⟩] (Rect.unit (s := S8x1024) ![0, 0] ![1, 1024] inb_S8x1024_S1x1024_0_0).toLoadRect = get0 Z := by
  refine (readCov_foldr v _ row0).trans ?_
  simp only [List.foldr_cons, List.foldr_nil]
  rw [whole_overlay]
  rfl
theorem fill1 {v : View sig .tc .vmem S8x1024 .f32} (Z : Vec Ideal S8x1024 .f32) (a : Vec Ideal S1x1024 .f32) :
    v.readCov (Val := Elt Ideal) [⟨Rect.unit (s := S8x1024) ![0, 0] ![1, 1024] inb_S8x1024_S1x1024_0_0, a⟩, ⟨Rect.unit (s := S8x1024) ![0, 0] ![8, 1024] inb_S8x1024_S8x1024_0_0, Z⟩]
      (Rect.unit (s := S8x1024) ![1, 0] ![1, 1024] inb_S8x1024_S1x1024_1_0).toLoadRect = get1 (put0 Z a) := by
  refine (readCov_foldr v _ row1).trans ?_
  simp only [List.foldr_cons, List.foldr_nil]
  rw [whole_overlay]
  rfl
theorem fill2 {v : View sig .tc .vmem S8x1024 .f32} (Z : Vec Ideal S8x1024 .f32) (a b : Vec Ideal S1x1024 .f32) :
    v.readCov (Val := Elt Ideal) [⟨Rect.unit (s := S8x1024) ![1, 0] ![1, 1024] inb_S8x1024_S1x1024_1_0, b⟩, ⟨Rect.unit (s := S8x1024) ![0, 0] ![1, 1024] inb_S8x1024_S1x1024_0_0, a⟩,
      ⟨Rect.unit (s := S8x1024) ![0, 0] ![8, 1024] inb_S8x1024_S8x1024_0_0, Z⟩]
      (Rect.unit (s := S8x1024) ![2, 0] ![1, 1024] inb_S8x1024_S1x1024_2_0).toLoadRect = get2 (put1 (put0 Z a) b) := by
  refine (readCov_foldr v _ row2).trans ?_
  simp only [List.foldr_cons, List.foldr_nil]
  rw [whole_overlay]
  rfl

/-- The three slices of the weight's columns. -/
def wl (x : Vec Ideal S1x1024x3072 .bf16) : Vec Ideal S1x1024x1024 .bf16 := View.ld x (Rect.unit ![0, 0, 0] ![1, 1024, 1024] inb_S1x1024x3072_S1x1024x1024_0_0_0)
def wq (x : Vec Ideal S1x1024x3072 .bf16) : Vec Ideal S1x1024x1536 .bf16 := View.ld x (Rect.unit ![0, 0, 1024] ![1, 1024, 1536] inb_S1x1024x3072_S1x1024x1536_0_0_1024)
def wz (x : Vec Ideal S1x1024x3072 .bf16) : Vec Ideal S1x1024x512 .bf16 := View.ld x (Rect.unit ![0, 0, 2560] ![1, 1024, 512] inb_S1x1024x3072_S1x1024x512_0_0_2560)
theorem wl_at (x : Vec Ideal S1x1024x3072 .bf16) (k j : Fin 1024) : wl x (ix3 0 k j) = x (ix3 0 k (⟨j.val, by omega⟩ : Fin 3072)) :=
  View.ld_unit_apply_of x _ _ _ _ _ (by intro a; fin_cases a <;> simp)
theorem wq_at (x : Vec Ideal S1x1024x3072 .bf16) (k : Fin 1024) (j : Fin 1536) : wq x (ix3 0 k j) = x (ix3 0 k (⟨1024 + j.val, by omega⟩ : Fin 3072)) :=
  View.ld_unit_apply_of x _ _ _ _ _ (by intro a; fin_cases a <;> simp)
theorem wz_at (x : Vec Ideal S1x1024x3072 .bf16) (k : Fin 1024) (j : Fin 512) : wz x (ix3 0 k j) = x (ix3 0 k (⟨2560 + j.val, by omega⟩ : Fin 3072)) :=
  View.ld_unit_apply_of x _ _ _ _ _ (by intro a; fin_cases a <;> simp)

section outs
variable (c : Dev nD) (i : grid0.Coords) (arg1 : Memref sig .tc .vmem S512x1024 .bf16) (harg1 : arg1.IsWhole) (arg2 : Memref sig .tc .vmem S512x1536 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x3072 .bf16) (harg10 : arg10.IsWhole) (arg11 : Memref sig .tc .vmem S1x1024x128 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S8x1024 .f32) (harg14 : arg14.IsWhole) (x0 : Vec Ideal S512x1024 .bf16) (x1 : Vec Ideal S512x1536 .bf16) (x2 : Vec Ideal S512x512 .bf16) (x3 : Vec Ideal S512x128 .bf16) (x4 : Vec Ideal S512x1024 .f32) (x5 : Vec Ideal S512x1024 .f32) (x6 : Vec Ideal S1x1024 .f32) (x7 : Vec Ideal S1x1024 .f32) (x8 : Vec Ideal S1x1024 .f32) (x9 : Vec Ideal S1x1024x3072 .bf16) (x10 : Vec Ideal S1x1024x128 .bf16) (xo13 : Vec Ideal S8x1024 .f32)

theorem out_A_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
    = k0_pay1 (F := Ideal) (k0_pay12 (k0_pay6 x0 (wl x9) x1 (wq x9) x2 (wz x9) x3 x10) x4 x6 x7) (k0_pay13 x4) (k0_pay14 (k0_pay6 x0 (wl x9) x1 (wq x9) x2 (wz x9) x3 x10) x4 x6 x7) x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  exact View.canon_unit_zero (S := S512x1024) hz2 _ _
theorem out_A_12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
    = k0_pay9 (F := Ideal) x4 x6 x7 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  exact View.canon_unit_zero (S := S512x1024) hz2 _ _
theorem out_B_11 (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo13
    = k0_pay1 (F := Ideal) (k0_pay12 (k0_pay6 x0 (wl x9) x1 (wq x9) x2 (wz x9) x3 x10) x4 x6 x7) (k0_pay13 x4) (k0_pay14 (k0_pay6 x0 (wl x9) x1 (wq x9) x2 (wz x9) x3 x10) x4 x6 x7) x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  exact View.canon_unit_zero (S := S512x1024) hz2 _ _
theorem out_B_12 (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo13
    = k0_pay9 (F := Ideal) x4 x6 x7 x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  exact View.canon_unit_zero (S := S512x1024) hz2 _ _
theorem out_A_13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
    = put2 (put1 (put0 (k0_pay5 (F := Ideal)) (k0_pay2 (F := Ideal) (k0_pay6 x0 (wl x9) x1 (wq x9) x2 (wz x9) x3 x10) (get0 (k0_pay5 (F := Ideal))))) (k0_pay3 (F := Ideal) (k0_pay6 x0 (wl x9) x1 (wq x9) x2 (wz x9) x3 x10) (k0_pay8 x4 x6) (get1 (put0 (k0_pay5 (F := Ideal)) (k0_pay2 (F := Ideal) (k0_pay6 x0 (wl x9) x1 (wq x9) x2 (wz x9) x3 x10) (get0 (k0_pay5 (F := Ideal)))))))) (k0_pay4 (F := Ideal) x4 (k0_pay7 x4) (k0_pay10 (k0_pay6 x0 (wl x9) x1 (wq x9) x2 (wz x9) x3 x10) x7) (get2 (put1 (put0 (k0_pay5 (F := Ideal)) (k0_pay2 (F := Ideal) (k0_pay6 x0 (wl x9) x1 (wq x9) x2 (wz x9) x3 x10) (get0 (k0_pay5 (F := Ideal))))) (k0_pay3 (F := Ideal) (k0_pay6 x0 (wl x9) x1 (wq x9) x2 (wz x9) x3 x10) (k0_pay8 x4 x6) (get1 (put0 (k0_pay5 (F := Ideal)) (k0_pay2 (F := Ideal) (k0_pay6 x0 (wl x9) x1 (wq x9) x2 (wz x9) x3 x10) (get0 (k0_pay5 (F := Ideal)))))))))) := by
  unfold out0_A_13
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  rw [read_writes_overlay]
  simp only [List.foldr_cons, List.foldr_nil]
  rw [whole_overlay, fill0, fill1, fill2]
  rfl
theorem out_B_13 (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo13
    = put2 (put1 (put0 xo13 (k0_pay2 (F := Ideal) (k0_pay6 x0 (wl x9) x1 (wq x9) x2 (wz x9) x3 x10) (get0 xo13))) (k0_pay3 (F := Ideal) (k0_pay6 x0 (wl x9) x1 (wq x9) x2 (wz x9) x3 x10) (k0_pay8 x4 x6) (get1 xo13))) (k0_pay4 (F := Ideal) x4 (k0_pay7 x4) (k0_pay10 (k0_pay6 x0 (wl x9) x1 (wq x9) x2 (wz x9) x3 x10) x7) (get2 xo13)) := by
  unfold out0_B_13
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S1x1024) hz2, View.ld_unit_zero (S := S512x1536) hz2,
    View.ld_unit_zero (S := S512x512) hz2, View.ld_unit_zero (S := S512x128) hz2, View.ld_unit_zero (S := S1x1024x128) hz3, shapeCast_self]
  rw [read_writes_overlay, harg14.read_unread]
  simp only [List.foldr_cons, List.foldr_nil, row0, row1, row2, get0, get1, get2, put0, put1, put2, wl, wq, wz]
end outs

end Cert.Layer.ProjBack

end
-- ==== Proof.ProjBackKer.lean ====
/- The input projection's backward call: its result arrays, entry by entry. -/
module

public import proofs.«01_k».proof.Proof.ProjBackRun

@[expose] public section

set_option maxRecDepth 16384

noncomputable section

namespace Cert.Layer.ProjBack

open Idealize.ShloMosaic Idealize.ShloMosaic.TcCoe Cert.ProjBackIdeal Cert.ProjBackIdeal.Gen Cert.ProjBackIdeal.Value
open Cert.Layer.MlpBack (get0 put0 get0_at put0_at get1 put1 get1_at put1_at get2 put2 get2_at put2_at)

/-! ## The body's terms -/

theorem pay6_at (a : FVec Ideal S512x1024 .bf16) (u : FVec Ideal S1x1024x1024 .bf16) (b : FVec Ideal S512x1536 .bf16) (v : FVec Ideal S1x1024x1536 .bf16)
    (e : FVec Ideal S512x512 .bf16) (w : FVec Ideal S1x1024x512 .bf16) (f : FVec Ideal S512x128 .bf16) (z : FVec Ideal S1x1024x128 .bf16) (i : Fin 512) (k : Fin 1024) :
    k0_pay6 (F := Ideal) a u b v e w f z (ix2 i k)
      = (∑ j, a (ix2 i j) * u (ix3 0 k j)) + (∑ j, b (ix2 i j) * v (ix3 0 k j)) + (∑ j, e (ix2 i j) * w (ix3 0 k j)) + ∑ j, f (ix2 i j) * z (ix3 0 k j) := by
  pointwise [k0_pay6]
theorem pay7_at (x : FVec Ideal S512x1024 .f32) (i : Fin 512) : k0_pay7 (F := Ideal) x (ix2 i 0) = rinv (fun k => x (ix2 i k)) := by
  unfold rinv; pointwise [k0_pay7]
theorem pay8_at (x : FVec Ideal S512x1024 .f32) (nw : FVec Ideal S1x1024 .f32) (i : Fin 512) (k : Fin 1024) :
    k0_pay8 (F := Ideal) x nw (ix2 i k) = x (ix2 i k) * rinv (fun k => x (ix2 i k)) * nw (ix2 0 k) := by
  pointwise [k0_pay8]
  simp only [pay7_at]
theorem pay9_at (x : FVec Ideal S512x1024 .f32) (nw sc sh : FVec Ideal S1x1024 .f32) (i : Fin 512) (k : Fin 1024) :
    k0_pay9 (F := Ideal) x nw sc sh (ix2 i k) = modn (fun k => x (ix2 i k)) (fun k => nw (ix2 0 k)) (fun k => sc (ix2 0 k)) (fun k => sh (ix2 0 k)) k := by
  unfold modn; pointwise [k0_pay9]
  simp only [pay8_at]
theorem pay10_at (g : FVec Ideal S512x1024 .f32) (sc : FVec Ideal S1x1024 .f32) (i : Fin 512) (k : Fin 1024) :
    k0_pay10 (F := Ideal) g sc (ix2 i k) = g (ix2 i k) * (1 + sc (ix2 0 k)) := by
  pointwise [k0_pay10]
theorem pay11_at (g : FVec Ideal S512x1024 .f32) (nw sc : FVec Ideal S1x1024 .f32) (i : Fin 512) (k : Fin 1024) :
    k0_pay11 (F := Ideal) g nw sc (ix2 i k) = g (ix2 i k) * (1 + sc (ix2 0 k)) * nw (ix2 0 k) := by
  pointwise [k0_pay11]
  simp only [pay10_at]
theorem pay12_at (g x : FVec Ideal S512x1024 .f32) (nw sc : FVec Ideal S1x1024 .f32) (i : Fin 512) (k : Fin 1024) :
    k0_pay12 (F := Ideal) g x nw sc (ix2 i k) = rinv (fun k => x (ix2 i k)) * (g (ix2 i k) * (1 + sc (ix2 0 k)) * nw (ix2 0 k)) := by
  pointwise [k0_pay12]
  simp only [pay11_at, pay7_at]
theorem pay13_at (x : FVec Ideal S512x1024 .f32) (i : Fin 512) (k : Fin 1024) :
    k0_pay13 (F := Ideal) x (ix2 i k) = x (ix2 i k) * (rinv (fun k => x (ix2 i k)) * rinv (fun k => x (ix2 i k)) * rinv (fun k => x (ix2 i k))) := by
  pointwise [k0_pay13]
  simp only [pay7_at]
theorem pay14_at (g x : FVec Ideal S512x1024 .f32) (nw sc : FVec Ideal S1x1024 .f32) (i : Fin 512) :
    k0_pay14 (F := Ideal) g x nw sc (ix1 i) = ∑ k, g (ix2 i k) * (1 + sc (ix2 0 k)) * nw (ix2 0 k) * x (ix2 i k) := by
  pointwise [k0_pay14]
  simp only [pay11_at]
theorem pay1_at (g x d : FVec Ideal S512x1024 .f32) (nw sc : FVec Ideal S1x1024 .f32) (i : Fin 512) (k : Fin 1024) :
    k0_pay1 (F := Ideal) (k0_pay12 g x nw sc) (k0_pay13 x) (k0_pay14 g x nw sc) d (ix2 i k)
      = d (ix2 i k) + dnorm (fun k => x (ix2 i k)) (fun k => g (ix2 i k) * (1 + sc (ix2 0 k)) * nw (ix2 0 k)) k := by
  unfold dnorm
  pointwise [k0_pay1]
  simp only [pay12_at, pay13_at, pay14_at]
theorem pay2_at (g : FVec Ideal S512x1024 .f32) (v : FVec Ideal S1x1024 .f32) (k : Fin 1024) : k0_pay2 (F := Ideal) g v (ix2 0 k) = v (ix2 0 k) + ∑ i, g (ix2 i k) := by
  pointwise [k0_pay2]
theorem pay3_at (g x : FVec Ideal S512x1024 .f32) (nw v : FVec Ideal S1x1024 .f32) (k : Fin 1024) :
    k0_pay3 (F := Ideal) g (k0_pay8 x nw) v (ix2 0 k) = v (ix2 0 k) + ∑ i, g (ix2 i k) * (x (ix2 i k) * rinv (fun k => x (ix2 i k)) * nw (ix2 0 k)) := by
  pointwise [k0_pay3]
  simp only [pay8_at]
theorem pay4_at (g x : FVec Ideal S512x1024 .f32) (sc v : FVec Ideal S1x1024 .f32) (k : Fin 1024) :
    k0_pay4 (F := Ideal) x (k0_pay7 x) (k0_pay10 g sc) v (ix2 0 k) = v (ix2 0 k) + ∑ i, g (ix2 i k) * (1 + sc (ix2 0 k)) * x (ix2 i k) * rinv (fun k => x (ix2 i k)) := by
  pointwise [k0_pay4]
  simp only [pay7_at, pay10_at]
theorem pay5_at (r : Fin 8) (k : Fin 1024) : k0_pay5 (F := Ideal) (ix2 r k) = 0 := by
  pointwise [k0_pay5]

/-! ## The blocks -/

theorem idxA : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0, 0] ∧ win0_10.index t = ![0, 0, 0] ∧ win0_11.index t = ![t.val, 0] ∧ win0_12.index t = ![t.val, 0] ∧ win0_13.index t = ![0, 0] := by
  decide +kernel

variable (m : (ℓ : Loc nD τ sig) → Buf (Elt Ideal) ℓ) (c : Dev nD)

/-- The arguments' entries. -/
def A : ProjArgs where
  PL i k := m ((c.tc : Thread nD τ).loc main_arg0) (ix2 i k)
  PQ i k := m ((c.tc : Thread nD τ).loc main_arg1) (ix2 i k)
  PZ i k := m ((c.tc : Thread nD τ).loc main_arg2) (ix2 i k)
  PB i k := m ((c.tc : Thread nD τ).loc main_arg3) (ix2 i k)
  X i k := m ((c.tc : Thread nD τ).loc main_arg4) (ix2 i k)
  D i k := m ((c.tc : Thread nD τ).loc main_arg5) (ix2 i k)
  NW k := m ((c.tc : Thread nD τ).loc main_arg6) (ix1 k)
  SC k := m ((c.tc : Thread nD τ).loc main_arg7) (ix1 k)
  SH k := m ((c.tc : Thread nD τ).loc main_arg8) (ix1 k)
  W k j := m ((c.tc : Thread nD τ).loc main_arg9) (ix2 k j)

theorem v4_at (i : Fin 4096) (j : Fin 1024) : V m c main_v4 (ix2 i j) = (A m c).PL i j := by
  dsimp only [A, V, hostOps0, hostOps0_1, hostOps0_2, List.flatten_cons, List.flatten_nil, List.append_nil, List.cons_append, List.nil_append]
  entry_read; pointwise
theorem v5_at (i : Fin 4096) (j : Fin 1536) : V m c main_v5 (ix2 i j) = (A m c).PQ i j := by
  dsimp only [A, V, hostOps0, hostOps0_1, hostOps0_2, List.flatten_cons, List.flatten_nil, List.append_nil, List.cons_append, List.nil_append]
  entry_read; pointwise
theorem v6_at (i : Fin 4096) (j : Fin 512) : V m c main_v6 (ix2 i j) = (A m c).PZ i j := by
  dsimp only [A, V, hostOps0, hostOps0_1, hostOps0_2, List.flatten_cons, List.flatten_nil, List.append_nil, List.cons_append, List.nil_append]
  entry_read; pointwise
theorem v7_at (i : Fin 4096) (j : Fin 128) : V m c main_v7 (ix2 i j) = (A m c).PB i j := by
  dsimp only [A, V, hostOps0, hostOps0_1, hostOps0_2, List.flatten_cons, List.flatten_nil, List.append_nil, List.cons_append, List.nil_append]
  entry_read; pointwise
theorem v8_at (k : Fin 1024) : V m c main_v8 (ix2 0 k) = (A m c).NW k := by
  dsimp only [A, V, hostOps0, hostOps0_1, hostOps0_2, List.flatten_cons, List.flatten_nil, List.append_nil, List.cons_append, List.nil_append]
  entry_read; pointwise
theorem v9_at (k : Fin 1024) : V m c main_v9 (ix2 0 k) = (A m c).SC k := by
  dsimp only [A, V, hostOps0, hostOps0_1, hostOps0_2, List.flatten_cons, List.flatten_nil, List.append_nil, List.cons_append, List.nil_append]
  entry_read; pointwise
theorem v10_at (k : Fin 1024) : V m c main_v10 (ix2 0 k) = (A m c).SH k := by
  dsimp only [A, V, hostOps0, hostOps0_1, hostOps0_2, List.flatten_cons, List.flatten_nil, List.append_nil, List.cons_append, List.nil_append]
  entry_read; pointwise
theorem v1_at (k : Fin 1024) (j : Fin 3080) : V m c main_v1 (ix3 0 k j) = (A m c).W k j := by
  dsimp only [A, V, hostOps0, hostOps0_1, hostOps0_2, List.flatten_cons, List.flatten_nil, List.append_nil, List.cons_append, List.nil_append]
  entry_read; pointwise
theorem v3_at (k : Fin 1024) (j : Fin 128) : V m c main_v3 (ix3 0 k j) = if h : j.val < 8 then (A m c).W k ⟨3072 + j.val, by omega⟩ else 0 := by
  dsimp only [A, V, hostOps0, hostOps0_1, hostOps0_2, List.flatten_cons, List.flatten_nil, List.append_nil, List.cons_append, List.nil_append]
  entry_read; pointwise
  show pad S1x1024x128 ![0, 0, 0] ![0, 0, 120] ![0, 0, 0]
    (extractStridedSlice S1x1024x8 ![0, 0, 3072] (fun i => m (c, Proc.tc.devRef main_arg9) (ix2 (i 1) (i 2)) : FVec Ideal S1x1024x3080 .bf16) slices_S1x1024x3080_S1x1024x8_0_0_3072)
    (sitofp .bf16 (constantI S_ 32 0#32) : FVec Ideal S_ .bf16) pads_S1x1024x8_S1x1024x128_000_000_01200 h_S_ (ix3 0 k j) = _
  pointwise
  simp only [sitofp_zero, Nat.add_comm]

theorem tok_lt (t : Fin cfg0.N) (i : Fin 512) : 512 * t.val + i.val < 4096 := by
  have hN : t.val < 8 := lt_of_lt_of_eq t.isLt (show cfg0.N = 8 from N_0)
  omega
/-- The token of a point's row. -/
def tok (t : Fin cfg0.N) (i : Fin 512) : Fin 4096 := ⟨512 * t.val + i.val, tok_lt t i⟩

variable (t : Fin cfg0.N)

theorem blk0 (i : Fin 512) (j : Fin 1024) : iblk m c 0 t (ix2 i j) = (A m c).PL (tok t i) j := by
  rw [← v4_at m c]
  refine congrArg (V m c main_v4) ?_
  blk_ext [tok, idxA t]
  all_goals omega
theorem blk1 (i : Fin 512) (j : Fin 1536) : iblk m c 1 t (ix2 i j) = (A m c).PQ (tok t i) j := by
  rw [← v5_at m c]
  refine congrArg (V m c main_v5) ?_
  blk_ext [tok, idxA t]
  all_goals omega
theorem blk2 (i : Fin 512) (j : Fin 512) : iblk m c 2 t (ix2 i j) = (A m c).PZ (tok t i) j := by
  rw [← v6_at m c]
  refine congrArg (V m c main_v6) ?_
  blk_ext [tok, idxA t]
  all_goals omega
theorem blk3 (i : Fin 512) (j : Fin 128) : iblk m c 3 t (ix2 i j) = (A m c).PB (tok t i) j := by
  rw [← v7_at m c]
  refine congrArg (V m c main_v7) ?_
  blk_ext [tok, idxA t]
  all_goals omega
theorem blk4 (i : Fin 512) (k : Fin 1024) : iblk m c 4 t (ix2 i k) = (A m c).X (tok t i) k := by
  blk_ext [iblk, V, A, tok, idxA t]
  all_goals omega
theorem blk5 (i : Fin 512) (k : Fin 1024) : iblk m c 5 t (ix2 i k) = (A m c).D (tok t i) k := by
  blk_ext [iblk, V, A, tok, idxA t]
  all_goals omega
theorem blk6 (k : Fin 1024) : iblk m c 6 t (ix2 0 k) = (A m c).NW k := by
  rw [← v8_at m c]
  refine congrArg (V m c main_v8) ?_
  blk_ext [idxA t]
theorem blk7 (k : Fin 1024) : iblk m c 7 t (ix2 0 k) = (A m c).SC k := by
  rw [← v9_at m c]
  refine congrArg (V m c main_v9) ?_
  blk_ext [idxA t]
theorem blk8 (k : Fin 1024) : iblk m c 8 t (ix2 0 k) = (A m c).SH k := by
  rw [← v10_at m c]
  refine congrArg (V m c main_v10) ?_
  blk_ext [idxA t]
theorem blk9 (k : Fin 1024) (j : Fin 3072) : X0_9 m c t (ix3 0 k j) = (A m c).W k ⟨j.val, by omega⟩ := by
  rw [← v1_at m c]
  unfold X0_9 Pipeline.Window.fill
  rw [dif_pos (moved0_9 t _)]
  refine congrArg (V m c main_v1) ?_
  blk_ext [idxA t]
theorem blk10 (k : Fin 1024) (j : Fin 128) : iblk m c 10 t (ix3 0 k j) = if h : j.val < 8 then (A m c).W k ⟨3072 + j.val, by omega⟩ else 0 := by
  rw [← v3_at m c]
  refine congrArg (V m c main_v3) ?_
  blk_ext [idxA t]

/-! ## What a point leaves -/

/-- A point's gradient of its normalised tokens. -/
def DH : FVec Ideal S512x1024 .f32 :=
  k0_pay6 (F := Ideal) (iblk m c 0 t) (wl (X0_9 m c t)) (iblk m c 1 t) (wq (X0_9 m c t)) (iblk m c 2 t) (wz (X0_9 m c t)) (iblk m c 3 t) (iblk m c 10 t)
theorem DH_at (i : Fin 512) (k : Fin 1024) : DH m c t (ix2 i k) = (A m c).dh (tok t i) k := by
  unfold DH ProjArgs.dh
  rw [pay6_at]
  simp only [wl_at, wq_at, wz_at, blk0 m c t, blk1 m c t, blk2 m c t, blk3 m c t, blk9 m c t, blk10 m c t]
theorem dxB_at (i : Fin 512) (k : Fin 1024) : k0_pay1 (F := Ideal) (k0_pay12 (DH m c t) (iblk m c 4 t) (iblk m c 6 t) (iblk m c 7 t)) (k0_pay13 (iblk m c 4 t))
    (k0_pay14 (DH m c t) (iblk m c 4 t) (iblk m c 6 t) (iblk m c 7 t)) (iblk m c 5 t) (ix2 i k) = (A m c).dx (tok t i) k := by
  rw [pay1_at]
  simp only [DH_at m c t, blk4 m c t, blk5 m c t, blk6 m c t, blk7 m c t]
  rfl
theorem hbB_at (i : Fin 512) (k : Fin 1024) : k0_pay9 (F := Ideal) (iblk m c 4 t) (iblk m c 6 t) (iblk m c 7 t) (iblk m c 8 t) (ix2 i k) = (A m c).hb (tok t i) k := by
  rw [pay9_at]
  simp only [blk4 m c t, blk6 m c t, blk7 m c t, blk8 m c t]
  rfl

theorem dx_at (i : Fin 512) (k : Fin 1024) : (outsAt0 m c t.val t.isLt).1 (ix2 i k) = (A m c).dx (tok t i) k := by
  by_cases h0 : t.val % 8 = 0
  · rw [outsAt0_A m c t h0]
    dsimp only
    rw [out_A_11]
    exact dxB_at m c t i k
  · rw [outsAt0_B m c t h0]
    dsimp only
    rw [out_B_11]
    exact dxB_at m c t i k
theorem hb_at (i : Fin 512) (k : Fin 1024) : (outsAt0 m c t.val t.isLt).2.1 (ix2 i k) = (A m c).hb (tok t i) k := by
  by_cases h0 : t.val % 8 = 0
  · rw [outsAt0_A m c t h0]
    dsimp only
    rw [out_A_12]
    exact hbB_at m c t i k
  · rw [outsAt0_B m c t h0]
    dsimp only
    rw [out_B_12]
    exact hbB_at m c t i k

theorem sumSh (k : Fin 1024) : (∑ i : Fin 512, (A m c).dh (tok t i) k) = blk ((A m c).gsh k) t.val := (blk_eq ((A m c).gsh k) t.val (tok_lt t)).symm
theorem sumSc (k : Fin 1024) : (∑ i : Fin 512, (A m c).dh (tok t i) k * ((A m c).X (tok t i) k * rinv (fun k => (A m c).X (tok t i) k) * (A m c).NW k)) = blk ((A m c).gsc k) t.val :=
  (blk_eq ((A m c).gsc k) t.val (tok_lt t)).symm
theorem sumNw (k : Fin 1024) : (∑ i : Fin 512, (A m c).dh (tok t i) k * (1 + (A m c).SC k) * (A m c).X (tok t i) k * rinv (fun k => (A m c).X (tok t i) k)) = blk ((A m c).gnw k) t.val :=
  (blk_eq ((A m c).gnw k) t.val (tok_lt t)).symm

/-- The rows of the sums, when a point adds its block to them. -/
theorem rowsA_at (r : Fin 8) (k : Fin 1024) : (put2 (put1 (put0 (k0_pay5 (F := Ideal)) (k0_pay2 (F := Ideal) (DH m c t) (get0 (k0_pay5 (F := Ideal))))) (k0_pay3 (F := Ideal) (DH m c t) (k0_pay8 (iblk m c 4 t) (iblk m c 6 t)) (get1 (put0 (k0_pay5 (F := Ideal)) (k0_pay2 (F := Ideal) (DH m c t) (get0 (k0_pay5 (F := Ideal)))))))) (k0_pay4 (F := Ideal) (iblk m c 4 t) (k0_pay7 (iblk m c 4 t)) (k0_pay10 (DH m c t) (iblk m c 7 t)) (get2 (put1 (put0 (k0_pay5 (F := Ideal)) (k0_pay2 (F := Ideal) (DH m c t) (get0 (k0_pay5 (F := Ideal))))) (k0_pay3 (F := Ideal) (DH m c t) (k0_pay8 (iblk m c 4 t) (iblk m c 6 t)) (get1 (put0 (k0_pay5 (F := Ideal)) (k0_pay2 (F := Ideal) (DH m c t) (get0 (k0_pay5 (F := Ideal))))))))))) (ix2 r k)
    = if r.val = 0 then blk ((A m c).gsh k) t.val else if r.val = 1 then blk ((A m c).gsc k) t.val else if r.val = 2 then blk ((A m c).gnw k) t.val else 0 := by
  rw [put2_at, put1_at, put0_at, pay2_at, pay3_at, pay4_at, get0_at, get1_at, get2_at, put1_at, put0_at, pay5_at]
  simp only [put0_at, pay5_at, DH_at m c t, blk4 m c t, blk6 m c t, blk7 m c t, sumSh, sumSc, sumNw]
  split_ifs <;> first | (exfalso; omega) | simp_all
theorem rowsB_at (z : Vec Ideal S8x1024 .f32) (r : Fin 8) (k : Fin 1024) : (put2 (put1 (put0 z (k0_pay2 (F := Ideal) (DH m c t) (get0 z))) (k0_pay3 (F := Ideal) (DH m c t) (k0_pay8 (iblk m c 4 t) (iblk m c 6 t)) (get1 z))) (k0_pay4 (F := Ideal) (iblk m c 4 t) (k0_pay7 (iblk m c 4 t)) (k0_pay10 (DH m c t) (iblk m c 7 t)) (get2 z))) (ix2 r k)
    = if r.val = 0 then z (ix2 0 k) + blk ((A m c).gsh k) t.val else if r.val = 1 then z (ix2 1 k) + blk ((A m c).gsc k) t.val else if r.val = 2 then z (ix2 2 k) + blk ((A m c).gnw k) t.val else z (ix2 r k) := by
  rw [put2_at, put1_at, put0_at, pay2_at, pay3_at, pay4_at, get0_at, get1_at, get2_at]
  simp only [DH_at m c t, blk4 m c t, blk6 m c t, blk7 m c t, sumSh, sumSc, sumNw]
  split_ifs <;> first | (exfalso; omega) | rfl

/-- The sums over the tokens, after a point. -/
theorem rows_at : ∀ (n : ℕ) (hn : n < cfg0.N) (r : Fin 8) (k : Fin 1024), (outsAt0 m c n hn).2.2 (ix2 r k) = (A m c).rows (n + 1) r k := by
  intro n
  induction n with
  | zero =>
    intro hn r k
    refine Eq.trans (congrFun (congrArg (fun z => z.2.2) (outsAt0_A m c ⟨0, hn⟩ rfl)) (ix2 r k)) ?_
    dsimp only
    rw [out_A_13]
    refine (rowsA_at m c ⟨0, hn⟩ r k).trans ?_
    unfold ProjArgs.rows
    simp only [part_succ _ 0, part_zero, zero_add]
  | succ n ih =>
    intro hn r k
    have hp : n < cfg0.N := Nat.lt_of_succ_lt hn
    have h0 : ¬(⟨n + 1, hn⟩ : Fin cfg0.N).val % 8 = 0 := by
      have hN : n + 1 < 8 := lt_of_lt_of_eq hn (show cfg0.N = 8 from N_0)
      show ¬(n + 1) % 8 = 0; omega
    refine Eq.trans (congrFun (congrArg (fun z => z.2.2) (outsAt0_B m c ⟨n + 1, hn⟩ h0)) (ix2 r k)) ?_
    dsimp only [Nat.add_sub_cancel]
    rw [out_B_13]
    refine (rowsB_at m c ⟨n + 1, hn⟩ (outsAt0 m c n hp).2.2 r k).trans ?_
    rw [ih hp, ih hp, ih hp, ih hp]
    unfold ProjArgs.rows
    simp only [part_succ _ (n + 1)]
    split_ifs <;> first | (exfalso; omega) | rfl

/-! ## The arrays -/

theorem pt_lt (i : Fin 4096) : i.val / 512 < cfg0.N := lt_of_lt_of_eq (by omega : i.val / 512 < 8) (show 8 = cfg0.N from N_0.symm)

def dxA : Buf (Elt Ideal) ((c : Thread nD τ).loc main_v11_0) := fun y => (A m c).dx (y 0) (y 1)
theorem dx_flushed (t : Fin cfg0.N) (hf : (cfg0.win 11).flush t = true) :
    (dats m 0 c).flushed 11 t = ((cfg0.win 11).blk t).view.read (Elt Ideal) (dxA m c) := by
  have hN : t.val < 8 := lt_of_lt_of_eq t.isLt (show cfg0.N = 8 from N_0)
  rw [flushed11]
  funext y
  refine Eq.trans (show _ = (outsAt0 m c t.val t.isLt).1 (ix2 (y 0) (y 1)) from congrArg (outsAt0 m c t.val t.isLt).1 (eta2 y)) ?_
  refine (dx_at m c t (y 0) (y 1)).trans ?_
  refine congrArg (dxA m c) (a₁ := ix2 (tok t (y 0)) (y 1)) ?_
  blk_ext [tok, idxA t]
  all_goals omega
theorem dx_arr (i : Fin 4096) (k : Fin 1024) : (dats m 0 c).arrAt 11 cfg0.N (ix2 i k) = (A m c).dx i k := by
  have ht := pt_lt i
  have b := congrFun ((dats m 0 c).read_blk_arrAt 11 (dxA m c) (dx_flushed m c) ⟨i.val / 512, ht⟩ (flush0_11 _)) (ix2 (⟨i.val % 512, by omega⟩ : Fin 512) k)
  have e : ix2 i k = ((cfg0.win 11).blk ⟨i.val / 512, ht⟩).view.emb (ix2 (⟨i.val % 512, by omega⟩ : Fin 512) k) := by
    blk_ext [idxA ⟨i.val / 512, ht⟩]
    all_goals omega
  refine Eq.trans (congrArg ((dats m 0 c).arrAt 11 cfg0.N) e) (b.trans ?_)
  exact (congrArg (dxA m c) e).symm

def hbA : Buf (Elt Ideal) ((c : Thread nD τ).loc main_v11_1) := fun y => (A m c).hb (y 0) (y 1)
theorem hb_flushed (t : Fin cfg0.N) (hf : (cfg0.win 12).flush t = true) :
    (dats m 0 c).flushed 12 t = ((cfg0.win 12).blk t).view.read (Elt Ideal) (hbA m c) := by
  have hN : t.val < 8 := lt_of_lt_of_eq t.isLt (show cfg0.N = 8 from N_0)
  rw [flushed12]
  funext y
  refine Eq.trans (show _ = (outsAt0 m c t.val t.isLt).2.1 (ix2 (y 0) (y 1)) from congrArg (outsAt0 m c t.val t.isLt).2.1 (eta2 y)) ?_
  refine (hb_at m c t (y 0) (y 1)).trans ?_
  refine congrArg (hbA m c) (a₁ := ix2 (tok t (y 0)) (y 1)) ?_
  blk_ext [tok, idxA t]
  all_goals omega
theorem hb_arr (i : Fin 4096) (k : Fin 1024) : (dats m 0 c).arrAt 12 cfg0.N (ix2 i k) = (A m c).hb i k := by
  have ht := pt_lt i
  have b := congrFun ((dats m 0 c).read_blk_arrAt 12 (hbA m c) (hb_flushed m c) ⟨i.val / 512, ht⟩ (flush0_12 _)) (ix2 (⟨i.val % 512, by omega⟩ : Fin 512) k)
  have e : ix2 i k = ((cfg0.win 12).blk ⟨i.val / 512, ht⟩).view.emb (ix2 (⟨i.val % 512, by omega⟩ : Fin 512) k) := by
    blk_ext [idxA ⟨i.val / 512, ht⟩]
    all_goals omega
  refine Eq.trans (congrArg ((dats m 0 c).arrAt 12 cfg0.N) e) (b.trans ?_)
  exact (congrArg (hbA m c) e).symm

def rowsA : Buf (Elt Ideal) ((c : Thread nD τ).loc main_v11_2) := fun y => (A m c).rows 8 (y 0) (y 1)
theorem rows_flushed (t : Fin cfg0.N) (hf : (cfg0.win 13).flush t = true) :
    (dats m 0 c).flushed 13 t = ((cfg0.win 13).blk t).view.read (Elt Ideal) (rowsA m c) := by
  have hN : t.val < 8 := lt_of_lt_of_eq t.isLt (show cfg0.N = 8 from N_0)
  have ht : t.val % 8 = 7 := (flush0_13 t).mp hf
  have e1 : t.val + 1 = 8 := by omega
  rw [flushed13]
  funext y
  refine Eq.trans (show _ = (outsAt0 m c t.val t.isLt).2.2 (ix2 (y 0) (y 1)) from congrArg (outsAt0 m c t.val t.isLt).2.2 (eta2 y)) ?_
  refine (rows_at m c t.val t.isLt (y 0) (y 1)).trans ?_
  rw [e1]
  refine congrArg (rowsA m c) (a₁ := ix2 (y 0) (y 1)) ?_
  blk_ext [idxA t]
theorem rows_arr (r : Fin 8) (k : Fin 1024) : (dats m 0 c).arrAt 13 cfg0.N (ix2 r k) = (A m c).rows 8 r k := by
  have last : ∀ t : Fin cfg0.N, t.val % 8 = 7 → (dats m 0 c).arrAt 13 cfg0.N (ix2 r k) = (A m c).rows 8 r k := by
    intro t ht
    have b := congrFun ((dats m 0 c).read_blk_arrAt 13 (rowsA m c) (rows_flushed m c) t ((flush0_13 _).mpr ht)) (ix2 r k)
    have e : ix2 r k = ((cfg0.win 13).blk t).view.emb (ix2 r k) := by
      blk_ext [idxA t]
    refine Eq.trans (congrArg ((dats m 0 c).arrAt 13 cfg0.N) e) (b.trans ?_)
    exact (congrArg (rowsA m c) e).symm
  exact last ⟨7, lt_of_lt_of_eq (by omega : 7 < 8) (show 8 = cfg0.N from N_0.symm)⟩ rfl

end Cert.Layer.ProjBack

end
-- ==== Proof.ProjBackRef.lean ====
/- The input projection's backward call: the reference's arrays, entry by entry. -/
module

public import proofs.«01_k».proof.Proof.BackArgs
public import proofs.«01_k».proof.Proof.Voc
public import proofs.«01_k».proof.Proof.Gen.ProjBackReferenceIdeal.Run

@[expose] public section

set_option maxRecDepth 16384

noncomputable section

namespace Cert.Layer.ProjBack.Ref

open Idealize.ShloMosaic Idealize.ShloMosaic.TcCoe Cert.ProjBackReferenceIdeal Cert.ProjBackReferenceIdeal.Gen

/-- A row repeated over the tokens. -/
def bc (v : FVec Ideal S1024 .f32) : FVec Ideal S4096x1024 .f32 :=
  broadcastInDim S4096x1024 ![0, 1] bcast_S1x1024_S4096x1024_0_1 (broadcastInDim S1x1024 ![1] bcast_S1024_S1x1024_1 v)
/-- A column repeated over the features. -/
def bt (v : FVec Ideal S4096x1 .f32) : FVec Ideal S4096x1024 .f32 := broadcastInDim S4096x1024 ![0, 1] bcast_S4096x1_S4096x1024_0_1 v
def one (v : FVec Ideal S1024 .f32) : FVec Ideal S1024 .f32 := addf (broadcastInDim S1024 ![] bcast_S_S1024 (constant S_ .f32 0x3F800000#32)) v
def ms (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rs (x : FVec Ideal S4096x1024 .f32) : FVec Ideal S4096x1 .f32 := Host.rsqrt (ms x)
/-- The sum of an array over the tokens. -/
def tot (x : FVec Ideal S4096x1024 .f32) : FVec Ideal S1x1024 .f32 :=
  broadcastInDim S1x1024 ![1] bcast_S1024_S1x1024_1 (Host.reduceAdd (shapeCast _ (Host.reduceAdd x (constant S_ .f32 0x00000000#32) reducesTo_S4096x1024_S1024_d0 h_S_) shapeCasts_S1024_S1x1024) (constant S_ .f32 0x00000000#32) reducesTo_S1x1024_S1024_d0 h_S_)

/-- The coefficient with which a row's own entries come back through its mean square. -/
def qv (x d : FVec Ideal S4096x1024 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (rs x) (ms x)))) (broadcastInDim S4096x1 ![] bcast_S_S4096x1 (constant S_ .f32 0x44800000#32))) (constant S_ .f32 0x00000000#32) reducesTo_S4096x1_S4096_d1 h_S_)

variable (pl : FVec Ideal S4096x1024 .f32) (pq : FVec Ideal S4096x1536 .f32) (pz : FVec Ideal S4096x512 .f32) (pb : FVec Ideal S4096x128 .f32)
  (x d : FVec Ideal S4096x1024 .f32) (nw sc sh : FVec Ideal S1024 .f32) (w : FVec Ideal S1024x3080 .f32)

def hbv : FVec Ideal S4096x1024 .f32 := addf (mulf (mulf (mulf x (bt (rs x))) (bc nw)) (bc (one sc))) (bc sh)
/-- The weight's 3080 columns, and 120 of zeros. -/
def wp : FVec Ideal S1024x3200 .f32 := pad S1024x3200 ![0, 0] ![0, 120] ![0, 0] w (sitofp .f32 (constantI S_ 32 0#32) : FVec Ideal S_ .f32) pads_S1024x3080_S1024x3200_000_01200 h_S_
def dpv : FVec Ideal S4096x3200 .f32 :=
  concatenate S4096x3200 1 [⟨S4096x1024, pl⟩, ⟨S4096x1536, pq⟩, ⟨S4096x512, pz⟩, ⟨S4096x128, pb⟩] concatenates_S4096x1024_S4096x1536_S4096x512_S4096x128_S4096x3200_d1
def dhv : FVec Ideal S4096x1024 .f32 := Host.dotGeneral (F := Ideal) (φ₁ := .f32) (φ₂ := .f32) dot_S4096x3200_S1024x3200_S4096x1024_1_1_0_0_n_n none (dpv pl pq pz pb) (wp w)
def dnv : FVec Ideal S4096x1024 .f32 := mulf (dhv pl pq pz pb w) (bc (one sc))
def dxnv : FVec Ideal S4096x1024 .f32 := mulf (dnv pl pq pz pb sc w) (bc nw)
def dxv : FVec Ideal S4096x1024 .f32 :=
  addf d (addf (addf (mulf (dxnv pl pq pz pb nw sc w) (bt (rs x))) (mulf x (qv x (dxnv pl pq pz pb nw sc w)))) (mulf (qv x (dxnv pl pq pz pb nw sc w)) x))
def rowsv : FVec Ideal S8x1024 .f32 :=
  concatenate S8x1024 0 [⟨S3x1024, concatenate S3x1024 0 [⟨S1x1024, tot (dhv pl pq pz pb w)⟩, ⟨S1x1024, tot (mulf (mulf (mulf x (bt (rs x))) (bc nw)) (dhv pl pq pz pb w))⟩,
    ⟨S1x1024, tot (mulf (mulf x (bt (rs x))) (dnv pl pq pz pb sc w))⟩] concatenates_S1x1024_S1x1024_S1x1024_S3x1024_d0⟩,
    ⟨S5x1024, broadcastInDim S5x1024 ![] bcast_S_S5x1024 (constant S_ .f32 0x00000000#32)⟩] concatenates_S3x1024_S5x1024_S8x1024_d0

/-- The arguments' entries. -/
def B : ProjArgs where
  PL i k := pl (ix2 i k)
  PQ i k := pq (ix2 i k)
  PZ i k := pz (ix2 i k)
  PB i k := pb (ix2 i k)
  X i k := x (ix2 i k)
  D i k := d (ix2 i k)
  NW k := nw (ix1 k)
  SC k := sc (ix1 k)
  SH k := sh (ix1 k)
  W k j := w (ix2 k j)

theorem bc_at (v : FVec Ideal S1024 .f32) (i : Fin 4096) (k : Fin 1024) : bc v (ix2 i k) = v (ix1 k) := by unfold bc; pointwise
theorem bt_at (v : FVec Ideal S4096x1 .f32) (i : Fin 4096) (k : Fin 1024) : bt v (ix2 i k) = v (ix2 i 0) := by unfold bt; pointwise
theorem one_at (v : FVec Ideal S1024 .f32) (k : Fin 1024) : one v (ix1 k) = 1 + v (ix1 k) := by unfold one; pointwise
theorem ms_at (i : Fin 4096) : ms x (ix2 i 0) = msq (fun k => x (ix2 i k)) := by unfold ms msq; pointwise
theorem rs_at (i : Fin 4096) : rs x (ix2 i 0) = rinv (fun k => x (ix2 i k)) := by unfold rs ms rinv; pointwise
theorem tot_at (r : Fin 1) (k : Fin 1024) : tot x (ix2 r k) = ∑ i, x (ix2 i k) := by
  unfold tot; pointwise
  exact Fin.sum_univ_one _
theorem qv_at (d : FVec Ideal S4096x1024 .f32) (i : Fin 4096) (k : Fin 1024) : qv x d (ix2 i k)
    = Ideal.div ((∑ k, x (ix2 i k) * d (ix2 i k)) * (Ideal.ofBits FTy.f32 3204448256#32 * Ideal.div (rinv (fun k => x (ix2 i k))) (msq (fun k => x (ix2 i k))))) (Ideal.ofBits FTy.f32 1149239296#32) := by
  unfold qv; pointwise
  refine (Fin.sum_univ_one _).trans ?_
  simp only [rs_at, ms_at]

theorem hbv_at (i : Fin 4096) (k : Fin 1024) : hbv x nw sc sh (ix2 i k) = (B pl pq pz pb x d nw sc sh w).hb i k := by
  unfold hbv ProjArgs.hb modn; pointwise
  simp only [bc_at, bt_at, one_at, rs_at, B]
theorem wp_at (k : Fin 1024) (j : Fin 3200) : wp w (ix2 k j) = if h : j.val < 3080 then w (ix2 k ⟨j.val, h⟩) else 0 := by
  unfold wp; pointwise
  simp only [sitofp_zero]
/-- A sum over the four slices together is the slices' sums. -/
theorem sum_slices (f : Fin 3200 → EReal) : ∑ x, f x
    = (∑ j : Fin 1024, f ⟨j.val, by omega⟩) + (∑ j : Fin 1536, f ⟨1024 + j.val, by omega⟩) + (∑ j : Fin 512, f ⟨2560 + j.val, by omega⟩) + ∑ j : Fin 128, f ⟨3072 + j.val, by omega⟩ := by
  refine (show _ = ∑ x : Fin (1024 + 1536 + 512 + 128), f x from rfl).trans ?_
  rw [Fin.sum_univ_add, Fin.sum_univ_add, Fin.sum_univ_add]
  rfl
theorem dhv_at (i : Fin 4096) (k : Fin 1024) : dhv pl pq pz pb w (ix2 i k) = (B pl pq pz pb x d nw sc sh w).dh i k := by
  unfold dhv dpv; pointwise
  simp only [wp_at]
  refine (sum_slices _).trans ?_
  unfold ProjArgs.dh
  refine congrArg₂ (· + ·) (congrArg₂ (· + ·) (congrArg₂ (· + ·) ?_ ?_) ?_) ?_ <;> refine Finset.sum_congr rfl fun j _ => ?_
  · rw [dif_pos (show j.val < 1024 by omega), dif_pos (show j.val < 3080 by omega)]
    rfl
  · rw [dif_neg (show ¬1024 + j.val < 1024 by omega), dif_pos (show 1024 + j.val - 1024 < 1536 by omega), dif_pos (show 1024 + j.val < 3080 by omega)]
    simp only [Nat.add_sub_cancel_left]
    rfl
  · rw [dif_neg (show ¬2560 + j.val < 1024 by omega), dif_neg (show ¬2560 + j.val - 1024 < 1536 by omega), dif_pos (show 2560 + j.val - 1024 - 1536 < 512 by omega), dif_pos (show 2560 + j.val < 3080 by omega)]
    simp only [show 2560 + j.val - 1024 - 1536 = j.val by omega]
    rfl
  · rw [dif_neg (show ¬3072 + j.val < 1024 by omega), dif_neg (show ¬3072 + j.val - 1024 < 1536 by omega), dif_neg (show ¬3072 + j.val - 1024 - 1536 < 512 by omega)]
    simp only [show 3072 + j.val - 1024 - 1536 - 512 = j.val by omega]
    refine congrArg (fun z : EReal => pb (ix2 i j) * z) ?_
    by_cases h : j.val < 8
    · rw [dif_pos h, dif_pos (show 3072 + j.val < 3080 by omega)]
      rfl
    · rw [dif_neg h, dif_neg (show ¬3072 + j.val < 3080 by omega)]
theorem dnv_at (i : Fin 4096) (k : Fin 1024) : dnv pl pq pz pb sc w (ix2 i k) = (B pl pq pz pb x d nw sc sh w).dh i k * (1 + sc (ix1 k)) := by
  unfold dnv; pointwise
  simp only [dhv_at pl pq pz pb x d nw sc sh w, bc_at, one_at]
theorem dxnv_at (i : Fin 4096) (k : Fin 1024) : dxnv pl pq pz pb nw sc w (ix2 i k) = (B pl pq pz pb x d nw sc sh w).dxn i k := by
  unfold dxnv ProjArgs.dxn; pointwise
  simp only [dnv_at pl pq pz pb x d nw sc sh w, bc_at, B]
theorem dxv_at (i : Fin 4096) (k : Fin 1024) : dxv pl pq pz pb x d nw sc w (ix2 i k) = (B pl pq pz pb x d nw sc sh w).dx i k := by
  unfold dxv ProjArgs.dx; pointwise
  simp only [dxnv_at pl pq pz pb x d nw sc sh w, bt_at, rs_at]
  exact congrArg (d (ix2 i k) + ·) (dnorm_eq (fun k => x (ix2 i k)) _ k _ (by rw [qv_at]; simp only [dxnv_at pl pq pz pb x d nw sc sh w]))
theorem rowsv_at (r : Fin 8) (k : Fin 1024) : rowsv pl pq pz pb x nw sc w (ix2 r k) = (B pl pq pz pb x d nw sc sh w).rows 8 r k := by
  have e1 : ∀ i, dhv pl pq pz pb w (ix2 i k) = (B pl pq pz pb x d nw sc sh w).gsh k i := fun i => dhv_at _ _ _ _ _ _ _ _ _ _ i k
  have e2 : ∀ i, mulf (mulf (mulf x (bt (rs x))) (bc nw)) (dhv pl pq pz pb w) (ix2 i k) = (B pl pq pz pb x d nw sc sh w).gsc k i := fun i => by
    unfold ProjArgs.gsc; pointwise
    simp only [bt_at, bc_at, rs_at, dhv_at pl pq pz pb x d nw sc sh w]
    exact mul_comm _ _
  have e4 : ∀ i, mulf (mulf x (bt (rs x))) (dnv pl pq pz pb sc w) (ix2 i k) = (B pl pq pz pb x d nw sc sh w).gnw k i := fun i => by
    unfold ProjArgs.gnw; pointwise
    simp only [bt_at, rs_at, dnv_at pl pq pz pb x d nw sc sh w]
    rw [mul_assoc ((B pl pq pz pb x d nw sc sh w).dh i k * _)]
    exact mul_comm _ _
  unfold rowsv ProjArgs.rows
  simp only [part_all]
  pointwise
  simp only [tot_at, e1, e2, e4]
  split_ifs <;> first | (exfalso; omega) | rfl

end Cert.Layer.ProjBack.Ref

end
-- ==== Proof.OutBackKer.lean ====
/- The output projection's backward call: what a grid point leaves, and the four result arrays, entry by entry. -/
module

public import proofs.«01_k».proof.Proof.MlpArr
public import proofs.«01_k».proof.Proof.BackArgs
public import proofs.«01_k».proof.Proof.Gen.OutBackIdeal.Value

@[expose] public section

set_option maxRecDepth 16384

noncomputable section

namespace Cert.Layer.OutBack

open Idealize.ShloMosaic Idealize.ShloMosaic.TcCoe Cert.OutBackIdeal Cert.OutBackIdeal.Gen Cert.OutBackIdeal.Value
open Cert.Layer.MlpBack (hz2 row0 get0 put0 get0_at put0_at whole_overlay)
open Cert.Scan.Voc (read_writes_overlay)

theorem hz4 : (![0, 0, 0, 0] : Fin 4 → Nat) = fun _ => 0 := funext fun a => by fin_cases a <;> rfl
theorem fill0 {v : View sig .tc .vmem S8x1024 .f32} (Z : Vec Ideal S8x1024 .f32) :
    v.readCov (Val := Elt Ideal) [⟨Rect.unit (s := S8x1024) ![0, 0] ![8, 1024] inb_S8x1024_S8x1024_0_0, Z⟩] (Rect.unit (s := S8x1024) ![0, 0] ![1, 1024] inb_S8x1024_S1x1024_0_0).toLoadRect = get0 Z :=
  View.readCov_fill v inb_S8x1024_S8x1024_0_0 Z [] row0 (by decide)

section outs
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S4x1x128x1024 .bf16) (harg4 : arg4.IsWhole) (arg5 : Memref sig .tc .vmem S4x1x128x1024 .bf16) (harg5 : arg5.IsWhole) (arg6 : Memref sig .tc .vmem S512x1024 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S8x1024 .f32) (harg9 : arg9.IsWhole) (x0 : Vec Ideal S512x1024 .f32) (x1 : Vec Ideal S512x1024 .bf16) (x2 : Vec Ideal S1x1024 .f32) (x3 : Vec Ideal S4x1x128x1024 .bf16) (x4 : Vec Ideal S4x1x128x1024 .bf16) (xo8 : Vec Ideal S8x1024 .f32)

theorem out_A_5 (hc0 : cond0_0 i) : out0_A_5 c i arg1 harg1 arg2 harg2 arg3 harg3 arg4 harg4 arg5 harg5 arg6 harg6 arg7 harg7 arg8 harg8 arg9 harg9 hc0 x0 x1 x2 x3 x4
    = k0_pay4 x0 x2 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x1024) hz2 _ _
theorem out_A_6 (hc0 : cond0_0 i) : out0_A_6 c i arg1 harg1 arg2 harg2 arg3 harg3 arg4 harg4 arg5 harg5 arg6 harg6 arg7 harg7 arg8 harg8 arg9 harg9 hc0 x0 x1 x2 x3 x4
    = k0_pay5 x0 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x512) hz2 _ _
theorem out_A_7 (hc0 : cond0_0 i) : out0_A_7 c i arg1 harg1 arg2 harg2 arg3 harg3 arg4 harg4 arg5 harg5 arg6 harg6 arg7 harg7 arg8 harg8 arg9 harg9 hc0 x0 x1 x2 x3 x4
    = k0_pay1 (F := Ideal) (k0_pay4 x0 x2) (k0_pay6 x4) (constant S512x512 FTy.f32 0#32) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x512) hz2 _ _
theorem out_B_5 (hc0 : ¬cond0_0 i) : out0_B_5 c i arg1 harg1 arg2 harg2 arg3 harg3 arg4 harg4 arg5 harg5 arg6 harg6 arg7 harg7 arg8 harg8 arg9 harg9 hc0 x0 x1 x2 x3 x4 xo8
    = k0_pay4 x0 x2 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x1024) hz2 _ _
theorem out_B_6 (hc0 : ¬cond0_0 i) : out0_B_6 c i arg1 harg1 arg2 harg2 arg3 harg3 arg4 harg4 arg5 harg5 arg6 harg6 arg7 harg7 arg8 harg8 arg9 harg9 hc0 x0 x1 x2 x3 x4 xo8
    = k0_pay5 x0 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x512) hz2 _ _
theorem out_B_7 (hc0 : ¬cond0_0 i) : out0_B_7 c i arg1 harg1 arg2 harg2 arg3 harg3 arg4 harg4 arg5 harg5 arg6 harg6 arg7 harg7 arg8 harg8 arg9 harg9 hc0 x0 x1 x2 x3 x4 xo8
    = k0_pay1 (F := Ideal) (k0_pay4 x0 x2) (k0_pay6 x4) (constant S512x512 FTy.f32 0#32) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo8)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  exact View.canon_unit_zero (S := S512x512) hz2 _ _
theorem out_A_8 (hc0 : cond0_0 i) : out0_A_8 c i arg1 harg1 arg2 harg2 arg3 harg3 arg4 harg4 arg5 harg5 arg6 harg6 arg7 harg7 arg8 harg8 arg9 harg9 hc0 x0 x1 x2 x3 x4
    = put0 (k0_pay2 (F := Ideal)) (k0_pay3 (F := Ideal) x0 (get0 (k0_pay2 (F := Ideal))) x1) := by
  unfold out0_A_8
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  rw [read_writes_overlay]
  simp only [List.foldr_cons, List.foldr_nil]
  rw [whole_overlay, fill0]
  rfl
theorem out_B_8 (hc0 : ¬cond0_0 i) : out0_B_8 c i arg1 harg1 arg2 harg2 arg3 harg3 arg4 harg4 arg5 harg5 arg6 harg6 arg7 harg7 arg8 harg8 arg9 harg9 hc0 x0 x1 x2 x3 x4 xo8
    = put0 xo8 (k0_pay3 (F := Ideal) x0 (get0 xo8) x1) := by
  unfold out0_B_8
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2, View.ld_unit_zero (S := S1x1024) hz2, View.ld_unit_zero (S := S4x1x128x1024) hz4, shapeCast_self]
  rw [read_writes_overlay, harg9.read_unread]
  rfl
end outs

/-! ## The body's terms -/

theorem pay1_at (x : FVec Ideal S512x1024 .f32) (g : FVec Ideal S1x1024 .f32) (w : FVec Ideal S4x1x128x1024 .bf16) (i j : Fin 512) :
    k0_pay1 (F := Ideal) (k0_pay4 x g) (k0_pay6 w) (constant S512x512 FTy.f32 0#32) (ix2 i j)
      = ∑ k, x (ix2 i k) * g (ix2 0 k) * w (ix4 (⟨j.val / 128, by omega⟩ : Fin 4) 0 (⟨j.val % 128, by omega⟩ : Fin 128) k) := by
  pointwise [k0_pay1, k0_pay4, k0_pay6]
theorem pay2_at (r : Fin 8) (k : Fin 1024) : k0_pay2 (F := Ideal) (ix2 r k) = 0 := by
  pointwise [k0_pay2]
theorem pay3_at (x : FVec Ideal S512x1024 .f32) (v : FVec Ideal S1x1024 .f32) (f : FVec Ideal S512x1024 .bf16) (k : Fin 1024) :
    k0_pay3 (F := Ideal) x v f (ix2 0 k) = v (ix2 0 k) + ∑ i : Fin 512, x (ix2 i k) * f (ix2 i k) := by
  pointwise [k0_pay3]
theorem pay4_at (x : FVec Ideal S512x1024 .f32) (g : FVec Ideal S1x1024 .f32) (i : Fin 512) (k : Fin 1024) : k0_pay4 (F := Ideal) x g (ix2 i k) = x (ix2 i k) * g (ix2 0 k) := by
  pointwise [k0_pay4]
theorem pay5_at (x : FVec Ideal S512x1024 .f32) (g : FVec Ideal S1x1024 .f32) (w : FVec Ideal S4x1x128x1024 .bf16) (i j : Fin 512) :
    k0_pay5 (F := Ideal) x g w (ix2 i j) = ∑ k, x (ix2 i k) * g (ix2 0 k) * w (ix4 (⟨j.val / 128, by omega⟩ : Fin 4) 0 (⟨j.val % 128, by omega⟩ : Fin 128) k) := by
  pointwise [k0_pay5]
  simp only [pay4_at]

/-! ## The blocks -/

theorem idxA : ∀ t : Fin grid0.N, win0_0.index t = ![t.val, 0] ∧ win0_1.index t = ![t.val, 0] ∧ win0_2.index t = ![0, 0] ∧ win0_3.index t = ![0, 0, 0, 0]
    ∧ win0_4.index t = ![1, 0, 0, 0] ∧ win0_5.index t = ![t.val, 0] ∧ win0_6.index t = ![t.val, 0] ∧ win0_7.index t = ![t.val, 0] ∧ win0_8.index t = ![0, 0] := by
  decide +kernel

variable (m : (ℓ : Loc nD τ sig) → Buf (Elt Ideal) ℓ) (c : Dev nD)

/-- The arguments' entries. -/
def A : OutArgs where
  D i k := m ((c.tc : Thread nD τ).loc main_arg0) (ix2 i k)
  OL i k := m ((c.tc : Thread nD τ).loc main_arg1) (ix2 i k)
  OG i k := m ((c.tc : Thread nD τ).loc main_arg2) (ix2 i k)
  G1 k := m ((c.tc : Thread nD τ).loc main_arg3) (ix1 k)
  WO j k := m ((c.tc : Thread nD τ).loc main_arg4) (ix2 j k)

theorem v5_at (k : Fin 1024) : V m c main_v5 (ix2 0 k) = (A m c).G1 k := by
  dsimp only [A, V, hostOps0, List.flatten_cons, List.flatten_nil, List.append_nil, List.cons_append, List.nil_append]
  entry_read; pointwise
theorem v4_at (s : Fin 8) (r : Fin 128) (k : Fin 1024) : V m c main_v4 (ix4 s 0 r k) = (A m c).WO (⟨128 * s.val + r.val, by omega⟩ : Fin 1024) k := by
  dsimp only [A, V, hostOps0, List.flatten_cons, List.flatten_nil, List.append_nil, List.cons_append, List.nil_append]
  entry_read; pointwise
  simp only [Nat.mul_comm s.val 128]
theorem v2_at (i : Fin 4096) (k : Fin 1024) : V m c main_v2 (ix2 i k) = (A m c).mix i k := by
  unfold OutArgs.mix
  dsimp only [A, V, hostOps0, List.flatten_cons, List.flatten_nil, List.append_nil, List.cons_append, List.nil_append]
  entry_read; pointwise

theorem tok_lt (t : Fin cfg0.N) (i : Fin 512) : 512 * t.val + i.val < 4096 := by
  have hN : t.val < 8 := lt_of_lt_of_eq t.isLt (show cfg0.N = 8 from N_0)
  omega
/-- The token of a point's row. -/
def tok (t : Fin cfg0.N) (i : Fin 512) : Fin 4096 := ⟨512 * t.val + i.val, tok_lt t i⟩

variable (t : Fin cfg0.N)

theorem blk0 (i : Fin 512) (k : Fin 1024) : iblk m c 0 t (ix2 i k) = (A m c).D (tok t i) k := by
  blk_ext [iblk, V, A, tok, idxA t]
  all_goals omega
theorem blk1 (i : Fin 512) (k : Fin 1024) : iblk m c 1 t (ix2 i k) = (A m c).mix (tok t i) k := by
  rw [← v2_at m c]
  refine congrArg (V m c main_v2) ?_
  blk_ext [tok, idxA t]
  all_goals omega
theorem blk2 (k : Fin 1024) : iblk m c 2 t (ix2 0 k) = (A m c).G1 k := by
  rw [← v5_at m c]
  refine congrArg (V m c main_v5) ?_
  blk_ext [idxA t]
theorem blk3 (s : Fin 4) (r : Fin 128) (k : Fin 1024) : iblk m c 3 t (ix4 s 0 r k) = (A m c).WO (⟨128 * s.val + r.val, by omega⟩ : Fin 1024) k := by
  refine Eq.trans ?_ (v4_at m c (⟨s.val, by omega⟩ : Fin 8) r k)
  refine congrArg (V m c main_v4) ?_
  blk_ext [idxA t]
theorem blk4 (s : Fin 4) (r : Fin 128) (k : Fin 1024) : iblk m c 4 t (ix4 s 0 r k) = (A m c).WO (⟨128 * (4 + s.val) + r.val, by omega⟩ : Fin 1024) k := by
  refine Eq.trans ?_ (v4_at m c (⟨4 + s.val, by omega⟩ : Fin 8) r k)
  refine congrArg (V m c main_v4) ?_
  blk_ext [idxA t]

/-! ## What a point leaves -/

theorem dmixB_at (i : Fin 512) (k : Fin 1024) : k0_pay4 (F := Ideal) (iblk m c 0 t) (iblk m c 2 t) (ix2 i k) = (A m c).dmix (tok t i) k := by
  rw [pay4_at, blk0 m c t, blk2 m c t]
  rfl
theorem dolB_at (i j : Fin 512) : k0_pay5 (F := Ideal) (iblk m c 0 t) (iblk m c 2 t) (iblk m c 3 t) (ix2 i j) = (A m c).dol (tok t i) j := by
  rw [pay5_at]
  refine Finset.sum_congr rfl fun k _ => ?_
  rw [blk0 m c t, blk2 m c t, blk3 m c t]
  refine congrArg (fun y => (A m c).D (tok t i) k * (A m c).G1 k * (A m c).WO y k) (Fin.ext ?_)
  show 128 * (j.val / 128) + j.val % 128 = j.val
  omega
theorem dogB_at (i j : Fin 512) : k0_pay1 (F := Ideal) (k0_pay4 (iblk m c 0 t) (iblk m c 2 t)) (k0_pay6 (iblk m c 4 t)) (constant S512x512 FTy.f32 0#32) (ix2 i j) = (A m c).dog (tok t i) j := by
  rw [pay1_at]
  refine Finset.sum_congr rfl fun k _ => ?_
  rw [blk0 m c t, blk2 m c t, blk4 m c t]
  refine congrArg (fun y => (A m c).D (tok t i) k * (A m c).G1 k * (A m c).WO y k) (Fin.ext ?_)
  show 128 * (4 + j.val / 128) + j.val % 128 = 512 + j.val
  omega

theorem dmix_at (i : Fin 512) (k : Fin 1024) : (outsAt0 m c t.val t.isLt).1 (ix2 i k) = (A m c).dmix (tok t i) k := by
  by_cases h0 : t.val % 8 = 0
  · rw [outsAt0_A m c t h0]
    dsimp only
    rw [out_A_5]
    exact dmixB_at m c t i k
  · rw [outsAt0_B m c t h0]
    dsimp only
    rw [out_B_5]
    exact dmixB_at m c t i k
theorem dol_at (i : Fin 512) (k : Fin 512) : (outsAt0 m c t.val t.isLt).2.1 (ix2 i k) = (A m c).dol (tok t i) k := by
  by_cases h0 : t.val % 8 = 0
  · rw [outsAt0_A m c t h0]
    dsimp only
    rw [out_A_6]
    exact dolB_at m c t i k
  · rw [outsAt0_B m c t h0]
    dsimp only
    rw [out_B_6]
    exact dolB_at m c t i k
theorem dog_at (i : Fin 512) (k : Fin 512) : (outsAt0 m c t.val t.isLt).2.2.1 (ix2 i k) = (A m c).dog (tok t i) k := by
  by_cases h0 : t.val % 8 = 0
  · rw [outsAt0_A m c t h0]
    dsimp only
    rw [out_A_7]
    exact dogB_at m c t i k
  · rw [outsAt0_B m c t h0]
    dsimp only
    rw [out_B_7]
    exact dogB_at m c t i k

/-- The sums over the tokens, after a point. -/
theorem rows_at : ∀ (n : ℕ) (hn : n < cfg0.N) (r : Fin 8) (k : Fin 1024), (outsAt0 m c n hn).2.2.2 (ix2 r k) = (A m c).rows (n + 1) r k := by
  have gate : ∀ (t : Fin cfg0.N) (k : Fin 1024), (∑ i : Fin 512, (A m c).D (tok t i) k * (A m c).mix (tok t i) k) = blk ((A m c).gg k) t.val := fun t k =>
    (blk_eq ((A m c).gg k) t.val (tok_lt t)).symm
  intro n
  induction n with
  | zero =>
    intro hn r k
    refine Eq.trans (congrFun (congrArg (fun z => z.2.2.2) (outsAt0_A m c ⟨0, hn⟩ rfl)) (ix2 r k)) ?_
    dsimp only
    rw [out_A_8, put0_at, pay3_at, get0_at, pay2_at, pay2_at]
    simp only [blk0 m c ⟨0, hn⟩, blk1 m c ⟨0, hn⟩]
    rw [gate]
    unfold OutArgs.rows
    simp only [part_succ _ 0, part_zero]
  | succ n ih =>
    intro hn r k
    have hp : n < cfg0.N := Nat.lt_of_succ_lt hn
    have h0 : ¬(⟨n + 1, hn⟩ : Fin cfg0.N).val % 8 = 0 := by
      have hN : n + 1 < 8 := lt_of_lt_of_eq hn (show cfg0.N = 8 from N_0)
      show ¬(n + 1) % 8 = 0; omega
    refine Eq.trans (congrFun (congrArg (fun z => z.2.2.2) (outsAt0_B m c ⟨n + 1, hn⟩ h0)) (ix2 r k)) ?_
    dsimp only [Nat.add_sub_cancel]
    rw [out_B_8, put0_at, pay3_at, get0_at]
    simp only [blk0 m c ⟨n + 1, hn⟩, blk1 m c ⟨n + 1, hn⟩]
    rw [gate]
    have ihr : ∀ r, (outsAt0 m c (n + 1 - 1) (Nat.lt_of_le_of_lt (Nat.sub_le _ _) hn)).2.2.2 (ix2 r k) = (A m c).rows (n + 1) r k := fun r => ih hp r k
    rw [ihr, ihr]
    unfold OutArgs.rows
    simp only [part_succ _ (n + 1)]
    split_ifs <;> first | (exfalso; omega) | rfl

/-! ## The arrays -/

theorem pt_lt (i : Fin 4096) : i.val / 512 < cfg0.N := lt_of_lt_of_eq (by omega : i.val / 512 < 8) (show 8 = cfg0.N from N_0.symm)

def dmixA : Buf (Elt Ideal) ((c : Thread nD τ).loc main_v6_0) := fun y => (A m c).dmix (y 0) (y 1)
theorem dmix_flushed (t : Fin cfg0.N) (hf : (cfg0.win 5).flush t = true) :
    (dats m 0 c).flushed 5 t = ((cfg0.win 5).blk t).view.read (Elt Ideal) (dmixA m c) := by
  have hN : t.val < 8 := lt_of_lt_of_eq t.isLt (show cfg0.N = 8 from N_0)
  rw [flushed5]
  funext y
  refine Eq.trans (show _ = (outsAt0 m c t.val t.isLt).1 (ix2 (y 0) (y 1)) from congrArg (outsAt0 m c t.val t.isLt).1 (eta2 y)) ?_
  refine (dmix_at m c t (y 0) (y 1)).trans ?_
  refine congrArg (dmixA m c) (a₁ := ix2 (tok t (y 0)) (y 1)) ?_
  blk_ext [tok, idxA t]
  all_goals omega
theorem dmix_arr (i : Fin 4096) (k : Fin 1024) : (dats m 0 c).arrAt 5 cfg0.N (ix2 i k) = (A m c).dmix i k := by
  have ht := pt_lt i
  have b := congrFun ((dats m 0 c).read_blk_arrAt 5 (dmixA m c) (dmix_flushed m c) ⟨i.val / 512, ht⟩ (flush0_5 _)) (ix2 (⟨i.val % 512, by omega⟩ : Fin 512) k)
  have e : ix2 i k = ((cfg0.win 5).blk ⟨i.val / 512, ht⟩).view.emb (ix2 (⟨i.val % 512, by omega⟩ : Fin 512) k) := by
    blk_ext [idxA ⟨i.val / 512, ht⟩]
    all_goals omega
  refine Eq.trans (congrArg ((dats m 0 c).arrAt 5 cfg0.N) e) (b.trans ?_)
  exact (congrArg (dmixA m c) e).symm

def dolA : Buf (Elt Ideal) ((c : Thread nD τ).loc main_v6_1) := fun y => (A m c).dol (y 0) (y 1)
theorem dol_flushed (t : Fin cfg0.N) (hf : (cfg0.win 6).flush t = true) :
    (dats m 0 c).flushed 6 t = ((cfg0.win 6).blk t).view.read (Elt Ideal) (dolA m c) := by
  have hN : t.val < 8 := lt_of_lt_of_eq t.isLt (show cfg0.N = 8 from N_0)
  rw [flushed6]
  funext y
  refine Eq.trans (show _ = (outsAt0 m c t.val t.isLt).2.1 (ix2 (y 0) (y 1)) from congrArg (outsAt0 m c t.val t.isLt).2.1 (eta2 y)) ?_
  refine (dol_at m c t (y 0) (y 1)).trans ?_
  refine congrArg (dolA m c) (a₁ := ix2 (tok t (y 0)) (y 1)) ?_
  blk_ext [tok, idxA t]
  all_goals omega
theorem dol_arr (i : Fin 4096) (k : Fin 512) : (dats m 0 c).arrAt 6 cfg0.N (ix2 i k) = (A m c).dol i k := by
  have ht := pt_lt i
  have b := congrFun ((dats m 0 c).read_blk_arrAt 6 (dolA m c) (dol_flushed m c) ⟨i.val / 512, ht⟩ (flush0_6 _)) (ix2 (⟨i.val % 512, by omega⟩ : Fin 512) k)
  have e : ix2 i k = ((cfg0.win 6).blk ⟨i.val / 512, ht⟩).view.emb (ix2 (⟨i.val % 512, by omega⟩ : Fin 512) k) := by
    blk_ext [idxA ⟨i.val / 512, ht⟩]
    all_goals omega
  refine Eq.trans (congrArg ((dats m 0 c).arrAt 6 cfg0.N) e) (b.trans ?_)
  exact (congrArg (dolA m c) e).symm

def dogA : Buf (Elt Ideal) ((c : Thread nD τ).loc main_v6_2) := fun y => (A m c).dog (y 0) (y 1)
theorem dog_flushed (t : Fin cfg0.N) (hf : (cfg0.win 7).flush t = true) :
    (dats m 0 c).flushed 7 t = ((cfg0.win 7).blk t).view.read (Elt Ideal) (dogA m c) := by
  have hN : t.val < 8 := lt_of_lt_of_eq t.isLt (show cfg0.N = 8 from N_0)
  rw [flushed7]
  funext y
  refine Eq.trans (show _ = (outsAt0 m c t.val t.isLt).2.2.1 (ix2 (y 0) (y 1)) from congrArg (outsAt0 m c t.val t.isLt).2.2.1 (eta2 y)) ?_
  refine (dog_at m c t (y 0) (y 1)).trans ?_
  refine congrArg (dogA m c) (a₁ := ix2 (tok t (y 0)) (y 1)) ?_
  blk_ext [tok, idxA t]
  all_goals omega
theorem dog_arr (i : Fin 4096) (k : Fin 512) : (dats m 0 c).arrAt 7 cfg0.N (ix2 i k) = (A m c).dog i k := by
  have ht := pt_lt i
  have b := congrFun ((dats m 0 c).read_blk_arrAt 7 (dogA m c) (dog_flushed m c) ⟨i.val / 512, ht⟩ (flush0_7 _)) (ix2 (⟨i.val % 512, by omega⟩ : Fin 512) k)
  have e : ix2 i k = ((cfg0.win 7).blk ⟨i.val / 512, ht⟩).view.emb (ix2 (⟨i.val % 512, by omega⟩ : Fin 512) k) := by
    blk_ext [idxA ⟨i.val / 512, ht⟩]
    all_goals omega
  refine Eq.trans (congrArg ((dats m 0 c).arrAt 7 cfg0.N) e) (b.trans ?_)
  exact (congrArg (dogA m c) e).symm

def rowsA : Buf (Elt Ideal) ((c : Thread nD τ).loc main_v6_3) := fun y => (A m c).rows 8 (y 0) (y 1)
theorem rows_flushed (t : Fin cfg0.N) (hf : (cfg0.win 8).flush t = true) :
    (dats m 0 c).flushed 8 t = ((cfg0.win 8).blk t).view.read (Elt Ideal) (rowsA m c) := by
  have hN : t.val < 8 := lt_of_lt_of_eq t.isLt (show cfg0.N = 8 from N_0)
  have ht : t.val % 8 = 7 := (flush0_8 t).mp hf
  have e1 : t.val + 1 = 8 := by omega
  rw [flushed8]
  funext y
  refine Eq.trans (show _ = (outsAt0 m c t.val t.isLt).2.2.2 (ix2 (y 0) (y 1)) from congrArg (outsAt0 m c t.val t.isLt).2.2.2 (eta2 y)) ?_
  refine (rows_at m c t.val t.isLt (y 0) (y 1)).trans ?_
  rw [e1]
  refine congrArg (rowsA m c) (a₁ := ix2 (y 0) (y 1)) ?_
  blk_ext [idxA t]
theorem rows_arr (r : Fin 8) (k : Fin 1024) : (dats m 0 c).arrAt 8 cfg0.N (ix2 r k) = (A m c).rows 8 r k := by
  have last : ∀ t : Fin cfg0.N, t.val % 8 = 7 → (dats m 0 c).arrAt 8 cfg0.N (ix2 r k) = (A m c).rows 8 r k := by
    intro t ht
    have b := congrFun ((dats m 0 c).read_blk_arrAt 8 (rowsA m c) (rows_flushed m c) t ((flush0_8 _).mpr ht)) (ix2 r k)
    have e : ix2 r k = ((cfg0.win 8).blk t).view.emb (ix2 r k) := by
      blk_ext [idxA t]
    refine Eq.trans (congrArg ((dats m 0 c).arrAt 8 cfg0.N) e) (b.trans ?_)
    exact (congrArg (rowsA m c) e).symm
  exact last ⟨7, lt_of_lt_of_eq (by omega : 7 < 8) (show 8 = cfg0.N from N_0.symm)⟩ rfl

end Cert.Layer.OutBack

end
-- ==== Proof.OutBackRef.lean ====
/- The output projection's backward call: the reference's arrays, entry by entry. -/
module

public import proofs.«01_k».proof.Proof.BackArgs
public import proofs.«01_k».proof.Proof.Voc
public import proofs.«01_k».proof.Proof.Gen.OutBackReferenceIdeal.Run

@[expose] public section

set_option maxRecDepth 16384

noncomputable section

namespace Cert.Layer.OutBack.Ref

open Idealize.ShloMosaic Idealize.ShloMosaic.TcCoe Cert.OutBackReferenceIdeal Cert.OutBackReferenceIdeal.Gen

/-- The sum of an array over the tokens. -/
def tot (x : FVec Ideal S4096x1024 .f32) : FVec Ideal S1x1024 .f32 :=
  broadcastInDim S1x1024 ![1] bcast_S1024_S1x1024_1 (Host.reduceAdd (shapeCast _ (Host.reduceAdd x (constant S_ .f32 0x00000000#32) reducesTo_S4096x1024_S1024_d0 h_S_) shapeCasts_S1024_S1x1024) (constant S_ .f32 0x00000000#32) reducesTo_S1x1024_S1024_d0 h_S_)
theorem tot_at (x : FVec Ideal S4096x1024 .f32) (r : Fin 1) (k : Fin 1024) : tot x (ix2 r k) = ∑ i, x (ix2 i k) := by
  unfold tot; pointwise
  exact Fin.sum_univ_one _

variable (d : FVec Ideal S4096x1024 .f32) (ol og : FVec Ideal S4096x512 .f32) (g1 : FVec Ideal S1024 .f32) (wo : FVec Ideal S1024x1024 .f32)

def mixv : FVec Ideal S4096x1024 .f32 := Host.dotGeneral (F := Ideal) (φ₁ := .f32) (φ₂ := .f32) dot_S4096x1024_S1024x1024_S4096x1024_1_0_0_1_n_n none
  (concatenate S4096x1024 1 [⟨S4096x512, ol⟩, ⟨S4096x512, og⟩] concatenates_S4096x512_S4096x512_S4096x1024_d1) wo
def dmixv : FVec Ideal S4096x1024 .f32 := mulf (broadcastInDim S4096x1024 ![0, 1] bcast_S1x1024_S4096x1024_0_1 (broadcastInDim S1x1024 ![1] bcast_S1024_S1x1024_1 g1)) d
def dboth : FVec Ideal S4096x1024 .f32 := Host.dotGeneral (F := Ideal) (φ₁ := .f32) (φ₂ := .f32) dot_S4096x1024_S1024x1024_S4096x1024_1_1_0_0_n_n none (dmixv d g1) wo
def dolv : FVec Ideal S4096x512 .f32 := extractStridedSlice S4096x512 ![0, 0] (dboth d g1 wo) slices_S4096x1024_S4096x512_0_0
def dogv : FVec Ideal S4096x512 .f32 := extractStridedSlice S4096x512 ![0, 512] (dboth d g1 wo) slices_S4096x1024_S4096x512_0_512
def rowsv : FVec Ideal S8x1024 .f32 :=
  concatenate S8x1024 0 [⟨S1x1024, tot (mulf d (mixv ol og wo))⟩, ⟨S7x1024, broadcastInDim S7x1024 ![] bcast_S_S7x1024 (constant S_ .f32 0x00000000#32)⟩] concatenates_S1x1024_S7x1024_S8x1024_d0

/-- The arguments' entries. -/
def B : OutArgs where
  D i k := d (ix2 i k)
  OL i k := ol (ix2 i k)
  OG i k := og (ix2 i k)
  G1 k := g1 (ix1 k)
  WO j k := wo (ix2 j k)

theorem mixv_at (i : Fin 4096) (k : Fin 1024) : mixv ol og wo (ix2 i k) = (B d ol og g1 wo).mix i k := by
  unfold mixv OutArgs.mix; pointwise
  rfl
theorem dmixv_at (i : Fin 4096) (k : Fin 1024) : dmixv d g1 (ix2 i k) = (B d ol og g1 wo).dmix i k := by
  unfold dmixv OutArgs.dmix; pointwise
  exact mul_comm _ _
theorem dboth_at (i : Fin 4096) (j : Fin 1024) : dboth d g1 wo (ix2 i j) = ∑ k, (B d ol og g1 wo).dmix i k * wo (ix2 j k) := by
  unfold dboth; pointwise
  simp only [dmixv_at d ol og g1 wo]
theorem dolv_at (i : Fin 4096) (j : Fin 512) : dolv d g1 wo (ix2 i j) = (B d ol og g1 wo).dol i j := by
  unfold dolv OutArgs.dol; pointwise
  simp only [dboth_at d ol og g1 wo]
  rfl
theorem dogv_at (i : Fin 4096) (j : Fin 512) : dogv d g1 wo (ix2 i j) = (B d ol og g1 wo).dog i j := by
  unfold dogv OutArgs.dog; pointwise
  simp only [dboth_at d ol og g1 wo]
  rfl
theorem rowsv_at (r : Fin 8) (k : Fin 1024) : rowsv d ol og wo (ix2 r k) = (B d ol og g1 wo).rows 8 r k := by
  have e : ∀ i, mulf d (mixv ol og wo) (ix2 i k) = (B d ol og g1 wo).gg k i := fun i => by
    unfold OutArgs.gg; pointwise
    rw [mixv_at d ol og g1 wo]
    rfl
  unfold rowsv OutArgs.rows
  simp only [part_all]
  pointwise
  simp only [tot_at, e]
  split_ifs <;> first | (exfalso; omega) | rfl

end Cert.Layer.OutBack.Ref

end
-- ==== Proof.RestRun.lean ====
/- The cases of the forward body of the output projection and the MLP: what a point leaves, as terms of its input blocks. -/
module

public import proofs.«01_k».proof.Proof.Layer
public import proofs.«01_k».proof.Proof.Gen.RestIdeal.Frame

@[expose] public section

set_option maxRecDepth 16384

noncomputable section

namespace Cert.Layer.Rest

open Idealize.ShloMosaic Idealize.ShloMosaic.TcCoe Cert.RestIdeal Cert.RestIdeal.Gen

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The four blocks of 512 columns of the first weight, and of 512 rows of the second, that a point works through. -/
def up0 (x : Vec Ideal S4x1x1024x512 .bf16) : Vec Ideal S1x1x1024x512 .bf16 := View.ld x (Rect.unit ![0, 0, 0, 0] ![1, 1, 1024, 512] inb_S4x1x1024x512_S1x1x1024x512_0_0_0_0)
def up1 (x : Vec Ideal S4x1x1024x512 .bf16) : Vec Ideal S1x1x1024x512 .bf16 := View.ld x (Rect.unit ![1, 0, 0, 0] ![1, 1, 1024, 512] inb_S4x1x1024x512_S1x1x1024x512_1_0_0_0)
def up2 (x : Vec Ideal S4x1x1024x512 .bf16) : Vec Ideal S1x1x1024x512 .bf16 := View.ld x (Rect.unit ![2, 0, 0, 0] ![1, 1, 1024, 512] inb_S4x1x1024x512_S1x1x1024x512_2_0_0_0)
def up3 (x : Vec Ideal S4x1x1024x512 .bf16) : Vec Ideal S1x1x1024x512 .bf16 := View.ld x (Rect.unit ![3, 0, 0, 0] ![1, 1, 1024, 512] inb_S4x1x1024x512_S1x1x1024x512_3_0_0_0)
def dn0 (x : Vec Ideal S4x1x512x1024 .bf16) : Vec Ideal S1x1x512x1024 .bf16 := View.ld x (Rect.unit ![0, 0, 0, 0] ![1, 1, 512, 1024] inb_S4x1x512x1024_S1x1x512x1024_0_0_0_0)
def dn1 (x : Vec Ideal S4x1x512x1024 .bf16) : Vec Ideal S1x1x512x1024 .bf16 := View.ld x (Rect.unit ![1, 0, 0, 0] ![1, 1, 512, 1024] inb_S4x1x512x1024_S1x1x512x1024_1_0_0_0)
def dn2 (x : Vec Ideal S4x1x512x1024 .bf16) : Vec Ideal S1x1x512x1024 .bf16 := View.ld x (Rect.unit ![2, 0, 0, 0] ![1, 1, 512, 1024] inb_S4x1x512x1024_S1x1x512x1024_2_0_0_0)
def dn3 (x : Vec Ideal S4x1x512x1024 .bf16) : Vec Ideal S1x1x512x1024 .bf16 := View.ld x (Rect.unit ![3, 0, 0, 0] ![1, 1, 512, 1024] inb_S4x1x512x1024_S1x1x512x1024_3_0_0_0)

/-- The normalised tokens of a block. -/
def hid (x0 x1 : Vec Ideal S512x512 .f32) (x2 : Vec Ideal S512x1024 .f32) (x3 x4 : Vec Ideal S4x1x128x1024 .bf16) (x5 x6 x7 x8 : Vec Ideal S1x1024 .f32) : Vec Ideal S512x1024 .bf16 :=
  k0_pay12 (F := Ideal) (k0_pay6 x0 x3 x1 x4 x2 x5) (k0_pay8 x6) (k0_pay9 x7) (k0_pay10 x8) (k0_pay11 x0 x3 x1 x4 x2 x5)
/-- What a point adds to the sum `p` over the hidden columns. -/
def accs (h : Vec Ideal S512x1024 .bf16) (u : Vec Ideal S4x1x1024x512 .bf16) (w : Vec Ideal S4x1x512x1024 .bf16) (p : Vec Ideal S512x1024 .f32) : Vec Ideal S512x1024 .f32 :=
  k0_pay15 (F := Ideal) (k0_pay14 h (up0 u) (dn0 w) h (up1 u) (dn1 w)) h (up2 u) (dn2 w) h (up3 u) (dn3 w) p

section outs
variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S4x1x128x1024 .bf16) (harg5 : arg5.IsWhole) (arg6 : Memref sig .tc .vmem S4x1x128x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x1x1024x512 .bf16) (harg12 : arg12.IsWhole) (arg13 : Memref sig .tc .vmem S4x1x512x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S512x1024 .f32) (harg19 : arg19.IsWhole) (x0 : Vec Ideal S512x512 .f32) (x1 : Vec Ideal S512x512 .f32) (x2 : Vec Ideal S512x1024 .f32) (x3 : Vec Ideal S4x1x128x1024 .bf16) (x4 : Vec Ideal S4x1x128x1024 .bf16) (x5 : Vec Ideal S1x1024 .f32) (x6 : Vec Ideal S1x1024 .f32) (x7 : Vec Ideal S1x1024 .f32) (x8 : Vec Ideal S1x1024 .f32) (x9 : Vec Ideal S1x1024 .f32) (x10 : Vec Ideal S4x1x1024x512 .bf16) (x11 : Vec Ideal S4x1x512x1024 .bf16) (xo12 : Vec Ideal S512x1024 .f32) (xo13 : Vec Ideal S512x1024 .bf16) (xs0 : Vec Ideal S512x1024 .bf16) (xs1 : Vec Ideal S512x1024 .f32)

theorem sout_A_0 (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = (hid x0 x1 x2 x3 x4 x5 x6 x7 x8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem sout_A_1 (hc0 : cond0_0 i) (hc1 : ¬cond0_1 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = accs (hid x0 x1 x2 x3 x4 x5 x6 x7 x8) x10 x11 (k0_pay13 (F := Ideal)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_cons_unit_zero (S := S512x1024) hz2 _ _ _
theorem out_A_12 (hc0 : cond0_0 i) (hc1 : ¬cond0_1 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = k0_pay6 x0 x3 x1 x4 x2 x5 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem out_A_13 (hc0 : cond0_0 i) (hc1 : ¬cond0_1 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11
    = k0_pay7 x0 x3 x1 x4 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem sout_B_1 (hc0 : ¬cond0_0 i) (hc1 : cond0_1 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1
    = accs xs0 x10 x11 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem out_B_12 (hc0 : ¬cond0_0 i) (hc1 : cond0_1 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1
    = k0_pay4 xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem out_B_13 (hc0 : ¬cond0_0 i) (hc1 : cond0_1 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1
    = k0_pay3 xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem out_B_14 (hc0 : ¬cond0_0 i) (hc1 : cond0_1 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1
    = k0_pay1 (F := Ideal) (accs xs0 x10 x11 xs1) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
theorem out_B_15 (hc0 : ¬cond0_0 i) (hc1 : cond0_1 i) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1
    = k0_pay2 (F := Ideal) xo12 x9 (accs xs0 x10 x11 xs1) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xo12 xo13 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x512) hz2, View.ld_unit_zero (S := S1x1024) hz2,
    View.ld_unit_zero (S := S4x1x128x1024) hz4, View.readCov_unit_zero (S := S512x1024) _ hz2, shapeCast_self]
  exact View.canon_unit_zero (S := S512x1024) hz2 _ _
end outs

end Cert.Layer.Rest

end
-- ==== Proof.RestNorm.lean ====
/- The output projection, the residual, the norm and the MLP of one layer, over the arguments' entries. -/
module

public import proofs.«01_k».proof.Proof.Norm

@[expose] public section

noncomputable section

namespace Cert.Layer

structure RestArgs where
  OL : Fin 4096 → Fin 512 → EReal
  OG : Fin 4096 → Fin 512 → EReal
  X : Fin 4096 → Fin 1024 → EReal
  WO : Fin 1024 → Fin 1024 → EReal
  G1 : Fin 1024 → EReal
  NW : Fin 1024 → EReal
  SC : Fin 1024 → EReal
  SH : Fin 1024 → EReal
  G : Fin 1024 → EReal
  U : Fin 1024 → Fin 4096 → EReal
  W : Fin 4096 → Fin 1024 → EReal

namespace RestArgs
variable (A : RestArgs)

def mix (i : Fin 4096) (k : Fin 1024) : EReal :=
  (∑ x : Fin 512, A.OL i x * A.WO (⟨x.val, by omega⟩ : Fin 1024) k) + ∑ x : Fin 512, A.OG i x * A.WO (⟨512 + x.val, by omega⟩ : Fin 1024) k
def x1 (i : Fin 4096) (k : Fin 1024) : EReal := A.X i k + A.G1 k * A.mix i k
def h (i : Fin 4096) (k : Fin 1024) : EReal := modn (A.x1 i) A.NW A.SC A.SH k
def up (i : Fin 4096) (j : Fin 4096) : EReal := max (∑ k, A.h i k * A.U k j) 0
/-- A hidden column's share of the MLP's result. -/
def sh (i : Fin 4096) (k : Fin 1024) (j : Fin 4096) : EReal := A.up i j * A.up i j * A.W j k
def ff (i : Fin 4096) (k : Fin 1024) : EReal := ∑ j, A.sh i k j
def x2 (i : Fin 4096) (k : Fin 1024) : EReal := A.x1 i k + A.G k * A.ff i k
end RestArgs

end Cert.Layer

end
-- ==== Proof.RestBack.lean ====
/- The forward call of the output projection and the MLP: the body's terms entry by entry, and the blocks a grid point reads. -/
module

public import proofs.«01_k».proof.Proof.RestRun
public import proofs.«01_k».proof.Proof.RestNorm
public import proofs.«01_k».proof.Proof.Voc
public import proofs.«01_k».proof.Proof.Gen.RestIdeal.Value

@[expose] public section

set_option maxRecDepth 16384

noncomputable section

namespace Cert.Layer.Rest

open Idealize.ShloMosaic Idealize.ShloMosaic.TcCoe Cert.RestIdeal Cert.RestIdeal.Gen Cert.RestIdeal.Value

/-! ## The body's terms -/

section
variable (h : FVec Ideal S512x1024 .bf16) (u : FVec Ideal S4x1x1024x512 .bf16) (w : FVec Ideal S4x1x512x1024 .bf16)

theorem up0_at (x : Vec Ideal S4x1x1024x512 .bf16) (k : Fin 1024) (j : Fin 512) : up0 x (ix4 0 0 k j) = x (ix4 0 0 k j) := View.ld_unit_apply_of x _ _ _ _ _ (by intro a; fin_cases a <;> simp)
theorem up1_at (x : Vec Ideal S4x1x1024x512 .bf16) (k : Fin 1024) (j : Fin 512) : up1 x (ix4 0 0 k j) = x (ix4 1 0 k j) := View.ld_unit_apply_of x _ _ _ _ _ (by intro a; fin_cases a <;> simp)
theorem up2_at (x : Vec Ideal S4x1x1024x512 .bf16) (k : Fin 1024) (j : Fin 512) : up2 x (ix4 0 0 k j) = x (ix4 2 0 k j) := View.ld_unit_apply_of x _ _ _ _ _ (by intro a; fin_cases a <;> simp)
theorem up3_at (x : Vec Ideal S4x1x1024x512 .bf16) (k : Fin 1024) (j : Fin 512) : up3 x (ix4 0 0 k j) = x (ix4 3 0 k j) := View.ld_unit_apply_of x _ _ _ _ _ (by intro a; fin_cases a <;> simp)
theorem dn0_at (x : Vec Ideal S4x1x512x1024 .bf16) (j : Fin 512) (k : Fin 1024) : dn0 x (ix4 0 0 j k) = x (ix4 0 0 j k) := View.ld_unit_apply_of x _ _ _ _ _ (by intro a; fin_cases a <;> simp)
theorem dn1_at (x : Vec Ideal S4x1x512x1024 .bf16) (j : Fin 512) (k : Fin 1024) : dn1 x (ix4 0 0 j k) = x (ix4 1 0 j k) := View.ld_unit_apply_of x _ _ _ _ _ (by intro a; fin_cases a <;> simp)
theorem dn2_at (x : Vec Ideal S4x1x512x1024 .bf16) (j : Fin 512) (k : Fin 1024) : dn2 x (ix4 0 0 j k) = x (ix4 2 0 j k) := View.ld_unit_apply_of x _ _ _ _ _ (by intro a; fin_cases a <;> simp)
theorem dn3_at (x : Vec Ideal S4x1x512x1024 .bf16) (j : Fin 512) (k : Fin 1024) : dn3 x (ix4 0 0 j k) = x (ix4 3 0 j k) := View.ld_unit_apply_of x _ _ _ _ _ (by intro a; fin_cases a <;> simp)

/-- The up projection of a block after the rectifier, and the block's share of the MLP's result. -/
def bup (s : Fin 4) (i j : Fin 512) : EReal := max (∑ k : Fin 1024, h (ix2 i k) * u (ix4 s 0 k j)) 0
def bff (s : Fin 4) (i : Fin 512) (k : Fin 1024) : EReal := ∑ j : Fin 512, bup h u s i j * bup h u s i j * w (ix4 s 0 j k)

theorem accs_at (p : FVec Ideal S512x1024 .f32) (i : Fin 512) (k : Fin 1024) :
    accs h u w p (ix2 i k) = p (ix2 i k) + (bff h u w 0 i k + bff h u w 1 i k + bff h u w 2 i k + bff h u w 3 i k) := by
  unfold bff bup accs
  pointwise [k0_pay15, k0_pay14]
  simp only [up0_at, up1_at, up2_at, up3_at, dn0_at, dn1_at, dn2_at, dn3_at]
end

section
variable (x0 x1 : FVec Ideal S512x512 .f32) (x2 : FVec Ideal S512x1024 .f32) (x3 x4 : FVec Ideal S4x1x128x1024 .bf16) (x5 x6 x7 x8 : FVec Ideal S1x1024 .f32) (i : Fin 512) (k : Fin 1024)

def bmix : EReal := (∑ x : Fin 512, x0 (ix2 i x) * x3 (ix4 (⟨x.val / 128, by omega⟩ : Fin 4) 0 (⟨x.val % 128, by omega⟩ : Fin 128) k))
  + ∑ x : Fin 512, x1 (ix2 i x) * x4 (ix4 (⟨x.val / 128, by omega⟩ : Fin 4) 0 (⟨x.val % 128, by omega⟩ : Fin 128) k)
theorem pay5_at : k0_pay5 (F := Ideal) x0 x3 x1 x4 (ix2 i k) = bmix x0 x1 x3 x4 i k := by
  unfold bmix; pointwise [k0_pay5]
theorem pay7_at : k0_pay7 (F := Ideal) x0 x3 x1 x4 (ix2 i k) = bmix x0 x1 x3 x4 i k := by
  pointwise [k0_pay7]; rw [pay5_at]
theorem pay6_at : k0_pay6 (F := Ideal) x0 x3 x1 x4 x2 x5 (ix2 i k) = x2 (ix2 i k) + x5 (ix2 0 k) * bmix x0 x1 x3 x4 i k := by
  pointwise [k0_pay6]; rw [pay5_at]
theorem hid_at : hid x0 x1 x2 x3 x4 x5 x6 x7 x8 (ix2 i k)
    = modn (fun k => x2 (ix2 i k) + x5 (ix2 0 k) * bmix x0 x1 x3 x4 i k) (fun k => x6 (ix2 0 k)) (fun k => x7 (ix2 0 k)) (fun k => x8 (ix2 0 k)) k := by
  unfold modn rinv hid; pointwise [k0_pay12, k0_pay8, k0_pay9, k0_pay10, k0_pay11]
  simp only [pay6_at]
end

theorem pay1_at (x : FVec Ideal S512x1024 .f32) (i : Fin 512) (k : Fin 1024) : k0_pay1 (F := Ideal) x (ix2 i k) = x (ix2 i k) := by
  pointwise [k0_pay1]
theorem pay2_at (x p : FVec Ideal S512x1024 .f32) (g : FVec Ideal S1x1024 .f32) (i : Fin 512) (k : Fin 1024) :
    k0_pay2 (F := Ideal) x g p (ix2 i k) = x (ix2 i k) + g (ix2 0 k) * p (ix2 i k) := by
  pointwise [k0_pay2]
theorem pay3_at (x : FVec Ideal S512x1024 .bf16) (i : Fin 512) (k : Fin 1024) : k0_pay3 (F := Ideal) x (ix2 i k) = x (ix2 i k) := by
  pointwise [k0_pay3]
theorem pay4_at (x : FVec Ideal S512x1024 .f32) (i : Fin 512) (k : Fin 1024) : k0_pay4 (F := Ideal) x (ix2 i k) = x (ix2 i k) := by
  pointwise [k0_pay4]
theorem pay13_at (i : Fin 512) (k : Fin 1024) : k0_pay13 (F := Ideal) (ix2 i k) = 0 := by
  pointwise [k0_pay13]

/-! ## The blocks -/

theorem idxA : ∀ t : Fin grid0.N, win0_0.index t = ![t.val / 2, 0] ∧ win0_1.index t = ![t.val / 2, 0] ∧ win0_2.index t = ![t.val / 2, 0] ∧ win0_3.index t = ![0, 0, 0, 0]
    ∧ win0_4.index t = ![1, 0, 0, 0] ∧ win0_5.index t = ![0, 0] ∧ win0_6.index t = ![0, 0] ∧ win0_7.index t = ![0, 0] ∧ win0_8.index t = ![0, 0] ∧ win0_9.index t = ![0, 0] := by
  decide +kernel
theorem idxB : ∀ t : Fin grid0.N, win0_10.index t = ![t.val % 2, 0, 0, 0] ∧ win0_11.index t = ![t.val % 2, 0, 0, 0] ∧ win0_12.index t = ![t.val / 2, 0]
    ∧ win0_13.index t = ![t.val / 2, 0] ∧ win0_14.index t = ![t.val / 2, 0] ∧ win0_15.index t = ![t.val / 2, 0] := by
  decide +kernel

variable (m : (ℓ : Loc nD τ sig) → Buf (Elt Ideal) ℓ) (c : Dev nD)

/-- The arguments' entries. -/
def A : RestArgs where
  OL i k := m ((c.tc : Thread nD τ).loc main_arg0) (ix2 i k)
  OG i k := m ((c.tc : Thread nD τ).loc main_arg1) (ix2 i k)
  X i k := m ((c.tc : Thread nD τ).loc main_arg2) (ix2 i k)
  WO j k := m ((c.tc : Thread nD τ).loc main_arg3) (ix2 j k)
  G1 k := m ((c.tc : Thread nD τ).loc main_arg4) (ix1 k)
  NW k := m ((c.tc : Thread nD τ).loc main_arg5) (ix1 k)
  SC k := m ((c.tc : Thread nD τ).loc main_arg6) (ix1 k)
  SH k := m ((c.tc : Thread nD τ).loc main_arg7) (ix1 k)
  G k := m ((c.tc : Thread nD τ).loc main_arg8) (ix1 k)
  U k j := m ((c.tc : Thread nD τ).loc main_arg9) (ix2 k j)
  W j k := m ((c.tc : Thread nD τ).loc main_arg10) (ix2 j k)

theorem v8_at (k : Fin 1024) : V m c main_v8 (ix2 0 k) = (A m c).G1 k := by
  dsimp only [A, V, hostOps0, List.flatten_cons, List.flatten_nil, List.append_nil, List.cons_append, List.nil_append]
  entry_read; pointwise
theorem v9_at (k : Fin 1024) : V m c main_v9 (ix2 0 k) = (A m c).NW k := by
  dsimp only [A, V, hostOps0, List.flatten_cons, List.flatten_nil, List.append_nil, List.cons_append, List.nil_append]
  entry_read; pointwise
theorem v10_at (k : Fin 1024) : V m c main_v10 (ix2 0 k) = (A m c).SC k := by
  dsimp only [A, V, hostOps0, List.flatten_cons, List.flatten_nil, List.append_nil, List.cons_append, List.nil_append]
  entry_read; pointwise
theorem v11_at (k : Fin 1024) : V m c main_v11 (ix2 0 k) = (A m c).SH k := by
  dsimp only [A, V, hostOps0, List.flatten_cons, List.flatten_nil, List.append_nil, List.cons_append, List.nil_append]
  entry_read; pointwise
theorem v12_at (k : Fin 1024) : V m c main_v12 (ix2 0 k) = (A m c).G k := by
  dsimp only [A, V, hostOps0, List.flatten_cons, List.flatten_nil, List.append_nil, List.cons_append, List.nil_append]
  entry_read; pointwise
theorem v1_at (s : Fin 8) (r : Fin 128) (k : Fin 1024) : V m c main_v1 (ix4 s 0 r k) = (A m c).WO (⟨128 * s.val + r.val, by omega⟩ : Fin 1024) k := by
  dsimp only [A, V, hostOps0, List.flatten_cons, List.flatten_nil, List.append_nil, List.cons_append, List.nil_append]
  entry_read; pointwise
  simp only [Nat.mul_comm s.val 128]
theorem v5_at (s : Fin 8) (k : Fin 1024) (j : Fin 512) : V m c main_v5 (ix4 s 0 k j) = (A m c).U k (⟨512 * s.val + j.val, by omega⟩ : Fin 4096) := by
  dsimp only [A, V, hostOps0, List.flatten_cons, List.flatten_nil, List.append_nil, List.cons_append, List.nil_append]
  entry_read; pointwise
  simp only [Nat.mul_comm s.val 512]
theorem v7_at (s : Fin 8) (j : Fin 512) (k : Fin 1024) : V m c main_v7 (ix4 s 0 j k) = (A m c).W (⟨512 * s.val + j.val, by omega⟩ : Fin 4096) k := by
  dsimp only [A, V, hostOps0, List.flatten_cons, List.flatten_nil, List.append_nil, List.cons_append, List.nil_append]
  entry_read; pointwise
  simp only [Nat.mul_comm s.val 512]

theorem tok_lt (t : Fin cfg0.N) (i : Fin 512) : 512 * (t.val / 2) + i.val < 4096 := by
  have hN : t.val < 16 := lt_of_lt_of_eq t.isLt (show cfg0.N = 16 from N_0)
  omega
/-- The token of a point's row, and the column of one of its four blocks. -/
def tok (t : Fin cfg0.N) (i : Fin 512) : Fin 4096 := ⟨512 * (t.val / 2) + i.val, tok_lt t i⟩
def col (t : Fin cfg0.N) (s : Fin 4) (j : Fin 512) : Fin 4096 := ⟨512 * (4 * (t.val % 2) + s.val) + j.val, by omega⟩

variable (t : Fin cfg0.N)

theorem blk0 (i k : Fin 512) : iblk m c 0 t (ix2 i k) = (A m c).OL (tok t i) k := by
  blk_ext [iblk, V, A, tok, idxA t]
  all_goals omega
theorem blk1 (i k : Fin 512) : iblk m c 1 t (ix2 i k) = (A m c).OG (tok t i) k := by
  blk_ext [iblk, V, A, tok, idxA t]
  all_goals omega
theorem blk2 (i : Fin 512) (k : Fin 1024) : iblk m c 2 t (ix2 i k) = (A m c).X (tok t i) k := by
  blk_ext [iblk, V, A, tok, idxA t]
  all_goals omega
theorem blk3 (s : Fin 4) (r : Fin 128) (k : Fin 1024) : iblk m c 3 t (ix4 s 0 r k) = (A m c).WO (⟨128 * s.val + r.val, by omega⟩ : Fin 1024) k := by
  refine Eq.trans ?_ (v1_at m c (⟨s.val, by omega⟩ : Fin 8) r k)
  refine congrArg (V m c main_v1) ?_
  blk_ext [idxA t]
theorem blk4 (s : Fin 4) (r : Fin 128) (k : Fin 1024) : iblk m c 4 t (ix4 s 0 r k) = (A m c).WO (⟨128 * (4 + s.val) + r.val, by omega⟩ : Fin 1024) k := by
  refine Eq.trans ?_ (v1_at m c (⟨4 + s.val, by omega⟩ : Fin 8) r k)
  refine congrArg (V m c main_v1) ?_
  blk_ext [idxA t]
theorem blk5 (k : Fin 1024) : iblk m c 5 t (ix2 0 k) = (A m c).G1 k := by
  rw [← v8_at m c]
  refine congrArg (V m c main_v8) ?_
  blk_ext [idxA t]
theorem blk6 (k : Fin 1024) : iblk m c 6 t (ix2 0 k) = (A m c).NW k := by
  rw [← v9_at m c]
  refine congrArg (V m c main_v9) ?_
  blk_ext [idxA t]
theorem blk7 (k : Fin 1024) : iblk m c 7 t (ix2 0 k) = (A m c).SC k := by
  rw [← v10_at m c]
  refine congrArg (V m c main_v10) ?_
  blk_ext [idxA t]
theorem blk8 (k : Fin 1024) : iblk m c 8 t (ix2 0 k) = (A m c).SH k := by
  rw [← v11_at m c]
  refine congrArg (V m c main_v11) ?_
  blk_ext [idxA t]
theorem blk9 (k : Fin 1024) : iblk m c 9 t (ix2 0 k) = (A m c).G k := by
  rw [← v12_at m c]
  refine congrArg (V m c main_v12) ?_
  blk_ext [idxA t]
theorem blk10 (s : Fin 4) (k : Fin 1024) (j : Fin 512) : iblk m c 10 t (ix4 s 0 k j) = (A m c).U k (col t s j) := by
  refine Eq.trans ?_ (v5_at m c (⟨4 * (t.val % 2) + s.val, by omega⟩ : Fin 8) k j)
  refine congrArg (V m c main_v5) ?_
  blk_ext [idxB t]
  all_goals omega
theorem blk11 (s : Fin 4) (j : Fin 512) (k : Fin 1024) : iblk m c 11 t (ix4 s 0 j k) = (A m c).W (col t s j) k := by
  refine Eq.trans ?_ (v7_at m c (⟨4 * (t.val % 2) + s.val, by omega⟩ : Fin 8) j k)
  refine congrArg (V m c main_v7) ?_
  blk_ext [idxB t]
  all_goals omega

end Cert.Layer.Rest

end
-- ==== Proof.RestKer.lean ====
/- The forward call of the output projection and the MLP: what every grid point leaves, and the four result arrays. -/
module

public import proofs.«01_k».proof.Proof.RestBack

@[expose] public section

set_option maxRecDepth 16384

noncomputable section

namespace Cert.Layer.Rest

open Idealize.ShloMosaic Idealize.ShloMosaic.TcCoe Cert.RestIdeal Cert.RestIdeal.Gen Cert.RestIdeal.Value

variable (m : (ℓ : Loc nD τ sig) → Buf (Elt Ideal) ℓ) (c : Dev nD) (t : Fin cfg0.N)

/-! ## What a point leaves -/

theorem bmix_at (i : Fin 512) (k : Fin 1024) : bmix (iblk m c 0 t) (iblk m c 1 t) (iblk m c 3 t) (iblk m c 4 t) i k = (A m c).mix (tok t i) k := by
  unfold bmix RestArgs.mix
  refine congrArg₂ (fun a b : EReal => a + b) (Finset.sum_congr rfl fun x _ => ?_) (Finset.sum_congr rfl fun x _ => ?_)
  · rw [blk0 m c t, blk3 m c t]
    refine congrArg (fun y => (A m c).OL (tok t i) x * (A m c).WO y k) (Fin.ext ?_)
    show 128 * (x.val / 128) + x.val % 128 = x.val
    omega
  · rw [blk1 m c t, blk4 m c t]
    refine congrArg (fun y => (A m c).OG (tok t i) x * (A m c).WO y k) (Fin.ext ?_)
    show 128 * (4 + x.val / 128) + x.val % 128 = 512 + x.val
    omega
theorem x1B_at (i : Fin 512) (k : Fin 1024) : k0_pay6 (F := Ideal) (iblk m c 0 t) (iblk m c 3 t) (iblk m c 1 t) (iblk m c 4 t) (iblk m c 2 t) (iblk m c 5 t) (ix2 i k) = (A m c).x1 (tok t i) k := by
  unfold RestArgs.x1
  rw [pay6_at, bmix_at, blk2 m c t, blk5 m c t]
theorem hB_at (i : Fin 512) (k : Fin 1024) :
    hid (iblk m c 0 t) (iblk m c 1 t) (iblk m c 2 t) (iblk m c 3 t) (iblk m c 4 t) (iblk m c 5 t) (iblk m c 6 t) (iblk m c 7 t) (iblk m c 8 t) (ix2 i k) = (A m c).h (tok t i) k := by
  unfold RestArgs.h RestArgs.x1
  rw [hid_at]
  simp only [bmix_at, blk2 m c t, blk5 m c t, blk6 m c t, blk7 m c t, blk8 m c t]

theorem bff_at (h : FVec Ideal S512x1024 .bf16) (hh : ∀ i k, h (ix2 i k) = (A m c).h (tok t i) k) (s : Fin 4) (i : Fin 512) (k : Fin 1024) :
    bff h (iblk m c 10 t) (iblk m c 11 t) s i k = blk ((A m c).sh (tok t i) k) (4 * (t.val % 2) + s.val) := by
  unfold bff bup
  rw [blk_eq _ _ (fun j => (col t s j).isLt)]
  refine Finset.sum_congr rfl fun j _ => ?_
  unfold RestArgs.sh RestArgs.up
  simp only [hh, blk10 m c t, blk11 m c t]
  rfl

/-- A point's predecessor, and its tokens. -/
def tp : Fin cfg0.N := ⟨t.val - 1, Nat.lt_of_le_of_lt (Nat.sub_le _ _) t.isLt⟩
theorem tok_tp (h1 : t.val % 2 = 1) (i : Fin 512) : tok (tp t) i = tok t i := Fin.ext (by
  show 512 * ((t.val - 1) / 2) + i.val = 512 * (t.val / 2) + i.val
  omega)

theorem half_at (h0 : t.val % 2 = 0) (i : Fin 512) (k : Fin 1024) :
    (outsAt0 m c t.val t.isLt).2.2.2.2.2 (ix2 i k) = part ((A m c).sh (tok t i) k) 4 := by
  rw [outsAt0_A m c t h0 (by omega)]
  dsimp only
  rw [sout_A_1, accs_at, pay13_at]
  simp only [bff_at m c t _ (hB_at m c t), h0]
  simp only [part_succ _ 3, part_succ _ 2, part_succ _ 1, part_succ _ 0, part_zero, zero_add]
  rfl
theorem hs_at (h0 : t.val % 2 = 0) (i : Fin 512) (k : Fin 1024) : (outsAt0 m c t.val t.isLt).2.2.2.2.1 (ix2 i k) = (A m c).h (tok t i) k := by
  rw [outsAt0_A m c t h0 (by omega)]
  dsimp only
  rw [sout_A_0]
  exact hB_at m c t i k
theorem x1s_at (h0 : t.val % 2 = 0) (i : Fin 512) (k : Fin 1024) : (outsAt0 m c t.val t.isLt).1 (ix2 i k) = (A m c).x1 (tok t i) k := by
  rw [outsAt0_A m c t h0 (by omega)]
  dsimp only
  rw [out_A_12]
  exact x1B_at m c t i k
theorem mixs_at (h0 : t.val % 2 = 0) (i : Fin 512) (k : Fin 1024) : (outsAt0 m c t.val t.isLt).2.1 (ix2 i k) = (A m c).mix (tok t i) k := by
  rw [outsAt0_A m c t h0 (by omega)]
  dsimp only
  rw [out_A_13, pay7_at, bmix_at]

section second
variable (h1 : t.val % 2 = 1) (i : Fin 512) (k : Fin 1024)
include h1

theorem hp_at (i : Fin 512) (k : Fin 1024) : (outsAt0 m c (t.val - 1) (Nat.lt_of_le_of_lt (Nat.sub_le _ _) t.isLt)).2.2.2.2.1 (ix2 i k) = (A m c).h (tok t i) k := by
  rw [← tok_tp t h1]; exact hs_at m c (tp t) (by show (t.val - 1) % 2 = 0; omega) i k
theorem x1p_at : (outsAt0 m c (t.val - 1) (Nat.lt_of_le_of_lt (Nat.sub_le _ _) t.isLt)).1 (ix2 i k) = (A m c).x1 (tok t i) k := by
  rw [← tok_tp t h1]; exact x1s_at m c (tp t) (by show (t.val - 1) % 2 = 0; omega) i k
theorem mixp_at : (outsAt0 m c (t.val - 1) (Nat.lt_of_le_of_lt (Nat.sub_le _ _) t.isLt)).2.1 (ix2 i k) = (A m c).mix (tok t i) k := by
  rw [← tok_tp t h1]; exact mixs_at m c (tp t) (by show (t.val - 1) % 2 = 0; omega) i k
theorem ffB_at : accs (outsAt0 m c (t.val - 1) (Nat.lt_of_le_of_lt (Nat.sub_le _ _) t.isLt)).2.2.2.2.1 (iblk m c 10 t) (iblk m c 11 t)
    (outsAt0 m c (t.val - 1) (Nat.lt_of_le_of_lt (Nat.sub_le _ _) t.isLt)).2.2.2.2.2 (ix2 i k) = (A m c).ff (tok t i) k := by
  have e := half_at m c (tp t) (by show (t.val - 1) % 2 = 0; omega) i k
  rw [tok_tp t h1] at e
  unfold RestArgs.ff
  rw [accs_at, ← part_all]
  simp only [bff_at m c t _ (hp_at m c t h1), h1]
  refine (congrArg (fun z : EReal => z + _) e).trans ?_
  simp only [part_succ _ 7, part_succ _ 6, part_succ _ 5, part_succ _ 4, add_assoc]
  rfl

theorem x1_at : (outsAt0 m c t.val t.isLt).1 (ix2 i k) = (A m c).x1 (tok t i) k := by
  rw [outsAt0_B m c t (by omega) h1]
  dsimp only
  rw [out_B_12, pay4_at]
  exact x1p_at m c t h1 i k
theorem mix_at : (outsAt0 m c t.val t.isLt).2.1 (ix2 i k) = (A m c).mix (tok t i) k := by
  rw [outsAt0_B m c t (by omega) h1]
  dsimp only
  rw [out_B_13, pay3_at]
  exact mixp_at m c t h1 i k
theorem ff_at : (outsAt0 m c t.val t.isLt).2.2.1 (ix2 i k) = (A m c).ff (tok t i) k := by
  rw [outsAt0_B m c t (by omega) h1]
  dsimp only
  rw [out_B_14, pay1_at]
  exact ffB_at m c t h1 i k
theorem x2_at : (outsAt0 m c t.val t.isLt).2.2.2.1 (ix2 i k) = (A m c).x2 (tok t i) k := by
  rw [outsAt0_B m c t (by omega) h1]
  dsimp only
  rw [out_B_15, pay2_at, blk9 m c t]
  exact congrArg₂ (fun a b : EReal => a + (A m c).G k * b) (x1p_at m c t h1 i k) (ffB_at m c t h1 i k)
end second

/-! ## The arrays -/

theorem pt_lt (i : Fin 4096) : 2 * (i.val / 512) + 1 < cfg0.N := lt_of_lt_of_eq (by omega : 2 * (i.val / 512) + 1 < 16) (show 16 = cfg0.N from N_0.symm)

def x1A : Buf (Elt Ideal) ((c : Thread nD τ).loc main_v13_0) := fun y => (A m c).x1 (y 0) (y 1)
theorem x1_flushed (t : Fin cfg0.N) (hf : (cfg0.win 12).flush t = true) :
    (dats m 0 c).flushed 12 t = ((cfg0.win 12).blk t).view.read (Elt Ideal) (x1A m c) := by
  have hN : t.val < 16 := lt_of_lt_of_eq t.isLt (show cfg0.N = 16 from N_0)
  rw [flushed12]
  funext y
  refine Eq.trans (show _ = (outsAt0 m c t.val t.isLt).1 (ix2 (y 0) (y 1)) from congrArg (outsAt0 m c t.val t.isLt).1 (eta2 y)) ?_
  refine (x1_at m c t ((flush0_12 t).mp hf) (y 0) (y 1)).trans ?_
  refine congrArg (x1A m c) (a₁ := ix2 (tok t (y 0)) (y 1)) ?_
  blk_ext [tok, idxB t]
  all_goals omega
theorem x1_arr (i : Fin 4096) (k : Fin 1024) : (dats m 0 c).arrAt 12 cfg0.N (ix2 i k) = (A m c).x1 i k := by
  have ht := pt_lt i
  have b := congrFun ((dats m 0 c).read_blk_arrAt 12 (x1A m c) (x1_flushed m c) ⟨2 * (i.val / 512) + 1, ht⟩ ((flush0_12 _).mpr (by show (2 * (i.val / 512) + 1) % 2 = 1; omega))) (ix2 (⟨i.val % 512, by omega⟩ : Fin 512) k)
  have e : ix2 i k = ((cfg0.win 12).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 12 cfg0.N) e) (b.trans ?_)
  exact (congrArg (x1A m c) e).symm

def mixA : Buf (Elt Ideal) ((c : Thread nD τ).loc main_v13_1) := fun y => (A m c).mix (y 0) (y 1)
theorem mix_flushed (t : Fin cfg0.N) (hf : (cfg0.win 13).flush t = true) :
    (dats m 0 c).flushed 13 t = ((cfg0.win 13).blk t).view.read (Elt Ideal) (mixA m c) := by
  have hN : t.val < 16 := lt_of_lt_of_eq t.isLt (show cfg0.N = 16 from N_0)
  rw [flushed13]
  funext y
  refine Eq.trans (show _ = (outsAt0 m c t.val t.isLt).2.1 (ix2 (y 0) (y 1)) from congrArg (outsAt0 m c t.val t.isLt).2.1 (eta2 y)) ?_
  refine (mix_at m c t ((flush0_13 t).mp hf) (y 0) (y 1)).trans ?_
  refine congrArg (mixA m c) (a₁ := ix2 (tok t (y 0)) (y 1)) ?_
  blk_ext [tok, idxB t]
  all_goals omega
theorem mix_arr (i : Fin 4096) (k : Fin 1024) : (dats m 0 c).arrAt 13 cfg0.N (ix2 i k) = (A m c).mix i k := by
  have ht := pt_lt i
  have b := congrFun ((dats m 0 c).read_blk_arrAt 13 (mixA m c) (mix_flushed m c) ⟨2 * (i.val / 512) + 1, ht⟩ ((flush0_13 _).mpr (by show (2 * (i.val / 512) + 1) % 2 = 1; omega))) (ix2 (⟨i.val % 512, by omega⟩ : Fin 512) k)
  have e : ix2 i k = ((cfg0.win 13).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 13 cfg0.N) e) (b.trans ?_)
  exact (congrArg (mixA m c) e).symm

def ffA : Buf (Elt Ideal) ((c : Thread nD τ).loc main_v13_2) := fun y => (A m c).ff (y 0) (y 1)
theorem ff_flushed (t : Fin cfg0.N) (hf : (cfg0.win 14).flush t = true) :
    (dats m 0 c).flushed 14 t = ((cfg0.win 14).blk t).view.read (Elt Ideal) (ffA m c) := by
  have hN : t.val < 16 := lt_of_lt_of_eq t.isLt (show cfg0.N = 16 from N_0)
  rw [flushed14]
  funext y
  refine Eq.trans (show _ = (outsAt0 m c t.val t.isLt).2.2.1 (ix2 (y 0) (y 1)) from congrArg (outsAt0 m c t.val t.isLt).2.2.1 (eta2 y)) ?_
  refine (ff_at m c t ((flush0_14 t).mp hf) (y 0) (y 1)).trans ?_
  refine congrArg (ffA m c) (a₁ := ix2 (tok t (y 0)) (y 1)) ?_
  blk_ext [tok, idxB t]
  all_goals omega
theorem ff_arr (i : Fin 4096) (k : Fin 1024) : (dats m 0 c).arrAt 14 cfg0.N (ix2 i k) = (A m c).ff i k := by
  have ht := pt_lt i
  have b := congrFun ((dats m 0 c).read_blk_arrAt 14 (ffA m c) (ff_flushed m c) ⟨2 * (i.val / 512) + 1, ht⟩ ((flush0_14 _).mpr (by show (2 * (i.val / 512) + 1) % 2 = 1; omega))) (ix2 (⟨i.val % 512, by omega⟩ : Fin 512) k)
  have e : ix2 i k = ((cfg0.win 14).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 14 cfg0.N) e) (b.trans ?_)
  exact (congrArg (ffA m c) e).symm

def x2A : Buf (Elt Ideal) ((c : Thread nD τ).loc main_v13_3) := fun y => (A m c).x2 (y 0) (y 1)
theorem x2_flushed (t : Fin cfg0.N) (hf : (cfg0.win 15).flush t = true) :
    (dats m 0 c).flushed 15 t = ((cfg0.win 15).blk t).view.read (Elt Ideal) (x2A m c) := by
  have hN : t.val < 16 := lt_of_lt_of_eq t.isLt (show cfg0.N = 16 from N_0)
  rw [flushed15]
  funext y
  refine Eq.trans (show _ = (outsAt0 m c t.val t.isLt).2.2.2.1 (ix2 (y 0) (y 1)) from congrArg (outsAt0 m c t.val t.isLt).2.2.2.1 (eta2 y)) ?_
  refine (x2_at m c t ((flush0_15 t).mp hf) (y 0) (y 1)).trans ?_
  refine congrArg (x2A m c) (a₁ := ix2 (tok t (y 0)) (y 1)) ?_
  blk_ext [tok, idxB t]
  all_goals omega
theorem x2_arr (i : Fin 4096) (k : Fin 1024) : (dats m 0 c).arrAt 15 cfg0.N (ix2 i k) = (A m c).x2 i k := by
  have ht := pt_lt i
  have b := congrFun ((dats m 0 c).read_blk_arrAt 15 (x2A m c) (x2_flushed m c) ⟨2 * (i.val / 512) + 1, ht⟩ ((flush0_15 _).mpr (by show (2 * (i.val / 512) + 1) % 2 = 1; omega))) (ix2 (⟨i.val % 512, by omega⟩ : Fin 512) k)
  have e : ix2 i k = ((cfg0.win 15).blk ⟨2 * (i.val / 512) + 1, ht⟩).view.emb (ix2 (⟨i.val % 512, by omega⟩ : Fin 512) k) := by
    blk_ext [idxB ⟨2 * (i.val / 512) + 1, ht⟩]
    all_goals omega
  refine Eq.trans (congrArg ((dats m 0 c).arrAt 15 cfg0.N) e) (b.trans ?_)
  exact (congrArg (x2A m c) e).symm

end Cert.Layer.Rest

end
-- ==== Proof.RestRef.lean ====
/- The forward call of the output projection and the MLP: the reference's arrays, entry by entry. -/
module

public import proofs.«01_k».proof.Proof.RestNorm
public import proofs.«01_k».proof.Proof.Voc
public import proofs.«01_k».proof.Proof.Gen.RestReferenceIdeal.Run

@[expose] public section

set_option maxRecDepth 16384

noncomputable section

namespace Cert.Layer.Rest.Ref

open Idealize.ShloMosaic Idealize.ShloMosaic.TcCoe Cert.RestReferenceIdeal Cert.RestReferenceIdeal.Gen

/-- A row repeated over the tokens. -/
def bc (v : FVec Ideal S1024 .f32) : FVec Ideal S4096x1024 .f32 :=
  broadcastInDim S4096x1024 ![0, 1] bcast_S1x1024_S4096x1024_0_1 (broadcastInDim S1x1024 ![1] bcast_S1024_S1x1024_1 v)
/-- One over the root of a token's mean square, repeated over its features. -/
def rb (x : FVec Ideal S4096x1024 .f32) : FVec Ideal S4096x1024 .f32 :=
  broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))
theorem bc_at (v : FVec Ideal S1024 .f32) (i : Fin 4096) (k : Fin 1024) : bc v (ix2 i k) = v (ix1 k) := by unfold bc; pointwise
theorem rb_at (x : FVec Ideal S4096x1024 .f32) (i : Fin 4096) (k : Fin 1024) : rb x (ix2 i k) = rinv (fun k => x (ix2 i k)) := by unfold rb rinv; pointwise

variable (ol og : FVec Ideal S4096x512 .f32) (x : FVec Ideal S4096x1024 .f32) (wo : FVec Ideal S1024x1024 .f32) (g1 nw sc sh g : FVec Ideal S1024 .f32) (u : FVec Ideal S1024x4096 .f32) (w : FVec Ideal S4096x1024 .f32)

def mixv : FVec Ideal S4096x1024 .f32 := Host.dotGeneral (F := Ideal) (φ₁ := .f32) (φ₂ := .f32) dot_S4096x1024_S1024x1024_S4096x1024_1_0_0_1_n_n none
  (concatenate S4096x1024 1 [⟨S4096x512, ol⟩, ⟨S4096x512, og⟩] concatenates_S4096x512_S4096x512_S4096x1024_d1) wo
def x1v : FVec Ideal S4096x1024 .f32 := addf x (mulf (bc g1) (mixv ol og wo))
def hv : FVec Ideal S4096x1024 .f32 :=
  addf (mulf (mulf (mulf (x1v ol og x wo g1) (rb (x1v ol og x wo g1))) (bc nw)) (bc (addf (broadcastInDim S1024 ![] bcast_S_S1024 (constant S_ .f32 0x3F800000#32)) sc))) (bc sh)
def upv : FVec Ideal S4096x4096 .f32 := maximumf (Host.dotGeneral (F := Ideal) (φ₁ := .f32) (φ₂ := .f32) dot_S4096x1024_S1024x4096_S4096x4096_1_0_0_1_n_n none (hv ol og x wo g1 nw sc sh) u)
  (broadcastInDim S4096x4096 ![] bcast_S_S4096x4096 (constant S_ .f32 0x00000000#32))
def ffv : FVec Ideal S4096x1024 .f32 := Host.dotGeneral (F := Ideal) (φ₁ := .f32) (φ₂ := .f32) dot_S4096x4096_S4096x1024_S4096x1024_1_0_0_1_n_n none
  (mulf (upv ol og x wo g1 nw sc sh u) (upv ol og x wo g1 nw sc sh u)) w
def x2v : FVec Ideal S4096x1024 .f32 := addf (x1v ol og x wo g1) (mulf (bc g) (ffv ol og x wo g1 nw sc sh u w))

/-- The arguments' entries. -/
def B : RestArgs where
  OL i k := ol (ix2 i k)
  OG i k := og (ix2 i k)
  X i k := x (ix2 i k)
  WO j k := wo (ix2 j k)
  G1 k := g1 (ix1 k)
  NW k := nw (ix1 k)
  SC k := sc (ix1 k)
  SH k := sh (ix1 k)
  G k := g (ix1 k)
  U k j := u (ix2 k j)
  W j k := w (ix2 j k)

theorem mixv_at (i : Fin 4096) (k : Fin 1024) : mixv ol og wo (ix2 i k) = (B ol og x wo g1 nw sc sh g u w).mix i k := by
  unfold mixv RestArgs.mix; pointwise
  rfl
theorem x1v_at (i : Fin 4096) (k : Fin 1024) : x1v ol og x wo g1 (ix2 i k) = (B ol og x wo g1 nw sc sh g u w).x1 i k := by
  unfold x1v RestArgs.x1; pointwise
  rw [bc_at, mixv_at ol og x wo g1 nw sc sh g u w]
  rfl
theorem hv_at (i : Fin 4096) (k : Fin 1024) : hv ol og x wo g1 nw sc sh (ix2 i k) = (B ol og x wo g1 nw sc sh g u w).h i k := by
  unfold hv RestArgs.h modn; pointwise
  simp only [bc_at, rb_at, x1v_at ol og x wo g1 nw sc sh g u w]
  pointwise
  rfl
theorem upv_at (i j : Fin 4096) : upv ol og x wo g1 nw sc sh u (ix2 i j) = (B ol og x wo g1 nw sc sh g u w).up i j := by
  unfold upv RestArgs.up; pointwise
  simp only [hv_at ol og x wo g1 nw sc sh g u w]
  rfl
theorem ffv_at (i : Fin 4096) (k : Fin 1024) : ffv ol og x wo g1 nw sc sh u w (ix2 i k) = (B ol og x wo g1 nw sc sh g u w).ff i k := by
  unfold ffv RestArgs.ff RestArgs.sh; pointwise
  simp only [upv_at ol og x wo g1 nw sc sh g u w]
  rfl
theorem x2v_at (i : Fin 4096) (k : Fin 1024) : x2v ol og x wo g1 nw sc sh g u w (ix2 i k) = (B ol og x wo g1 nw sc sh g u w).x2 i k := by
  unfold x2v RestArgs.x2; pointwise
  rw [bc_at, x1v_at ol og x wo g1 nw sc sh g u w, ffv_at ol og x wo g1 nw sc sh g u w]
  rfl

end Cert.Layer.Rest.Ref

end
-- ==== Proof.LayerClaims.lean ====
/- The layer's calls: each kernel's results are its reference's, entry by entry. -/
module

public import proofs.«01_k».proof.Defs
public import proofs.«01_k».proof.Proof.GradIn
public import proofs.«01_k».proof.Proof.GradUp
public import proofs.«01_k».proof.Proof.GradDown
public import proofs.«01_k».proof.Proof.ProjFwd
public import proofs.«01_k».proof.Proof.MlpKer
public import proofs.«01_k».proof.Proof.MlpRef
public import proofs.«01_k».proof.Proof.ProjBackKer
public import proofs.«01_k».proof.Proof.ProjBackRef
public import proofs.«01_k».proof.Proof.OutBackKer
public import proofs.«01_k».proof.Proof.OutBackRef
public import proofs.«01_k».proof.Proof.RestKer
public import proofs.«01_k».proof.Proof.RestRef
public import proofs.«01_k».proof.Proof.Gen.InIdeal.Value
public import proofs.«01_k».proof.Proof.Gen.InReferenceIdeal.Run
public import proofs.«01_k».proof.Proof.Gen.UpIdeal.Value
public import proofs.«01_k».proof.Proof.Gen.UpReferenceIdeal.Run
public import proofs.«01_k».proof.Proof.Gen.DownIdeal.Value
public import proofs.«01_k».proof.Proof.Gen.DownReferenceIdeal.Run
public import proofs.«01_k».proof.Proof.Gen.ProjIdeal.Value
public import proofs.«01_k».proof.Proof.Gen.ProjReferenceIdeal.Run
public import proofs.«01_k».proof.Proof.Gen.MlpIdeal.Value
public import proofs.«01_k».proof.Proof.Gen.MlpReferenceIdeal.Run
public import proofs.«01_k».proof.Proof.Gen.ProjBackIdeal.Value
public import proofs.«01_k».proof.Proof.Gen.ProjBackReferenceIdeal.Run
public import proofs.«01_k».proof.Proof.Gen.OutBackIdeal.Value
public import proofs.«01_k».proof.Proof.Gen.OutBackReferenceIdeal.Run
public import proofs.«01_k».proof.Proof.Gen.RestIdeal.Value
public import proofs.«01_k».proof.Proof.Gen.RestReferenceIdeal.Run

@[expose] public section

set_option maxRecDepth 16384
set_option maxHeartbeats 2000000

noncomputable section

namespace Cert.Layer.Claims

open Idealize.ShloMosaic Idealize.ShloMosaic.TcCoe Idealize.SL.Sem

theorem eta3 {a b c : ℕ} (y : Shape.Idx ⟨3, ![a, b, c]⟩) : y = ix3 (y 0) (y 1) (y 2) := by
  funext k
  match k with
  | 0 => rfl
  | 1 => rfl
  | 2 => rfl
theorem eta4 {a b c d : ℕ} (y : Shape.Idx ⟨4, ![a, b, c, d]⟩) : y = ix4 (y 0) (y 1) (y 2) (y 3) := by
  funext k
  match k with
  | 0 => rfl
  | 1 => rfl
  | 2 => rfl
  | 3 => rfl

theorem quiescentIn : Cert.quiescent_InReferenceIdeal (hInReferenceIdeal := Cert.InReferenceIdeal.Gen.facts) := fun m ρ _ =>
  (θ_run _ _ _).mono (fun r h => ⟨fun c => (h c).2, sem_eq_zero_of_no_sems (by decide) r.2⟩) (Cert.InReferenceIdeal.Value.run (F := Ideal) m ρ)

theorem algebraicIn : Cert.algebraic_InIdeal_InReferenceIdeal (hInIdeal := Cert.InIdeal.Gen.facts) (hInReferenceIdeal := Cert.InReferenceIdeal.Gen.facts) := by
  intro m ρ m' ρ' _ hag
  refine ⟨fun c => (Cert.InIdeal.Gen.dats m 0 c).arrAt 2 Cert.InIdeal.cfg0.N,
    Cert.InIdeal.Value.run_blocks m ρ,
    (θ_run _ _ _).mono (fun r h c => ⟨(h c).1.trans (funext fun y => ?_), (h c).2⟩) (Cert.InReferenceIdeal.Value.run (F := Ideal) m' ρ')⟩
  · obtain ⟨g0, g1⟩ := hag c
    rw [g0, g1, eta2 y]
    exact (GradIn.Ref.ref_at _ _ _ _).trans (GradIn.ker_at m c _ _).symm

theorem quiescentUp : Cert.quiescent_UpReferenceIdeal (hUpReferenceIdeal := Cert.UpReferenceIdeal.Gen.facts) := fun m ρ _ =>
  (θ_run _ _ _).mono (fun r h => ⟨fun c => (h c).2, sem_eq_zero_of_no_sems (by decide) r.2⟩) (Cert.UpReferenceIdeal.Value.run (F := Ideal) m ρ)

theorem algebraicUp : Cert.algebraic_UpIdeal_UpReferenceIdeal (hUpIdeal := Cert.UpIdeal.Gen.facts) (hUpReferenceIdeal := Cert.UpReferenceIdeal.Gen.facts) := by
  intro m ρ m' ρ' _ hag
  refine ⟨fun c => (Cert.UpIdeal.Gen.dats m 0 c).arrAt 2 Cert.UpIdeal.cfg0.N,
    Cert.UpIdeal.Value.run_blocks m ρ,
    (θ_run _ _ _).mono (fun r h c => ⟨(h c).1.trans (funext fun y => ?_), (h c).2⟩) (Cert.UpReferenceIdeal.Value.run (F := Ideal) m' ρ')⟩
  · obtain ⟨g0, g1⟩ := hag c
    rw [g0, g1, eta4 y, Fin.eq_zero (y 0)]
    exact (GradUp.Ref.ref_at _ _ _ _ _).trans (GradUp.ker_at m c _ _ _).symm

theorem quiescentDown : Cert.quiescent_DownReferenceIdeal (hDownReferenceIdeal := Cert.DownReferenceIdeal.Gen.facts) := fun m ρ _ =>
  (θ_run _ _ _).mono (fun r h => ⟨fun c => (h c).2, sem_eq_zero_of_no_sems (by decide) r.2⟩) (Cert.DownReferenceIdeal.Value.run (F := Ideal) m ρ)

theorem algebraicDown : Cert.algebraic_DownIdeal_DownReferenceIdeal (hDownIdeal := Cert.DownIdeal.Gen.facts) (hDownReferenceIdeal := Cert.DownReferenceIdeal.Gen.facts) := by
  intro m ρ m' ρ' _ hag
  refine ⟨fun c => (Cert.DownIdeal.Gen.dats m 0 c).arrAt 2 Cert.DownIdeal.cfg0.N,
    Cert.DownIdeal.Value.run_blocks m ρ,
    (θ_run _ _ _).mono (fun r h c => ⟨(h c).1.trans (funext fun y => ?_), (h c).2⟩) (Cert.DownReferenceIdeal.Value.run (F := Ideal) m' ρ')⟩
  · obtain ⟨g0, g1⟩ := hag c
    rw [g0, g1, eta3 y, Fin.eq_zero (y 0)]
    exact (GradDown.Ref.ref_at _ _ _ _).trans (GradDown.ker_at m c _ _).symm

theorem quiescentProj : Cert.quiescent_ProjReferenceIdeal (hProjReferenceIdeal := Cert.ProjReferenceIdeal.Gen.facts) := fun m ρ _ =>
  (θ_run _ _ _).mono (fun r h => ⟨fun c => (h c).2.2, sem_eq_zero_of_no_sems (by decide) r.2⟩) (Cert.ProjReferenceIdeal.Value.run (F := Ideal) m ρ)

theorem algebraicProj : Cert.algebraic_ProjIdeal_ProjReferenceIdeal (hProjIdeal := Cert.ProjIdeal.Gen.facts) (hProjReferenceIdeal := Cert.ProjReferenceIdeal.Gen.facts) := by
  intro m ρ m' ρ' _ hag
  refine ⟨fun c => (Cert.ProjIdeal.Gen.dats m 0 c).arrAt 6 Cert.ProjIdeal.cfg0.N,
    fun c => (Cert.ProjIdeal.Gen.dats m 0 c).arrAt 7 Cert.ProjIdeal.cfg0.N,
    Cert.ProjIdeal.Value.run_blocks m ρ,
    (θ_run _ _ _).mono (fun r h c => ⟨(h c).1.trans (funext fun y => ?_), (h c).2.1.trans (funext fun y => ?_), (h c).2.2⟩) (Cert.ProjReferenceIdeal.Value.run (F := Ideal) m' ρ')⟩
  · obtain ⟨g0, g1, g2, g3, g4⟩ := hag c
    rw [g0, g1, g2, g3, g4, eta2 y]
    exact (ProjFwd.Ref.proj_at _ _ _ _ _ _ _).trans (ProjFwd.proj_at m c _ _).symm
  · obtain ⟨g0, g1, g2, g3, g4⟩ := hag c
    rw [g0, g1, g2, g3, g4, eta2 y]
    exact (ProjFwd.Ref.ba_at _ _ _ _ _ _ _).trans (ProjFwd.ba_at m c _ _).symm

theorem quiescentMlp : Cert.quiescent_MlpReferenceIdeal (hMlpReferenceIdeal := Cert.MlpReferenceIdeal.Gen.facts) := fun m ρ _ =>
  (θ_run _ _ _).mono (fun r h => ⟨fun c => (h c).2.2.2.2.2.2, sem_eq_zero_of_no_sems (by decide) r.2⟩) (Cert.MlpReferenceIdeal.Value.run (F := Ideal) m ρ)

theorem algebraicMlp : Cert.algebraic_MlpIdeal_MlpReferenceIdeal (hMlpIdeal := Cert.MlpIdeal.Gen.facts) (hMlpReferenceIdeal := Cert.MlpReferenceIdeal.Gen.facts) := by
  intro m ρ m' ρ' _ hag
  refine ⟨fun c => (Cert.MlpIdeal.Gen.dats m 0 c).arrAt 9 Cert.MlpIdeal.cfg0.N,
    fun c => (Cert.MlpIdeal.Gen.dats m 0 c).arrAt 10 Cert.MlpIdeal.cfg0.N,
    fun c => (Cert.MlpIdeal.Gen.dats m 0 c).arrAt 11 Cert.MlpIdeal.cfg0.N,
    fun c => (Cert.MlpIdeal.Gen.dats m 0 c).arrAt 12 Cert.MlpIdeal.cfg0.N,
    fun c => (Cert.MlpIdeal.Gen.dats m 0 c).arrAt 13 Cert.MlpIdeal.cfg0.N,
    fun c => (Cert.MlpIdeal.Gen.dats m 0 c).arrAt 14 Cert.MlpIdeal.cfg0.N,
    Cert.MlpIdeal.Value.run_blocks m ρ,
    (θ_run _ _ _).mono (fun r h c => ⟨(h c).1.trans (funext fun y => ?_), (h c).2.1.trans (funext fun y => ?_), (h c).2.2.1.trans (funext fun y => ?_), (h c).2.2.2.1.trans (funext fun y => ?_), (h c).2.2.2.2.1.trans (funext fun y => ?_), (h c).2.2.2.2.2.1.trans (funext fun y => ?_), (h c).2.2.2.2.2.2⟩) (Cert.MlpReferenceIdeal.Value.run (F := Ideal) m' ρ')⟩
  · obtain ⟨g0, g1, g2, g3, g4, g5, g6, g7⟩ := hag c
    rw [eta2 y]
    refine (MlpBack.Ref.actv_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.act_arr m c _ _).symm
  · obtain ⟨g0, g1, g2, g3, g4, g5, g6, g7⟩ := hag c
    rw [eta2 y]
    refine (MlpBack.Ref.dupv_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.dup_arr m c _ _).symm
  · obtain ⟨g0, g1, g2, g3, g4, g5, g6, g7⟩ := hag c
    rw [eta2 y]
    refine (MlpBack.Ref.hv_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.h_arr m c _ _).symm
  · obtain ⟨g0, g1, g2, g3, g4, g5, g6, g7⟩ := hag c
    rw [eta2 y]
    refine (MlpBack.Ref.dffv_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.dff_arr m c _ _).symm
  · obtain ⟨g0, g1, g2, g3, g4, g5, g6, g7⟩ := hag c
    rw [eta2 y]
    refine (MlpBack.Ref.dx1v_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.dx1_arr m c _ _).symm
  · obtain ⟨g0, g1, g2, g3, g4, g5, g6, g7⟩ := hag c
    rw [eta2 y]
    refine (MlpBack.Ref.rowsv_at (m' ((c.tc : Thread Cert.MlpReferenceIdeal.nD Cert.MlpReferenceIdeal.τ).loc Cert.MlpReferenceIdeal.main_arg0)) (m' ((c.tc : Thread Cert.MlpReferenceIdeal.nD Cert.MlpReferenceIdeal.τ).loc Cert.MlpReferenceIdeal.main_arg1)) (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5)) (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) _ _).trans ?_
    rw [g0, g1, g2, g3, g4, g5, g6, g7]
    exact (MlpBack.rows_arr m c _ _).symm

theorem quiescentProjBack : Cert.quiescent_ProjBackReferenceIdeal (hProjBackReferenceIdeal := Cert.ProjBackReferenceIdeal.Gen.facts) := fun m ρ _ =>
  (θ_run _ _ _).mono (fun r h => ⟨fun c => (h c).2.2.2, sem_eq_zero_of_no_sems (by decide) r.2⟩) (Cert.ProjBackReferenceIdeal.Value.run (F := Ideal) m ρ)

theorem algebraicProjBack : Cert.algebraic_ProjBackIdeal_ProjBackReferenceIdeal (hProjBackIdeal := Cert.ProjBackIdeal.Gen.facts) (hProjBackReferenceIdeal := Cert.ProjBackReferenceIdeal.Gen.facts) := by
  intro m ρ m' ρ' _ hag
  refine ⟨fun c => (Cert.ProjBackIdeal.Gen.dats m 0 c).arrAt 11 Cert.ProjBackIdeal.cfg0.N,
    fun c => (Cert.ProjBackIdeal.Gen.dats m 0 c).arrAt 12 Cert.ProjBackIdeal.cfg0.N,
    fun c => (Cert.ProjBackIdeal.Gen.dats m 0 c).arrAt 13 Cert.ProjBackIdeal.cfg0.N,
    Cert.ProjBackIdeal.Value.run_blocks m ρ,
    (θ_run _ _ _).mono (fun r h c => ⟨(h c).1.trans (funext fun y => ?_), (h c).2.1.trans (funext fun y => ?_), (h c).2.2.1.trans (funext fun y => ?_), (h c).2.2.2⟩) (Cert.ProjBackReferenceIdeal.Value.run (F := Ideal) m' ρ')⟩
  · obtain ⟨g0, g1, g2, g3, g4, g5, g6, g7, g8, g9⟩ := hag c
    rw [eta2 y]
    refine (ProjBack.Ref.dxv_at (m' ((c.tc : Thread Cert.ProjBackReferenceIdeal.nD Cert.ProjBackReferenceIdeal.τ).loc Cert.ProjBackReferenceIdeal.main_arg0)) (m' ((c.tc : Thread Cert.ProjBackReferenceIdeal.nD Cert.ProjBackReferenceIdeal.τ).loc Cert.ProjBackReferenceIdeal.main_arg1)) (m' ((c.tc : Thread Cert.ProjBackReferenceIdeal.nD Cert.ProjBackReferenceIdeal.τ).loc Cert.ProjBackReferenceIdeal.main_arg2)) (m' ((c.tc : Thread Cert.ProjBackReferenceIdeal.nD Cert.ProjBackReferenceIdeal.τ).loc Cert.ProjBackReferenceIdeal.main_arg3)) (m' ((c.tc : Thread Cert.ProjBackReferenceIdeal.nD Cert.ProjBackReferenceIdeal.τ).loc Cert.ProjBackReferenceIdeal.main_arg4)) (m' ((c.tc : Thread Cert.ProjBackReferenceIdeal.nD Cert.ProjBackReferenceIdeal.τ).loc Cert.ProjBackReferenceIdeal.main_arg5)) (m' ((c.tc : Thread Cert.ProjBackReferenceIdeal.nD Cert.ProjBackReferenceIdeal.τ).loc Cert.ProjBackReferenceIdeal.main_arg6)) (m' ((c.tc : Thread Cert.ProjBackReferenceIdeal.nD Cert.ProjBackReferenceIdeal.τ).loc Cert.ProjBackReferenceIdeal.main_arg7)) (m' ((c.tc : Thread Cert.ProjBackReferenceIdeal.nD Cert.ProjBackReferenceIdeal.τ).loc Cert.ProjBackReferenceIdeal.main_arg8)) (m' ((c.tc : Thread Cert.ProjBackReferenceIdeal.nD Cert.ProjBackReferenceIdeal.τ).loc Cert.ProjBackReferenceIdeal.main_arg9)) _ _).trans ?_
    rw [g0, g1, g2, g3, g4, g5, g6, g7, g8, g9]
    exact (ProjBack.dx_arr m c _ _).symm
  · obtain ⟨g0, g1, g2, g3, g4, g5, g6, g7, g8, g9⟩ := hag c
    rw [eta2 y]
    refine (ProjBack.Ref.hbv_at (m' ((c.tc : Thread Cert.ProjBackReferenceIdeal.nD Cert.ProjBackReferenceIdeal.τ).loc Cert.ProjBackReferenceIdeal.main_arg0)) (m' ((c.tc : Thread Cert.ProjBackReferenceIdeal.nD Cert.ProjBackReferenceIdeal.τ).loc Cert.ProjBackReferenceIdeal.main_arg1)) (m' ((c.tc : Thread Cert.ProjBackReferenceIdeal.nD Cert.ProjBackReferenceIdeal.τ).loc Cert.ProjBackReferenceIdeal.main_arg2)) (m' ((c.tc : Thread Cert.ProjBackReferenceIdeal.nD Cert.ProjBackReferenceIdeal.τ).loc Cert.ProjBackReferenceIdeal.main_arg3)) (m' ((c.tc : Thread Cert.ProjBackReferenceIdeal.nD Cert.ProjBackReferenceIdeal.τ).loc Cert.ProjBackReferenceIdeal.main_arg4)) (m' ((c.tc : Thread Cert.ProjBackReferenceIdeal.nD Cert.ProjBackReferenceIdeal.τ).loc Cert.ProjBackReferenceIdeal.main_arg5)) (m' ((c.tc : Thread Cert.ProjBackReferenceIdeal.nD Cert.ProjBackReferenceIdeal.τ).loc Cert.ProjBackReferenceIdeal.main_arg6)) (m' ((c.tc : Thread Cert.ProjBackReferenceIdeal.nD Cert.ProjBackReferenceIdeal.τ).loc Cert.ProjBackReferenceIdeal.main_arg7)) (m' ((c.tc : Thread Cert.ProjBackReferenceIdeal.nD Cert.ProjBackReferenceIdeal.τ).loc Cert.ProjBackReferenceIdeal.main_arg8)) (m' ((c.tc : Thread Cert.ProjBackReferenceIdeal.nD Cert.ProjBackReferenceIdeal.τ).loc Cert.ProjBackReferenceIdeal.main_arg9)) _ _).trans ?_
    rw [g0, g1, g2, g3, g4, g5, g6, g7, g8, g9]
    exact (ProjBack.hb_arr m c _ _).symm
  · obtain ⟨g0, g1, g2, g3, g4, g5, g6, g7, g8, g9⟩ := hag c
    rw [eta2 y]
    refine (ProjBack.Ref.rowsv_at (m' ((c.tc : Thread Cert.ProjBackReferenceIdeal.nD Cert.ProjBackReferenceIdeal.τ).loc Cert.ProjBackReferenceIdeal.main_arg0)) (m' ((c.tc : Thread Cert.ProjBackReferenceIdeal.nD Cert.ProjBackReferenceIdeal.τ).loc Cert.ProjBackReferenceIdeal.main_arg1)) (m' ((c.tc : Thread Cert.ProjBackReferenceIdeal.nD Cert.ProjBackReferenceIdeal.τ).loc Cert.ProjBackReferenceIdeal.main_arg2)) (m' ((c.tc : Thread Cert.ProjBackReferenceIdeal.nD Cert.ProjBackReferenceIdeal.τ).loc Cert.ProjBackReferenceIdeal.main_arg3)) (m' ((c.tc : Thread Cert.ProjBackReferenceIdeal.nD Cert.ProjBackReferenceIdeal.τ).loc Cert.ProjBackReferenceIdeal.main_arg4)) (m' ((c.tc : Thread Cert.ProjBackReferenceIdeal.nD Cert.ProjBackReferenceIdeal.τ).loc Cert.ProjBackReferenceIdeal.main_arg5)) (m' ((c.tc : Thread Cert.ProjBackReferenceIdeal.nD Cert.ProjBackReferenceIdeal.τ).loc Cert.ProjBackReferenceIdeal.main_arg6)) (m' ((c.tc : Thread Cert.ProjBackReferenceIdeal.nD Cert.ProjBackReferenceIdeal.τ).loc Cert.ProjBackReferenceIdeal.main_arg7)) (m' ((c.tc : Thread Cert.ProjBackReferenceIdeal.nD Cert.ProjBackReferenceIdeal.τ).loc Cert.ProjBackReferenceIdeal.main_arg8)) (m' ((c.tc : Thread Cert.ProjBackReferenceIdeal.nD Cert.ProjBackReferenceIdeal.τ).loc Cert.ProjBackReferenceIdeal.main_arg9)) _ _).trans ?_
    rw [g0, g1, g2, g3, g4, g5, g6, g7, g8, g9]
    exact (ProjBack.rows_arr m c _ _).symm

theorem quiescentOutBack : Cert.quiescent_OutBackReferenceIdeal (hOutBackReferenceIdeal := Cert.OutBackReferenceIdeal.Gen.facts) := fun m ρ _ =>
  (θ_run _ _ _).mono (fun r h => ⟨fun c => (h c).2.2.2.2, sem_eq_zero_of_no_sems (by decide) r.2⟩) (Cert.OutBackReferenceIdeal.Value.run (F := Ideal) m ρ)

theorem algebraicOutBack : Cert.algebraic_OutBackIdeal_OutBackReferenceIdeal (hOutBackIdeal := Cert.OutBackIdeal.Gen.facts) (hOutBackReferenceIdeal := Cert.OutBackReferenceIdeal.Gen.facts) := by
  intro m ρ m' ρ' _ hag
  refine ⟨fun c => (Cert.OutBackIdeal.Gen.dats m 0 c).arrAt 5 Cert.OutBackIdeal.cfg0.N,
    fun c => (Cert.OutBackIdeal.Gen.dats m 0 c).arrAt 6 Cert.OutBackIdeal.cfg0.N,
    fun c => (Cert.OutBackIdeal.Gen.dats m 0 c).arrAt 7 Cert.OutBackIdeal.cfg0.N,
    fun c => (Cert.OutBackIdeal.Gen.dats m 0 c).arrAt 8 Cert.OutBackIdeal.cfg0.N,
    Cert.OutBackIdeal.Value.run_blocks m ρ,
    (θ_run _ _ _).mono (fun r h c => ⟨(h c).1.trans (funext fun y => ?_), (h c).2.1.trans (funext fun y => ?_), (h c).2.2.1.trans (funext fun y => ?_), (h c).2.2.2.1.trans (funext fun y => ?_), (h c).2.2.2.2⟩) (Cert.OutBackReferenceIdeal.Value.run (F := Ideal) m' ρ')⟩
  · obtain ⟨g0, g1, g2, g3, g4⟩ := hag c
    rw [eta2 y]
    refine (OutBack.Ref.dmixv_at (m' ((c.tc : Thread Cert.OutBackReferenceIdeal.nD Cert.OutBackReferenceIdeal.τ).loc Cert.OutBackReferenceIdeal.main_arg0)) (m' ((c.tc : Thread Cert.OutBackReferenceIdeal.nD Cert.OutBackReferenceIdeal.τ).loc Cert.OutBackReferenceIdeal.main_arg1)) (m' ((c.tc : Thread Cert.OutBackReferenceIdeal.nD Cert.OutBackReferenceIdeal.τ).loc Cert.OutBackReferenceIdeal.main_arg2)) (m' ((c.tc : Thread Cert.OutBackReferenceIdeal.nD Cert.OutBackReferenceIdeal.τ).loc Cert.OutBackReferenceIdeal.main_arg3)) (m' ((c.tc : Thread Cert.OutBackReferenceIdeal.nD Cert.OutBackReferenceIdeal.τ).loc Cert.OutBackReferenceIdeal.main_arg4)) _ _).trans ?_
    rw [g0, g1, g2, g3, g4]
    exact (OutBack.dmix_arr m c _ _).symm
  · obtain ⟨g0, g1, g2, g3, g4⟩ := hag c
    rw [eta2 y]
    refine (OutBack.Ref.dolv_at (m' ((c.tc : Thread Cert.OutBackReferenceIdeal.nD Cert.OutBackReferenceIdeal.τ).loc Cert.OutBackReferenceIdeal.main_arg0)) (m' ((c.tc : Thread Cert.OutBackReferenceIdeal.nD Cert.OutBackReferenceIdeal.τ).loc Cert.OutBackReferenceIdeal.main_arg1)) (m' ((c.tc : Thread Cert.OutBackReferenceIdeal.nD Cert.OutBackReferenceIdeal.τ).loc Cert.OutBackReferenceIdeal.main_arg2)) (m' ((c.tc : Thread Cert.OutBackReferenceIdeal.nD Cert.OutBackReferenceIdeal.τ).loc Cert.OutBackReferenceIdeal.main_arg3)) (m' ((c.tc : Thread Cert.OutBackReferenceIdeal.nD Cert.OutBackReferenceIdeal.τ).loc Cert.OutBackReferenceIdeal.main_arg4)) _ _).trans ?_
    rw [g0, g1, g2, g3, g4]
    exact (OutBack.dol_arr m c _ _).symm
  · obtain ⟨g0, g1, g2, g3, g4⟩ := hag c
    rw [eta2 y]
    refine (OutBack.Ref.dogv_at (m' ((c.tc : Thread Cert.OutBackReferenceIdeal.nD Cert.OutBackReferenceIdeal.τ).loc Cert.OutBackReferenceIdeal.main_arg0)) (m' ((c.tc : Thread Cert.OutBackReferenceIdeal.nD Cert.OutBackReferenceIdeal.τ).loc Cert.OutBackReferenceIdeal.main_arg1)) (m' ((c.tc : Thread Cert.OutBackReferenceIdeal.nD Cert.OutBackReferenceIdeal.τ).loc Cert.OutBackReferenceIdeal.main_arg2)) (m' ((c.tc : Thread Cert.OutBackReferenceIdeal.nD Cert.OutBackReferenceIdeal.τ).loc Cert.OutBackReferenceIdeal.main_arg3)) (m' ((c.tc : Thread Cert.OutBackReferenceIdeal.nD Cert.OutBackReferenceIdeal.τ).loc Cert.OutBackReferenceIdeal.main_arg4)) _ _).trans ?_
    rw [g0, g1, g2, g3, g4]
    exact (OutBack.dog_arr m c _ _).symm
  · obtain ⟨g0, g1, g2, g3, g4⟩ := hag c
    rw [eta2 y]
    refine (OutBack.Ref.rowsv_at (m' ((c.tc : Thread Cert.OutBackReferenceIdeal.nD Cert.OutBackReferenceIdeal.τ).loc Cert.OutBackReferenceIdeal.main_arg0)) (m' ((c.tc : Thread Cert.OutBackReferenceIdeal.nD Cert.OutBackReferenceIdeal.τ).loc Cert.OutBackReferenceIdeal.main_arg1)) (m' ((c.tc : Thread Cert.OutBackReferenceIdeal.nD Cert.OutBackReferenceIdeal.τ).loc Cert.OutBackReferenceIdeal.main_arg2)) (m' ((c.tc : Thread Cert.OutBackReferenceIdeal.nD Cert.OutBackReferenceIdeal.τ).loc Cert.OutBackReferenceIdeal.main_arg3)) (m' ((c.tc : Thread Cert.OutBackReferenceIdeal.nD Cert.OutBackReferenceIdeal.τ).loc Cert.OutBackReferenceIdeal.main_arg4)) _ _).trans ?_
    rw [g0, g1, g2, g3, g4]
    exact (OutBack.rows_arr m c _ _).symm

theorem quiescentRest : Cert.quiescent_RestReferenceIdeal (hRestReferenceIdeal := Cert.RestReferenceIdeal.Gen.facts) := fun m ρ _ =>
  (θ_run _ _ _).mono (fun r h => ⟨fun c => (h c).2.2.2.2, sem_eq_zero_of_no_sems (by decide) r.2⟩) (Cert.RestReferenceIdeal.Value.run (F := Ideal) m ρ)

theorem algebraicRest : Cert.algebraic_RestIdeal_RestReferenceIdeal (hRestIdeal := Cert.RestIdeal.Gen.facts) (hRestReferenceIdeal := Cert.RestReferenceIdeal.Gen.facts) := by
  intro m ρ m' ρ' _ hag
  refine ⟨fun c => (Cert.RestIdeal.Gen.dats m 0 c).arrAt 12 Cert.RestIdeal.cfg0.N,
    fun c => (Cert.RestIdeal.Gen.dats m 0 c).arrAt 13 Cert.RestIdeal.cfg0.N,
    fun c => (Cert.RestIdeal.Gen.dats m 0 c).arrAt 14 Cert.RestIdeal.cfg0.N,
    fun c => (Cert.RestIdeal.Gen.dats m 0 c).arrAt 15 Cert.RestIdeal.cfg0.N,
    Cert.RestIdeal.Value.run_blocks m ρ,
    (θ_run _ _ _).mono (fun r h c => ⟨(h c).1.trans (funext fun y => ?_), (h c).2.1.trans (funext fun y => ?_), (h c).2.2.1.trans (funext fun y => ?_), (h c).2.2.2.1.trans (funext fun y => ?_), (h c).2.2.2.2⟩) (Cert.RestReferenceIdeal.Value.run (F := Ideal) m' ρ')⟩
  · obtain ⟨g0, g1, g2, g3, g4, g5, g6, g7, g8, g9, g10⟩ := hag c
    rw [eta2 y]
    refine (Rest.Ref.x1v_at (m' ((c.tc : Thread Cert.RestReferenceIdeal.nD Cert.RestReferenceIdeal.τ).loc Cert.RestReferenceIdeal.main_arg0)) (m' ((c.tc : Thread Cert.RestReferenceIdeal.nD Cert.RestReferenceIdeal.τ).loc Cert.RestReferenceIdeal.main_arg1)) (m' ((c.tc : Thread Cert.RestReferenceIdeal.nD Cert.RestReferenceIdeal.τ).loc Cert.RestReferenceIdeal.main_arg2)) (m' ((c.tc : Thread Cert.RestReferenceIdeal.nD Cert.RestReferenceIdeal.τ).loc Cert.RestReferenceIdeal.main_arg3)) (m' ((c.tc : Thread Cert.RestReferenceIdeal.nD Cert.RestReferenceIdeal.τ).loc Cert.RestReferenceIdeal.main_arg4)) (m' ((c.tc : Thread Cert.RestReferenceIdeal.nD Cert.RestReferenceIdeal.τ).loc Cert.RestReferenceIdeal.main_arg5)) (m' ((c.tc : Thread Cert.RestReferenceIdeal.nD Cert.RestReferenceIdeal.τ).loc Cert.RestReferenceIdeal.main_arg6)) (m' ((c.tc : Thread Cert.RestReferenceIdeal.nD Cert.RestReferenceIdeal.τ).loc Cert.RestReferenceIdeal.main_arg7)) (m' ((c.tc : Thread Cert.RestReferenceIdeal.nD Cert.RestReferenceIdeal.τ).loc Cert.RestReferenceIdeal.main_arg8)) (m' ((c.tc : Thread Cert.RestReferenceIdeal.nD Cert.RestReferenceIdeal.τ).loc Cert.RestReferenceIdeal.main_arg9)) (m' ((c.tc : Thread Cert.RestReferenceIdeal.nD Cert.RestReferenceIdeal.τ).loc Cert.RestReferenceIdeal.main_arg10)) _ _).trans ?_
    rw [g0, g1, g2, g3, g4, g5, g6, g7, g8, g9, g10]
    exact (Rest.x1_arr m c _ _).symm
  · obtain ⟨g0, g1, g2, g3, g4, g5, g6, g7, g8, g9, g10⟩ := hag c
    rw [eta2 y]
    refine (Rest.Ref.mixv_at (m' ((c.tc : Thread Cert.RestReferenceIdeal.nD Cert.RestReferenceIdeal.τ).loc Cert.RestReferenceIdeal.main_arg0)) (m' ((c.tc : Thread Cert.RestReferenceIdeal.nD Cert.RestReferenceIdeal.τ).loc Cert.RestReferenceIdeal.main_arg1)) (m' ((c.tc : Thread Cert.RestReferenceIdeal.nD Cert.RestReferenceIdeal.τ).loc Cert.RestReferenceIdeal.main_arg2)) (m' ((c.tc : Thread Cert.RestReferenceIdeal.nD Cert.RestReferenceIdeal.τ).loc Cert.RestReferenceIdeal.main_arg3)) (m' ((c.tc : Thread Cert.RestReferenceIdeal.nD Cert.RestReferenceIdeal.τ).loc Cert.RestReferenceIdeal.main_arg4)) (m' ((c.tc : Thread Cert.RestReferenceIdeal.nD Cert.RestReferenceIdeal.τ).loc Cert.RestReferenceIdeal.main_arg5)) (m' ((c.tc : Thread Cert.RestReferenceIdeal.nD Cert.RestReferenceIdeal.τ).loc Cert.RestReferenceIdeal.main_arg6)) (m' ((c.tc : Thread Cert.RestReferenceIdeal.nD Cert.RestReferenceIdeal.τ).loc Cert.RestReferenceIdeal.main_arg7)) (m' ((c.tc : Thread Cert.RestReferenceIdeal.nD Cert.RestReferenceIdeal.τ).loc Cert.RestReferenceIdeal.main_arg8)) (m' ((c.tc : Thread Cert.RestReferenceIdeal.nD Cert.RestReferenceIdeal.τ).loc Cert.RestReferenceIdeal.main_arg9)) (m' ((c.tc : Thread Cert.RestReferenceIdeal.nD Cert.RestReferenceIdeal.τ).loc Cert.RestReferenceIdeal.main_arg10)) _ _).trans ?_
    rw [g0, g1, g2, g3, g4, g5, g6, g7, g8, g9, g10]
    exact (Rest.mix_arr m c _ _).symm
  · obtain ⟨g0, g1, g2, g3, g4, g5, g6, g7, g8, g9, g10⟩ := hag c
    rw [eta2 y]
    refine (Rest.Ref.ffv_at (m' ((c.tc : Thread Cert.RestReferenceIdeal.nD Cert.RestReferenceIdeal.τ).loc Cert.RestReferenceIdeal.main_arg0)) (m' ((c.tc : Thread Cert.RestReferenceIdeal.nD Cert.RestReferenceIdeal.τ).loc Cert.RestReferenceIdeal.main_arg1)) (m' ((c.tc : Thread Cert.RestReferenceIdeal.nD Cert.RestReferenceIdeal.τ).loc Cert.RestReferenceIdeal.main_arg2)) (m' ((c.tc : Thread Cert.RestReferenceIdeal.nD Cert.RestReferenceIdeal.τ).loc Cert.RestReferenceIdeal.main_arg3)) (m' ((c.tc : Thread Cert.RestReferenceIdeal.nD Cert.RestReferenceIdeal.τ).loc Cert.RestReferenceIdeal.main_arg4)) (m' ((c.tc : Thread Cert.RestReferenceIdeal.nD Cert.RestReferenceIdeal.τ).loc Cert.RestReferenceIdeal.main_arg5)) (m' ((c.tc : Thread Cert.RestReferenceIdeal.nD Cert.RestReferenceIdeal.τ).loc Cert.RestReferenceIdeal.main_arg6)) (m' ((c.tc : Thread Cert.RestReferenceIdeal.nD Cert.RestReferenceIdeal.τ).loc Cert.RestReferenceIdeal.main_arg7)) (m' ((c.tc : Thread Cert.RestReferenceIdeal.nD Cert.RestReferenceIdeal.τ).loc Cert.RestReferenceIdeal.main_arg8)) (m' ((c.tc : Thread Cert.RestReferenceIdeal.nD Cert.RestReferenceIdeal.τ).loc Cert.RestReferenceIdeal.main_arg9)) (m' ((c.tc : Thread Cert.RestReferenceIdeal.nD Cert.RestReferenceIdeal.τ).loc Cert.RestReferenceIdeal.main_arg10)) _ _).trans ?_
    rw [g0, g1, g2, g3, g4, g5, g6, g7, g8, g9, g10]
    exact (Rest.ff_arr m c _ _).symm
  · obtain ⟨g0, g1, g2, g3, g4, g5, g6, g7, g8, g9, g10⟩ := hag c
    rw [eta2 y]
    refine (Rest.Ref.x2v_at (m' ((c.tc : Thread Cert.RestReferenceIdeal.nD Cert.RestReferenceIdeal.τ).loc Cert.RestReferenceIdeal.main_arg0)) (m' ((c.tc : Thread Cert.RestReferenceIdeal.nD Cert.RestReferenceIdeal.τ).loc Cert.RestReferenceIdeal.main_arg1)) (m' ((c.tc : Thread Cert.RestReferenceIdeal.nD Cert.RestReferenceIdeal.τ).loc Cert.RestReferenceIdeal.main_arg2)) (m' ((c.tc : Thread Cert.RestReferenceIdeal.nD Cert.RestReferenceIdeal.τ).loc Cert.RestReferenceIdeal.main_arg3)) (m' ((c.tc : Thread Cert.RestReferenceIdeal.nD Cert.RestReferenceIdeal.τ).loc Cert.RestReferenceIdeal.main_arg4)) (m' ((c.tc : Thread Cert.RestReferenceIdeal.nD Cert.RestReferenceIdeal.τ).loc Cert.RestReferenceIdeal.main_arg5)) (m' ((c.tc : Thread Cert.RestReferenceIdeal.nD Cert.RestReferenceIdeal.τ).loc Cert.RestReferenceIdeal.main_arg6)) (m' ((c.tc : Thread Cert.RestReferenceIdeal.nD Cert.RestReferenceIdeal.τ).loc Cert.RestReferenceIdeal.main_arg7)) (m' ((c.tc : Thread Cert.RestReferenceIdeal.nD Cert.RestReferenceIdeal.τ).loc Cert.RestReferenceIdeal.main_arg8)) (m' ((c.tc : Thread Cert.RestReferenceIdeal.nD Cert.RestReferenceIdeal.τ).loc Cert.RestReferenceIdeal.main_arg9)) (m' ((c.tc : Thread Cert.RestReferenceIdeal.nD Cert.RestReferenceIdeal.τ).loc Cert.RestReferenceIdeal.main_arg10)) _ _).trans ?_
    rw [g0, g1, g2, g3, g4, g5, g6, g7, g8, g9, g10]
    exact (Rest.x2_arr m c _ _).symm

end Cert.Layer.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Meet
public import proofs.«01_k».proof.Proof.LayerClaims
public import proofs.«01_k».proof.Proof.Gen.KernelIdeal.Value
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Rest
public import proofs.«01_k».proof.Proof.Gen.Rest.Skeleton
public import proofs.«01_k».proof.Proof.Gen.Rest.Launch
public import proofs.«01_k».proof.Proof.Gen.Rest.Points
public import proofs.«01_k».proof.Proof.Gen.Rest.Frame
public import proofs.«01_k».proof.Proof.Gen.RestIdeal
public import proofs.«01_k».proof.Proof.Gen.RestIdeal.Skeleton
public import proofs.«01_k».proof.Proof.Gen.RestIdeal.Launch
public import proofs.«01_k».proof.Proof.Gen.RestIdeal.Points
public import proofs.«01_k».proof.Proof.Gen.RestIdeal.Frame
public import proofs.«01_k».proof.Proof.Gen.RestIdeal.Value
public import proofs.«01_k».proof.Proof.Gen.RestReferenceIdeal
public import proofs.«01_k».proof.Proof.Gen.RestReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjBack
public import proofs.«01_k».proof.Proof.Gen.ProjBack.Skeleton
public import proofs.«01_k».proof.Proof.Gen.ProjBack.Launch
public import proofs.«01_k».proof.Proof.Gen.ProjBack.Points
public import proofs.«01_k».proof.Proof.Gen.ProjBack.Frame
public import proofs.«01_k».proof.Proof.Gen.ProjBackIdeal
public import proofs.«01_k».proof.Proof.Gen.ProjBackIdeal.Skeleton
public import proofs.«01_k».proof.Proof.Gen.ProjBackIdeal.Launch
public import proofs.«01_k».proof.Proof.Gen.ProjBackIdeal.Points
public import proofs.«01_k».proof.Proof.Gen.ProjBackIdeal.Frame
public import proofs.«01_k».proof.Proof.Gen.ProjBackIdeal.Value
public import proofs.«01_k».proof.Proof.Gen.ProjBackReferenceIdeal
public import proofs.«01_k».proof.Proof.Gen.ProjBackReferenceIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.OutBack
public import proofs.«01_k».proof.Proof.Gen.OutBack.Skeleton
public import proofs.«01_k».proof.Proof.Gen.OutBack.Launch
public import proofs.«01_k».proof.Proof.Gen.OutBack.Points
public import proofs.«01_k».proof.Proof.Gen.OutBack.Frame
public import proofs.«01_k».proof.Proof.Gen.OutBackIdeal
public import proofs.«01_k».proof.Proof.Gen.OutBackIdeal.Skeleton
public import proofs.«01_k».proof.Proof.Gen.OutBackIdeal.Launch
public import proofs.«01_k».proof.Proof.Gen.OutBackIdeal.Points
public import proofs.«01_k».proof.Proof.Gen.OutBackIdeal.Frame
public import proofs.«01_k».proof.Proof.Gen.OutBackIdeal.Value
public import proofs.«01_k».proof.Proof.Gen.OutBackReferenceIdeal
public import proofs.«01_k».proof.Proof.Gen.OutBackReferenceIdeal.Run
public import Idealize.ShloMosaic.Adequacy
public import Idealize.ShloMosaic.Init

@[expose] public section

noncomputable section

namespace Cert.Proof

open Idealize.ShloMosaic Idealize.SL.Sem Cert.Kernel

theorem quiescent_ref : Cert.quiescent_ReferenceIdeal (hReferenceIdeal := Cert.ReferenceIdeal.Gen.facts) := fun m ρ _ =>
  (θ_run _ _ _).mono (fun r h => ⟨fun c => ⟨(h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩,
    Idealize.ShloMosaic.sem_eq_zero_of_no_sems (by decide) r.2⟩) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) :=
  fun m ρ m' ρ' _ hag =>
  ⟨fun c => (Cert.KernelIdeal.Gen.dats m 0 c).arrAt 10 Cert.KernelIdeal.cfg0.N, fun c => (Cert.KernelIdeal.Gen.dats m 0 c).arrAt 11 Cert.KernelIdeal.cfg0.N,
   fun c => (Cert.KernelIdeal.Gen.dats m 0 c).arrAt 12 Cert.KernelIdeal.cfg0.N, fun c => (Cert.KernelIdeal.Gen.dats m 0 c).arrAt 13 Cert.KernelIdeal.cfg0.N,
   fun c => (Cert.KernelIdeal.Gen.dats m 0 c).arrAt 16 Cert.KernelIdeal.cfg0.N, fun c => (Cert.KernelIdeal.Gen.dats m 0 c).arrAt 17 Cert.KernelIdeal.cfg0.N,
   (θ_run _ _ _).mono (fun r h c => ⟨(h c).1, (h c).2.1, (h c).2.2.1, (h c).2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Cert.KernelIdeal.Value.run_blocks (F := Ideal) m ρ),
   (θ_run _ _ _).mono (fun r h c => ⟨(((h c).1).trans (funext fun y => Cert.Scan.meet11 (hag c) y)), (((h c).2.1).trans (funext fun y => Cert.Scan.meet12 (hag c) y)), (((h c).2.2.1).trans (funext fun y => Cert.Scan.meet13 (hag c) y)), (((h c).2.2.2.1).trans (funext fun y => Cert.Scan.meet14 (hag c) y)), (((h c).2.2.2.2.1).trans (funext fun y => Cert.Scan.meet16 (hag c) y)), (((h c).2.2.2.2.2.1).trans (funext fun y => Cert.Scan.meet20 (hag c) y)), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩)
     (Cert.Scan.RefRun.run_iter (F := Ideal) m' ρ' (Cert.Scan.trips m') (fun _ => rfl) (fun _ _ => rfl))⟩

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Rest.Gen.facts, Cert.RestIdeal.Gen.facts, Cert.RestReferenceIdeal.Gen.facts,
    Cert.Proj.Gen.facts, Cert.ProjIdeal.Gen.facts, Cert.ProjReferenceIdeal.Gen.facts,
    Cert.ProjBack.Gen.facts, Cert.ProjBackIdeal.Gen.facts, Cert.ProjBackReferenceIdeal.Gen.facts,
    Cert.In.Gen.facts, Cert.InIdeal.Gen.facts, Cert.InReferenceIdeal.Gen.facts,
    Cert.OutBack.Gen.facts, Cert.OutBackIdeal.Gen.facts, Cert.OutBackReferenceIdeal.Gen.facts,
    fun m ρ _ => Cert.Kernel.Gen.frame m ρ, fun m ρ _ => Cert.KernelIdeal.Gen.frame m ρ, quiescent_ref,
    fun m ρ _ => Cert.Mlp.Gen.frame m ρ, fun m ρ _ => Cert.MlpIdeal.Gen.frame m ρ, Cert.Layer.Claims.quiescentMlp,
    fun m ρ _ => Cert.Up.Gen.frame m ρ, fun m ρ _ => Cert.UpIdeal.Gen.frame m ρ, Cert.Layer.Claims.quiescentUp,
    fun m ρ _ => Cert.Down.Gen.frame m ρ, fun m ρ _ => Cert.DownIdeal.Gen.frame m ρ, Cert.Layer.Claims.quiescentDown,
    fun m ρ _ => Cert.Rest.Gen.frame m ρ, fun m ρ _ => Cert.RestIdeal.Gen.frame m ρ, Cert.Layer.Claims.quiescentRest,
    fun m ρ _ => Cert.Proj.Gen.frame m ρ, fun m ρ _ => Cert.ProjIdeal.Gen.frame m ρ, Cert.Layer.Claims.quiescentProj,
    fun m ρ _ => Cert.ProjBack.Gen.frame m ρ, fun m ρ _ => Cert.ProjBackIdeal.Gen.frame m ρ, Cert.Layer.Claims.quiescentProjBack,
    fun m ρ _ => Cert.In.Gen.frame m ρ, fun m ρ _ => Cert.InIdeal.Gen.frame m ρ, Cert.Layer.Claims.quiescentIn,
    fun m ρ _ => Cert.OutBack.Gen.frame m ρ, fun m ρ _ => Cert.OutBackIdeal.Gen.frame m ρ, Cert.Layer.Claims.quiescentOutBack,
    trivial, algebraic,
    trivial, Cert.Layer.Claims.algebraicMlp,
    trivial, Cert.Layer.Claims.algebraicUp,
    trivial, Cert.Layer.Claims.algebraicDown,
    trivial, Cert.Layer.Claims.algebraicRest,
    trivial, Cert.Layer.Claims.algebraicProj,
    trivial, Cert.Layer.Claims.algebraicProjBack,
    trivial, Cert.Layer.Claims.algebraicIn,
    trivial, Cert.Layer.Claims.algebraicOutBack⟩

end Cert.Proof

end
